-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "q_scale" .f32 0x3E38AA3B#32 (((Real.log 256)⁻¹ : ℝ) : EReal)
  ∧ IdealRules.named_const.Statement Cert.Kernel2Ideal.κ "neg_big" .f32 0xF149F2CA#32 ⊥
  ∧ IdealRules.named_const.Statement Cert.Kernel2Ideal.κ "log2_e" .f32 0x3FB8AA3B#32 (((Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v15_1)) (v1 : (c : Dev Cert.Kernel2Ideal.nD) → Buf (Elt Ideal) ((c.tc : Thread Cert.Kernel2Ideal.nD Cert.Kernel2Ideal.τ).loc Cert.Kernel2Ideal.main_v15_2)) (v2 : (c : Dev Cert.Kernel2Ideal.nD) → Buf (Elt Ideal) ((c.tc : Thread Cert.Kernel2Ideal.nD Cert.Kernel2Ideal.τ).loc Cert.Kernel2Ideal.main_v15_3)) (v3 : (c : Dev Cert.Kernel2Ideal.nD) → Buf (Elt Ideal) ((c.tc : Thread Cert.Kernel2Ideal.nD Cert.Kernel2Ideal.τ).loc Cert.Kernel2Ideal.main_v15_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_1) = v0 c
          ∧ r.2.mem ((c.tc : Thread Cert.Kernel2Ideal.nD Cert.Kernel2Ideal.τ).loc Cert.Kernel2Ideal.main_v15_2) = v1 c
          ∧ r.2.mem ((c.tc : Thread Cert.Kernel2Ideal.nD Cert.Kernel2Ideal.τ).loc Cert.Kernel2Ideal.main_v15_3) = v2 c
          ∧ r.2.mem ((c.tc : Thread Cert.Kernel2Ideal.nD Cert.Kernel2Ideal.τ).loc Cert.Kernel2Ideal.main_v15_4) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v80) = v1 c
          ∧ r.2.mem ((c.tc : Thread Cert.Reference2Ideal.nD Cert.Reference2Ideal.τ).loc Cert.Reference2Ideal.main_v82) = v2 c
          ∧ r.2.mem ((c.tc : Thread Cert.Reference2Ideal.nD Cert.Reference2Ideal.τ).loc Cert.Reference2Ideal.main_v84) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S16384x1024 : Shape := ⟨2, ![16384, 1024]⟩
abbrev S4x4096x2048 : Shape := ⟨3, ![4, 4096, 2048]⟩
abbrev S1x2048x2048 : Shape := ⟨3, ![1, 2048, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S16384x2048 : Shape := ⟨2, ![16384, 2048]⟩
abbrev S2048x2048 : Shape := ⟨2, ![2048, 2048]⟩
abbrev S2048x8192 : Shape := ⟨2, ![2048, 8192]⟩
abbrev S8192x2048 : Shape := ⟨2, ![8192, 2048]⟩
abbrev S2048 : Shape := ⟨1, ![2048]⟩
abbrev S512x1024 : Shape := ⟨2, ![512, 1024]⟩
abbrev S512x2048 : Shape := ⟨2, ![512, 2048]⟩
abbrev S2048x1024 : Shape := ⟨2, ![2048, 1024]⟩
abbrev S1024x2048 : Shape := ⟨2, ![1024, 2048]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩

abbrev nBuf : Space → Nat
  | .hbm => 26
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x4096x2048, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S1x2048x8192, .f32⟩
  | .hbm, ⟨7, _⟩ => ⟨S1x8192x2048, .f32⟩
  | .hbm, ⟨8, _⟩ => ⟨S1x2048, .f32⟩
  | .hbm, ⟨9, _⟩ => ⟨S1x2048, .f32⟩
  | .hbm, ⟨10, _⟩ => ⟨S16384x2048, .f32⟩
  | .hbm, ⟨11, _⟩ => ⟨S2048x2048, .f32⟩
  | .hbm, ⟨12, _⟩ => ⟨S2048x2048, .bf16⟩
  | .hbm, ⟨13, _⟩ => ⟨S2048x8192, .f32⟩
  | .hbm, ⟨14, _⟩ => ⟨S2048x8192, .bf16⟩
  | .hbm, ⟨15, _⟩ => ⟨S8192x2048, .f32⟩
  | .hbm, ⟨16, _⟩ => ⟨S8192x2048, .bf16⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S1x2048, .f32⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S16384x1024 : Shape := ⟨2, ![16384, 1024]⟩
abbrev S4x4096x2048 : Shape := ⟨3, ![4, 4096, 2048]⟩
abbrev S1x2048x2048 : Shape := ⟨3, ![1, 2048, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S4x4096x1024 : Shape := ⟨3, ![4, 4096, 1024]⟩
abbrev S2048x2048 : Shape := ⟨2, ![2048, 2048]⟩
abbrev S_ : Shape := ⟨0, ![]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S2048x8192 : Shape := ⟨2, ![2048, 8192]⟩
abbrev S4x4096x8192 : Shape := ⟨3, ![4, 4096, 8192]⟩
abbrev S8192x2048 : Shape := ⟨2, ![8192, 2048]⟩
abbrev S16384x2048 : Shape := ⟨2, ![16384, 2048]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x4096x2048, .f32⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S1x2048x8192, .f32⟩
  | .hbm, ⟨7, _⟩ => ⟨S1x8192x2048, .f32⟩
  | .hbm, ⟨8, _⟩ => ⟨S1x2048, .f32⟩
  | .hbm, ⟨9, _⟩ => ⟨S1x2048, .f32⟩
  | .hbm, ⟨10, _⟩ => ⟨S16384x1024, .f32⟩
  | .hbm, ⟨11, _⟩ => ⟨S4x4096x1024, .f32⟩
  | .hbm, ⟨12, _⟩ => ⟨S16384x1024, .f32⟩
  | .hbm, ⟨13, _⟩ => ⟨S4x4096x1024, .f32⟩
  | .hbm, ⟨14, _⟩ => ⟨S4x4096x2048, .f32⟩
  | .hbm, ⟨15, _⟩ => ⟨S2048x2048, .f32⟩
  | .hbm, ⟨16, _⟩ => ⟨S4x4096x2048, .f32⟩
  | .hbm, ⟨17, _⟩ => ⟨S_, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x2048, .f32⟩
  | .hbm, ⟨45, _⟩ => ⟨S4x4096x2048, .f32⟩
  | .hbm, ⟨46, _⟩ => ⟨S1x1x2048, .f32⟩
  | .hbm, ⟨47, _⟩ => ⟨S4x4096x2048, .f32⟩
  | .hbm, ⟨48, _⟩ => ⟨S4x4096x2048, .f32⟩
  | .hbm, ⟨49, _⟩ => ⟨S1x1x2048, .f32⟩
  | .hbm, ⟨50, _⟩ => ⟨S4x4096x2048, .f32⟩
  | .hbm, ⟨51, _⟩ => ⟨S4x4096x2048, .f32⟩
  | .hbm, ⟨52, _⟩ => ⟨S2048x8192, .f32⟩
  | .hbm, ⟨53, _⟩ => ⟨S4x4096x8192, .f32⟩
  | .hbm, ⟨54, _⟩ => ⟨S_, .f32⟩
  | .hbm, ⟨55, _⟩ => ⟨S4x4096x8192, .f32⟩
  | .hbm, ⟨56, _⟩ => ⟨S4x4096x8192, .f32⟩
  | .hbm, ⟨57, _⟩ => ⟨S4x4096x8192, .f32⟩
  | .hbm, ⟨58, _⟩ => ⟨S8192x2048, .f32⟩
  | .hbm, ⟨59, _⟩ => ⟨S4x4096x2048, .f32⟩
  | .hbm, ⟨60, _⟩ => ⟨S_, .f32⟩
  | .hbm, ⟨61, _⟩ => ⟨S4x4096x2048, .f32⟩
  | .hbm, ⟨62, _⟩ => ⟨S4x4096x2048, .f32⟩
  | .hbm, ⟨63, _⟩ => ⟨S4x4096x2048, .f32⟩
  | .hbm, ⟨64, _⟩ => ⟨S2048, .f32⟩
  | .hbm, ⟨65, _⟩ => ⟨S2048, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x2048, .f32⟩
  | .hbm, ⟨73, _⟩ => ⟨S4x4096x2048, .f32⟩
  | .hbm, ⟨74, _⟩ => ⟨S4x4096x2048, .f32⟩
  | .hbm, ⟨75, _⟩ => ⟨S_, .f32⟩
  | .hbm, ⟨76, _⟩ => ⟨S4x4096, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S4x4096x2048, .f32⟩
  | .hbm, ⟨82, _⟩ => ⟨S4x4096x2048, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S4x4096x1, .f32⟩
  | .hbm, ⟨87, _⟩ => ⟨S4x4096x2048, .f32⟩
  | .hbm, ⟨88, _⟩ => ⟨S4x4096x2048, .f32⟩
  | .hbm, ⟨89, _⟩ => ⟨S1x1x2048, .f32⟩
  | .hbm, ⟨90, _⟩ => ⟨S4x4096x2048, .f32⟩
  | .hbm, ⟨91, _⟩ => ⟨S4x4096x2048, .f32⟩
  | .hbm, ⟨92, _⟩ => ⟨S1x1x2048, .f32⟩
  | .hbm, ⟨93, _⟩ => ⟨S4x4096x2048, .f32⟩
  | .hbm, ⟨94, _⟩ => ⟨S4x4096x2048, .f32⟩
  | .hbm, ⟨95, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048x4480 : Shape := ⟨2, ![2048, 4480]⟩
abbrev S1x16x512 : Shape := ⟨3, ![1, 16, 512]⟩
abbrev S1x512 : Shape := ⟨2, ![1, 512]⟩
abbrev S1x256 : Shape := ⟨2, ![1, 256]⟩
abbrev S1x16 : Shape := ⟨2, ![1, 16]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S16384x2048 : Shape := ⟨2, ![16384, 2048]⟩
abbrev S16x512 : Shape := ⟨2, ![16, 512]⟩
abbrev S512 : Shape := ⟨1, ![512]⟩
abbrev S256 : Shape := ⟨1, ![256]⟩
abbrev S16 : Shape := ⟨1, ![16]⟩
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩
abbrev S128x512 : Shape := ⟨2, ![128, 512]⟩
abbrev S4x256 : Shape := ⟨2, ![4, 256]⟩
abbrev S1024 : Shape := ⟨1, ![1024]⟩
abbrev S1x1024 : Shape := ⟨2, ![1, 1024]⟩
abbrev S16384x1024 : Shape := ⟨2, ![16384, 1024]⟩
abbrev S256x2048 : Shape := ⟨2, ![256, 2048]⟩
abbrev S32x2048 : Shape := ⟨2, ![32, 2048]⟩
abbrev S2048x128 : Shape := ⟨2, ![2048, 128]⟩
abbrev S128x2048 : Shape := ⟨2, ![128, 2048]⟩
abbrev S256x1024 : Shape := ⟨2, ![256, 1024]⟩
abbrev S2x256x1024 : Shape := ⟨3, ![2, 256, 1024]⟩
abbrev S2x256x256 : Shape := ⟨3, ![2, 256, 256]⟩
abbrev S2x256x512 : Shape := ⟨3, ![2, 256, 512]⟩
abbrev S4x256x128 : Shape := ⟨3, ![4, 256, 128]⟩
abbrev S128x256 : Shape := ⟨2, ![128, 256]⟩
abbrev S1x256x1024 : Shape := ⟨3, ![1, 256, 1024]⟩
abbrev S256x256 : Shape := ⟨2, ![256, 256]⟩
abbrev S1x256x256 : Shape := ⟨3, ![1, 256, 256]⟩
abbrev S256x512 : Shape := ⟨2, ![256, 512]⟩
abbrev S1x256x512 : Shape := ⟨3, ![1, 256, 512]⟩
abbrev S128x128 : Shape := ⟨2, ![128, 128]⟩
abbrev S8x128 : Shape := ⟨2, ![8, 128]⟩
abbrev S2048x256 : Shape := ⟨2, ![2048, 256]⟩
abbrev S1x128x128 : Shape := ⟨3, ![1, 128, 128]⟩
abbrev S256x128 : Shape := ⟨2, ![256, 128]⟩
abbrev S512x128 : Shape := ⟨2, ![512, 128]⟩
abbrev S512x512 : Shape := ⟨2, ![512, 512]⟩
abbrev S1 : Shape := ⟨1, ![1]⟩
abbrev S128 : Shape := ⟨1, ![128]⟩
abbrev S128x1 : Shape := ⟨2, ![128, 1]⟩
abbrev S512x256 : Shape := ⟨2, ![512, 256]⟩
abbrev S1x128x256 : Shape := ⟨3, ![1, 128, 256]⟩
abbrev S1x1x128 : Shape := ⟨3, ![1, 1, 128]⟩
abbrev S1x128 : Shape := ⟨2, ![1, 128]⟩
abbrev S16x128 : Shape := ⟨2, ![16, 128]⟩
abbrev S32x128 : Shape := ⟨2, ![32, 128]⟩
abbrev S64x128 : Shape := ⟨2, ![64, 128]⟩
abbrev S1x256x128 : Shape := ⟨3, ![1, 256, 128]⟩
abbrev S1x128x512 : Shape := ⟨3, ![1, 128, 512]⟩

abbrev nBuf : Space → Nat
  | .hbm => 31
  | .vmem => 33
  | .smem => 1
  | _ => 0

abbrev bufTy : (tb : Table) → Fin (tcTables nBuf tb) → BufTy
  | .hbm, ⟨0, _⟩ => ⟨S4x4096x2048, .f32⟩
  | .hbm, ⟨1, _⟩ => ⟨S2048x4480, .bf16⟩
  | .hbm, ⟨2, _⟩ => ⟨S1x16x512, .f32⟩
  | .hbm, ⟨3, _⟩ => ⟨S1x512, .f32⟩
  | .hbm, ⟨4, _⟩ => ⟨S1x256, .f32⟩
  | .hbm, ⟨5, _⟩ => ⟨S1x16, .f32⟩
  | .hbm, ⟨6, _⟩ => ⟨S1x2048x2048, .f32⟩
  | .hbm, ⟨7, _⟩ => ⟨S1x2048x8192, .f32⟩
  | .hbm, ⟨8, _⟩ => ⟨S1x8192x2048, .f32⟩
  | .hbm, ⟨9, _⟩ => ⟨S16384x2048, .f32⟩
  | .hbm, ⟨10, _⟩ => ⟨S16x512, .f32⟩
  | .hbm, ⟨11, _⟩ => ⟨S512, .f32⟩
  | .hbm, ⟨12, _⟩ => ⟨S256, .f32⟩
  | .hbm, ⟨13, _⟩ => ⟨S16, .f32⟩
  | .hbm, ⟨14, _⟩ => ⟨S2048x2048, .f32⟩
  | .hbm, ⟨15, _⟩ => ⟨S2048x8192, .f32⟩
  | .hbm, ⟨16, _⟩ => ⟨S8192x2048, .f32⟩
  | .hbm, ⟨17, _⟩ => ⟨S16x512, .bf16⟩
  | .hbm, ⟨18, _⟩ => ⟨S_, .i32⟩
  | .hbm, ⟨19, _⟩ => ⟨S_, .bf16⟩
  | .hbm, ⟨20, _⟩ => ⟨S128x512, .bf16⟩
  | .hbm, ⟨21, _⟩ => ⟨S1x512, .f32⟩
  | .hbm, ⟨22, _⟩ => ⟨S1x256, .f32⟩
  | .hbm, ⟨23, _⟩ => ⟨S4x256, .f32⟩
  | .hbm, ⟨24, _⟩ => ⟨S1024, .f32⟩
  | .hbm, ⟨25, _⟩ => ⟨S1x1024, .f32⟩
  | .hbm, ⟨26, _⟩ => ⟨S16384x1024, .bf16⟩
  | .hbm, ⟨27, _⟩ => ⟨S16384x1024, .bf16⟩
  | .hbm, ⟨28, _⟩ => ⟨S2048x2048, .bf16⟩
  | .hbm, ⟨29, _⟩ => ⟨S2048x8192, .bf16⟩
  | .hbm, ⟨30, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S2048x4480, .bf16⟩
  | .local _ .vmem, ⟨3, _⟩ => ⟨S128x512, .bf16⟩
  | .local _ .vmem, ⟨4, _⟩ => ⟨S1x512, .f32⟩
  | .local _ .vmem, ⟨5, _⟩ => ⟨S1x1024, .f32⟩
  | .local _ .vmem, ⟨6, _⟩ => ⟨S32x2048, .f32⟩
  | .local _ .vmem, ⟨7, _⟩ => ⟨S32x2048, .f32⟩
  | .local _ .vmem, ⟨8, _⟩ => ⟨S2048x128, .f32⟩
  | .local _ .vmem, ⟨9, _⟩ => ⟨S2048x128, .f32⟩
  | .local _ .vmem, ⟨10, _⟩ => ⟨S128x2048, .f32⟩
  | .local _ .vmem, ⟨11, _⟩ => ⟨S128x2048, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S32x2048, .bf16⟩
  | .local _ .vmem, ⟨17, _⟩ => ⟨S32x2048, .bf16⟩
  | .local _ .vmem, ⟨18, _⟩ => ⟨S2048x128, .bf16⟩
  | .local _ .vmem, ⟨19, _⟩ => ⟨S2048x128, .bf16⟩
  | .local _ .vmem, ⟨20, _⟩ => ⟨S128x2048, .bf16⟩
  | .local _ .vmem, ⟨21, _⟩ => ⟨S128x2048, .bf16⟩
  | .local _ .vmem, ⟨22, _⟩ => ⟨S256x2048, .bf16⟩
  | .local _ .vmem, ⟨23, _⟩ => ⟨S2x256x1024, .bf16⟩
  | .local _ .vmem, ⟨24, _⟩ => ⟨S2x256x256, .bf16⟩
  | .local _ .vmem, ⟨25, _⟩ => ⟨S2x256x512, .bf16⟩
  | .local _ .vmem, ⟨26, _⟩ => ⟨S2x256x512, .bf16⟩
  | .local _ .vmem, ⟨27, _⟩ => ⟨S2x256x1024, .bf16⟩
  | .local _ .vmem, ⟨28, _⟩ => ⟨S2x256x1024, .bf16⟩
  | .local _ .vmem, ⟨29, _⟩ => ⟨S2x256x512, .f32⟩
  | .local _ .vmem, ⟨30, _⟩ => ⟨S2x256x512, .f32⟩
  | .local _ .vmem, ⟨31, _⟩ => ⟨S4x256x128, .f32⟩
  | .local _ .vmem, ⟨32, _⟩ => ⟨S128x256, .bf16⟩
  | .local _ .smem, ⟨0, _⟩ => ⟨S16, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![65], ![false]⟩

def k0_off1 (i : grid0.Coords) : Fin 3 → Nat :=
  let arg0 : BitVec 32 := BitVec.ofNat 32 (i 0).val
  let c2_i32 : BitVec 32 := 2#32
  let v12 : BitVec 32 := Scalar.remsi arg0 c2_i32
  let v88 : Index := Scalar.indexCast v12
  let c0_39 : Index := 0#32
  let c0_40 : Index := 0#32
  ![v88.toNat, 0, 0]
def k0_off2 (i : grid0.Coords) : Fin 3 → Nat :=
  let arg0 : BitVec 32 := BitVec.ofNat 32 (i 0).val
  let c2_i32 : BitVec 32 := 2#32
  let v12 : BitVec 32 := Scalar.remsi arg0 c2_i32
  let v98 : Index := Scalar.indexCast v12
  let c0_46 : Index := 0#32
  let c256_47 : Index := 256#32
  ![v98.toNat, 0, 256]
def k0_off3 (i : grid0.Coords) : Fin 3 → Nat :=
  let arg0 : BitVec 32 := BitVec.ofNat 32 (i 0).val
  let c2_i32 : BitVec 32 := 2#32
  let v12 : BitVec 32 := Scalar.remsi arg0 c2_i32
  let v108 : Index := Scalar.indexCast v12
  let c0_53 : Index := 0#32
  let c512_54 : Index := 512#32
  ![v108.toNat, 0, 512]
def k0_off4 (i : grid0.Coords) : Fin 3 → Nat :=
  let arg0 : BitVec 32 := BitVec.ofNat 32 (i 0).val
  let c2_i32 : BitVec 32 := 2#32
  let v12 : BitVec 32 := Scalar.remsi arg0 c2_i32
  let v118 : Index := Scalar.indexCast v12
  let c0_60 : Index := 0#32
  let c768_61 : Index := 768#32
  ![v118.toNat, 0, 768]
def k0_off5 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v125 : Index := Scalar.indexCast v13
  let c0_67 : Index := 0#32
  let c0_68 : Index := 0#32
  ![v125.toNat, 0, 0]
def k0_off6 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v128 : Index := Scalar.indexCast v13
  let c0_69 : Index := 0#32
  let c128_70 : Index := 128#32
  ![v128.toNat, 0, 128]
def k0_off7 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v164 : Index := Scalar.indexCast v13
  let c0_77 : Index := 0#32
  let c0_78 : Index := 0#32
  ![v164.toNat, 0, 0]
def k0_off8 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v167 : Index := Scalar.indexCast v13
  let c0_79 : Index := 0#32
  let c128_80 : Index := 128#32
  ![v167.toNat, 0, 128]
def k0_off9 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v170 : Index := Scalar.indexCast v13
  let c0_81 : Index := 0#32
  let c256_82 : Index := 256#32
  ![v170.toNat, 0, 256]
def k0_off10 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v173 : Index := Scalar.indexCast v13
  let c0_83 : Index := 0#32
  let c384 : Index := 384#32
  ![v173.toNat, 0, 384]
def k0_off11 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v446 : Index := Scalar.indexCast v13
  let c0_134 : Index := 0#32
  let c512_135 : Index := 512#32
  ![v446.toNat, 0, 512]
def k0_off12 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v449 : Index := Scalar.indexCast v13
  let c0_136 : Index := 0#32
  let c640 : Index := 640#32
  ![v449.toNat, 0, 640]
def k0_off13 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v452 : Index := Scalar.indexCast v13
  let c0_137 : Index := 0#32
  let c768_138 : Index := 768#32
  ![v452.toNat, 0, 768]
def k0_off14 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v455 : Index := Scalar.indexCast v13
  let c0_139 : Index := 0#32
  let c896 : Index := 896#32
  ![v455.toNat, 0, 896]
def k0_off15 (i : grid0.Coords) : Fin 3 → Nat :=
  let arg0 : BitVec 32 := BitVec.ofNat 32 (i 0).val
  let c2_i32 : BitVec 32 := 2#32
  let v12 : BitVec 32 := Scalar.remsi arg0 c2_i32
  let v717 : Index := Scalar.indexCast v12
  let c0_187 : Index := 0#32
  let c0_188 : Index := 0#32
  ![v717.toNat, 0, 0]
def k0_off16 (i : grid0.Coords) : Fin 3 → Nat :=
  let arg0 : BitVec 32 := BitVec.ofNat 32 (i 0).val
  let c2_i32 : BitVec 32 := 2#32
  let v12 : BitVec 32 := Scalar.remsi arg0 c2_i32
  let v727 : Index := Scalar.indexCast v12
  let c0_194 : Index := 0#32
  let c0_195 : Index := 0#32
  ![v727.toNat, 0, 0]
def k0_off17 (i : grid0.Coords) : Fin 3 → Nat :=
  let arg0 : BitVec 32 := BitVec.ofNat 32 (i 0).val
  let c2_i32 : BitVec 32 := 2#32
  let v12 : BitVec 32 := Scalar.remsi arg0 c2_i32
  let v737 : Index := Scalar.indexCast v12
  let c0_201 : Index := 0#32
  let c256_202 : Index := 256#32
  ![v737.toNat, 0, 256]
def k0_off18 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v757 : Index := Scalar.indexCast v13
  let c0_215 : Index := 0#32
  let c0_216 : Index := 0#32
  ![v757.toNat, 0, 0]
def k0_off19 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v768 : Index := Scalar.indexCast v13
  let c0_221 : Index := 0#32
  let c0_222 : Index := 0#32
  ![v768.toNat, 0, 0]
def k0_off20 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v771 : Index := Scalar.indexCast v13
  let c127 : Index := 127#32
  let c0_223 : Index := 0#32
  ![v771.toNat, 127, 0]
def k0_off21 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v796 : Index := Scalar.indexCast v13
  let c1_234 : Index := 1#32
  let c0_235 : Index := 0#32
  ![v796.toNat, 1, 0]
def k0_off22 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v801 : Index := Scalar.indexCast v13
  let c5_236 : Index := 5#32
  let c0_237 : Index := 0#32
  ![v801.toNat, 5, 0]
def k0_off23 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v809 : Index := Scalar.indexCast v13
  let c9_239 : Index := 9#32
  let c0_240 : Index := 0#32
  ![v809.toNat, 9, 0]
def k0_off24 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v814 : Index := Scalar.indexCast v13
  let c13_241 : Index := 13#32
  let c0_242 : Index := 0#32
  ![v814.toNat, 13, 0]
def k0_off25 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v822 : Index := Scalar.indexCast v13
  let c17 : Index := 17#32
  let c0_244 : Index := 0#32
  ![v822.toNat, 17, 0]
def k0_off26 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v827 : Index := Scalar.indexCast v13
  let c21 : Index := 21#32
  let c0_245 : Index := 0#32
  ![v827.toNat, 21, 0]
def k0_off27 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v835 : Index := Scalar.indexCast v13
  let c25 : Index := 25#32
  let c0_247 : Index := 0#32
  ![v835.toNat, 25, 0]
def k0_off28 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v840 : Index := Scalar.indexCast v13
  let c29 : Index := 29#32
  let c0_248 : Index := 0#32
  ![v840.toNat, 29, 0]
def k0_off29 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v848 : Index := Scalar.indexCast v13
  let c33 : Index := 33#32
  let c0_250 : Index := 0#32
  ![v848.toNat, 33, 0]
def k0_off30 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v853 : Index := Scalar.indexCast v13
  let c37 : Index := 37#32
  let c0_251 : Index := 0#32
  ![v853.toNat, 37, 0]
def k0_off31 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v861 : Index := Scalar.indexCast v13
  let c41 : Index := 41#32
  let c0_253 : Index := 0#32
  ![v861.toNat, 41, 0]
def k0_off32 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v866 : Index := Scalar.indexCast v13
  let c45 : Index := 45#32
  let c0_254 : Index := 0#32
  ![v866.toNat, 45, 0]
def k0_off33 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v874 : Index := Scalar.indexCast v13
  let c49 : Index := 49#32
  let c0_256 : Index := 0#32
  ![v874.toNat, 49, 0]
def k0_off34 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v879 : Index := Scalar.indexCast v13
  let c53 : Index := 53#32
  let c0_257 : Index := 0#32
  ![v879.toNat, 53, 0]
def k0_off35 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v887 : Index := Scalar.indexCast v13
  let c57 : Index := 57#32
  let c0_259 : Index := 0#32
  ![v887.toNat, 57, 0]
def k0_off36 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v892 : Index := Scalar.indexCast v13
  let c61 : Index := 61#32
  let c0_260 : Index := 0#32
  ![v892.toNat, 61, 0]
def k0_off37 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v900 : Index := Scalar.indexCast v13
  let c65 : Index := 65#32
  let c0_262 : Index := 0#32
  ![v900.toNat, 65, 0]
def k0_off38 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v905 : Index := Scalar.indexCast v13
  let c69 : Index := 69#32
  let c0_263 : Index := 0#32
  ![v905.toNat, 69, 0]
def k0_off39 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v913 : Index := Scalar.indexCast v13
  let c73 : Index := 73#32
  let c0_265 : Index := 0#32
  ![v913.toNat, 73, 0]
def k0_off40 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v918 : Index := Scalar.indexCast v13
  let c77 : Index := 77#32
  let c0_266 : Index := 0#32
  ![v918.toNat, 77, 0]
def k0_off41 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v926 : Index := Scalar.indexCast v13
  let c81 : Index := 81#32
  let c0_268 : Index := 0#32
  ![v926.toNat, 81, 0]
def k0_off42 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v931 : Index := Scalar.indexCast v13
  let c85 : Index := 85#32
  let c0_269 : Index := 0#32
  ![v931.toNat, 85, 0]
def k0_off43 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v939 : Index := Scalar.indexCast v13
  let c89 : Index := 89#32
  let c0_271 : Index := 0#32
  ![v939.toNat, 89, 0]
def k0_off44 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v944 : Index := Scalar.indexCast v13
  let c93 : Index := 93#32
  let c0_272 : Index := 0#32
  ![v944.toNat, 93, 0]
def k0_off45 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v952 : Index := Scalar.indexCast v13
  let c97 : Index := 97#32
  let c0_274 : Index := 0#32
  ![v952.toNat, 97, 0]
def k0_off46 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v957 : Index := Scalar.indexCast v13
  let c101 : Index := 101#32
  let c0_275 : Index := 0#32
  ![v957.toNat, 101, 0]
def k0_off47 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v965 : Index := Scalar.indexCast v13
  let c105 : Index := 105#32
  let c0_277 : Index := 0#32
  ![v965.toNat, 105, 0]
def k0_off48 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v970 : Index := Scalar.indexCast v13
  let c109 : Index := 109#32
  let c0_278 : Index := 0#32
  ![v970.toNat, 109, 0]
def k0_off49 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v978 : Index := Scalar.indexCast v13
  let c113 : Index := 113#32
  let c0_280 : Index := 0#32
  ![v978.toNat, 113, 0]
def k0_off50 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v983 : Index := Scalar.indexCast v13
  let c117 : Index := 117#32
  let c0_281 : Index := 0#32
  ![v983.toNat, 117, 0]
def k0_off51 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v991 : Index := Scalar.indexCast v13
  let c121 : Index := 121#32
  let c0_283 : Index := 0#32
  ![v991.toNat, 121, 0]
def k0_off52 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v996 : Index := Scalar.indexCast v13
  let c125 : Index := 125#32
  let c0_284 : Index := 0#32
  ![v996.toNat, 125, 0]
def k0_off53 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1020 : Index := Scalar.indexCast v13
  let c3_291 : Index := 3#32
  let c0_292 : Index := 0#32
  ![v1020.toNat, 3, 0]
def k0_off54 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1025 : Index := Scalar.indexCast v13
  let c11_293 : Index := 11#32
  let c0_294 : Index := 0#32
  ![v1025.toNat, 11, 0]
def k0_off55 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1030 : Index := Scalar.indexCast v13
  let c19 : Index := 19#32
  let c0_295 : Index := 0#32
  ![v1030.toNat, 19, 0]
def k0_off56 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1035 : Index := Scalar.indexCast v13
  let c27 : Index := 27#32
  let c0_296 : Index := 0#32
  ![v1035.toNat, 27, 0]
def k0_off57 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1040 : Index := Scalar.indexCast v13
  let c35 : Index := 35#32
  let c0_297 : Index := 0#32
  ![v1040.toNat, 35, 0]
def k0_off58 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1045 : Index := Scalar.indexCast v13
  let c43 : Index := 43#32
  let c0_298 : Index := 0#32
  ![v1045.toNat, 43, 0]
def k0_off59 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1050 : Index := Scalar.indexCast v13
  let c51 : Index := 51#32
  let c0_299 : Index := 0#32
  ![v1050.toNat, 51, 0]
def k0_off60 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1055 : Index := Scalar.indexCast v13
  let c59 : Index := 59#32
  let c0_300 : Index := 0#32
  ![v1055.toNat, 59, 0]
def k0_off61 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1060 : Index := Scalar.indexCast v13
  let c67 : Index := 67#32
  let c0_301 : Index := 0#32
  ![v1060.toNat, 67, 0]
def k0_off62 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1065 : Index := Scalar.indexCast v13
  let c75 : Index := 75#32
  let c0_302 : Index := 0#32
  ![v1065.toNat, 75, 0]
def k0_off63 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1070 : Index := Scalar.indexCast v13
  let c83 : Index := 83#32
  let c0_303 : Index := 0#32
  ![v1070.toNat, 83, 0]
def k0_off64 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1075 : Index := Scalar.indexCast v13
  let c91 : Index := 91#32
  let c0_304 : Index := 0#32
  ![v1075.toNat, 91, 0]
def k0_off65 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1080 : Index := Scalar.indexCast v13
  let c99 : Index := 99#32
  let c0_305 : Index := 0#32
  ![v1080.toNat, 99, 0]
def k0_off66 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1085 : Index := Scalar.indexCast v13
  let c107 : Index := 107#32
  let c0_306 : Index := 0#32
  ![v1085.toNat, 107, 0]
def k0_off67 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1090 : Index := Scalar.indexCast v13
  let c115 : Index := 115#32
  let c0_307 : Index := 0#32
  ![v1090.toNat, 115, 0]
def k0_off68 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1095 : Index := Scalar.indexCast v13
  let c123 : Index := 123#32
  let c0_308 : Index := 0#32
  ![v1095.toNat, 123, 0]
def k0_off69 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1128 : Index := Scalar.indexCast v13
  let c7_312 : Index := 7#32
  let c0_313 : Index := 0#32
  ![v1128.toNat, 7, 0]
def k0_off70 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1139 : Index := Scalar.indexCast v13
  let c23 : Index := 23#32
  let c0_314 : Index := 0#32
  ![v1139.toNat, 23, 0]
def k0_off71 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1150 : Index := Scalar.indexCast v13
  let c39 : Index := 39#32
  let c0_315 : Index := 0#32
  ![v1150.toNat, 39, 0]
def k0_off72 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1161 : Index := Scalar.indexCast v13
  let c55 : Index := 55#32
  let c0_316 : Index := 0#32
  ![v1161.toNat, 55, 0]
def k0_off73 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1172 : Index := Scalar.indexCast v13
  let c71 : Index := 71#32
  let c0_317 : Index := 0#32
  ![v1172.toNat, 71, 0]
def k0_off74 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1183 : Index := Scalar.indexCast v13
  let c87 : Index := 87#32
  let c0_318 : Index := 0#32
  ![v1183.toNat, 87, 0]
def k0_off75 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1194 : Index := Scalar.indexCast v13
  let c103 : Index := 103#32
  let c0_319 : Index := 0#32
  ![v1194.toNat, 103, 0]
def k0_off76 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1205 : Index := Scalar.indexCast v13
  let c119 : Index := 119#32
  let c0_320 : Index := 0#32
  ![v1205.toNat, 119, 0]
def k0_off77 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1278 : Index := Scalar.indexCast v13
  let c15_326 : Index := 15#32
  let c0_327 : Index := 0#32
  ![v1278.toNat, 15, 0]
def k0_off78 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1290 : Index := Scalar.indexCast v13
  let c47 : Index := 47#32
  let c0_328 : Index := 0#32
  ![v1290.toNat, 47, 0]
def k0_off79 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1302 : Index := Scalar.indexCast v13
  let c79 : Index := 79#32
  let c0_329 : Index := 0#32
  ![v1302.toNat, 79, 0]
def k0_off80 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1314 : Index := Scalar.indexCast v13
  let c111 : Index := 111#32
  let c0_330 : Index := 0#32
  ![v1314.toNat, 111, 0]
def k0_off81 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1368 : Index := Scalar.indexCast v13
  let c31 : Index := 31#32
  let c0_340 : Index := 0#32
  ![v1368.toNat, 31, 0]
def k0_off82 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1380 : Index := Scalar.indexCast v13
  let c95 : Index := 95#32
  let c0_341 : Index := 0#32
  ![v1380.toNat, 95, 0]
def k0_off83 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1424 : Index := Scalar.indexCast v13
  let c63 : Index := 63#32
  let c0_347 : Index := 0#32
  ![v1424.toNat, 63, 0]
def k0_off84 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1504 : Index := Scalar.indexCast v13
  let c0_367 : Index := 0#32
  let c128_368 : Index := 128#32
  ![v1504.toNat, 0, 128]
def k0_off85 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1515 : Index := Scalar.indexCast v13
  let c0_373 : Index := 0#32
  let c256_374 : Index := 256#32
  ![v1515.toNat, 0, 256]
def k0_off86 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1518 : Index := Scalar.indexCast v13
  let c127_375 : Index := 127#32
  let c128_376 : Index := 128#32
  ![v1518.toNat, 127, 128]
def k0_off87 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1543 : Index := Scalar.indexCast v13
  let c1_387 : Index := 1#32
  let c128_388 : Index := 128#32
  ![v1543.toNat, 1, 128]
def k0_off88 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1548 : Index := Scalar.indexCast v13
  let c5_389 : Index := 5#32
  let c128_390 : Index := 128#32
  ![v1548.toNat, 5, 128]
def k0_off89 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1556 : Index := Scalar.indexCast v13
  let c9_392 : Index := 9#32
  let c128_393 : Index := 128#32
  ![v1556.toNat, 9, 128]
def k0_off90 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1561 : Index := Scalar.indexCast v13
  let c13_394 : Index := 13#32
  let c128_395 : Index := 128#32
  ![v1561.toNat, 13, 128]
def k0_off91 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1569 : Index := Scalar.indexCast v13
  let c17_397 : Index := 17#32
  let c128_398 : Index := 128#32
  ![v1569.toNat, 17, 128]
def k0_off92 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1574 : Index := Scalar.indexCast v13
  let c21_399 : Index := 21#32
  let c128_400 : Index := 128#32
  ![v1574.toNat, 21, 128]
def k0_off93 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1582 : Index := Scalar.indexCast v13
  let c25_402 : Index := 25#32
  let c128_403 : Index := 128#32
  ![v1582.toNat, 25, 128]
def k0_off94 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1587 : Index := Scalar.indexCast v13
  let c29_404 : Index := 29#32
  let c128_405 : Index := 128#32
  ![v1587.toNat, 29, 128]
def k0_off95 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1595 : Index := Scalar.indexCast v13
  let c33_407 : Index := 33#32
  let c128_408 : Index := 128#32
  ![v1595.toNat, 33, 128]
def k0_off96 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1600 : Index := Scalar.indexCast v13
  let c37_409 : Index := 37#32
  let c128_410 : Index := 128#32
  ![v1600.toNat, 37, 128]
def k0_off97 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1608 : Index := Scalar.indexCast v13
  let c41_412 : Index := 41#32
  let c128_413 : Index := 128#32
  ![v1608.toNat, 41, 128]
def k0_off98 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1613 : Index := Scalar.indexCast v13
  let c45_414 : Index := 45#32
  let c128_415 : Index := 128#32
  ![v1613.toNat, 45, 128]
def k0_off99 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1621 : Index := Scalar.indexCast v13
  let c49_417 : Index := 49#32
  let c128_418 : Index := 128#32
  ![v1621.toNat, 49, 128]
def k0_off100 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1626 : Index := Scalar.indexCast v13
  let c53_419 : Index := 53#32
  let c128_420 : Index := 128#32
  ![v1626.toNat, 53, 128]
def k0_off101 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1634 : Index := Scalar.indexCast v13
  let c57_422 : Index := 57#32
  let c128_423 : Index := 128#32
  ![v1634.toNat, 57, 128]
def k0_off102 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1639 : Index := Scalar.indexCast v13
  let c61_424 : Index := 61#32
  let c128_425 : Index := 128#32
  ![v1639.toNat, 61, 128]
def k0_off103 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1647 : Index := Scalar.indexCast v13
  let c65_427 : Index := 65#32
  let c128_428 : Index := 128#32
  ![v1647.toNat, 65, 128]
def k0_off104 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1652 : Index := Scalar.indexCast v13
  let c69_429 : Index := 69#32
  let c128_430 : Index := 128#32
  ![v1652.toNat, 69, 128]
def k0_off105 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1660 : Index := Scalar.indexCast v13
  let c73_432 : Index := 73#32
  let c128_433 : Index := 128#32
  ![v1660.toNat, 73, 128]
def k0_off106 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1665 : Index := Scalar.indexCast v13
  let c77_434 : Index := 77#32
  let c128_435 : Index := 128#32
  ![v1665.toNat, 77, 128]
def k0_off107 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1673 : Index := Scalar.indexCast v13
  let c81_437 : Index := 81#32
  let c128_438 : Index := 128#32
  ![v1673.toNat, 81, 128]
def k0_off108 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1678 : Index := Scalar.indexCast v13
  let c85_439 : Index := 85#32
  let c128_440 : Index := 128#32
  ![v1678.toNat, 85, 128]
def k0_off109 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1686 : Index := Scalar.indexCast v13
  let c89_442 : Index := 89#32
  let c128_443 : Index := 128#32
  ![v1686.toNat, 89, 128]
def k0_off110 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1691 : Index := Scalar.indexCast v13
  let c93_444 : Index := 93#32
  let c128_445 : Index := 128#32
  ![v1691.toNat, 93, 128]
def k0_off111 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1699 : Index := Scalar.indexCast v13
  let c97_447 : Index := 97#32
  let c128_448 : Index := 128#32
  ![v1699.toNat, 97, 128]
def k0_off112 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1704 : Index := Scalar.indexCast v13
  let c101_449 : Index := 101#32
  let c128_450 : Index := 128#32
  ![v1704.toNat, 101, 128]
def k0_off113 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1712 : Index := Scalar.indexCast v13
  let c105_452 : Index := 105#32
  let c128_453 : Index := 128#32
  ![v1712.toNat, 105, 128]
def k0_off114 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1717 : Index := Scalar.indexCast v13
  let c109_454 : Index := 109#32
  let c128_455 : Index := 128#32
  ![v1717.toNat, 109, 128]
def k0_off115 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1725 : Index := Scalar.indexCast v13
  let c113_457 : Index := 113#32
  let c128_458 : Index := 128#32
  ![v1725.toNat, 113, 128]
def k0_off116 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1730 : Index := Scalar.indexCast v13
  let c117_459 : Index := 117#32
  let c128_460 : Index := 128#32
  ![v1730.toNat, 117, 128]
def k0_off117 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1738 : Index := Scalar.indexCast v13
  let c121_462 : Index := 121#32
  let c128_463 : Index := 128#32
  ![v1738.toNat, 121, 128]
def k0_off118 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1743 : Index := Scalar.indexCast v13
  let c125_464 : Index := 125#32
  let c128_465 : Index := 128#32
  ![v1743.toNat, 125, 128]
def k0_off119 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1767 : Index := Scalar.indexCast v13
  let c3_472 : Index := 3#32
  let c128_473 : Index := 128#32
  ![v1767.toNat, 3, 128]
def k0_off120 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1772 : Index := Scalar.indexCast v13
  let c11_474 : Index := 11#32
  let c128_475 : Index := 128#32
  ![v1772.toNat, 11, 128]
def k0_off121 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1777 : Index := Scalar.indexCast v13
  let c19_476 : Index := 19#32
  let c128_477 : Index := 128#32
  ![v1777.toNat, 19, 128]
def k0_off122 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1782 : Index := Scalar.indexCast v13
  let c27_478 : Index := 27#32
  let c128_479 : Index := 128#32
  ![v1782.toNat, 27, 128]
def k0_off123 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1787 : Index := Scalar.indexCast v13
  let c35_480 : Index := 35#32
  let c128_481 : Index := 128#32
  ![v1787.toNat, 35, 128]
def k0_off124 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1792 : Index := Scalar.indexCast v13
  let c43_482 : Index := 43#32
  let c128_483 : Index := 128#32
  ![v1792.toNat, 43, 128]
def k0_off125 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1797 : Index := Scalar.indexCast v13
  let c51_484 : Index := 51#32
  let c128_485 : Index := 128#32
  ![v1797.toNat, 51, 128]
def k0_off126 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1802 : Index := Scalar.indexCast v13
  let c59_486 : Index := 59#32
  let c128_487 : Index := 128#32
  ![v1802.toNat, 59, 128]
def k0_off127 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1807 : Index := Scalar.indexCast v13
  let c67_488 : Index := 67#32
  let c128_489 : Index := 128#32
  ![v1807.toNat, 67, 128]
def k0_off128 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1812 : Index := Scalar.indexCast v13
  let c75_490 : Index := 75#32
  let c128_491 : Index := 128#32
  ![v1812.toNat, 75, 128]
def k0_off129 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1817 : Index := Scalar.indexCast v13
  let c83_492 : Index := 83#32
  let c128_493 : Index := 128#32
  ![v1817.toNat, 83, 128]
def k0_off130 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1822 : Index := Scalar.indexCast v13
  let c91_494 : Index := 91#32
  let c128_495 : Index := 128#32
  ![v1822.toNat, 91, 128]
def k0_off131 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1827 : Index := Scalar.indexCast v13
  let c99_496 : Index := 99#32
  let c128_497 : Index := 128#32
  ![v1827.toNat, 99, 128]
def k0_off132 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1832 : Index := Scalar.indexCast v13
  let c107_498 : Index := 107#32
  let c128_499 : Index := 128#32
  ![v1832.toNat, 107, 128]
def k0_off133 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1837 : Index := Scalar.indexCast v13
  let c115_500 : Index := 115#32
  let c128_501 : Index := 128#32
  ![v1837.toNat, 115, 128]
def k0_off134 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1842 : Index := Scalar.indexCast v13
  let c123_502 : Index := 123#32
  let c128_503 : Index := 128#32
  ![v1842.toNat, 123, 128]
def k0_off135 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1875 : Index := Scalar.indexCast v13
  let c7_507 : Index := 7#32
  let c128_508 : Index := 128#32
  ![v1875.toNat, 7, 128]
def k0_off136 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1886 : Index := Scalar.indexCast v13
  let c23_509 : Index := 23#32
  let c128_510 : Index := 128#32
  ![v1886.toNat, 23, 128]
def k0_off137 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1897 : Index := Scalar.indexCast v13
  let c39_511 : Index := 39#32
  let c128_512 : Index := 128#32
  ![v1897.toNat, 39, 128]
def k0_off138 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1908 : Index := Scalar.indexCast v13
  let c55_513 : Index := 55#32
  let c128_514 : Index := 128#32
  ![v1908.toNat, 55, 128]
def k0_off139 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1919 : Index := Scalar.indexCast v13
  let c71_515 : Index := 71#32
  let c128_516 : Index := 128#32
  ![v1919.toNat, 71, 128]
def k0_off140 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1930 : Index := Scalar.indexCast v13
  let c87_517 : Index := 87#32
  let c128_518 : Index := 128#32
  ![v1930.toNat, 87, 128]
def k0_off141 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1941 : Index := Scalar.indexCast v13
  let c103_519 : Index := 103#32
  let c128_520 : Index := 128#32
  ![v1941.toNat, 103, 128]
def k0_off142 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v1952 : Index := Scalar.indexCast v13
  let c119_521 : Index := 119#32
  let c128_522 : Index := 128#32
  ![v1952.toNat, 119, 128]
def k0_off143 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2025 : Index := Scalar.indexCast v13
  let c15_540 : Index := 15#32
  let c128_541 : Index := 128#32
  ![v2025.toNat, 15, 128]
def k0_off144 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2037 : Index := Scalar.indexCast v13
  let c47_542 : Index := 47#32
  let c128_543 : Index := 128#32
  ![v2037.toNat, 47, 128]
def k0_off145 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2049 : Index := Scalar.indexCast v13
  let c79_544 : Index := 79#32
  let c128_545 : Index := 128#32
  ![v2049.toNat, 79, 128]
def k0_off146 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2061 : Index := Scalar.indexCast v13
  let c111_546 : Index := 111#32
  let c128_547 : Index := 128#32
  ![v2061.toNat, 111, 128]
def k0_off147 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2115 : Index := Scalar.indexCast v13
  let c31_557 : Index := 31#32
  let c128_558 : Index := 128#32
  ![v2115.toNat, 31, 128]
def k0_off148 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2127 : Index := Scalar.indexCast v13
  let c95_559 : Index := 95#32
  let c128_560 : Index := 128#32
  ![v2127.toNat, 95, 128]
def k0_off149 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2171 : Index := Scalar.indexCast v13
  let c63_566 : Index := 63#32
  let c128_567 : Index := 128#32
  ![v2171.toNat, 63, 128]
def k0_off150 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2251 : Index := Scalar.indexCast v13
  let c0_587 : Index := 0#32
  let c256_588 : Index := 256#32
  ![v2251.toNat, 0, 256]
def k0_off151 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2262 : Index := Scalar.indexCast v13
  let c0_593 : Index := 0#32
  let c512_594 : Index := 512#32
  ![v2262.toNat, 0, 512]
def k0_off152 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2265 : Index := Scalar.indexCast v13
  let c127_595 : Index := 127#32
  let c256_596 : Index := 256#32
  ![v2265.toNat, 127, 256]
def k0_off153 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2290 : Index := Scalar.indexCast v13
  let c1_607 : Index := 1#32
  let c256_608 : Index := 256#32
  ![v2290.toNat, 1, 256]
def k0_off154 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2295 : Index := Scalar.indexCast v13
  let c5_609 : Index := 5#32
  let c256_610 : Index := 256#32
  ![v2295.toNat, 5, 256]
def k0_off155 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2303 : Index := Scalar.indexCast v13
  let c9_612 : Index := 9#32
  let c256_613 : Index := 256#32
  ![v2303.toNat, 9, 256]
def k0_off156 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2308 : Index := Scalar.indexCast v13
  let c13_614 : Index := 13#32
  let c256_615 : Index := 256#32
  ![v2308.toNat, 13, 256]
def k0_off157 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2316 : Index := Scalar.indexCast v13
  let c17_617 : Index := 17#32
  let c256_618 : Index := 256#32
  ![v2316.toNat, 17, 256]
def k0_off158 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2321 : Index := Scalar.indexCast v13
  let c21_619 : Index := 21#32
  let c256_620 : Index := 256#32
  ![v2321.toNat, 21, 256]
def k0_off159 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2329 : Index := Scalar.indexCast v13
  let c25_622 : Index := 25#32
  let c256_623 : Index := 256#32
  ![v2329.toNat, 25, 256]
def k0_off160 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2334 : Index := Scalar.indexCast v13
  let c29_624 : Index := 29#32
  let c256_625 : Index := 256#32
  ![v2334.toNat, 29, 256]
def k0_off161 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2342 : Index := Scalar.indexCast v13
  let c33_627 : Index := 33#32
  let c256_628 : Index := 256#32
  ![v2342.toNat, 33, 256]
def k0_off162 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2347 : Index := Scalar.indexCast v13
  let c37_629 : Index := 37#32
  let c256_630 : Index := 256#32
  ![v2347.toNat, 37, 256]
def k0_off163 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2355 : Index := Scalar.indexCast v13
  let c41_632 : Index := 41#32
  let c256_633 : Index := 256#32
  ![v2355.toNat, 41, 256]
def k0_off164 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2360 : Index := Scalar.indexCast v13
  let c45_634 : Index := 45#32
  let c256_635 : Index := 256#32
  ![v2360.toNat, 45, 256]
def k0_off165 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2368 : Index := Scalar.indexCast v13
  let c49_637 : Index := 49#32
  let c256_638 : Index := 256#32
  ![v2368.toNat, 49, 256]
def k0_off166 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2373 : Index := Scalar.indexCast v13
  let c53_639 : Index := 53#32
  let c256_640 : Index := 256#32
  ![v2373.toNat, 53, 256]
def k0_off167 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2381 : Index := Scalar.indexCast v13
  let c57_642 : Index := 57#32
  let c256_643 : Index := 256#32
  ![v2381.toNat, 57, 256]
def k0_off168 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2386 : Index := Scalar.indexCast v13
  let c61_644 : Index := 61#32
  let c256_645 : Index := 256#32
  ![v2386.toNat, 61, 256]
def k0_off169 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2394 : Index := Scalar.indexCast v13
  let c65_647 : Index := 65#32
  let c256_648 : Index := 256#32
  ![v2394.toNat, 65, 256]
def k0_off170 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2399 : Index := Scalar.indexCast v13
  let c69_649 : Index := 69#32
  let c256_650 : Index := 256#32
  ![v2399.toNat, 69, 256]
def k0_off171 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2407 : Index := Scalar.indexCast v13
  let c73_652 : Index := 73#32
  let c256_653 : Index := 256#32
  ![v2407.toNat, 73, 256]
def k0_off172 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2412 : Index := Scalar.indexCast v13
  let c77_654 : Index := 77#32
  let c256_655 : Index := 256#32
  ![v2412.toNat, 77, 256]
def k0_off173 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2420 : Index := Scalar.indexCast v13
  let c81_657 : Index := 81#32
  let c256_658 : Index := 256#32
  ![v2420.toNat, 81, 256]
def k0_off174 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2425 : Index := Scalar.indexCast v13
  let c85_659 : Index := 85#32
  let c256_660 : Index := 256#32
  ![v2425.toNat, 85, 256]
def k0_off175 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2433 : Index := Scalar.indexCast v13
  let c89_662 : Index := 89#32
  let c256_663 : Index := 256#32
  ![v2433.toNat, 89, 256]
def k0_off176 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2438 : Index := Scalar.indexCast v13
  let c93_664 : Index := 93#32
  let c256_665 : Index := 256#32
  ![v2438.toNat, 93, 256]
def k0_off177 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2446 : Index := Scalar.indexCast v13
  let c97_667 : Index := 97#32
  let c256_668 : Index := 256#32
  ![v2446.toNat, 97, 256]
def k0_off178 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2451 : Index := Scalar.indexCast v13
  let c101_669 : Index := 101#32
  let c256_670 : Index := 256#32
  ![v2451.toNat, 101, 256]
def k0_off179 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2459 : Index := Scalar.indexCast v13
  let c105_672 : Index := 105#32
  let c256_673 : Index := 256#32
  ![v2459.toNat, 105, 256]
def k0_off180 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2464 : Index := Scalar.indexCast v13
  let c109_674 : Index := 109#32
  let c256_675 : Index := 256#32
  ![v2464.toNat, 109, 256]
def k0_off181 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2472 : Index := Scalar.indexCast v13
  let c113_677 : Index := 113#32
  let c256_678 : Index := 256#32
  ![v2472.toNat, 113, 256]
def k0_off182 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2477 : Index := Scalar.indexCast v13
  let c117_679 : Index := 117#32
  let c256_680 : Index := 256#32
  ![v2477.toNat, 117, 256]
def k0_off183 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2485 : Index := Scalar.indexCast v13
  let c121_682 : Index := 121#32
  let c256_683 : Index := 256#32
  ![v2485.toNat, 121, 256]
def k0_off184 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2490 : Index := Scalar.indexCast v13
  let c125_684 : Index := 125#32
  let c256_685 : Index := 256#32
  ![v2490.toNat, 125, 256]
def k0_off185 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2514 : Index := Scalar.indexCast v13
  let c3_692 : Index := 3#32
  let c256_693 : Index := 256#32
  ![v2514.toNat, 3, 256]
def k0_off186 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2519 : Index := Scalar.indexCast v13
  let c11_694 : Index := 11#32
  let c256_695 : Index := 256#32
  ![v2519.toNat, 11, 256]
def k0_off187 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2524 : Index := Scalar.indexCast v13
  let c19_696 : Index := 19#32
  let c256_697 : Index := 256#32
  ![v2524.toNat, 19, 256]
def k0_off188 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2529 : Index := Scalar.indexCast v13
  let c27_698 : Index := 27#32
  let c256_699 : Index := 256#32
  ![v2529.toNat, 27, 256]
def k0_off189 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2534 : Index := Scalar.indexCast v13
  let c35_700 : Index := 35#32
  let c256_701 : Index := 256#32
  ![v2534.toNat, 35, 256]
def k0_off190 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2539 : Index := Scalar.indexCast v13
  let c43_702 : Index := 43#32
  let c256_703 : Index := 256#32
  ![v2539.toNat, 43, 256]
def k0_off191 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2544 : Index := Scalar.indexCast v13
  let c51_704 : Index := 51#32
  let c256_705 : Index := 256#32
  ![v2544.toNat, 51, 256]
def k0_off192 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2549 : Index := Scalar.indexCast v13
  let c59_706 : Index := 59#32
  let c256_707 : Index := 256#32
  ![v2549.toNat, 59, 256]
def k0_off193 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2554 : Index := Scalar.indexCast v13
  let c67_708 : Index := 67#32
  let c256_709 : Index := 256#32
  ![v2554.toNat, 67, 256]
def k0_off194 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2559 : Index := Scalar.indexCast v13
  let c75_710 : Index := 75#32
  let c256_711 : Index := 256#32
  ![v2559.toNat, 75, 256]
def k0_off195 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2564 : Index := Scalar.indexCast v13
  let c83_712 : Index := 83#32
  let c256_713 : Index := 256#32
  ![v2564.toNat, 83, 256]
def k0_off196 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2569 : Index := Scalar.indexCast v13
  let c91_714 : Index := 91#32
  let c256_715 : Index := 256#32
  ![v2569.toNat, 91, 256]
def k0_off197 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2574 : Index := Scalar.indexCast v13
  let c99_716 : Index := 99#32
  let c256_717 : Index := 256#32
  ![v2574.toNat, 99, 256]
def k0_off198 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2579 : Index := Scalar.indexCast v13
  let c107_718 : Index := 107#32
  let c256_719 : Index := 256#32
  ![v2579.toNat, 107, 256]
def k0_off199 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2584 : Index := Scalar.indexCast v13
  let c115_720 : Index := 115#32
  let c256_721 : Index := 256#32
  ![v2584.toNat, 115, 256]
def k0_off200 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2589 : Index := Scalar.indexCast v13
  let c123_722 : Index := 123#32
  let c256_723 : Index := 256#32
  ![v2589.toNat, 123, 256]
def k0_off201 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2622 : Index := Scalar.indexCast v13
  let c7_727 : Index := 7#32
  let c256_728 : Index := 256#32
  ![v2622.toNat, 7, 256]
def k0_off202 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2633 : Index := Scalar.indexCast v13
  let c23_729 : Index := 23#32
  let c256_730 : Index := 256#32
  ![v2633.toNat, 23, 256]
def k0_off203 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2644 : Index := Scalar.indexCast v13
  let c39_731 : Index := 39#32
  let c256_732 : Index := 256#32
  ![v2644.toNat, 39, 256]
def k0_off204 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2655 : Index := Scalar.indexCast v13
  let c55_733 : Index := 55#32
  let c256_734 : Index := 256#32
  ![v2655.toNat, 55, 256]
def k0_off205 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2666 : Index := Scalar.indexCast v13
  let c71_735 : Index := 71#32
  let c256_736 : Index := 256#32
  ![v2666.toNat, 71, 256]
def k0_off206 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2677 : Index := Scalar.indexCast v13
  let c87_737 : Index := 87#32
  let c256_738 : Index := 256#32
  ![v2677.toNat, 87, 256]
def k0_off207 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2688 : Index := Scalar.indexCast v13
  let c103_739 : Index := 103#32
  let c256_740 : Index := 256#32
  ![v2688.toNat, 103, 256]
def k0_off208 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2699 : Index := Scalar.indexCast v13
  let c119_741 : Index := 119#32
  let c256_742 : Index := 256#32
  ![v2699.toNat, 119, 256]
def k0_off209 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2772 : Index := Scalar.indexCast v13
  let c15_760 : Index := 15#32
  let c256_761 : Index := 256#32
  ![v2772.toNat, 15, 256]
def k0_off210 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2784 : Index := Scalar.indexCast v13
  let c47_762 : Index := 47#32
  let c256_763 : Index := 256#32
  ![v2784.toNat, 47, 256]
def k0_off211 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2796 : Index := Scalar.indexCast v13
  let c79_764 : Index := 79#32
  let c256_765 : Index := 256#32
  ![v2796.toNat, 79, 256]
def k0_off212 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2808 : Index := Scalar.indexCast v13
  let c111_766 : Index := 111#32
  let c256_767 : Index := 256#32
  ![v2808.toNat, 111, 256]
def k0_off213 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2862 : Index := Scalar.indexCast v13
  let c31_777 : Index := 31#32
  let c256_778 : Index := 256#32
  ![v2862.toNat, 31, 256]
def k0_off214 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2874 : Index := Scalar.indexCast v13
  let c95_779 : Index := 95#32
  let c256_780 : Index := 256#32
  ![v2874.toNat, 95, 256]
def k0_off215 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2918 : Index := Scalar.indexCast v13
  let c63_786 : Index := 63#32
  let c256_787 : Index := 256#32
  ![v2918.toNat, 63, 256]
def k0_off216 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v2998 : Index := Scalar.indexCast v13
  let c0_807 : Index := 0#32
  let c384_808 : Index := 384#32
  ![v2998.toNat, 0, 384]
def k0_off217 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3009 : Index := Scalar.indexCast v13
  let c0_813 : Index := 0#32
  let c768_814 : Index := 768#32
  ![v3009.toNat, 0, 768]
def k0_off218 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3012 : Index := Scalar.indexCast v13
  let c127_815 : Index := 127#32
  let c384_816 : Index := 384#32
  ![v3012.toNat, 127, 384]
def k0_off219 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3037 : Index := Scalar.indexCast v13
  let c1_827 : Index := 1#32
  let c384_828 : Index := 384#32
  ![v3037.toNat, 1, 384]
def k0_off220 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3042 : Index := Scalar.indexCast v13
  let c5_829 : Index := 5#32
  let c384_830 : Index := 384#32
  ![v3042.toNat, 5, 384]
def k0_off221 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3050 : Index := Scalar.indexCast v13
  let c9_832 : Index := 9#32
  let c384_833 : Index := 384#32
  ![v3050.toNat, 9, 384]
def k0_off222 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3055 : Index := Scalar.indexCast v13
  let c13_834 : Index := 13#32
  let c384_835 : Index := 384#32
  ![v3055.toNat, 13, 384]
def k0_off223 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3063 : Index := Scalar.indexCast v13
  let c17_837 : Index := 17#32
  let c384_838 : Index := 384#32
  ![v3063.toNat, 17, 384]
def k0_off224 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3068 : Index := Scalar.indexCast v13
  let c21_839 : Index := 21#32
  let c384_840 : Index := 384#32
  ![v3068.toNat, 21, 384]
def k0_off225 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3076 : Index := Scalar.indexCast v13
  let c25_842 : Index := 25#32
  let c384_843 : Index := 384#32
  ![v3076.toNat, 25, 384]
def k0_off226 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3081 : Index := Scalar.indexCast v13
  let c29_844 : Index := 29#32
  let c384_845 : Index := 384#32
  ![v3081.toNat, 29, 384]
def k0_off227 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3089 : Index := Scalar.indexCast v13
  let c33_847 : Index := 33#32
  let c384_848 : Index := 384#32
  ![v3089.toNat, 33, 384]
def k0_off228 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3094 : Index := Scalar.indexCast v13
  let c37_849 : Index := 37#32
  let c384_850 : Index := 384#32
  ![v3094.toNat, 37, 384]
def k0_off229 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3102 : Index := Scalar.indexCast v13
  let c41_852 : Index := 41#32
  let c384_853 : Index := 384#32
  ![v3102.toNat, 41, 384]
def k0_off230 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3107 : Index := Scalar.indexCast v13
  let c45_854 : Index := 45#32
  let c384_855 : Index := 384#32
  ![v3107.toNat, 45, 384]
def k0_off231 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3115 : Index := Scalar.indexCast v13
  let c49_857 : Index := 49#32
  let c384_858 : Index := 384#32
  ![v3115.toNat, 49, 384]
def k0_off232 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3120 : Index := Scalar.indexCast v13
  let c53_859 : Index := 53#32
  let c384_860 : Index := 384#32
  ![v3120.toNat, 53, 384]
def k0_off233 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3128 : Index := Scalar.indexCast v13
  let c57_862 : Index := 57#32
  let c384_863 : Index := 384#32
  ![v3128.toNat, 57, 384]
def k0_off234 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3133 : Index := Scalar.indexCast v13
  let c61_864 : Index := 61#32
  let c384_865 : Index := 384#32
  ![v3133.toNat, 61, 384]
def k0_off235 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3141 : Index := Scalar.indexCast v13
  let c65_867 : Index := 65#32
  let c384_868 : Index := 384#32
  ![v3141.toNat, 65, 384]
def k0_off236 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3146 : Index := Scalar.indexCast v13
  let c69_869 : Index := 69#32
  let c384_870 : Index := 384#32
  ![v3146.toNat, 69, 384]
def k0_off237 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3154 : Index := Scalar.indexCast v13
  let c73_872 : Index := 73#32
  let c384_873 : Index := 384#32
  ![v3154.toNat, 73, 384]
def k0_off238 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3159 : Index := Scalar.indexCast v13
  let c77_874 : Index := 77#32
  let c384_875 : Index := 384#32
  ![v3159.toNat, 77, 384]
def k0_off239 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3167 : Index := Scalar.indexCast v13
  let c81_877 : Index := 81#32
  let c384_878 : Index := 384#32
  ![v3167.toNat, 81, 384]
def k0_off240 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3172 : Index := Scalar.indexCast v13
  let c85_879 : Index := 85#32
  let c384_880 : Index := 384#32
  ![v3172.toNat, 85, 384]
def k0_off241 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3180 : Index := Scalar.indexCast v13
  let c89_882 : Index := 89#32
  let c384_883 : Index := 384#32
  ![v3180.toNat, 89, 384]
def k0_off242 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3185 : Index := Scalar.indexCast v13
  let c93_884 : Index := 93#32
  let c384_885 : Index := 384#32
  ![v3185.toNat, 93, 384]
def k0_off243 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3193 : Index := Scalar.indexCast v13
  let c97_887 : Index := 97#32
  let c384_888 : Index := 384#32
  ![v3193.toNat, 97, 384]
def k0_off244 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3198 : Index := Scalar.indexCast v13
  let c101_889 : Index := 101#32
  let c384_890 : Index := 384#32
  ![v3198.toNat, 101, 384]
def k0_off245 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3206 : Index := Scalar.indexCast v13
  let c105_892 : Index := 105#32
  let c384_893 : Index := 384#32
  ![v3206.toNat, 105, 384]
def k0_off246 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3211 : Index := Scalar.indexCast v13
  let c109_894 : Index := 109#32
  let c384_895 : Index := 384#32
  ![v3211.toNat, 109, 384]
def k0_off247 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3219 : Index := Scalar.indexCast v13
  let c113_897 : Index := 113#32
  let c384_898 : Index := 384#32
  ![v3219.toNat, 113, 384]
def k0_off248 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3224 : Index := Scalar.indexCast v13
  let c117_899 : Index := 117#32
  let c384_900 : Index := 384#32
  ![v3224.toNat, 117, 384]
def k0_off249 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3232 : Index := Scalar.indexCast v13
  let c121_902 : Index := 121#32
  let c384_903 : Index := 384#32
  ![v3232.toNat, 121, 384]
def k0_off250 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3237 : Index := Scalar.indexCast v13
  let c125_904 : Index := 125#32
  let c384_905 : Index := 384#32
  ![v3237.toNat, 125, 384]
def k0_off251 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3261 : Index := Scalar.indexCast v13
  let c3_912 : Index := 3#32
  let c384_913 : Index := 384#32
  ![v3261.toNat, 3, 384]
def k0_off252 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3266 : Index := Scalar.indexCast v13
  let c11_914 : Index := 11#32
  let c384_915 : Index := 384#32
  ![v3266.toNat, 11, 384]
def k0_off253 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3271 : Index := Scalar.indexCast v13
  let c19_916 : Index := 19#32
  let c384_917 : Index := 384#32
  ![v3271.toNat, 19, 384]
def k0_off254 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3276 : Index := Scalar.indexCast v13
  let c27_918 : Index := 27#32
  let c384_919 : Index := 384#32
  ![v3276.toNat, 27, 384]
def k0_off255 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3281 : Index := Scalar.indexCast v13
  let c35_920 : Index := 35#32
  let c384_921 : Index := 384#32
  ![v3281.toNat, 35, 384]
def k0_off256 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3286 : Index := Scalar.indexCast v13
  let c43_922 : Index := 43#32
  let c384_923 : Index := 384#32
  ![v3286.toNat, 43, 384]
def k0_off257 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3291 : Index := Scalar.indexCast v13
  let c51_924 : Index := 51#32
  let c384_925 : Index := 384#32
  ![v3291.toNat, 51, 384]
def k0_off258 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3296 : Index := Scalar.indexCast v13
  let c59_926 : Index := 59#32
  let c384_927 : Index := 384#32
  ![v3296.toNat, 59, 384]
def k0_off259 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3301 : Index := Scalar.indexCast v13
  let c67_928 : Index := 67#32
  let c384_929 : Index := 384#32
  ![v3301.toNat, 67, 384]
def k0_off260 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3306 : Index := Scalar.indexCast v13
  let c75_930 : Index := 75#32
  let c384_931 : Index := 384#32
  ![v3306.toNat, 75, 384]
def k0_off261 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3311 : Index := Scalar.indexCast v13
  let c83_932 : Index := 83#32
  let c384_933 : Index := 384#32
  ![v3311.toNat, 83, 384]
def k0_off262 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3316 : Index := Scalar.indexCast v13
  let c91_934 : Index := 91#32
  let c384_935 : Index := 384#32
  ![v3316.toNat, 91, 384]
def k0_off263 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3321 : Index := Scalar.indexCast v13
  let c99_936 : Index := 99#32
  let c384_937 : Index := 384#32
  ![v3321.toNat, 99, 384]
def k0_off264 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3326 : Index := Scalar.indexCast v13
  let c107_938 : Index := 107#32
  let c384_939 : Index := 384#32
  ![v3326.toNat, 107, 384]
def k0_off265 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3331 : Index := Scalar.indexCast v13
  let c115_940 : Index := 115#32
  let c384_941 : Index := 384#32
  ![v3331.toNat, 115, 384]
def k0_off266 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3336 : Index := Scalar.indexCast v13
  let c123_942 : Index := 123#32
  let c384_943 : Index := 384#32
  ![v3336.toNat, 123, 384]
def k0_off267 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3369 : Index := Scalar.indexCast v13
  let c7_947 : Index := 7#32
  let c384_948 : Index := 384#32
  ![v3369.toNat, 7, 384]
def k0_off268 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3380 : Index := Scalar.indexCast v13
  let c23_949 : Index := 23#32
  let c384_950 : Index := 384#32
  ![v3380.toNat, 23, 384]
def k0_off269 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3391 : Index := Scalar.indexCast v13
  let c39_951 : Index := 39#32
  let c384_952 : Index := 384#32
  ![v3391.toNat, 39, 384]
def k0_off270 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3402 : Index := Scalar.indexCast v13
  let c55_953 : Index := 55#32
  let c384_954 : Index := 384#32
  ![v3402.toNat, 55, 384]
def k0_off271 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3413 : Index := Scalar.indexCast v13
  let c71_955 : Index := 71#32
  let c384_956 : Index := 384#32
  ![v3413.toNat, 71, 384]
def k0_off272 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3424 : Index := Scalar.indexCast v13
  let c87_957 : Index := 87#32
  let c384_958 : Index := 384#32
  ![v3424.toNat, 87, 384]
def k0_off273 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3435 : Index := Scalar.indexCast v13
  let c103_959 : Index := 103#32
  let c384_960 : Index := 384#32
  ![v3435.toNat, 103, 384]
def k0_off274 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3446 : Index := Scalar.indexCast v13
  let c119_961 : Index := 119#32
  let c384_962 : Index := 384#32
  ![v3446.toNat, 119, 384]
def k0_off275 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3519 : Index := Scalar.indexCast v13
  let c15_980 : Index := 15#32
  let c384_981 : Index := 384#32
  ![v3519.toNat, 15, 384]
def k0_off276 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3531 : Index := Scalar.indexCast v13
  let c47_982 : Index := 47#32
  let c384_983 : Index := 384#32
  ![v3531.toNat, 47, 384]
def k0_off277 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3543 : Index := Scalar.indexCast v13
  let c79_984 : Index := 79#32
  let c384_985 : Index := 384#32
  ![v3543.toNat, 79, 384]
def k0_off278 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3555 : Index := Scalar.indexCast v13
  let c111_986 : Index := 111#32
  let c384_987 : Index := 384#32
  ![v3555.toNat, 111, 384]
def k0_off279 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3609 : Index := Scalar.indexCast v13
  let c31_997 : Index := 31#32
  let c384_998 : Index := 384#32
  ![v3609.toNat, 31, 384]
def k0_off280 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3621 : Index := Scalar.indexCast v13
  let c95_999 : Index := 95#32
  let c384_1000 : Index := 384#32
  ![v3621.toNat, 95, 384]
def k0_off281 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3665 : Index := Scalar.indexCast v13
  let c63_1006 : Index := 63#32
  let c384_1007 : Index := 384#32
  ![v3665.toNat, 63, 384]
def k0_off282 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3783 : Index := Scalar.indexCast v13
  let c128_1055 : Index := 128#32
  let c0_1056 : Index := 0#32
  ![v3783.toNat, 128, 0]
def k0_off283 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3786 : Index := Scalar.indexCast v13
  let c128_1057 : Index := 128#32
  let c128_1058 : Index := 128#32
  ![v3786.toNat, 128, 128]
def k0_off284 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3822 : Index := Scalar.indexCast v13
  let c128_1066 : Index := 128#32
  let c0_1067 : Index := 0#32
  ![v3822.toNat, 128, 0]
def k0_off285 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3825 : Index := Scalar.indexCast v13
  let c128_1068 : Index := 128#32
  let c128_1069 : Index := 128#32
  ![v3825.toNat, 128, 128]
def k0_off286 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3828 : Index := Scalar.indexCast v13
  let c128_1070 : Index := 128#32
  let c256_1071 : Index := 256#32
  ![v3828.toNat, 128, 256]
def k0_off287 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v3831 : Index := Scalar.indexCast v13
  let c128_1072 : Index := 128#32
  let c384_1073 : Index := 384#32
  ![v3831.toNat, 128, 384]
def k0_off288 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4088 : Index := Scalar.indexCast v13
  let c128_1131 : Index := 128#32
  let c512_1132 : Index := 512#32
  ![v4088.toNat, 128, 512]
def k0_off289 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4091 : Index := Scalar.indexCast v13
  let c128_1133 : Index := 128#32
  let c640_1134 : Index := 640#32
  ![v4091.toNat, 128, 640]
def k0_off290 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4094 : Index := Scalar.indexCast v13
  let c128_1135 : Index := 128#32
  let c768_1136 : Index := 768#32
  ![v4094.toNat, 128, 768]
def k0_off291 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4097 : Index := Scalar.indexCast v13
  let c128_1137 : Index := 128#32
  let c896_1138 : Index := 896#32
  ![v4097.toNat, 128, 896]
def k0_off292 (i : grid0.Coords) : Fin 3 → Nat :=
  let arg0 : BitVec 32 := BitVec.ofNat 32 (i 0).val
  let c2_i32 : BitVec 32 := 2#32
  let v12 : BitVec 32 := Scalar.remsi arg0 c2_i32
  let v4432 : Index := Scalar.indexCast v12
  let c0_1242 : Index := 0#32
  let c0_1243 : Index := 0#32
  ![v4432.toNat, 0, 0]
def k0_off293 (i : grid0.Coords) : Fin 3 → Nat :=
  let arg0 : BitVec 32 := BitVec.ofNat 32 (i 0).val
  let c2_i32 : BitVec 32 := 2#32
  let v12 : BitVec 32 := Scalar.remsi arg0 c2_i32
  let v4445 : Index := Scalar.indexCast v12
  let c0_1246 : Index := 0#32
  let c0_1247 : Index := 0#32
  ![v4445.toNat, 0, 0]
def k0_off294 (i : grid0.Coords) : Fin 3 → Nat :=
  let arg0 : BitVec 32 := BitVec.ofNat 32 (i 0).val
  let c2_i32 : BitVec 32 := 2#32
  let v12 : BitVec 32 := Scalar.remsi arg0 c2_i32
  let v4454 : Index := Scalar.indexCast v12
  let c128_1250 : Index := 128#32
  let c0_1251 : Index := 0#32
  ![v4454.toNat, 128, 0]
def k0_off295 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4458 : Index := Scalar.indexCast v13
  let c128_1252 : Index := 128#32
  let c0_1253 : Index := 0#32
  ![v4458.toNat, 128, 0]
def k0_off296 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4469 : Index := Scalar.indexCast v13
  let c128_1258 : Index := 128#32
  let c0_1259 : Index := 0#32
  ![v4469.toNat, 128, 0]
def k0_off297 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4472 : Index := Scalar.indexCast v13
  let c255 : Index := 255#32
  let c0_1260 : Index := 0#32
  ![v4472.toNat, 255, 0]
def k0_off298 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4497 : Index := Scalar.indexCast v13
  let c129 : Index := 129#32
  let c0_1271 : Index := 0#32
  ![v4497.toNat, 129, 0]
def k0_off299 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4502 : Index := Scalar.indexCast v13
  let c133 : Index := 133#32
  let c0_1272 : Index := 0#32
  ![v4502.toNat, 133, 0]
def k0_off300 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4510 : Index := Scalar.indexCast v13
  let c137 : Index := 137#32
  let c0_1274 : Index := 0#32
  ![v4510.toNat, 137, 0]
def k0_off301 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4515 : Index := Scalar.indexCast v13
  let c141 : Index := 141#32
  let c0_1275 : Index := 0#32
  ![v4515.toNat, 141, 0]
def k0_off302 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4523 : Index := Scalar.indexCast v13
  let c145 : Index := 145#32
  let c0_1277 : Index := 0#32
  ![v4523.toNat, 145, 0]
def k0_off303 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4528 : Index := Scalar.indexCast v13
  let c149 : Index := 149#32
  let c0_1278 : Index := 0#32
  ![v4528.toNat, 149, 0]
def k0_off304 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4536 : Index := Scalar.indexCast v13
  let c153 : Index := 153#32
  let c0_1280 : Index := 0#32
  ![v4536.toNat, 153, 0]
def k0_off305 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4541 : Index := Scalar.indexCast v13
  let c157 : Index := 157#32
  let c0_1281 : Index := 0#32
  ![v4541.toNat, 157, 0]
def k0_off306 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4549 : Index := Scalar.indexCast v13
  let c161 : Index := 161#32
  let c0_1283 : Index := 0#32
  ![v4549.toNat, 161, 0]
def k0_off307 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4554 : Index := Scalar.indexCast v13
  let c165 : Index := 165#32
  let c0_1284 : Index := 0#32
  ![v4554.toNat, 165, 0]
def k0_off308 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4562 : Index := Scalar.indexCast v13
  let c169 : Index := 169#32
  let c0_1286 : Index := 0#32
  ![v4562.toNat, 169, 0]
def k0_off309 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4567 : Index := Scalar.indexCast v13
  let c173 : Index := 173#32
  let c0_1287 : Index := 0#32
  ![v4567.toNat, 173, 0]
def k0_off310 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4575 : Index := Scalar.indexCast v13
  let c177 : Index := 177#32
  let c0_1289 : Index := 0#32
  ![v4575.toNat, 177, 0]
def k0_off311 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4580 : Index := Scalar.indexCast v13
  let c181 : Index := 181#32
  let c0_1290 : Index := 0#32
  ![v4580.toNat, 181, 0]
def k0_off312 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4588 : Index := Scalar.indexCast v13
  let c185 : Index := 185#32
  let c0_1292 : Index := 0#32
  ![v4588.toNat, 185, 0]
def k0_off313 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4593 : Index := Scalar.indexCast v13
  let c189 : Index := 189#32
  let c0_1293 : Index := 0#32
  ![v4593.toNat, 189, 0]
def k0_off314 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4601 : Index := Scalar.indexCast v13
  let c193 : Index := 193#32
  let c0_1295 : Index := 0#32
  ![v4601.toNat, 193, 0]
def k0_off315 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4606 : Index := Scalar.indexCast v13
  let c197 : Index := 197#32
  let c0_1296 : Index := 0#32
  ![v4606.toNat, 197, 0]
def k0_off316 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4614 : Index := Scalar.indexCast v13
  let c201 : Index := 201#32
  let c0_1298 : Index := 0#32
  ![v4614.toNat, 201, 0]
def k0_off317 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4619 : Index := Scalar.indexCast v13
  let c205 : Index := 205#32
  let c0_1299 : Index := 0#32
  ![v4619.toNat, 205, 0]
def k0_off318 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4627 : Index := Scalar.indexCast v13
  let c209 : Index := 209#32
  let c0_1301 : Index := 0#32
  ![v4627.toNat, 209, 0]
def k0_off319 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4632 : Index := Scalar.indexCast v13
  let c213 : Index := 213#32
  let c0_1302 : Index := 0#32
  ![v4632.toNat, 213, 0]
def k0_off320 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4640 : Index := Scalar.indexCast v13
  let c217 : Index := 217#32
  let c0_1304 : Index := 0#32
  ![v4640.toNat, 217, 0]
def k0_off321 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4645 : Index := Scalar.indexCast v13
  let c221 : Index := 221#32
  let c0_1305 : Index := 0#32
  ![v4645.toNat, 221, 0]
def k0_off322 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4653 : Index := Scalar.indexCast v13
  let c225 : Index := 225#32
  let c0_1307 : Index := 0#32
  ![v4653.toNat, 225, 0]
def k0_off323 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4658 : Index := Scalar.indexCast v13
  let c229 : Index := 229#32
  let c0_1308 : Index := 0#32
  ![v4658.toNat, 229, 0]
def k0_off324 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4666 : Index := Scalar.indexCast v13
  let c233 : Index := 233#32
  let c0_1310 : Index := 0#32
  ![v4666.toNat, 233, 0]
def k0_off325 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4671 : Index := Scalar.indexCast v13
  let c237 : Index := 237#32
  let c0_1311 : Index := 0#32
  ![v4671.toNat, 237, 0]
def k0_off326 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4679 : Index := Scalar.indexCast v13
  let c241 : Index := 241#32
  let c0_1313 : Index := 0#32
  ![v4679.toNat, 241, 0]
def k0_off327 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4684 : Index := Scalar.indexCast v13
  let c245 : Index := 245#32
  let c0_1314 : Index := 0#32
  ![v4684.toNat, 245, 0]
def k0_off328 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4692 : Index := Scalar.indexCast v13
  let c249 : Index := 249#32
  let c0_1316 : Index := 0#32
  ![v4692.toNat, 249, 0]
def k0_off329 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4697 : Index := Scalar.indexCast v13
  let c253 : Index := 253#32
  let c0_1317 : Index := 0#32
  ![v4697.toNat, 253, 0]
def k0_off330 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4721 : Index := Scalar.indexCast v13
  let c131 : Index := 131#32
  let c0_1324 : Index := 0#32
  ![v4721.toNat, 131, 0]
def k0_off331 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4726 : Index := Scalar.indexCast v13
  let c139 : Index := 139#32
  let c0_1325 : Index := 0#32
  ![v4726.toNat, 139, 0]
def k0_off332 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4731 : Index := Scalar.indexCast v13
  let c147 : Index := 147#32
  let c0_1326 : Index := 0#32
  ![v4731.toNat, 147, 0]
def k0_off333 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4736 : Index := Scalar.indexCast v13
  let c155 : Index := 155#32
  let c0_1327 : Index := 0#32
  ![v4736.toNat, 155, 0]
def k0_off334 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4741 : Index := Scalar.indexCast v13
  let c163 : Index := 163#32
  let c0_1328 : Index := 0#32
  ![v4741.toNat, 163, 0]
def k0_off335 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4746 : Index := Scalar.indexCast v13
  let c171 : Index := 171#32
  let c0_1329 : Index := 0#32
  ![v4746.toNat, 171, 0]
def k0_off336 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4751 : Index := Scalar.indexCast v13
  let c179 : Index := 179#32
  let c0_1330 : Index := 0#32
  ![v4751.toNat, 179, 0]
def k0_off337 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4756 : Index := Scalar.indexCast v13
  let c187 : Index := 187#32
  let c0_1331 : Index := 0#32
  ![v4756.toNat, 187, 0]
def k0_off338 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4761 : Index := Scalar.indexCast v13
  let c195 : Index := 195#32
  let c0_1332 : Index := 0#32
  ![v4761.toNat, 195, 0]
def k0_off339 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4766 : Index := Scalar.indexCast v13
  let c203 : Index := 203#32
  let c0_1333 : Index := 0#32
  ![v4766.toNat, 203, 0]
def k0_off340 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4771 : Index := Scalar.indexCast v13
  let c211 : Index := 211#32
  let c0_1334 : Index := 0#32
  ![v4771.toNat, 211, 0]
def k0_off341 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4776 : Index := Scalar.indexCast v13
  let c219 : Index := 219#32
  let c0_1335 : Index := 0#32
  ![v4776.toNat, 219, 0]
def k0_off342 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4781 : Index := Scalar.indexCast v13
  let c227 : Index := 227#32
  let c0_1336 : Index := 0#32
  ![v4781.toNat, 227, 0]
def k0_off343 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4786 : Index := Scalar.indexCast v13
  let c235 : Index := 235#32
  let c0_1337 : Index := 0#32
  ![v4786.toNat, 235, 0]
def k0_off344 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4791 : Index := Scalar.indexCast v13
  let c243 : Index := 243#32
  let c0_1338 : Index := 0#32
  ![v4791.toNat, 243, 0]
def k0_off345 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4796 : Index := Scalar.indexCast v13
  let c251 : Index := 251#32
  let c0_1339 : Index := 0#32
  ![v4796.toNat, 251, 0]
def k0_off346 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4829 : Index := Scalar.indexCast v13
  let c135 : Index := 135#32
  let c0_1343 : Index := 0#32
  ![v4829.toNat, 135, 0]
def k0_off347 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4840 : Index := Scalar.indexCast v13
  let c151 : Index := 151#32
  let c0_1344 : Index := 0#32
  ![v4840.toNat, 151, 0]
def k0_off348 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4851 : Index := Scalar.indexCast v13
  let c167 : Index := 167#32
  let c0_1345 : Index := 0#32
  ![v4851.toNat, 167, 0]
def k0_off349 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4862 : Index := Scalar.indexCast v13
  let c183 : Index := 183#32
  let c0_1346 : Index := 0#32
  ![v4862.toNat, 183, 0]
def k0_off350 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4873 : Index := Scalar.indexCast v13
  let c199 : Index := 199#32
  let c0_1347 : Index := 0#32
  ![v4873.toNat, 199, 0]
def k0_off351 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4884 : Index := Scalar.indexCast v13
  let c215 : Index := 215#32
  let c0_1348 : Index := 0#32
  ![v4884.toNat, 215, 0]
def k0_off352 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4895 : Index := Scalar.indexCast v13
  let c231 : Index := 231#32
  let c0_1349 : Index := 0#32
  ![v4895.toNat, 231, 0]
def k0_off353 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4906 : Index := Scalar.indexCast v13
  let c247 : Index := 247#32
  let c0_1350 : Index := 0#32
  ![v4906.toNat, 247, 0]
def k0_off354 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4979 : Index := Scalar.indexCast v13
  let c143 : Index := 143#32
  let c0_1368 : Index := 0#32
  ![v4979.toNat, 143, 0]
def k0_off355 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v4991 : Index := Scalar.indexCast v13
  let c175 : Index := 175#32
  let c0_1369 : Index := 0#32
  ![v4991.toNat, 175, 0]
def k0_off356 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5003 : Index := Scalar.indexCast v13
  let c207 : Index := 207#32
  let c0_1370 : Index := 0#32
  ![v5003.toNat, 207, 0]
def k0_off357 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5015 : Index := Scalar.indexCast v13
  let c239 : Index := 239#32
  let c0_1371 : Index := 0#32
  ![v5015.toNat, 239, 0]
def k0_off358 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5069 : Index := Scalar.indexCast v13
  let c159 : Index := 159#32
  let c0_1381 : Index := 0#32
  ![v5069.toNat, 159, 0]
def k0_off359 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5081 : Index := Scalar.indexCast v13
  let c223 : Index := 223#32
  let c0_1382 : Index := 0#32
  ![v5081.toNat, 223, 0]
def k0_off360 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5125 : Index := Scalar.indexCast v13
  let c191 : Index := 191#32
  let c0_1388 : Index := 0#32
  ![v5125.toNat, 191, 0]
def k0_off361 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5205 : Index := Scalar.indexCast v13
  let c128_1408 : Index := 128#32
  let c128_1409 : Index := 128#32
  ![v5205.toNat, 128, 128]
def k0_off362 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5216 : Index := Scalar.indexCast v13
  let c128_1414 : Index := 128#32
  let c256_1415 : Index := 256#32
  ![v5216.toNat, 128, 256]
def k0_off363 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5219 : Index := Scalar.indexCast v13
  let c255_1416 : Index := 255#32
  let c128_1417 : Index := 128#32
  ![v5219.toNat, 255, 128]
def k0_off364 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5244 : Index := Scalar.indexCast v13
  let c129_1428 : Index := 129#32
  let c128_1429 : Index := 128#32
  ![v5244.toNat, 129, 128]
def k0_off365 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5249 : Index := Scalar.indexCast v13
  let c133_1430 : Index := 133#32
  let c128_1431 : Index := 128#32
  ![v5249.toNat, 133, 128]
def k0_off366 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5257 : Index := Scalar.indexCast v13
  let c137_1433 : Index := 137#32
  let c128_1434 : Index := 128#32
  ![v5257.toNat, 137, 128]
def k0_off367 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5262 : Index := Scalar.indexCast v13
  let c141_1435 : Index := 141#32
  let c128_1436 : Index := 128#32
  ![v5262.toNat, 141, 128]
def k0_off368 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5270 : Index := Scalar.indexCast v13
  let c145_1438 : Index := 145#32
  let c128_1439 : Index := 128#32
  ![v5270.toNat, 145, 128]
def k0_off369 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5275 : Index := Scalar.indexCast v13
  let c149_1440 : Index := 149#32
  let c128_1441 : Index := 128#32
  ![v5275.toNat, 149, 128]
def k0_off370 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5283 : Index := Scalar.indexCast v13
  let c153_1443 : Index := 153#32
  let c128_1444 : Index := 128#32
  ![v5283.toNat, 153, 128]
def k0_off371 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5288 : Index := Scalar.indexCast v13
  let c157_1445 : Index := 157#32
  let c128_1446 : Index := 128#32
  ![v5288.toNat, 157, 128]
def k0_off372 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5296 : Index := Scalar.indexCast v13
  let c161_1448 : Index := 161#32
  let c128_1449 : Index := 128#32
  ![v5296.toNat, 161, 128]
def k0_off373 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5301 : Index := Scalar.indexCast v13
  let c165_1450 : Index := 165#32
  let c128_1451 : Index := 128#32
  ![v5301.toNat, 165, 128]
def k0_off374 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5309 : Index := Scalar.indexCast v13
  let c169_1453 : Index := 169#32
  let c128_1454 : Index := 128#32
  ![v5309.toNat, 169, 128]
def k0_off375 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5314 : Index := Scalar.indexCast v13
  let c173_1455 : Index := 173#32
  let c128_1456 : Index := 128#32
  ![v5314.toNat, 173, 128]
def k0_off376 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5322 : Index := Scalar.indexCast v13
  let c177_1458 : Index := 177#32
  let c128_1459 : Index := 128#32
  ![v5322.toNat, 177, 128]
def k0_off377 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5327 : Index := Scalar.indexCast v13
  let c181_1460 : Index := 181#32
  let c128_1461 : Index := 128#32
  ![v5327.toNat, 181, 128]
def k0_off378 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5335 : Index := Scalar.indexCast v13
  let c185_1463 : Index := 185#32
  let c128_1464 : Index := 128#32
  ![v5335.toNat, 185, 128]
def k0_off379 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5340 : Index := Scalar.indexCast v13
  let c189_1465 : Index := 189#32
  let c128_1466 : Index := 128#32
  ![v5340.toNat, 189, 128]
def k0_off380 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5348 : Index := Scalar.indexCast v13
  let c193_1468 : Index := 193#32
  let c128_1469 : Index := 128#32
  ![v5348.toNat, 193, 128]
def k0_off381 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5353 : Index := Scalar.indexCast v13
  let c197_1470 : Index := 197#32
  let c128_1471 : Index := 128#32
  ![v5353.toNat, 197, 128]
def k0_off382 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5361 : Index := Scalar.indexCast v13
  let c201_1473 : Index := 201#32
  let c128_1474 : Index := 128#32
  ![v5361.toNat, 201, 128]
def k0_off383 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5366 : Index := Scalar.indexCast v13
  let c205_1475 : Index := 205#32
  let c128_1476 : Index := 128#32
  ![v5366.toNat, 205, 128]
def k0_off384 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5374 : Index := Scalar.indexCast v13
  let c209_1478 : Index := 209#32
  let c128_1479 : Index := 128#32
  ![v5374.toNat, 209, 128]
def k0_off385 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5379 : Index := Scalar.indexCast v13
  let c213_1480 : Index := 213#32
  let c128_1481 : Index := 128#32
  ![v5379.toNat, 213, 128]
def k0_off386 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5387 : Index := Scalar.indexCast v13
  let c217_1483 : Index := 217#32
  let c128_1484 : Index := 128#32
  ![v5387.toNat, 217, 128]
def k0_off387 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5392 : Index := Scalar.indexCast v13
  let c221_1485 : Index := 221#32
  let c128_1486 : Index := 128#32
  ![v5392.toNat, 221, 128]
def k0_off388 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5400 : Index := Scalar.indexCast v13
  let c225_1488 : Index := 225#32
  let c128_1489 : Index := 128#32
  ![v5400.toNat, 225, 128]
def k0_off389 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5405 : Index := Scalar.indexCast v13
  let c229_1490 : Index := 229#32
  let c128_1491 : Index := 128#32
  ![v5405.toNat, 229, 128]
def k0_off390 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5413 : Index := Scalar.indexCast v13
  let c233_1493 : Index := 233#32
  let c128_1494 : Index := 128#32
  ![v5413.toNat, 233, 128]
def k0_off391 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5418 : Index := Scalar.indexCast v13
  let c237_1495 : Index := 237#32
  let c128_1496 : Index := 128#32
  ![v5418.toNat, 237, 128]
def k0_off392 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5426 : Index := Scalar.indexCast v13
  let c241_1498 : Index := 241#32
  let c128_1499 : Index := 128#32
  ![v5426.toNat, 241, 128]
def k0_off393 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5431 : Index := Scalar.indexCast v13
  let c245_1500 : Index := 245#32
  let c128_1501 : Index := 128#32
  ![v5431.toNat, 245, 128]
def k0_off394 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5439 : Index := Scalar.indexCast v13
  let c249_1503 : Index := 249#32
  let c128_1504 : Index := 128#32
  ![v5439.toNat, 249, 128]
def k0_off395 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5444 : Index := Scalar.indexCast v13
  let c253_1505 : Index := 253#32
  let c128_1506 : Index := 128#32
  ![v5444.toNat, 253, 128]
def k0_off396 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5468 : Index := Scalar.indexCast v13
  let c131_1513 : Index := 131#32
  let c128_1514 : Index := 128#32
  ![v5468.toNat, 131, 128]
def k0_off397 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5473 : Index := Scalar.indexCast v13
  let c139_1515 : Index := 139#32
  let c128_1516 : Index := 128#32
  ![v5473.toNat, 139, 128]
def k0_off398 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5478 : Index := Scalar.indexCast v13
  let c147_1517 : Index := 147#32
  let c128_1518 : Index := 128#32
  ![v5478.toNat, 147, 128]
def k0_off399 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5483 : Index := Scalar.indexCast v13
  let c155_1519 : Index := 155#32
  let c128_1520 : Index := 128#32
  ![v5483.toNat, 155, 128]
def k0_off400 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5488 : Index := Scalar.indexCast v13
  let c163_1521 : Index := 163#32
  let c128_1522 : Index := 128#32
  ![v5488.toNat, 163, 128]
def k0_off401 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5493 : Index := Scalar.indexCast v13
  let c171_1523 : Index := 171#32
  let c128_1524 : Index := 128#32
  ![v5493.toNat, 171, 128]
def k0_off402 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5498 : Index := Scalar.indexCast v13
  let c179_1525 : Index := 179#32
  let c128_1526 : Index := 128#32
  ![v5498.toNat, 179, 128]
def k0_off403 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5503 : Index := Scalar.indexCast v13
  let c187_1527 : Index := 187#32
  let c128_1528 : Index := 128#32
  ![v5503.toNat, 187, 128]
def k0_off404 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5508 : Index := Scalar.indexCast v13
  let c195_1529 : Index := 195#32
  let c128_1530 : Index := 128#32
  ![v5508.toNat, 195, 128]
def k0_off405 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5513 : Index := Scalar.indexCast v13
  let c203_1531 : Index := 203#32
  let c128_1532 : Index := 128#32
  ![v5513.toNat, 203, 128]
def k0_off406 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5518 : Index := Scalar.indexCast v13
  let c211_1533 : Index := 211#32
  let c128_1534 : Index := 128#32
  ![v5518.toNat, 211, 128]
def k0_off407 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5523 : Index := Scalar.indexCast v13
  let c219_1535 : Index := 219#32
  let c128_1536 : Index := 128#32
  ![v5523.toNat, 219, 128]
def k0_off408 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5528 : Index := Scalar.indexCast v13
  let c227_1537 : Index := 227#32
  let c128_1538 : Index := 128#32
  ![v5528.toNat, 227, 128]
def k0_off409 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5533 : Index := Scalar.indexCast v13
  let c235_1539 : Index := 235#32
  let c128_1540 : Index := 128#32
  ![v5533.toNat, 235, 128]
def k0_off410 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5538 : Index := Scalar.indexCast v13
  let c243_1541 : Index := 243#32
  let c128_1542 : Index := 128#32
  ![v5538.toNat, 243, 128]
def k0_off411 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5543 : Index := Scalar.indexCast v13
  let c251_1543 : Index := 251#32
  let c128_1544 : Index := 128#32
  ![v5543.toNat, 251, 128]
def k0_off412 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5576 : Index := Scalar.indexCast v13
  let c135_1548 : Index := 135#32
  let c128_1549 : Index := 128#32
  ![v5576.toNat, 135, 128]
def k0_off413 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5587 : Index := Scalar.indexCast v13
  let c151_1550 : Index := 151#32
  let c128_1551 : Index := 128#32
  ![v5587.toNat, 151, 128]
def k0_off414 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5598 : Index := Scalar.indexCast v13
  let c167_1552 : Index := 167#32
  let c128_1553 : Index := 128#32
  ![v5598.toNat, 167, 128]
def k0_off415 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5609 : Index := Scalar.indexCast v13
  let c183_1554 : Index := 183#32
  let c128_1555 : Index := 128#32
  ![v5609.toNat, 183, 128]
def k0_off416 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5620 : Index := Scalar.indexCast v13
  let c199_1556 : Index := 199#32
  let c128_1557 : Index := 128#32
  ![v5620.toNat, 199, 128]
def k0_off417 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5631 : Index := Scalar.indexCast v13
  let c215_1558 : Index := 215#32
  let c128_1559 : Index := 128#32
  ![v5631.toNat, 215, 128]
def k0_off418 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5642 : Index := Scalar.indexCast v13
  let c231_1560 : Index := 231#32
  let c128_1561 : Index := 128#32
  ![v5642.toNat, 231, 128]
def k0_off419 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5653 : Index := Scalar.indexCast v13
  let c247_1562 : Index := 247#32
  let c128_1563 : Index := 128#32
  ![v5653.toNat, 247, 128]
def k0_off420 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5726 : Index := Scalar.indexCast v13
  let c143_1581 : Index := 143#32
  let c128_1582 : Index := 128#32
  ![v5726.toNat, 143, 128]
def k0_off421 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5738 : Index := Scalar.indexCast v13
  let c175_1583 : Index := 175#32
  let c128_1584 : Index := 128#32
  ![v5738.toNat, 175, 128]
def k0_off422 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5750 : Index := Scalar.indexCast v13
  let c207_1585 : Index := 207#32
  let c128_1586 : Index := 128#32
  ![v5750.toNat, 207, 128]
def k0_off423 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5762 : Index := Scalar.indexCast v13
  let c239_1587 : Index := 239#32
  let c128_1588 : Index := 128#32
  ![v5762.toNat, 239, 128]
def k0_off424 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5816 : Index := Scalar.indexCast v13
  let c159_1598 : Index := 159#32
  let c128_1599 : Index := 128#32
  ![v5816.toNat, 159, 128]
def k0_off425 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5828 : Index := Scalar.indexCast v13
  let c223_1600 : Index := 223#32
  let c128_1601 : Index := 128#32
  ![v5828.toNat, 223, 128]
def k0_off426 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5872 : Index := Scalar.indexCast v13
  let c191_1607 : Index := 191#32
  let c128_1608 : Index := 128#32
  ![v5872.toNat, 191, 128]
def k0_off427 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5952 : Index := Scalar.indexCast v13
  let c128_1628 : Index := 128#32
  let c256_1629 : Index := 256#32
  ![v5952.toNat, 128, 256]
def k0_off428 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5963 : Index := Scalar.indexCast v13
  let c128_1634 : Index := 128#32
  let c512_1635 : Index := 512#32
  ![v5963.toNat, 128, 512]
def k0_off429 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5966 : Index := Scalar.indexCast v13
  let c255_1636 : Index := 255#32
  let c256_1637 : Index := 256#32
  ![v5966.toNat, 255, 256]
def k0_off430 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5991 : Index := Scalar.indexCast v13
  let c129_1648 : Index := 129#32
  let c256_1649 : Index := 256#32
  ![v5991.toNat, 129, 256]
def k0_off431 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v5996 : Index := Scalar.indexCast v13
  let c133_1650 : Index := 133#32
  let c256_1651 : Index := 256#32
  ![v5996.toNat, 133, 256]
def k0_off432 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6004 : Index := Scalar.indexCast v13
  let c137_1653 : Index := 137#32
  let c256_1654 : Index := 256#32
  ![v6004.toNat, 137, 256]
def k0_off433 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6009 : Index := Scalar.indexCast v13
  let c141_1655 : Index := 141#32
  let c256_1656 : Index := 256#32
  ![v6009.toNat, 141, 256]
def k0_off434 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6017 : Index := Scalar.indexCast v13
  let c145_1658 : Index := 145#32
  let c256_1659 : Index := 256#32
  ![v6017.toNat, 145, 256]
def k0_off435 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6022 : Index := Scalar.indexCast v13
  let c149_1660 : Index := 149#32
  let c256_1661 : Index := 256#32
  ![v6022.toNat, 149, 256]
def k0_off436 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6030 : Index := Scalar.indexCast v13
  let c153_1663 : Index := 153#32
  let c256_1664 : Index := 256#32
  ![v6030.toNat, 153, 256]
def k0_off437 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6035 : Index := Scalar.indexCast v13
  let c157_1665 : Index := 157#32
  let c256_1666 : Index := 256#32
  ![v6035.toNat, 157, 256]
def k0_off438 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6043 : Index := Scalar.indexCast v13
  let c161_1668 : Index := 161#32
  let c256_1669 : Index := 256#32
  ![v6043.toNat, 161, 256]
def k0_off439 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6048 : Index := Scalar.indexCast v13
  let c165_1670 : Index := 165#32
  let c256_1671 : Index := 256#32
  ![v6048.toNat, 165, 256]
def k0_off440 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6056 : Index := Scalar.indexCast v13
  let c169_1673 : Index := 169#32
  let c256_1674 : Index := 256#32
  ![v6056.toNat, 169, 256]
def k0_off441 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6061 : Index := Scalar.indexCast v13
  let c173_1675 : Index := 173#32
  let c256_1676 : Index := 256#32
  ![v6061.toNat, 173, 256]
def k0_off442 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6069 : Index := Scalar.indexCast v13
  let c177_1678 : Index := 177#32
  let c256_1679 : Index := 256#32
  ![v6069.toNat, 177, 256]
def k0_off443 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6074 : Index := Scalar.indexCast v13
  let c181_1680 : Index := 181#32
  let c256_1681 : Index := 256#32
  ![v6074.toNat, 181, 256]
def k0_off444 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6082 : Index := Scalar.indexCast v13
  let c185_1683 : Index := 185#32
  let c256_1684 : Index := 256#32
  ![v6082.toNat, 185, 256]
def k0_off445 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6087 : Index := Scalar.indexCast v13
  let c189_1685 : Index := 189#32
  let c256_1686 : Index := 256#32
  ![v6087.toNat, 189, 256]
def k0_off446 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6095 : Index := Scalar.indexCast v13
  let c193_1688 : Index := 193#32
  let c256_1689 : Index := 256#32
  ![v6095.toNat, 193, 256]
def k0_off447 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6100 : Index := Scalar.indexCast v13
  let c197_1690 : Index := 197#32
  let c256_1691 : Index := 256#32
  ![v6100.toNat, 197, 256]
def k0_off448 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6108 : Index := Scalar.indexCast v13
  let c201_1693 : Index := 201#32
  let c256_1694 : Index := 256#32
  ![v6108.toNat, 201, 256]
def k0_off449 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6113 : Index := Scalar.indexCast v13
  let c205_1695 : Index := 205#32
  let c256_1696 : Index := 256#32
  ![v6113.toNat, 205, 256]
def k0_off450 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6121 : Index := Scalar.indexCast v13
  let c209_1698 : Index := 209#32
  let c256_1699 : Index := 256#32
  ![v6121.toNat, 209, 256]
def k0_off451 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6126 : Index := Scalar.indexCast v13
  let c213_1700 : Index := 213#32
  let c256_1701 : Index := 256#32
  ![v6126.toNat, 213, 256]
def k0_off452 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6134 : Index := Scalar.indexCast v13
  let c217_1703 : Index := 217#32
  let c256_1704 : Index := 256#32
  ![v6134.toNat, 217, 256]
def k0_off453 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6139 : Index := Scalar.indexCast v13
  let c221_1705 : Index := 221#32
  let c256_1706 : Index := 256#32
  ![v6139.toNat, 221, 256]
def k0_off454 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6147 : Index := Scalar.indexCast v13
  let c225_1708 : Index := 225#32
  let c256_1709 : Index := 256#32
  ![v6147.toNat, 225, 256]
def k0_off455 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6152 : Index := Scalar.indexCast v13
  let c229_1710 : Index := 229#32
  let c256_1711 : Index := 256#32
  ![v6152.toNat, 229, 256]
def k0_off456 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6160 : Index := Scalar.indexCast v13
  let c233_1713 : Index := 233#32
  let c256_1714 : Index := 256#32
  ![v6160.toNat, 233, 256]
def k0_off457 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6165 : Index := Scalar.indexCast v13
  let c237_1715 : Index := 237#32
  let c256_1716 : Index := 256#32
  ![v6165.toNat, 237, 256]
def k0_off458 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6173 : Index := Scalar.indexCast v13
  let c241_1718 : Index := 241#32
  let c256_1719 : Index := 256#32
  ![v6173.toNat, 241, 256]
def k0_off459 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6178 : Index := Scalar.indexCast v13
  let c245_1720 : Index := 245#32
  let c256_1721 : Index := 256#32
  ![v6178.toNat, 245, 256]
def k0_off460 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6186 : Index := Scalar.indexCast v13
  let c249_1723 : Index := 249#32
  let c256_1724 : Index := 256#32
  ![v6186.toNat, 249, 256]
def k0_off461 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6191 : Index := Scalar.indexCast v13
  let c253_1725 : Index := 253#32
  let c256_1726 : Index := 256#32
  ![v6191.toNat, 253, 256]
def k0_off462 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6215 : Index := Scalar.indexCast v13
  let c131_1733 : Index := 131#32
  let c256_1734 : Index := 256#32
  ![v6215.toNat, 131, 256]
def k0_off463 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6220 : Index := Scalar.indexCast v13
  let c139_1735 : Index := 139#32
  let c256_1736 : Index := 256#32
  ![v6220.toNat, 139, 256]
def k0_off464 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6225 : Index := Scalar.indexCast v13
  let c147_1737 : Index := 147#32
  let c256_1738 : Index := 256#32
  ![v6225.toNat, 147, 256]
def k0_off465 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6230 : Index := Scalar.indexCast v13
  let c155_1739 : Index := 155#32
  let c256_1740 : Index := 256#32
  ![v6230.toNat, 155, 256]
def k0_off466 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6235 : Index := Scalar.indexCast v13
  let c163_1741 : Index := 163#32
  let c256_1742 : Index := 256#32
  ![v6235.toNat, 163, 256]
def k0_off467 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6240 : Index := Scalar.indexCast v13
  let c171_1743 : Index := 171#32
  let c256_1744 : Index := 256#32
  ![v6240.toNat, 171, 256]
def k0_off468 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6245 : Index := Scalar.indexCast v13
  let c179_1745 : Index := 179#32
  let c256_1746 : Index := 256#32
  ![v6245.toNat, 179, 256]
def k0_off469 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6250 : Index := Scalar.indexCast v13
  let c187_1747 : Index := 187#32
  let c256_1748 : Index := 256#32
  ![v6250.toNat, 187, 256]
def k0_off470 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6255 : Index := Scalar.indexCast v13
  let c195_1749 : Index := 195#32
  let c256_1750 : Index := 256#32
  ![v6255.toNat, 195, 256]
def k0_off471 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6260 : Index := Scalar.indexCast v13
  let c203_1751 : Index := 203#32
  let c256_1752 : Index := 256#32
  ![v6260.toNat, 203, 256]
def k0_off472 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6265 : Index := Scalar.indexCast v13
  let c211_1753 : Index := 211#32
  let c256_1754 : Index := 256#32
  ![v6265.toNat, 211, 256]
def k0_off473 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6270 : Index := Scalar.indexCast v13
  let c219_1755 : Index := 219#32
  let c256_1756 : Index := 256#32
  ![v6270.toNat, 219, 256]
def k0_off474 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6275 : Index := Scalar.indexCast v13
  let c227_1757 : Index := 227#32
  let c256_1758 : Index := 256#32
  ![v6275.toNat, 227, 256]
def k0_off475 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6280 : Index := Scalar.indexCast v13
  let c235_1759 : Index := 235#32
  let c256_1760 : Index := 256#32
  ![v6280.toNat, 235, 256]
def k0_off476 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6285 : Index := Scalar.indexCast v13
  let c243_1761 : Index := 243#32
  let c256_1762 : Index := 256#32
  ![v6285.toNat, 243, 256]
def k0_off477 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6290 : Index := Scalar.indexCast v13
  let c251_1763 : Index := 251#32
  let c256_1764 : Index := 256#32
  ![v6290.toNat, 251, 256]
def k0_off478 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6323 : Index := Scalar.indexCast v13
  let c135_1768 : Index := 135#32
  let c256_1769 : Index := 256#32
  ![v6323.toNat, 135, 256]
def k0_off479 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6334 : Index := Scalar.indexCast v13
  let c151_1770 : Index := 151#32
  let c256_1771 : Index := 256#32
  ![v6334.toNat, 151, 256]
def k0_off480 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6345 : Index := Scalar.indexCast v13
  let c167_1772 : Index := 167#32
  let c256_1773 : Index := 256#32
  ![v6345.toNat, 167, 256]
def k0_off481 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6356 : Index := Scalar.indexCast v13
  let c183_1774 : Index := 183#32
  let c256_1775 : Index := 256#32
  ![v6356.toNat, 183, 256]
def k0_off482 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6367 : Index := Scalar.indexCast v13
  let c199_1776 : Index := 199#32
  let c256_1777 : Index := 256#32
  ![v6367.toNat, 199, 256]
def k0_off483 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6378 : Index := Scalar.indexCast v13
  let c215_1778 : Index := 215#32
  let c256_1779 : Index := 256#32
  ![v6378.toNat, 215, 256]
def k0_off484 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6389 : Index := Scalar.indexCast v13
  let c231_1780 : Index := 231#32
  let c256_1781 : Index := 256#32
  ![v6389.toNat, 231, 256]
def k0_off485 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6400 : Index := Scalar.indexCast v13
  let c247_1782 : Index := 247#32
  let c256_1783 : Index := 256#32
  ![v6400.toNat, 247, 256]
def k0_off486 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6473 : Index := Scalar.indexCast v13
  let c143_1801 : Index := 143#32
  let c256_1802 : Index := 256#32
  ![v6473.toNat, 143, 256]
def k0_off487 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6485 : Index := Scalar.indexCast v13
  let c175_1803 : Index := 175#32
  let c256_1804 : Index := 256#32
  ![v6485.toNat, 175, 256]
def k0_off488 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6497 : Index := Scalar.indexCast v13
  let c207_1805 : Index := 207#32
  let c256_1806 : Index := 256#32
  ![v6497.toNat, 207, 256]
def k0_off489 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6509 : Index := Scalar.indexCast v13
  let c239_1807 : Index := 239#32
  let c256_1808 : Index := 256#32
  ![v6509.toNat, 239, 256]
def k0_off490 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6563 : Index := Scalar.indexCast v13
  let c159_1818 : Index := 159#32
  let c256_1819 : Index := 256#32
  ![v6563.toNat, 159, 256]
def k0_off491 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6575 : Index := Scalar.indexCast v13
  let c223_1820 : Index := 223#32
  let c256_1821 : Index := 256#32
  ![v6575.toNat, 223, 256]
def k0_off492 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6619 : Index := Scalar.indexCast v13
  let c191_1827 : Index := 191#32
  let c256_1828 : Index := 256#32
  ![v6619.toNat, 191, 256]
def k0_off493 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6699 : Index := Scalar.indexCast v13
  let c128_1848 : Index := 128#32
  let c384_1849 : Index := 384#32
  ![v6699.toNat, 128, 384]
def k0_off494 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6710 : Index := Scalar.indexCast v13
  let c128_1854 : Index := 128#32
  let c768_1855 : Index := 768#32
  ![v6710.toNat, 128, 768]
def k0_off495 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6713 : Index := Scalar.indexCast v13
  let c255_1856 : Index := 255#32
  let c384_1857 : Index := 384#32
  ![v6713.toNat, 255, 384]
def k0_off496 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6738 : Index := Scalar.indexCast v13
  let c129_1868 : Index := 129#32
  let c384_1869 : Index := 384#32
  ![v6738.toNat, 129, 384]
def k0_off497 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6743 : Index := Scalar.indexCast v13
  let c133_1870 : Index := 133#32
  let c384_1871 : Index := 384#32
  ![v6743.toNat, 133, 384]
def k0_off498 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6751 : Index := Scalar.indexCast v13
  let c137_1873 : Index := 137#32
  let c384_1874 : Index := 384#32
  ![v6751.toNat, 137, 384]
def k0_off499 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6756 : Index := Scalar.indexCast v13
  let c141_1875 : Index := 141#32
  let c384_1876 : Index := 384#32
  ![v6756.toNat, 141, 384]
def k0_off500 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6764 : Index := Scalar.indexCast v13
  let c145_1878 : Index := 145#32
  let c384_1879 : Index := 384#32
  ![v6764.toNat, 145, 384]
def k0_off501 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6769 : Index := Scalar.indexCast v13
  let c149_1880 : Index := 149#32
  let c384_1881 : Index := 384#32
  ![v6769.toNat, 149, 384]
def k0_off502 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6777 : Index := Scalar.indexCast v13
  let c153_1883 : Index := 153#32
  let c384_1884 : Index := 384#32
  ![v6777.toNat, 153, 384]
def k0_off503 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6782 : Index := Scalar.indexCast v13
  let c157_1885 : Index := 157#32
  let c384_1886 : Index := 384#32
  ![v6782.toNat, 157, 384]
def k0_off504 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6790 : Index := Scalar.indexCast v13
  let c161_1888 : Index := 161#32
  let c384_1889 : Index := 384#32
  ![v6790.toNat, 161, 384]
def k0_off505 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6795 : Index := Scalar.indexCast v13
  let c165_1890 : Index := 165#32
  let c384_1891 : Index := 384#32
  ![v6795.toNat, 165, 384]
def k0_off506 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6803 : Index := Scalar.indexCast v13
  let c169_1893 : Index := 169#32
  let c384_1894 : Index := 384#32
  ![v6803.toNat, 169, 384]
def k0_off507 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6808 : Index := Scalar.indexCast v13
  let c173_1895 : Index := 173#32
  let c384_1896 : Index := 384#32
  ![v6808.toNat, 173, 384]
def k0_off508 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6816 : Index := Scalar.indexCast v13
  let c177_1898 : Index := 177#32
  let c384_1899 : Index := 384#32
  ![v6816.toNat, 177, 384]
def k0_off509 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6821 : Index := Scalar.indexCast v13
  let c181_1900 : Index := 181#32
  let c384_1901 : Index := 384#32
  ![v6821.toNat, 181, 384]
def k0_off510 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6829 : Index := Scalar.indexCast v13
  let c185_1903 : Index := 185#32
  let c384_1904 : Index := 384#32
  ![v6829.toNat, 185, 384]
def k0_off511 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6834 : Index := Scalar.indexCast v13
  let c189_1905 : Index := 189#32
  let c384_1906 : Index := 384#32
  ![v6834.toNat, 189, 384]
def k0_off512 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6842 : Index := Scalar.indexCast v13
  let c193_1908 : Index := 193#32
  let c384_1909 : Index := 384#32
  ![v6842.toNat, 193, 384]
def k0_off513 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6847 : Index := Scalar.indexCast v13
  let c197_1910 : Index := 197#32
  let c384_1911 : Index := 384#32
  ![v6847.toNat, 197, 384]
def k0_off514 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6855 : Index := Scalar.indexCast v13
  let c201_1913 : Index := 201#32
  let c384_1914 : Index := 384#32
  ![v6855.toNat, 201, 384]
def k0_off515 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6860 : Index := Scalar.indexCast v13
  let c205_1915 : Index := 205#32
  let c384_1916 : Index := 384#32
  ![v6860.toNat, 205, 384]
def k0_off516 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6868 : Index := Scalar.indexCast v13
  let c209_1918 : Index := 209#32
  let c384_1919 : Index := 384#32
  ![v6868.toNat, 209, 384]
def k0_off517 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6873 : Index := Scalar.indexCast v13
  let c213_1920 : Index := 213#32
  let c384_1921 : Index := 384#32
  ![v6873.toNat, 213, 384]
def k0_off518 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6881 : Index := Scalar.indexCast v13
  let c217_1923 : Index := 217#32
  let c384_1924 : Index := 384#32
  ![v6881.toNat, 217, 384]
def k0_off519 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6886 : Index := Scalar.indexCast v13
  let c221_1925 : Index := 221#32
  let c384_1926 : Index := 384#32
  ![v6886.toNat, 221, 384]
def k0_off520 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6894 : Index := Scalar.indexCast v13
  let c225_1928 : Index := 225#32
  let c384_1929 : Index := 384#32
  ![v6894.toNat, 225, 384]
def k0_off521 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6899 : Index := Scalar.indexCast v13
  let c229_1930 : Index := 229#32
  let c384_1931 : Index := 384#32
  ![v6899.toNat, 229, 384]
def k0_off522 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6907 : Index := Scalar.indexCast v13
  let c233_1933 : Index := 233#32
  let c384_1934 : Index := 384#32
  ![v6907.toNat, 233, 384]
def k0_off523 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6912 : Index := Scalar.indexCast v13
  let c237_1935 : Index := 237#32
  let c384_1936 : Index := 384#32
  ![v6912.toNat, 237, 384]
def k0_off524 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6920 : Index := Scalar.indexCast v13
  let c241_1938 : Index := 241#32
  let c384_1939 : Index := 384#32
  ![v6920.toNat, 241, 384]
def k0_off525 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6925 : Index := Scalar.indexCast v13
  let c245_1940 : Index := 245#32
  let c384_1941 : Index := 384#32
  ![v6925.toNat, 245, 384]
def k0_off526 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6933 : Index := Scalar.indexCast v13
  let c249_1943 : Index := 249#32
  let c384_1944 : Index := 384#32
  ![v6933.toNat, 249, 384]
def k0_off527 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6938 : Index := Scalar.indexCast v13
  let c253_1945 : Index := 253#32
  let c384_1946 : Index := 384#32
  ![v6938.toNat, 253, 384]
def k0_off528 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6962 : Index := Scalar.indexCast v13
  let c131_1953 : Index := 131#32
  let c384_1954 : Index := 384#32
  ![v6962.toNat, 131, 384]
def k0_off529 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6967 : Index := Scalar.indexCast v13
  let c139_1955 : Index := 139#32
  let c384_1956 : Index := 384#32
  ![v6967.toNat, 139, 384]
def k0_off530 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6972 : Index := Scalar.indexCast v13
  let c147_1957 : Index := 147#32
  let c384_1958 : Index := 384#32
  ![v6972.toNat, 147, 384]
def k0_off531 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6977 : Index := Scalar.indexCast v13
  let c155_1959 : Index := 155#32
  let c384_1960 : Index := 384#32
  ![v6977.toNat, 155, 384]
def k0_off532 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6982 : Index := Scalar.indexCast v13
  let c163_1961 : Index := 163#32
  let c384_1962 : Index := 384#32
  ![v6982.toNat, 163, 384]
def k0_off533 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6987 : Index := Scalar.indexCast v13
  let c171_1963 : Index := 171#32
  let c384_1964 : Index := 384#32
  ![v6987.toNat, 171, 384]
def k0_off534 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6992 : Index := Scalar.indexCast v13
  let c179_1965 : Index := 179#32
  let c384_1966 : Index := 384#32
  ![v6992.toNat, 179, 384]
def k0_off535 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v6997 : Index := Scalar.indexCast v13
  let c187_1967 : Index := 187#32
  let c384_1968 : Index := 384#32
  ![v6997.toNat, 187, 384]
def k0_off536 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7002 : Index := Scalar.indexCast v13
  let c195_1969 : Index := 195#32
  let c384_1970 : Index := 384#32
  ![v7002.toNat, 195, 384]
def k0_off537 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7007 : Index := Scalar.indexCast v13
  let c203_1971 : Index := 203#32
  let c384_1972 : Index := 384#32
  ![v7007.toNat, 203, 384]
def k0_off538 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7012 : Index := Scalar.indexCast v13
  let c211_1973 : Index := 211#32
  let c384_1974 : Index := 384#32
  ![v7012.toNat, 211, 384]
def k0_off539 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7017 : Index := Scalar.indexCast v13
  let c219_1975 : Index := 219#32
  let c384_1976 : Index := 384#32
  ![v7017.toNat, 219, 384]
def k0_off540 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7022 : Index := Scalar.indexCast v13
  let c227_1977 : Index := 227#32
  let c384_1978 : Index := 384#32
  ![v7022.toNat, 227, 384]
def k0_off541 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7027 : Index := Scalar.indexCast v13
  let c235_1979 : Index := 235#32
  let c384_1980 : Index := 384#32
  ![v7027.toNat, 235, 384]
def k0_off542 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7032 : Index := Scalar.indexCast v13
  let c243_1981 : Index := 243#32
  let c384_1982 : Index := 384#32
  ![v7032.toNat, 243, 384]
def k0_off543 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7037 : Index := Scalar.indexCast v13
  let c251_1983 : Index := 251#32
  let c384_1984 : Index := 384#32
  ![v7037.toNat, 251, 384]
def k0_off544 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7070 : Index := Scalar.indexCast v13
  let c135_1988 : Index := 135#32
  let c384_1989 : Index := 384#32
  ![v7070.toNat, 135, 384]
def k0_off545 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7081 : Index := Scalar.indexCast v13
  let c151_1990 : Index := 151#32
  let c384_1991 : Index := 384#32
  ![v7081.toNat, 151, 384]
def k0_off546 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7092 : Index := Scalar.indexCast v13
  let c167_1992 : Index := 167#32
  let c384_1993 : Index := 384#32
  ![v7092.toNat, 167, 384]
def k0_off547 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7103 : Index := Scalar.indexCast v13
  let c183_1994 : Index := 183#32
  let c384_1995 : Index := 384#32
  ![v7103.toNat, 183, 384]
def k0_off548 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7114 : Index := Scalar.indexCast v13
  let c199_1996 : Index := 199#32
  let c384_1997 : Index := 384#32
  ![v7114.toNat, 199, 384]
def k0_off549 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7125 : Index := Scalar.indexCast v13
  let c215_1998 : Index := 215#32
  let c384_1999 : Index := 384#32
  ![v7125.toNat, 215, 384]
def k0_off550 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7136 : Index := Scalar.indexCast v13
  let c231_2000 : Index := 231#32
  let c384_2001 : Index := 384#32
  ![v7136.toNat, 231, 384]
def k0_off551 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7147 : Index := Scalar.indexCast v13
  let c247_2002 : Index := 247#32
  let c384_2003 : Index := 384#32
  ![v7147.toNat, 247, 384]
def k0_off552 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7220 : Index := Scalar.indexCast v13
  let c143_2021 : Index := 143#32
  let c384_2022 : Index := 384#32
  ![v7220.toNat, 143, 384]
def k0_off553 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7232 : Index := Scalar.indexCast v13
  let c175_2023 : Index := 175#32
  let c384_2024 : Index := 384#32
  ![v7232.toNat, 175, 384]
def k0_off554 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7244 : Index := Scalar.indexCast v13
  let c207_2025 : Index := 207#32
  let c384_2026 : Index := 384#32
  ![v7244.toNat, 207, 384]
def k0_off555 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7256 : Index := Scalar.indexCast v13
  let c239_2027 : Index := 239#32
  let c384_2028 : Index := 384#32
  ![v7256.toNat, 239, 384]
def k0_off556 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7310 : Index := Scalar.indexCast v13
  let c159_2038 : Index := 159#32
  let c384_2039 : Index := 384#32
  ![v7310.toNat, 159, 384]
def k0_off557 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7322 : Index := Scalar.indexCast v13
  let c223_2040 : Index := 223#32
  let c384_2041 : Index := 384#32
  ![v7322.toNat, 223, 384]
def k0_off558 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7366 : Index := Scalar.indexCast v13
  let c191_2047 : Index := 191#32
  let c384_2048 : Index := 384#32
  ![v7366.toNat, 191, 384]
def k0_off559 (i : grid0.Coords) : Fin 3 → Nat :=
  let c1_i32 : BitVec 32 := 1#32
  let arg0 : BitVec 32 := BitVec.ofNat 32 (i 0).val
  let c2_i32 : BitVec 32 := 2#32
  let v12 : BitVec 32 := Scalar.remsi arg0 c2_i32
  let v13 : BitVec 32 := Scalar.subi c1_i32 v12
  let v7446 : Index := Scalar.indexCast v13
  let c128_2068 : Index := 128#32
  let c0_2069 : Index := 0#32
  ![v7446.toNat, 128, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel2Ideal.lean ====
variable {F : FTy → Type} [FloatOps F] [Named F]
def κ : String → Option EReal := fun
  | "log2_e" => some (((Real.log 2)⁻¹ : ℝ) : EReal)
  | "neg_big" => some ⊥
  | "q_scale" => some (((Real.log 256)⁻¹ : ℝ) : EReal)
  | _ => none
-- ==== Reference2Ideal.lean ====
abbrev S4x4096x2048 : Shape := ⟨3, ![4, 4096, 2048]⟩
abbrev S2048x4480 : Shape := ⟨2, ![2048, 4480]⟩
abbrev S1x16x512 : Shape := ⟨3, ![1, 16, 512]⟩
abbrev S1x512 : Shape := ⟨2, ![1, 512]⟩
abbrev S1x256 : Shape := ⟨2, ![1, 256]⟩
abbrev S1x16 : Shape := ⟨2, ![1, 16]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S16384x2048 : Shape := ⟨2, ![16384, 2048]⟩
abbrev S2048x1280 : Shape := ⟨2, ![2048, 1280]⟩
abbrev S16384x1280 : Shape := ⟨2, ![16384, 1280]⟩
abbrev S16384x1024 : Shape := ⟨2, ![16384, 1024]⟩
abbrev S128x128x16x64 : Shape := ⟨4, ![128, 128, 16, 64]⟩
abbrev S16384x128 : Shape := ⟨2, ![16384, 128]⟩
abbrev S128x128x2x64 : Shape := ⟨4, ![128, 128, 2, 64]⟩
abbrev S128x128x2x8x64 : Shape := ⟨5, ![128, 128, 2, 8, 64]⟩
abbrev S1x128x16x64 : Shape := ⟨4, ![1, 128, 16, 64]⟩
abbrev S_ : Shape := ⟨0, ![]⟩
abbrev S127x128x16x64 : Shape := ⟨4, ![127, 128, 16, 64]⟩
abbrev S128x256x16x64 : Shape := ⟨4, ![128, 256, 16, 64]⟩
abbrev S128x16x128x256 : Shape := ⟨4, ![128, 16, 128, 256]⟩
abbrev S128 : Shape := ⟨1, ![128]⟩
abbrev S128x1 : Shape := ⟨2, ![128, 1]⟩
abbrev S256 : Shape := ⟨1, ![256]⟩
abbrev S128x256 : Shape := ⟨2, ![128, 256]⟩
abbrev S128x1x1 : Shape := ⟨3, ![128, 1, 1]⟩
abbrev S1x128x256 : Shape := ⟨3, ![1, 128, 256]⟩
abbrev S1x1x256 : Shape := ⟨3, ![1, 1, 256]⟩
abbrev S128x1x256 : Shape := ⟨3, ![128, 1, 256]⟩
abbrev S128x128x256 : Shape := ⟨3, ![128, 128, 256]⟩
abbrev S128x1x128x256 : Shape := ⟨4, ![128, 1, 128, 256]⟩
abbrev S16 : Shape := ⟨1, ![16]⟩
abbrev S1x16x1x1 : Shape := ⟨4, ![1, 16, 1, 1]⟩
abbrev S128x16x128 : Shape := ⟨3, ![128, 16, 128]⟩
abbrev S128x16x128x1 : Shape := ⟨4, ![128, 16, 128, 1]⟩
abbrev S128x16x128x64 : Shape := ⟨4, ![128, 16, 128, 64]⟩
abbrev S2048x2048 : Shape := ⟨2, ![2048, 2048]⟩
abbrev S2048x8192 : Shape := ⟨2, ![2048, 8192]⟩
abbrev S8192x2048 : Shape := ⟨2, ![8192, 2048]⟩

abbrev nBuf : Space → Nat
  | .hbm => 107
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x4480, .bf16⟩
  | .hbm, ⟨2, _⟩ => ⟨S1x16x512, .f32⟩
  | .hbm, ⟨3, _⟩ => ⟨S1x512, .f32⟩
  | .hbm, ⟨4, _⟩ => ⟨S1x256, .f32⟩
  | .hbm, ⟨5, _⟩ => ⟨S1x16, .f32⟩
  | .hbm, ⟨6, _⟩ => ⟨S1x2048x2048, .f32⟩
  | .hbm, ⟨7, _⟩ => ⟨S1x2048x8192, .f32⟩
  | .hbm, ⟨8, _⟩ => ⟨S1x8192x2048, .f32⟩
  | .hbm, ⟨9, _⟩ => ⟨S16384x2048, .f32⟩
  | .hbm, ⟨10, _⟩ => ⟨S2048x1280, .bf16⟩
  | .hbm, ⟨11, _⟩ => ⟨S2048x1280, .f32⟩
  | .hbm, ⟨12, _⟩ => ⟨S16384x1280, .f32⟩
  | .hbm, ⟨13, _⟩ => ⟨S16384x1024, .f32⟩
  | .hbm, ⟨14, _⟩ => ⟨S128x128x16x64, .f32⟩
  | .hbm, ⟨15, _⟩ => ⟨S16384x128, .f32⟩
  | .hbm, ⟨16, _⟩ => ⟨S128x128x2x64, .f32⟩
  | .hbm, ⟨17, _⟩ => ⟨S128x128x2x8x64, .f32⟩
  | .hbm, ⟨18, _⟩ => ⟨S128x128x16x64, .f32⟩
  | .hbm, ⟨19, _⟩ => ⟨S16384x128, .f32⟩
  | .hbm, ⟨20, _⟩ => ⟨S128x128x2x64, .f32⟩
  | .hbm, ⟨21, _⟩ => ⟨S128x128x2x8x64, .f32⟩
  | .hbm, ⟨22, _⟩ => ⟨S128x128x16x64, .f32⟩
  | .hbm, ⟨23, _⟩ => ⟨S1x128x16x64, .f32⟩
  | .hbm, ⟨24, _⟩ => ⟨S_, .f32⟩
  | .hbm, ⟨25, _⟩ => ⟨S1x128x16x64, .f32⟩
  | .hbm, ⟨26, _⟩ => ⟨S127x128x16x64, .f32⟩
  | .hbm, ⟨27, _⟩ => ⟨S128x128x16x64, .f32⟩
  | .hbm, ⟨28, _⟩ => ⟨S128x256x16x64, .f32⟩
  | .hbm, ⟨29, _⟩ => ⟨S1x128x16x64, .f32⟩
  | .hbm, ⟨30, _⟩ => ⟨S_, .f32⟩
  | .hbm, ⟨31, _⟩ => ⟨S1x128x16x64, .f32⟩
  | .hbm, ⟨32, _⟩ => ⟨S127x128x16x64, .f32⟩
  | .hbm, ⟨33, _⟩ => ⟨S128x128x16x64, .f32⟩
  | .hbm, ⟨34, _⟩ => ⟨S128x256x16x64, .f32⟩
  | .hbm, ⟨35, _⟩ => ⟨S128x16x128x256, .f32⟩
  | .hbm, ⟨36, _⟩ => ⟨S_, .f32⟩
  | .hbm, ⟨37, _⟩ => ⟨S128x16x128x256, .f32⟩
  | .hbm, ⟨38, _⟩ => ⟨S128x16x128x256, .f32⟩
  | .hbm, ⟨39, _⟩ => ⟨S128, .i32⟩
  | .hbm, ⟨40, _⟩ => ⟨S128x1, .i32⟩
  | .hbm, ⟨41, _⟩ => ⟨S256, .i32⟩
  | .hbm, ⟨42, _⟩ => ⟨S1x256, .i32⟩
  | .hbm, ⟨43, _⟩ => ⟨S128x256, .i32⟩
  | .hbm, ⟨44, _⟩ => ⟨S128x256, .i32⟩
  | .hbm, ⟨45, _⟩ => ⟨S128x256, .i1⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x256, .i32⟩
  | .hbm, ⟨50, _⟩ => ⟨S128x256, .i32⟩
  | .hbm, ⟨51, _⟩ => ⟨S128x256, .i1⟩
  | .hbm, ⟨52, _⟩ => ⟨S128x256, .i1⟩
  | .hbm, ⟨53, _⟩ => ⟨S128, .i32⟩
  | .hbm, ⟨54, _⟩ => ⟨S_, .i32⟩
  | .hbm, ⟨55, _⟩ => ⟨S128, .i32⟩
  | .hbm, ⟨56, _⟩ => ⟨S128, .i32⟩
  | .hbm, ⟨57, _⟩ => ⟨S128x1x1, .i32⟩
  | .hbm, ⟨58, _⟩ => ⟨S1x128x256, .i1⟩
  | .hbm, ⟨59, _⟩ => ⟨S_, .i32⟩
  | .hbm, ⟨60, _⟩ => ⟨S128x1x1, .i32⟩
  | .hbm, ⟨61, _⟩ => ⟨S128x1x1, .i1⟩
  | .hbm, ⟨62, _⟩ => ⟨S1x1x256, .i32⟩
  | .hbm, ⟨63, _⟩ => ⟨S_, .i32⟩
  | .hbm, ⟨64, _⟩ => ⟨S1x1x256, .i32⟩
  | .hbm, ⟨65, _⟩ => ⟨S1x1x256, .i1⟩
  | .hbm, ⟨66, _⟩ => ⟨S128x1x256, .i1⟩
  | .hbm, ⟨67, _⟩ => ⟨S128x1x256, .i1⟩
  | .hbm, ⟨68, _⟩ => ⟨S128x1x256, .i1⟩
  | .hbm, ⟨69, _⟩ => ⟨S128x128x256, .i1⟩
  | .hbm, ⟨70, _⟩ => ⟨S128x128x256, .i1⟩
  | .hbm, ⟨71, _⟩ => ⟨S128x128x256, .i1⟩
  | .hbm, ⟨72, _⟩ => ⟨S128x1x128x256, .i1⟩
  | .hbm, ⟨73, _⟩ => ⟨S_, .f32⟩
  | .hbm, ⟨74, _⟩ => ⟨S_, .f32⟩
  | .hbm, ⟨75, _⟩ => ⟨S128x16x128x256, .i1⟩
  | .hbm, ⟨76, _⟩ => ⟨S128x16x128x256, .f32⟩
  | .hbm, ⟨77, _⟩ => ⟨S128x16x128x256, .f32⟩
  | .hbm, ⟨78, _⟩ => ⟨S16, .f32⟩
  | .hbm, ⟨79, _⟩ => ⟨S1x16x1x1, .f32⟩
  | .hbm, ⟨80, _⟩ => ⟨S_, .f32⟩
  | .hbm, ⟨81, _⟩ => ⟨S128x16x128, .f32⟩
  | .hbm, ⟨82, _⟩ => ⟨S128x16x128x1, .f32⟩
  | .hbm, ⟨83, _⟩ => ⟨S128x16x128x1, .f32⟩
  | .hbm, ⟨84, _⟩ => ⟨S128x16x128x1, .f32⟩
  | .hbm, ⟨85, _⟩ => ⟨S128x16x128x256, .f32⟩
  | .hbm, ⟨86, _⟩ => ⟨S128x16x128x256, .f32⟩
  | .hbm, ⟨87, _⟩ => ⟨S128x16x128x256, .f32⟩
  | .hbm, ⟨88, _⟩ => ⟨S_, .f32⟩
  | .hbm, ⟨89, _⟩ => ⟨S128x16x128, .f32⟩
  | .hbm, ⟨90, _⟩ => ⟨S128x16x128x1, .f32⟩
  | .hbm, ⟨91, _⟩ => ⟨S128x16x128x1, .f32⟩
  | .hbm, ⟨92, _⟩ => ⟨S128x16x128x1, .f32⟩
  | .hbm, ⟨93, _⟩ => ⟨S128x16x128x1, .f32⟩
  | .hbm, ⟨94, _⟩ => ⟨S128x16x128x1, .f32⟩
  | .hbm, ⟨95, _⟩ => ⟨S128x16x128x64, .f32⟩
  | .hbm, ⟨96, _⟩ => ⟨S128x16x128x64, .f32⟩
  | .hbm, ⟨97, _⟩ => ⟨S128x16x128x64, .f32⟩
  | .hbm, ⟨98, _⟩ => ⟨S128x128x16x64, .f32⟩
  | .hbm, ⟨99, _⟩ => ⟨S16384x1024, .f32⟩
  | .hbm, ⟨100, _⟩ => ⟨S16384x1024, .bf16⟩
  | .hbm, ⟨101, _⟩ => ⟨S2048x2048, .f32⟩
  | .hbm, ⟨102, _⟩ => ⟨S2048x2048, .bf16⟩
  | .hbm, ⟨103, _⟩ => ⟨S2048x8192, .f32⟩
  | .hbm, ⟨104, _⟩ => ⟨S2048x8192, .bf16⟩
  | .hbm, ⟨105, _⟩ => ⟨S8192x2048, .f32⟩
  | .hbm, ⟨106, _⟩ => ⟨S8192x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_3 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_4 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_6 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_7 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]
-- ==== Kernel3.lean ====
abbrev S1x2048x4368 : Shape := ⟨3, ![1, 2048, 4368]⟩
abbrev S2048x4368 : Shape := ⟨2, ![2048, 4368]⟩
abbrev S2048x4480 : Shape := ⟨2, ![2048, 4480]⟩
abbrev S256x4368 : Shape := ⟨2, ![256, 4368]⟩
abbrev S256x4480 : Shape := ⟨2, ![256, 4480]⟩
abbrev S256x1280 : Shape := ⟨2, ![256, 1280]⟩
abbrev S256x3072 : Shape := ⟨2, ![256, 3072]⟩
abbrev S256x128 : Shape := ⟨2, ![256, 128]⟩

abbrev nBuf : Space → Nat
  | .hbm => 3
  | .vmem => 4
  | .smem => 0
  | _ => 0

abbrev bufTy : (tb : Table) → Fin (tcTables nBuf tb) → BufTy
  | .hbm, ⟨0, _⟩ => ⟨S1x2048x4368, .f32⟩
  | .hbm, ⟨1, _⟩ => ⟨S2048x4368, .f32⟩
  | .hbm, ⟨2, _⟩ => ⟨S2048x4480, .bf16⟩
  | .local _ .vmem, ⟨0, _⟩ => ⟨S256x4368, .f32⟩
  | .local _ .vmem, ⟨1, _⟩ => ⟨S256x4368, .f32⟩
  | .local _ .vmem, ⟨2, _⟩ => ⟨S256x4480, .bf16⟩
  | .local _ .vmem, ⟨3, _⟩ => ⟨S256x4480, .bf16⟩
  | _, _ => ⟨S1x2048x4368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4368 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4480 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference3Ideal.lean ====
abbrev S1x2048x4368 : Shape := ⟨3, ![1, 2048, 4368]⟩
abbrev S2048x4368 : Shape := ⟨2, ![2048, 4368]⟩
abbrev S2048x3072 : Shape := ⟨2, ![2048, 3072]⟩
abbrev S2048x16 : Shape := ⟨2, ![2048, 16]⟩
abbrev S2048x1280 : Shape := ⟨2, ![2048, 1280]⟩
abbrev S_ : Shape := ⟨0, ![]⟩
abbrev S2048x112 : Shape := ⟨2, ![2048, 112]⟩
abbrev S2048x4480 : Shape := ⟨2, ![2048, 4480]⟩

abbrev nBuf : Space → Nat
  | .hbm => 9
  | .vmem => 0
  | .smem => 0
  | _ => 0

abbrev bufTy : (tb : Table) → Fin (tcTables nBuf tb) → BufTy
  | .hbm, ⟨0, _⟩ => ⟨S1x2048x4368, .f32⟩
  | .hbm, ⟨1, _⟩ => ⟨S2048x4368, .f32⟩
  | .hbm, ⟨2, _⟩ => ⟨S2048x3072, .f32⟩
  | .hbm, ⟨3, _⟩ => ⟨S2048x16, .f32⟩
  | .hbm, ⟨4, _⟩ => ⟨S2048x1280, .f32⟩
  | .hbm, ⟨5, _⟩ => ⟨S_, .f32⟩
  | .hbm, ⟨6, _⟩ => ⟨S2048x112, .f32⟩
  | .hbm, ⟨7, _⟩ => ⟨S2048x4480, .f32⟩
  | .hbm, ⟨8, _⟩ => ⟨S2048x4480, .bf16⟩
  | _, _ => ⟨S1x2048x4368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Proof.Chan.Rows.lean ====
/- Buffers of 512 rows that the channel call's body stores and loads 128 rows at a time. -/
module

public import proofs.«01_k».proof.Proof.Gen.KernelIdeal.Frame
public import Idealize.ShloMosaic.Lib.WritesUnit
public import Idealize.ShloMosaic.Lib.Pipeline.Value
public import Idealize.ShloMosaic.Lib.Pointwise

@[expose] public section

noncomputable section

namespace Cert.Chan

open Cert.KernelIdeal Cert.KernelIdeal.Gen Idealize.ShloMosaic Idealize.ShloMosaic.TcCoe

variable {κ : Kind} {sp : Space} {e : EltTy} {Val : EltTy → Type}

theorem hz : (![0, 0] : Fin 2 → Nat) = fun _ => 0 := funext fun a => by fin_cases a <;> rfl

/-- A load of the rows that the newest store wrote reads its payload. -/
theorem rc_hit [∀ e, Nonempty (Val e)] (v : View sig κ sp S512x2048 e) (o : ℕ) (inb inb' : ∀ a, (![o, 0] : Fin 2 → ℕ) a + (![128, 2048] : Fin 2 → ℕ) a ≤ S512x2048.size a)
    (w : S128x2048.Idx → Val e) (L : List (View.Piece Val S512x2048 e)) :
    v.readCov ((⟨Rect.unit (s := S512x2048) ![o, 0] (![128, 2048] : Fin 2 → ℕ) inb, w⟩ : View.Piece Val S512x2048 e) :: L) (Rect.unit (s := S512x2048) ![o, 0] (![128, 2048] : Fin 2 → ℕ) inb').toLoadRect = w := by
  rw [View.readCov_eq_canon']
  funext j
  exact View.canon_cons_emb (Rect.unit (s := S512x2048) ![o, 0] (![128, 2048] : Fin 2 → ℕ) inb) w L j

/-- A load of rows apart from those that the newest store wrote reads the earlier stores. -/
theorem rc_miss [∀ e, Nonempty (Val e)] (v : View sig κ sp S512x2048 e) (o o' : ℕ) (h : o' + 128 ≤ o ∨ o + 128 ≤ o')
    (inb : ∀ a, (![o, 0] : Fin 2 → ℕ) a + (![128, 2048] : Fin 2 → ℕ) a ≤ S512x2048.size a)
    (inb' : ∀ a, (![o', 0] : Fin 2 → ℕ) a + (![128, 2048] : Fin 2 → ℕ) a ≤ S512x2048.size a)
    (w : S128x2048.Idx → Val e) (L : List (View.Piece Val S512x2048 e)) :
    v.readCov ((⟨Rect.unit (s := S512x2048) ![o, 0] (![128, 2048] : Fin 2 → ℕ) inb, w⟩ : View.Piece Val S512x2048 e) :: L) (Rect.unit (s := S512x2048) ![o', 0] (![128, 2048] : Fin 2 → ℕ) inb').toLoadRect
      = v.readCov L (Rect.unit (s := S512x2048) ![o', 0] (![128, 2048] : Fin 2 → ℕ) inb').toLoadRect := by
  rw [View.readCov_eq_canon', View.readCov_eq_canon']
  funext j
  refine View.canon_cons_of_not_mem _ L ?_
  rw [show (⟨Rect.unit (s := S512x2048) ![o, 0] (![128, 2048] : Fin 2 → ℕ) inb, w⟩ : View.Piece Val S512x2048 e).1 = Rect.unit (s := S512x2048) ![o, 0] (![128, 2048] : Fin 2 → ℕ) inb from rfl, Rect.mem_set_unit]
  intro hall
  have h0 : o ≤ o' + 1 * (j 0).val ∧ o' + 1 * (j 0).val < o + 128 := hall 0
  have h1 : (j 0).val < 128 := (j 0).isLt
  omega

/-- What a list of stores leaves, at a row the newest store wrote. -/
theorem cn_hit [∀ e, Nonempty (Val e)] (o : ℕ) (inb : ∀ a, (![o, 0] : Fin 2 → ℕ) a + (![128, 2048] : Fin 2 → ℕ) a ≤ S512x2048.size a)
    (w : S128x2048.Idx → Val e) (L : List (View.Piece Val S512x2048 e)) (r : Fin 512) (d : Fin 2048) (h : o ≤ r.val) (h' : r.val < o + 128) :
    View.canon ((⟨Rect.unit (s := S512x2048) ![o, 0] (![128, 2048] : Fin 2 → ℕ) inb, w⟩ : View.Piece Val S512x2048 e) :: L) (ix2 r d) = w (ix2 ⟨r.val - o, by omega⟩ d) := by
  rw [← View.canon_cons_emb (Rect.unit (s := S512x2048) ![o, 0] (![128, 2048] : Fin 2 → ℕ) inb) w L]
  congr 1
  funext a
  apply Fin.ext
  fin_cases a
  · show r.val = o + 1 * (r.val - o); omega
  · show d.val = 0 + 1 * d.val; omega

/-- What a list of stores leaves, at a row the newest store did not write. -/
theorem cn_miss [∀ e, Nonempty (Val e)] (o : ℕ) (inb : ∀ a, (![o, 0] : Fin 2 → ℕ) a + (![128, 2048] : Fin 2 → ℕ) a ≤ S512x2048.size a)
    (w : S128x2048.Idx → Val e) (L : List (View.Piece Val S512x2048 e)) (r : Fin 512) (d : Fin 2048) (h : r.val < o ∨ o + 128 ≤ r.val) :
    View.canon ((⟨Rect.unit (s := S512x2048) ![o, 0] (![128, 2048] : Fin 2 → ℕ) inb, w⟩ : View.Piece Val S512x2048 e) :: L) (ix2 r d) = View.canon L (ix2 r d) := by
  refine View.canon_cons_of_not_mem _ L ?_
  rw [show (⟨Rect.unit (s := S512x2048) ![o, 0] (![128, 2048] : Fin 2 → ℕ) inb, w⟩ : View.Piece Val S512x2048 e).1 = Rect.unit (s := S512x2048) ![o, 0] (![128, 2048] : Fin 2 → ℕ) inb from rfl, Rect.mem_set_unit]
  intro hall
  have h0 : o ≤ r.val ∧ r.val < o + 128 := hall 0
  omega

/-- A load of all 512 rows reads what the stores left. -/
theorem rc_whole [∀ e, Nonempty (Val e)] (v : View sig κ sp S512x2048 e) (inb : ∀ a, (![0, 0] : Fin 2 → ℕ) a + S512x2048.size a ≤ S512x2048.size a)
    (L : List (View.Piece Val S512x2048 e)) :
    v.readCov L (Rect.unit (s := S512x2048) ![0, 0] ![512, 2048] inb).toLoadRect = View.canon L := by
  rw [View.readCov_eq_canon']
  funext j
  congr 1
  funext a
  apply Fin.ext
  fin_cases a
  · show 0 + 1 * (j 0).val = (j 0).val; omega
  · show 0 + 1 * (j 1).val = (j 1).val; omega

end Cert.Chan
end
-- ==== Proof.Chan.Pay.lean ====
/- The channel call's mathematics row by row over the extended reals, and the payloads of its body read at an index. -/
module

public import proofs.«01_k».proof.Proof.Gen.KernelIdeal.Skeleton
public import Idealize.ShloMosaic.Lib.Pointwise

@[expose] public section

noncomputable section

namespace Cert.Chan

open Cert.KernelIdeal Cert.KernelIdeal.Gen Idealize.ShloMosaic Idealize.ShloMosaic.TcCoe

/-- The mean of a row of 2048 entries. -/
def mean (y : Fin 2048 → EReal) : EReal := Ideal.div (∑ x, y x) (Ideal.ofBits .f32 0x45000000#32)

/-- A layer norm of the row `y` with gain `g` and offset `b`, at entry `d`. -/
def lnR (y g b : Fin 2048 → EReal) (d : Fin 2048) : EReal :=
  (y d - mean y) * Ideal.rsqrt (Ideal.div (∑ x, (y x - mean y) * (y x - mean y)) (Ideal.ofBits .f32 0x45000000#32) + Ideal.ofBits .f32 0x3727C5AC#32)
    * g d + b d

/-- The residual's scale. -/
def alpha : EReal := Ideal.ofBits .f32 0x3F9837F0#32

/-- One row of the squared-ReLU network: `K` hidden units between the row `y` and entry `d` of the result. -/
def mlpR {K : ℕ} (y : Fin 2048 → EReal) (wu : Fin 2048 → Fin K → EReal) (wd : Fin K → Fin 2048 → EReal) (d : Fin 2048) : EReal :=
  ∑ k, max (∑ x, y x * wu x k) 0 * max (∑ x, y x * wu x k) 0 * wd k d

/-- One row of the first residual: the scaled input and the two halves of the output projection. -/
def resR (x : Fin 2048 → EReal) (a : Fin 1024 → EReal) (w : Fin 1024 → Fin 2048 → EReal) (a' : Fin 1024 → EReal) (w' : Fin 1024 → Fin 2048 → EReal) (d : Fin 2048) : EReal :=
  alpha * x d + ∑ k, a k * w k d + ∑ k, a' k * w' k d

theorem ln5 (y : Vec Ideal S128x2048 .f32) (g b : Vec Ideal S1x2048 .f32) (r : Fin 128) (d : Fin 2048) :
    k0_pay5 y g b (ix2 r d) = lnR (fun d => y (ix2 r d)) (fun d => g (ix2 0 d)) (fun d => b (ix2 0 d)) d := by
  pointwise [k0_pay5, k0_pay4, lnR, mean]

theorem ln6 (y : Vec Ideal S128x2048 .f32) (g b : Vec Ideal S1x2048 .f32) (r : Fin 128) (d : Fin 2048) :
    k0_pay6 y g b (ix2 r d) = alpha * lnR (fun d => y (ix2 r d)) (fun d => g (ix2 0 d)) (fun d => b (ix2 0 d)) d := by
  pointwise [k0_pay6, k0_pay4, lnR, mean, alpha]

theorem ln12 (y : Vec Ideal S128x2048 .f32) (g b : Vec Ideal S1x2048 .f32) (r : Fin 128) (d : Fin 2048) :
    k0_pay12 (k0_pay9 y g) (k0_pay10 b) (ix2 r d) = lnR (fun d => y (ix2 r d)) (fun d => g (ix2 0 d)) (fun d => b (ix2 0 d)) d := by
  pointwise [k0_pay12, k0_pay11, k0_pay9, k0_pay10, lnR, mean]

theorem ln13 (y : Vec Ideal S128x2048 .f32) (g b : Vec Ideal S1x2048 .f32) (r : Fin 128) (d : Fin 2048) :
    k0_pay13 (k0_pay9 y g) (k0_pay10 b) (ix2 r d) = alpha * lnR (fun d => y (ix2 r d)) (fun d => g (ix2 0 d)) (fun d => b (ix2 0 d)) d := by
  pointwise [k0_pay13, k0_pay11, k0_pay9, k0_pay10, lnR, mean, alpha]

theorem ln20 (y : Vec Ideal S128x2048 .f32) (g b : Vec Ideal S1x2048 .f32) (r : Fin 128) (d : Fin 2048) :
    k0_pay20 (k0_pay15 y) (k0_pay16 g) (k0_pay17 b) (k0_pay18 y) (ix2 r d) = lnR (fun d => y (ix2 r d)) (fun d => g (ix2 0 d)) (fun d => b (ix2 0 d)) d := by
  pointwise [k0_pay20, k0_pay19, k0_pay15, k0_pay16, k0_pay17, k0_pay18, lnR, mean]

theorem ln21 (y : Vec Ideal S128x2048 .f32) (g b : Vec Ideal S1x2048 .f32) (r : Fin 128) (d : Fin 2048) :
    k0_pay21 (k0_pay15 y) (k0_pay16 g) (k0_pay17 b) (k0_pay18 y) (ix2 r d) = alpha * lnR (fun d => y (ix2 r d)) (fun d => g (ix2 0 d)) (fun d => b (ix2 0 d)) d := by
  pointwise [k0_pay21, k0_pay19, k0_pay15, k0_pay16, k0_pay17, k0_pay18, lnR, mean, alpha]

theorem ln27 (y : Vec Ideal S128x2048 .f32) (g b : Vec Ideal S1x2048 .f32) (r : Fin 128) (d : Fin 2048) :
    k0_pay27 (k0_pay22 g) (k0_pay23 b) (k0_pay24 y) (k0_pay25 y) (ix2 r d) = lnR (fun d => y (ix2 r d)) (fun d => g (ix2 0 d)) (fun d => b (ix2 0 d)) d := by
  pointwise [k0_pay27, k0_pay26, k0_pay22, k0_pay23, k0_pay24, k0_pay25, lnR, mean]

theorem ln28 (y : Vec Ideal S128x2048 .f32) (g b : Vec Ideal S1x2048 .f32) (r : Fin 128) (d : Fin 2048) :
    k0_pay28 (k0_pay22 g) (k0_pay23 b) (k0_pay24 y) (k0_pay25 y) (ix2 r d) = alpha * lnR (fun d => y (ix2 r d)) (fun d => g (ix2 0 d)) (fun d => b (ix2 0 d)) d := by
  pointwise [k0_pay28, k0_pay26, k0_pay22, k0_pay23, k0_pay24, k0_pay25, lnR, mean, alpha]

theorem ln37 (y : Vec Ideal S128x2048 .f32) (g b : Vec Ideal S1x2048 .f32) (r : Fin 128) (d : Fin 2048) :
    k0_pay37 (k0_pay33 y) (k0_pay34 g) (k0_pay35 b) (k0_pay36 y) (ix2 r d) = lnR (fun d => y (ix2 r d)) (fun d => g (ix2 0 d)) (fun d => b (ix2 0 d)) d := by
  pointwise [k0_pay37, k0_pay33, k0_pay34, k0_pay35, k0_pay36, lnR, mean]

theorem ln44 (y : Vec Ideal S128x2048 .f32) (g b : Vec Ideal S1x2048 .f32) (r : Fin 128) (d : Fin 2048) :
    k0_pay44 (k0_pay39 y) (k0_pay40 g) (k0_pay41 b) (k0_pay42 y) k0_pay43 (ix2 r d) = lnR (fun d => y (ix2 r d)) (fun d => g (ix2 0 d)) (fun d => b (ix2 0 d)) d := by
  pointwise [k0_pay44, k0_pay39, k0_pay40, k0_pay41, k0_pay42, k0_pay43, lnR, mean]

theorem ln49 (y : Vec Ideal S128x2048 .f32) (g b : Vec Ideal S1x2048 .f32) (r : Fin 128) (d : Fin 2048) :
    k0_pay49 (k0_pay46 g) (k0_pay47 b) (k0_pay48 y) (ix2 r d) = lnR (fun d => y (ix2 r d)) (fun d => g (ix2 0 d)) (fun d => b (ix2 0 d)) d := by
  pointwise [k0_pay49, k0_pay46, k0_pay47, k0_pay48, lnR, mean]

theorem ln50 (y : Vec Ideal S128x2048 .f32) (g b : Vec Ideal S1x2048 .f32) (r : Fin 128) (d : Fin 2048) :
    k0_pay50 y g b (ix2 r d) = lnR (fun d => y (ix2 r d)) (fun d => g (ix2 0 d)) (fun d => b (ix2 0 d)) d := by
  pointwise [k0_pay50, lnR, mean]

theorem res2 (x : Vec Ideal S128x2048 .f32) (a : Vec Ideal S128x1024 .bf16) (w : Vec Ideal S1024x2048 .bf16) (a' : Vec Ideal S128x1024 .bf16) (w' : Vec Ideal S1024x2048 .bf16) (r : Fin 128) (d : Fin 2048) :
    k0_pay2 x a w a' w' (ix2 r d) = resR (fun d => x (ix2 r d)) (fun k => a (ix2 r k)) (fun k d => w (ix2 k d)) (fun k => a' (ix2 r k)) (fun k d => w' (ix2 k d)) d := by
  pointwise [k0_pay2, resR, alpha]

theorem res3 (x : Vec Ideal S128x2048 .f32) (a : Vec Ideal S128x1024 .bf16) (w : Vec Ideal S1024x2048 .bf16) (a' : Vec Ideal S128x1024 .bf16) (w' : Vec Ideal S1024x2048 .bf16) (r : Fin 128) (d : Fin 2048) :
    k0_pay3 x a w a' w' (ix2 r d) = resR (fun d => x (ix2 r d)) (fun k => a (ix2 r k)) (fun k d => w (ix2 k d)) (fun k => a' (ix2 r k)) (fun k d => w' (ix2 k d)) d := by
  pointwise [k0_pay3, resR, alpha]

theorem res8 (x : Vec Ideal S128x2048 .f32) (a : Vec Ideal S128x1024 .bf16) (w : Vec Ideal S1024x2048 .bf16) (a' : Vec Ideal S128x1024 .bf16) (w' : Vec Ideal S1024x2048 .bf16) (r : Fin 128) (d : Fin 2048) :
    k0_pay8 (k0_pay7 x) a w a' w' (ix2 r d) = resR (fun d => x (ix2 r d)) (fun k => a (ix2 r k)) (fun k d => w (ix2 k d)) (fun k => a' (ix2 r k)) (fun k d => w' (ix2 k d)) d := by
  pointwise [k0_pay8, k0_pay7, resR, alpha]

theorem res14 (x : Vec Ideal S128x2048 .f32) (a : Vec Ideal S128x1024 .bf16) (w : Vec Ideal S1024x2048 .bf16) (a' : Vec Ideal S128x1024 .bf16) (w' : Vec Ideal S1024x2048 .bf16) (r : Fin 128) (d : Fin 2048) :
    k0_pay14 x a w a' w' (ix2 r d) = resR (fun d => x (ix2 r d)) (fun k => a (ix2 r k)) (fun k d => w (ix2 k d)) (fun k => a' (ix2 r k)) (fun k d => w' (ix2 k d)) d := by
  pointwise [k0_pay14, resR, alpha]

theorem mlp1 (o : Vec Ideal S512x2048 .f32) (xb : Vec Ideal S512x2048 .bf16) (wu : Vec Ideal S2048x1024 .bf16) (wd : Vec Ideal S1024x2048 .bf16) (r : Fin 512) (d : Fin 2048) :
    k0_pay1 o xb wu wd (ix2 r d) = o (ix2 r d) + mlpR (fun x => xb (ix2 r x)) (fun x k => wu (ix2 x k)) (fun k d => wd (ix2 k d)) d := by
  pointwise [k0_pay1, mlpR]

theorem mlp29 (o : Vec Ideal S512x2048 .f32) (xb : Vec Ideal S512x2048 .bf16) (wu : Vec Ideal S2048x1024 .bf16) (wd : Vec Ideal S1024x2048 .bf16) (r : Fin 512) (d : Fin 2048) :
    k0_pay29 o xb wu wd (ix2 r d) = o (ix2 r d) + mlpR (fun x => xb (ix2 r x)) (fun x k => wu (ix2 x k)) (fun k d => wd (ix2 k d)) d := by
  pointwise [k0_pay29, mlpR]

theorem mlp31 (o : Vec Ideal S128x2048 .f32) (xb : Vec Ideal S512x2048 .bf16) (wu : Vec Ideal S2048x1024 .bf16) (wd : Vec Ideal S1024x2048 .bf16) (r : Fin 128) (d : Fin 2048) :
    k0_pay31 xb wu o wd (ix2 r d) = o (ix2 r d) + mlpR (fun x => xb (ix2 ⟨0 + r.val, by omega⟩ x)) (fun x k => wu (ix2 x k)) (fun k d => wd (ix2 k d)) d := by
  pointwise [k0_pay31, k0_pay30, mlpR]

theorem mlp32 (o : Vec Ideal S128x2048 .f32) (xb : Vec Ideal S512x2048 .bf16) (wu : Vec Ideal S2048x1024 .bf16) (wd : Vec Ideal S1024x2048 .bf16) (r : Fin 128) (d : Fin 2048) :
    k0_pay32 xb wu o wd (ix2 r d) = o (ix2 r d) + mlpR (fun x => xb (ix2 ⟨128 + r.val, by omega⟩ x)) (fun x k => wu (ix2 x k)) (fun k d => wd (ix2 k d)) d := by
  pointwise [k0_pay32, k0_pay30, mlpR]

theorem mlp38 (o : Vec Ideal S128x2048 .f32) (xb : Vec Ideal S512x2048 .bf16) (wu : Vec Ideal S2048x1024 .bf16) (wd : Vec Ideal S1024x2048 .bf16) (r : Fin 128) (d : Fin 2048) :
    k0_pay38 (k0_pay30 xb wu) o wd (ix2 r d) = o (ix2 r d) + mlpR (fun x => xb (ix2 ⟨256 + r.val, by omega⟩ x)) (fun x k => wu (ix2 x k)) (fun k d => wd (ix2 k d)) d := by
  pointwise [k0_pay38, k0_pay30, mlpR]

theorem mlp45 (o : Vec Ideal S128x2048 .f32) (xb : Vec Ideal S512x2048 .bf16) (wu : Vec Ideal S2048x1024 .bf16) (wd : Vec Ideal S1024x2048 .bf16) (r : Fin 128) (d : Fin 2048) :
    k0_pay45 (k0_pay30 xb wu) o wd (ix2 r d) = o (ix2 r d) + mlpR (fun x => xb (ix2 ⟨384 + r.val, by omega⟩ x)) (fun x k => wu (ix2 x k)) (fun k d => wd (ix2 k d)) d := by
  pointwise [k0_pay45, k0_pay30, mlpR]

end Cert.Chan
end
-- ==== Proof.Chan.Cases.lean ====
/- What the channel call's body leaves in its output block and in its scratch block, case by case, over the extended reals. -/
module

public import proofs.«01_k».proof.Proof.Chan.Rows
public import proofs.«01_k».proof.Proof.Chan.Pay
public import Idealize.ShloMosaic.Lib.Tactic

@[expose] public section

set_option maxHeartbeats 1000000

noncomputable section

namespace Cert.Chan

open Cert.KernelIdeal Cert.KernelIdeal.Gen Idealize.ShloMosaic Idealize.ShloMosaic.TcCoe

/-- The first residual at row `r` of a block. -/
def res (x0 x1 : Vec Ideal S512x1024 .bf16) (x2 : Vec Ideal S512x2048 .f32) (x3 : Vec Ideal S2048x2048 .bf16) (r : Fin 512) (d : Fin 2048) : EReal :=
  resR (fun d => x2 (ix2 r d)) (fun k => x0 (ix2 r k)) (fun k d => x3 (ix2 ⟨k.val, by omega⟩ d)) (fun k => x1 (ix2 r k)) (fun k d => x3 (ix2 ⟨1024 + k.val, by omega⟩ d)) d

/-- The first layer norm at row `r` of a block. -/
def x1n (x0 x1 : Vec Ideal S512x1024 .bf16) (x2 : Vec Ideal S512x2048 .f32) (x3 : Vec Ideal S2048x2048 .bf16) (x4 x5 : Vec Ideal S1x2048 .f32) (r : Fin 512) (d : Fin 2048) : EReal :=
  lnR (res x0 x1 x2 x3 r) (fun d => x4 (ix2 0 d)) (fun d => x5 (ix2 0 d)) d

theorem out_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x1024 .bf16) (harg8 : arg8.IsWhole) (arg9 : Memref sig .tc .vmem S1024x2048 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (hc0 : ¬cond0_0 i) (hc1 : cond0_1 i) (hc2 : ¬cond0_2 i)
    (x0 : Vec Ideal S512x1024 .bf16) (x1 : Vec Ideal S512x1024 .bf16) (x2 : Vec Ideal S512x2048 .f32) (x3 : Vec Ideal S2048x2048 .bf16) (x4 : Vec Ideal S1x2048 .f32) (x5 : Vec Ideal S1x2048 .f32) (x6 : Vec Ideal S2048x1024 .bf16) (x7 : Vec Ideal S1024x2048 .bf16) (x8 : Vec Ideal S1x2048 .f32) (x9 : Vec Ideal S1x2048 .f32) (xo10 : Vec Ideal S512x2048 .f32) (xs0 : Vec Ideal S512x2048 .bf16) (r : Fin 512) (d : Fin 2048) :
    out0_B_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo10 xs0 (ix2 r d) = xo10 (ix2 r d) + mlpR (fun x => xs0 (ix2 r x)) (fun x k => x6 (ix2 x k)) (fun k d => x7 (ix2 k d)) d := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo10 xs0)]
  unfold kernelRun0_B
  dsimp only
  sl_unfold_words
  simp (discharger := decide) only [rc_hit, rc_miss, rc_whole, View.canon_cons_unit_zero (S := S512x2048) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x1024) hz, View.ld_unit_zero (S := S1024x2048) hz]
  exact mlp1 _ _ _ _ _ _

theorem out_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x1024 .bf16) (harg8 : arg8.IsWhole) (arg9 : Memref sig .tc .vmem S1024x2048 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (hc0 : ¬cond0_0 i) (hc1 : ¬cond0_1 i) (hc2 : cond0_2 i)
    (x0 : Vec Ideal S512x1024 .bf16) (x1 : Vec Ideal S512x1024 .bf16) (x2 : Vec Ideal S512x2048 .f32) (x3 : Vec Ideal S2048x2048 .bf16) (x4 : Vec Ideal S1x2048 .f32) (x5 : Vec Ideal S1x2048 .f32) (x6 : Vec Ideal S2048x1024 .bf16) (x7 : Vec Ideal S1024x2048 .bf16) (x8 : Vec Ideal S1x2048 .f32) (x9 : Vec Ideal S1x2048 .f32) (xo10 : Vec Ideal S512x2048 .f32) (xs0 : Vec Ideal S512x2048 .bf16) (r : Fin 512) (d : Fin 2048) :
    out0_C_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo10 xs0 (ix2 r d)
      = lnR (fun d => xo10 (ix2 r d) + mlpR (fun x => xs0 (ix2 r x)) (fun x k => x6 (ix2 x k)) (fun k d => x7 (ix2 k d)) d) (fun d => x8 (ix2 0 d)) (fun d => x9 (ix2 0 d)) d := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo10 xs0)]
  unfold kernelRun0_C
  dsimp only
  sl_unfold_words
  simp (discharger := decide) only [rc_hit, rc_miss, rc_whole, View.canon_cons_unit_zero (S := S512x2048) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x1024) hz, View.ld_unit_zero (S := S1024x2048) hz]
  have hr : r.val < 128 ∨ (128 ≤ r.val ∧ r.val < 256) ∨ (256 ≤ r.val ∧ r.val < 384) ∨ (384 ≤ r.val) := by omega
  rcases hr with h | h | h | h
  all_goals
    simp (discharger := omega) only [cn_hit, cn_miss]
    simp only [ln37, ln44, ln49, ln50, mlp31, mlp32, mlp38, mlp45]
  · have e : (⟨0 + (r.val - 0), by omega⟩ : Fin 512) = r := Fin.ext (by dsimp only; omega)
    pointwise []
    all_goals (try simp only [e])
  · have e : (⟨128 + (r.val - 128), by omega⟩ : Fin 512) = r := Fin.ext (by dsimp only; omega)
    pointwise []
    all_goals (try simp only [e])
  · have e : (⟨256 + (r.val - 256), by omega⟩ : Fin 512) = r := Fin.ext (by dsimp only; omega)
    pointwise []
    all_goals (try simp only [e])
  · have e : (⟨384 + (r.val - 384), by omega⟩ : Fin 512) = r := Fin.ext (by dsimp only; omega)
    pointwise []
    all_goals (try simp only [e])

theorem sout_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x1024 .bf16) (harg8 : arg8.IsWhole) (arg9 : Memref sig .tc .vmem S1024x2048 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (hc0 : cond0_0 i) (hc1 : ¬cond0_1 i) (hc2 : ¬cond0_2 i)
    (x0 : Vec Ideal S512x1024 .bf16) (x1 : Vec Ideal S512x1024 .bf16) (x2 : Vec Ideal S512x2048 .f32) (x3 : Vec Ideal S2048x2048 .bf16) (x4 : Vec Ideal S1x2048 .f32) (x5 : Vec Ideal S1x2048 .f32) (x6 : Vec Ideal S2048x1024 .bf16) (x7 : Vec Ideal S1024x2048 .bf16) (x8 : Vec Ideal S1x2048 .f32) (x9 : Vec Ideal S1x2048 .f32) (r : Fin 512) (d : Fin 2048) :
    sout0_A_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 (ix2 r d) = x1n x0 x1 x2 x3 x4 x5 r d := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9)]
  unfold kernelRun0_A
  dsimp only
  sl_unfold_words
  simp (discharger := decide) only [rc_hit, rc_miss, rc_whole, View.canon_cons_unit_zero (S := S512x2048) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x1024) hz, View.ld_unit_zero (S := S1024x2048) hz]
  have hr : r.val < 128 ∨ (128 ≤ r.val ∧ r.val < 256) ∨ (256 ≤ r.val ∧ r.val < 384) ∨ (384 ≤ r.val) := by omega
  rcases hr with h | h | h | h
  all_goals
    simp (discharger := omega) only [cn_hit, cn_miss]
    simp only [ln5, ln12, ln20, ln27, res2, res3, res8, res14]
  · have e : (⟨0 + (r.val - 0), by omega⟩ : Fin 512) = r := Fin.ext (by dsimp only; omega)
    pointwise []
    all_goals (try simp only [e])
    all_goals (try rfl)
  · have e : (⟨128 + (r.val - 128), by omega⟩ : Fin 512) = r := Fin.ext (by dsimp only; omega)
    pointwise []
    all_goals (try simp only [e])
    all_goals (try rfl)
  · have e : (⟨256 + (r.val - 256), by omega⟩ : Fin 512) = r := Fin.ext (by dsimp only; omega)
    pointwise []
    all_goals (try simp only [e])
    all_goals (try rfl)
  · have e : (⟨384 + (r.val - 384), by omega⟩ : Fin 512) = r := Fin.ext (by dsimp only; omega)
    pointwise []
    all_goals (try simp only [e])
    all_goals (try rfl)

theorem out_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x1024 .bf16) (harg8 : arg8.IsWhole) (arg9 : Memref sig .tc .vmem S1024x2048 .bf16) (harg9 : arg9.IsWhole) (arg10 : Memref sig .tc .vmem S1x2048 .f32) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (hc0 : cond0_0 i) (hc1 : ¬cond0_1 i) (hc2 : ¬cond0_2 i)
    (x0 : Vec Ideal S512x1024 .bf16) (x1 : Vec Ideal S512x1024 .bf16) (x2 : Vec Ideal S512x2048 .f32) (x3 : Vec Ideal S2048x2048 .bf16) (x4 : Vec Ideal S1x2048 .f32) (x5 : Vec Ideal S1x2048 .f32) (x6 : Vec Ideal S2048x1024 .bf16) (x7 : Vec Ideal S1024x2048 .bf16) (x8 : Vec Ideal S1x2048 .f32) (x9 : Vec Ideal S1x2048 .f32) (r : Fin 512) (d : Fin 2048) :
    out0_A_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 (ix2 r d)
      = alpha * x1n x0 x1 x2 x3 x4 x5 r d + mlpR (x1n x0 x1 x2 x3 x4 x5 r) (fun x k => x6 (ix2 x k)) (fun k d => x7 (ix2 k d)) d := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9)]
  unfold kernelRun0_A
  dsimp only
  sl_unfold_words
  simp (discharger := decide) only [rc_hit, rc_miss, rc_whole, View.canon_cons_unit_zero (S := S512x2048) hz, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz, View.ld_unit_zero (S := S1x2048) hz, View.ld_unit_zero (S := S2048x1024) hz, View.ld_unit_zero (S := S1024x2048) hz]
  rw [mlp29]
  have hr : r.val < 128 ∨ (128 ≤ r.val ∧ r.val < 256) ∨ (256 ≤ r.val ∧ r.val < 384) ∨ (384 ≤ r.val) := by omega
  rcases hr with h | h | h | h
  all_goals
    simp (discharger := omega) only [cn_hit, cn_miss]
    simp only [ln5, ln12, ln20, ln27, ln6, ln13, ln21, ln28, res2, res3, res8, res14]
  · have e : (⟨0 + (r.val - 0), by omega⟩ : Fin 512) = r := Fin.ext (by dsimp only; omega)
    pointwise []
    all_goals (try simp only [e])
    all_goals (try rfl)
  · have e : (⟨128 + (r.val - 128), by omega⟩ : Fin 512) = r := Fin.ext (by dsimp only; omega)
    pointwise []
    all_goals (try simp only [e])
    all_goals (try rfl)
  · have e : (⟨256 + (r.val - 256), by omega⟩ : Fin 512) = r := Fin.ext (by dsimp only; omega)
    pointwise []
    all_goals (try simp only [e])
    all_goals (try rfl)
  · have e : (⟨384 + (r.val - 384), by omega⟩ : Fin 512) = r := Fin.ext (by dsimp only; omega)
    pointwise []
    all_goals (try simp only [e])
    all_goals (try rfl)

end Cert.Chan
end
-- ==== Proof.Chan.Blocks.lean ====
/- The blocks the channel call's points read, as elements of the launched arrays. -/
module

public import proofs.«01_k».proof.Proof.Gen.KernelIdeal.Frame
public import Idealize.ShloMosaic.Lib.Pipeline.ValueKit.Point
public import Idealize.ShloMosaic.Lib.Pointwise
public import Idealize.ShloMosaic.Lib.Claim

@[expose] public section

noncomputable section

namespace Cert.Chan

open Cert.KernelIdeal Cert.KernelIdeal.Gen Idealize.ShloMosaic Idealize.ShloMosaic.TcCoe

variable (m : (ℓ : Loc nD τ sig) → Buf (Elt Ideal) ℓ)

theorem idx : ∀ t : Fin cfg0.N, win0_0.index t = ![t.val / 8, 0] ∧ win0_1.index t = ![t.val / 8, 0] ∧ win0_2.index t = ![t.val / 8, 0]
    ∧ win0_3.index t = ![0, 0] ∧ win0_4.index t = ![0, 0] ∧ win0_5.index t = ![0, 0]
    ∧ win0_6.index t = ![0, t.val % 8] ∧ win0_7.index t = ![t.val % 8, 0] ∧ win0_8.index t = ![0, 0] ∧ win0_9.index t = ![0, 0] :=
  (by decide +kernel : ∀ t : Fin grid0.N, _)

variable (c : Dev nD) (t : Fin cfg0.N)

theorem row_lt (r : Fin 512) : 512 * (t.val / 8) + r.val < 16384 := by
  have h : t.val < 256 := lt_of_lt_of_eq t.isLt N_0
  omega

theorem b0 (r : Fin 512) (k : Fin 1024) : (iblk m c 0 t : Vec Ideal S512x1024 .bf16) (ix2 r k) = m ((c : Thread nD τ).loc main_arg0) (ix2 ⟨512 * (t.val / 8) + r.val, row_lt t r⟩ k) := by
  blk_ext! [iblk, V, idx t]
theorem b1 (r : Fin 512) (k : Fin 1024) : (iblk m c 1 t : Vec Ideal S512x1024 .bf16) (ix2 r k) = m ((c : Thread nD τ).loc main_arg1) (ix2 ⟨512 * (t.val / 8) + r.val, row_lt t r⟩ k) := by
  blk_ext! [iblk, V, idx t]
theorem b2 (r : Fin 512) (k : Fin 2048) : (iblk m c 2 t : Vec Ideal S512x2048 .f32) (ix2 r k)
    = m ((c : Thread nD τ).loc main_arg2) (ix3 ⟨(512 * (t.val / 8) + r.val) / 4096, by have := row_lt t r; omega⟩ ⟨(512 * (t.val / 8) + r.val) % 4096, by omega⟩ k) := by
  blk_ext! [iblk, V, idx t]
theorem b3 (r : Fin 2048) (k : Fin 2048) : (iblk m c 3 t : Vec Ideal S2048x2048 .bf16) (ix2 r k) = m ((c : Thread nD τ).loc main_arg3) (ix3 0 r k) := by
  blk_ext! [iblk, V, idx t]
theorem b4 (k : Fin 2048) : (iblk m c 4 t : Vec Ideal S1x2048 .f32) (ix2 0 k) = m ((c : Thread nD τ).loc main_arg4) (ix2 0 k) := by
  blk_ext! [iblk, V, idx t]
theorem b5 (k : Fin 2048) : (iblk m c 5 t : Vec Ideal S1x2048 .f32) (ix2 0 k) = m ((c : Thread nD τ).loc main_arg5) (ix2 0 k) := by
  blk_ext! [iblk, V, idx t]
theorem b6 (r : Fin 2048) (k : Fin 1024) : (iblk m c 6 t : Vec Ideal S2048x1024 .bf16) (ix2 r k) = m ((c : Thread nD τ).loc main_arg6) (ix3 0 r ⟨1024 * (t.val % 8) + k.val, by omega⟩) := by
  blk_ext! [iblk, V, idx t]
theorem b7 (r : Fin 1024) (k : Fin 2048) : (iblk m c 7 t : Vec Ideal S1024x2048 .bf16) (ix2 r k) = m ((c : Thread nD τ).loc main_arg7) (ix3 0 ⟨1024 * (t.val % 8) + r.val, by omega⟩ k) := by
  blk_ext! [iblk, V, idx t]
theorem b8 (k : Fin 2048) : (iblk m c 8 t : Vec Ideal S1x2048 .f32) (ix2 0 k) = m ((c : Thread nD τ).loc main_arg8) (ix2 0 k) := by
  blk_ext! [iblk, V, idx t]
theorem b9 (k : Fin 2048) : (iblk m c 9 t : Vec Ideal S1x2048 .f32) (ix2 0 k) = m ((c : Thread nD τ).loc main_arg9) (ix2 0 k) := by
  blk_ext! [iblk, V, idx t]

end Cert.Chan
end
-- ==== Proof.Chan.Fold.lean ====
/- What the channel call's output block holds after each point of a sweep, by induction on the point. -/
module

public import proofs.«01_k».proof.Proof.Chan.Cases
public import proofs.«01_k».proof.Proof.Chan.Blocks
public import proofs.«01_k».proof.Proof.Gen.KernelIdeal.Value

@[expose] public section

noncomputable section

namespace Cert.Chan

open Cert.KernelIdeal Cert.KernelIdeal.Gen Idealize.ShloMosaic Idealize.ShloMosaic.TcCoe

variable (m : (ℓ : Loc nD τ sig) → Buf (Elt Ideal) ℓ) (c : Dev nD)

/-- The first layer norm at row `R`, over the launched arrays. -/
def X (R : Fin 16384) (d : Fin 2048) : EReal :=
  lnR (resR (fun d => m ((c : Thread nD τ).loc main_arg2) (ix3 ⟨R.val / 4096, by omega⟩ ⟨R.val % 4096, by omega⟩ d))
      (fun k => m ((c : Thread nD τ).loc main_arg0) (ix2 R k)) (fun k d => m ((c : Thread nD τ).loc main_arg3) (ix3 0 ⟨k.val, by omega⟩ d))
      (fun k => m ((c : Thread nD τ).loc main_arg1) (ix2 R k)) (fun k d => m ((c : Thread nD τ).loc main_arg3) (ix3 0 ⟨1024 + k.val, by omega⟩ d)))
    (fun d => m ((c : Thread nD τ).loc main_arg4) (ix2 0 d)) (fun d => m ((c : Thread nD τ).loc main_arg5) (ix2 0 d)) d

/-- Tile `s` of 1024 hidden units' part of the network at row `R`. -/
def tile (R : Fin 16384) (s : ℕ) (d : Fin 2048) : EReal :=
  mlpR (K := 1024) (X m c R) (fun x k => m ((c : Thread nD τ).loc main_arg6) (ix3 0 x ⟨1024 * (s % 8) + k.val, by omega⟩))
    (fun k d => m ((c : Thread nD τ).loc main_arg7) (ix3 0 ⟨1024 * (s % 8) + k.val, by omega⟩ d)) d

theorem tile_mod (R : Fin 16384) (s : ℕ) (d : Fin 2048) : tile m c R (s % 8) d = tile m c R s d := by
  unfold tile
  simp only [Nat.mod_mod]

/-- The row of the arrays that row `r` of point `t`'s blocks is. -/
abbrev rowOf (t : Fin cfg0.N) (r : Fin 512) : Fin 16384 := ⟨512 * (t.val / 8) + r.val, row_lt t r⟩

theorem x1n_blk (t : Fin cfg0.N) (r : Fin 512) (d : Fin 2048) :
    x1n (iblk m c 0 t) (iblk m c 1 t) (iblk m c 2 t) (iblk m c 3 t) (iblk m c 4 t) (iblk m c 5 t) r d = X m c (rowOf t r) d := by
  unfold x1n res X
  simp only [b0, b1, b2, b3, b4, b5]

theorem mlp_blk (t : Fin cfg0.N) (r : Fin 512) (d : Fin 2048) :
    mlpR (X m c (rowOf t r)) (fun x k => (iblk m c 6 t : Vec Ideal S2048x1024 .bf16) (ix2 x k)) (fun k d => (iblk m c 7 t : Vec Ideal S1024x2048 .bf16) (ix2 k d)) d
      = tile m c (rowOf t r) t.val d := by
  unfold tile
  simp only [b6, b7]

/-- After each point but a sweep's last: the scaled first layer norm and the tiles so far; the scratch holds the first layer norm. -/
theorem fold (n : ℕ) : ∀ (hn : n < cfg0.N),
    ((n % 8 ≠ 7 → ∀ (r : Fin 512) (d : Fin 2048), (outsAt0 m c n hn).1 (ix2 r d)
      = alpha * X m c (rowOf ⟨n, hn⟩ r) d + ∑ s ∈ Finset.range (n % 8 + 1), tile m c (rowOf ⟨n, hn⟩ r) s d)
    ∧ (∀ (r : Fin 512) (d : Fin 2048), (outsAt0 m c n hn).2 (ix2 r d) = X m c (rowOf ⟨n, hn⟩ r) d))
    ∧ (n % 8 = 7 → ∀ (r : Fin 512) (d : Fin 2048), (outsAt0 m c n hn).1 (ix2 r d)
      = lnR (fun d => alpha * X m c (rowOf ⟨n, hn⟩ r) d + ∑ s ∈ Finset.range 8, tile m c (rowOf ⟨n, hn⟩ r) s d)
        (fun d => m ((c : Thread nD τ).loc main_arg8) (ix2 0 d)) (fun d => m ((c : Thread nD τ).loc main_arg9) (ix2 0 d)) d) := by
  induction n with
  | zero =>
    intro hn
    have e := outsAt0_A m c ⟨0, hn⟩ (Nat.zero_mod _) (by dsimp only; omega) (by dsimp only; omega)
    simp only at e
    refine ⟨⟨fun _ r d => ?_, fun r d => ?_⟩, fun h => absurd h (by decide)⟩
    · rw [e]
      dsimp only
      rw [out_A]
      simp only [x1n_blk, funext (x1n_blk m c ⟨0, hn⟩ r), mlp_blk]
      simp
    · rw [e]
      dsimp only
      rw [sout_A, x1n_blk]
  | succ n ih =>
    intro hn
    have hN : n + 1 < 256 := lt_of_lt_of_eq hn N_0
    obtain ⟨⟨ih1, ih2⟩, -⟩ := ih (Nat.lt_of_succ_lt hn)
    have hrow : (n + 1) % 8 ≠ 0 → ∀ r, rowOf ⟨n, Nat.lt_of_succ_lt hn⟩ r = rowOf ⟨n + 1, hn⟩ r := fun h r => Fin.ext (by
      show 512 * (n / 8) + r.val = 512 * ((n + 1) / 8) + r.val; omega)
    rcases (by omega : (n + 1) % 8 = 0 ∨ (1 ≤ (n + 1) % 8 ∧ (n + 1) % 8 ≤ 6) ∨ (n + 1) % 8 = 7) with h | h | h
    · have e := outsAt0_A m c ⟨n + 1, hn⟩ h (by dsimp only; omega) (by dsimp only; omega)
      simp only at e
      refine ⟨⟨fun _ r d => ?_, fun r d => ?_⟩, fun h' => absurd h' (by omega)⟩
      · rw [e]
        dsimp only
        rw [out_A]
        simp only [x1n_blk, funext (x1n_blk m c ⟨n + 1, hn⟩ r), mlp_blk]
        rw [h, Finset.sum_range_one, ← tile_mod, h]
      · rw [e]
        dsimp only
        rw [sout_A, x1n_blk]
    · have e := outsAt0_B m c ⟨n + 1, hn⟩ (by dsimp only; omega) h (by dsimp only; omega)
      simp only at e
      have hx : ∀ r, (fun d => (outsAt0 m c n (Nat.lt_of_succ_lt hn)).2 (ix2 r d)) = X m c (rowOf ⟨n + 1, hn⟩ r) := fun r => funext fun d => by
        rw [ih2, hrow (by omega)]
      refine ⟨⟨fun _ r d => ?_, fun r d => ?_⟩, fun h' => absurd h' (by omega)⟩
      · rw [e]
        dsimp only
        rw [out_B]
        erw [hx r, mlp_blk, ih1 (by omega)]
        rw [hrow (by omega), ← tile_mod m c _ (n + 1), show (n + 1) % 8 = n % 8 + 1 by omega, Finset.sum_range_succ _ (n % 8 + 1), add_assoc]
      · rw [e]
        dsimp only
        exact congrFun (hx r) d
    · have e := outsAt0_C m c ⟨n + 1, hn⟩ (by dsimp only; omega) (by dsimp only; omega) h
      simp only at e
      have hx : ∀ r, (fun d => (outsAt0 m c n (Nat.lt_of_succ_lt hn)).2 (ix2 r d)) = X m c (rowOf ⟨n + 1, hn⟩ r) := fun r => funext fun d => by
        rw [ih2, hrow (by omega)]
      refine ⟨⟨fun h' => absurd h h', fun r d => ?_⟩, fun _ r d => ?_⟩
      · rw [e]
        dsimp only
        exact congrFun (hx r) d
      · rw [e]
        dsimp only
        rw [out_C]
        congr 1
        · funext d'
          erw [hx r, mlp_blk, ih1 (by omega)]
          rw [hrow (by omega), ← tile_mod m c _ (n + 1), h, show n % 8 + 1 = 7 by omega, Finset.sum_range_succ _ 7, add_assoc]
        · funext d'; exact b8 m c ⟨n + 1, hn⟩ d'
        · funext d'; exact b9 m c ⟨n + 1, hn⟩ d'

/-- The kernel's result at row `R`, column `d`. -/
def Kv (R : Fin 16384) (d : Fin 2048) : EReal :=
  lnR (fun d => alpha * X m c R d + ∑ s ∈ Finset.range 8, tile m c R s d)
    (fun d => m ((c : Thread nD τ).loc main_arg8) (ix2 0 d)) (fun d => m ((c : Thread nD τ).loc main_arg9) (ix2 0 d)) d

theorem G10_eq (R : Fin 16384) (d : Fin 2048) : Value.G10 m c (ix2 R d) = Kv m c R d := by
  have hR : Value.pt10Of (ix2 R d) = 8 * (R.val / 512) + 7 := by
    show 8 * (1 * (R.val / 512 - 0) + 1 * (d.val / 2048 - 0)) + 7 = _
    omega
  have hN : Value.pt10Of (ix2 R d) < cfg0.N := by rw [hR]; exact lt_of_lt_of_eq (by omega) N_0.symm
  unfold Value.G10
  rw [dif_pos hN, ← Value.outsAt0_sweep m c _ hN]
  have e := (fold m c _ hN).2 (by rw [hR]; omega) ⟨R.val % 512, Nat.mod_lt _ (by decide)⟩ d
  have hl : Value.loc10Of (ix2 R d) = ix2 ⟨R.val % 512, Nat.mod_lt _ (by decide)⟩ d := by
    funext a
    match a with
    | ⟨0, _⟩ => rfl
    | ⟨1, _⟩ => exact Fin.ext (Nat.mod_eq_of_lt d.isLt)
  have hr : rowOf ⟨Value.pt10Of (ix2 R d), hN⟩ ⟨R.val % 512, Nat.mod_lt _ (by decide)⟩ = R := Fin.ext (by
    show 512 * (Value.pt10Of (ix2 R d) / 8) + R.val % 512 = R.val
    rw [hR]; omega)
  rw [hl, e, hr]
  rfl

end Cert.Chan
end
-- ==== Proof.Chan.Ref.lean ====
/- The reference's value at an index. -/
module

public import proofs.«01_k».proof.Proof.Chan.Fold
public import proofs.«01_k».proof.Proof.Gen.ReferenceIdeal.Run

@[expose] public section

noncomputable section

namespace Cert.Chan.Ref

open Cert.ReferenceIdeal Cert.ReferenceIdeal.Gen Cert.ReferenceIdeal.Value Idealize.ShloMosaic Idealize.ShloMosaic.TcCoe

variable (V0 : Valuation τ sig (Elt Ideal))

/-- The launched arrays at their literal shapes. -/
abbrev a0 : Vec Ideal S16384x1024 .bf16 := V0 (Proc.devRef .tc main_arg0)
abbrev a1 : Vec Ideal S16384x1024 .bf16 := V0 (Proc.devRef .tc main_arg1)
abbrev a2 : Vec Ideal S4x4096x2048 .f32 := V0 (Proc.devRef .tc main_arg2)
abbrev a3 : Vec Ideal S1x2048x2048 .f32 := V0 (Proc.devRef .tc main_arg3)
abbrev a4 : Vec Ideal S1x2048 .f32 := V0 (Proc.devRef .tc main_arg4)
abbrev a5 : Vec Ideal S1x2048 .f32 := V0 (Proc.devRef .tc main_arg5)
abbrev a6 : Vec Ideal S1x2048x8192 .f32 := V0 (Proc.devRef .tc main_arg6)
abbrev a7 : Vec Ideal S1x8192x2048 .f32 := V0 (Proc.devRef .tc main_arg7)
abbrev a8 : Vec Ideal S1x2048 .f32 := V0 (Proc.devRef .tc main_arg8)
abbrev a9 : Vec Ideal S1x2048 .f32 := V0 (Proc.devRef .tc main_arg9)

/-- The first residual of the reference. -/
def Y (b : Fin 4) (t : Fin 4096) : Fin 2048 → EReal :=
  resR (fun d => a2 V0 (ix3 b t d)) (fun k => a0 V0 (ix2 ⟨b.val * 4096 + t.val, by omega⟩ k)) (fun k d => a3 V0 (ix3 0 ⟨k.val, by omega⟩ d))
    (fun k => a1 V0 (ix2 ⟨b.val * 4096 + t.val, by omega⟩ k)) (fun k d => a3 V0 (ix3 0 ⟨1024 + k.val, by omega⟩ d))

/-- The first layer norm of the reference. -/
def Z (b : Fin 4) (t : Fin 4096) : Fin 2048 → EReal := lnR (Y V0 b t) (fun d => a4 V0 (ix2 0 d)) (fun d => a5 V0 (ix2 0 d))

/-- The second residual of the reference. -/
def W (b : Fin 4) (t : Fin 4096) (d : Fin 2048) : EReal :=
  alpha * Z V0 b t d + mlpR (Z V0 b t) (fun x k => a6 V0 (ix3 0 x k)) (fun k d => a7 V0 (ix3 0 k d)) d

theorem v9 (b : Fin 4) (t : Fin 4096) (d : Fin 2048) : (res_main_v9 V0 : Vec Ideal S4x4096x2048 .f32) (ix3 b t d) = Y V0 b t d := by
  unfold res_main_v9
  pointwise []
  unfold Y resR alpha
  exact (add_assoc (G := EReal) _ _ _).symm

theorem v15 (b : Fin 4) (t : Fin 4096) : (res_main_v15 V0 : Vec Ideal S4x4096x1 .f32) (ix3 b t 0) = mean (Y V0 b t) := by
  unfold res_main_v15
  pointwise []
  simp only [v9]
  rfl

theorem v17 (b : Fin 4) (t : Fin 4096) (d : Fin 2048) : (res_main_v17 V0 : Vec Ideal S4x4096x2048 .f32) (ix3 b t d) = Y V0 b t d - mean (Y V0 b t) := by
  unfold res_main_v17
  pointwise []
  rw [v9, v15]

theorem v35 (b : Fin 4) (t : Fin 4096) (d : Fin 2048) : (res_main_v35 V0 : Vec Ideal S4x4096x2048 .f32) (ix3 b t d) = Z V0 b t d := by
  unfold res_main_v35
  pointwise []
  simp only [v9, v15, v17]
  rfl

theorem v39 (b : Fin 4) (t : Fin 4096) (k : Fin 8192) : (res_main_v39 V0 : Vec Ideal S4x4096x8192 .f32) (ix3 b t k) = max (∑ x, Z V0 b t x * a6 V0 (ix3 0 x k)) 0 := by
  unfold res_main_v39
  pointwise []
  simp only [v35]

theorem v45 (b : Fin 4) (t : Fin 4096) (d : Fin 2048) : (res_main_v45 V0 : Vec Ideal S4x4096x2048 .f32) (ix3 b t d) = W V0 b t d := by
  unfold res_main_v45
  pointwise []
  simp only [v35, v39]
  rfl

theorem v51 (b : Fin 4) (t : Fin 4096) : (res_main_v51 V0 : Vec Ideal S4x4096x1 .f32) (ix3 b t 0) = mean (W V0 b t) := by
  unfold res_main_v51
  pointwise []
  simp only [v45]
  rfl

theorem v53 (b : Fin 4) (t : Fin 4096) (d : Fin 2048) : (res_main_v53 V0 : Vec Ideal S4x4096x2048 .f32) (ix3 b t d) = W V0 b t d - mean (W V0 b t) := by
  unfold res_main_v53
  pointwise []
  rw [v45, v51]

/-- The sum over 8192 hidden units is the eight tiles' sums added up. -/
theorem sum_tiles (f : Fin 8192 → EReal) : ∑ k, f k = ∑ s ∈ Finset.range 8, ∑ k : Fin 1024, f ⟨1024 * (s % 8) + k.val, by omega⟩ := by
  rw [Finset.sum_range, ← Fintype.sum_prod_type']
  refine (Fintype.sum_equiv (finProdFinEquiv (m := 8) (n := 1024)) _ _ fun p => ?_).symm
  refine congrArg f (Fin.ext ?_)
  show 1024 * (p.1.val % 8) + p.2.val = p.2.val + 1024 * p.1.val
  have := p.1.isLt
  omega

/-- The reference's result at row `R`, column `d`. -/
theorem out (R : Fin 16384) (d : Fin 2048) : (shapeCast _ (addf (mulf (mulf (subf (res_main_v45 V0) (broadcastInDim S4x4096x2048 ![0, 1, 2] bcast_S4x4096x1_S4x4096x2048_0_1_2 (res_main_v51 V0))) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (res_main_v53 V0) (res_main_v53 V0)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x3727C5AC#32)))))) (broadcastInDim S4x4096x2048 ![0, 1, 2] bcast_S1x1x2048_S4x4096x2048_0_1_2 (broadcastInDim S1x1x2048 ![2] bcast_S2048_S1x1x2048_2 (shapeCast _ (V0 (Proc.devRef .tc main_arg8)) shapeCasts_S1x2048_S2048)))) (broadcastInDim S4x4096x2048 ![0, 1, 2] bcast_S1x1x2048_S4x4096x2048_0_1_2 (broadcastInDim S1x1x2048 ![2] bcast_S2048_S1x1x2048_2 (shapeCast _ (V0 (Proc.devRef .tc main_arg9)) shapeCasts_S1x2048_S2048)))) shapeCasts_S4x4096x2048_S16384x2048 : Vec Ideal S16384x2048 .f32) (ix2 R d)
    = lnR (W V0 ⟨R.val / 4096, by omega⟩ ⟨R.val % 4096, by omega⟩) (fun d => a8 V0 (ix2 0 d)) (fun d => a9 V0 (ix2 0 d)) d := by
  pointwise []
  simp only [v45, v51, v53]
  rfl

/-- The kernel's result is the reference's where the launched arrays agree. -/
theorem tie (m : (ℓ : Loc Cert.KernelIdeal.nD Cert.KernelIdeal.τ Cert.KernelIdeal.sig) → Buf (Elt Ideal) ℓ) (c : Dev Cert.KernelIdeal.nD)
    (h0 : a0 V0 = m ((c : Thread Cert.KernelIdeal.nD Cert.KernelIdeal.τ).loc Cert.KernelIdeal.main_arg0)) (h1 : a1 V0 = m ((c : Thread Cert.KernelIdeal.nD Cert.KernelIdeal.τ).loc Cert.KernelIdeal.main_arg1))
    (h2 : a2 V0 = m ((c : Thread Cert.KernelIdeal.nD Cert.KernelIdeal.τ).loc Cert.KernelIdeal.main_arg2)) (h3 : a3 V0 = m ((c : Thread Cert.KernelIdeal.nD Cert.KernelIdeal.τ).loc Cert.KernelIdeal.main_arg3))
    (h4 : a4 V0 = m ((c : Thread Cert.KernelIdeal.nD Cert.KernelIdeal.τ).loc Cert.KernelIdeal.main_arg4)) (h5 : a5 V0 = m ((c : Thread Cert.KernelIdeal.nD Cert.KernelIdeal.τ).loc Cert.KernelIdeal.main_arg5))
    (h6 : a6 V0 = m ((c : Thread Cert.KernelIdeal.nD Cert.KernelIdeal.τ).loc Cert.KernelIdeal.main_arg6)) (h7 : a7 V0 = m ((c : Thread Cert.KernelIdeal.nD Cert.KernelIdeal.τ).loc Cert.KernelIdeal.main_arg7))
    (h8 : a8 V0 = m ((c : Thread Cert.KernelIdeal.nD Cert.KernelIdeal.τ).loc Cert.KernelIdeal.main_arg8)) (h9 : a9 V0 = m ((c : Thread Cert.KernelIdeal.nD Cert.KernelIdeal.τ).loc Cert.KernelIdeal.main_arg9)) (R : Fin 16384) (d : Fin 2048) :
    lnR (W V0 ⟨R.val / 4096, by omega⟩ ⟨R.val % 4096, by omega⟩) (fun d => a8 V0 (ix2 0 d)) (fun d => a9 V0 (ix2 0 d)) d = Kv m c R d := by
  have hR : ∀ h, (⟨R.val / 4096 * 4096 + R.val % 4096, h⟩ : Fin 16384) = R := fun h => Fin.ext (Nat.div_add_mod' _ _)
  have hZ : Z V0 ⟨R.val / 4096, by omega⟩ ⟨R.val % 4096, by omega⟩ = X m c R := by
    funext d
    unfold Z Y X
    simp only [h0, h1, h2, h3, h4, h5, hR]
  unfold Kv W
  rw [hZ]
  simp only [h8, h9, h6, h7]
  unfold tile mlpR
  simp only [sum_tiles]

end Cert.Chan.Ref
end
-- ==== Proof.Mix.Cond.lean ====
module

public import proofs.«01_k».proof.Proof.Gen.Kernel2Ideal.Frame
public import proofs.«01_k».proof.Proof.Gen.Kernel2Ideal.Skeleton

@[expose] public section

set_option maxRecDepth 65536

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first point: the previous block's slot and the carried keys are cleared. -/
abbrev cond1 (i : grid0.Coords) : Prop := (Scalar.cmpi .ne (Scalar.extui (Scalar.cmpi .eq (BitVec.ofNat 32 (i 0).val) 0#32) : BitVec 32) 0#32 = 1#1)
/-- A sequence starts: the recurrence's state is cleared. -/
abbrev cond2 (i : grid0.Coords) : Prop := (Scalar.cmpi .ne (Scalar.extui (Scalar.ori (Scalar.cmpi .eq (BitVec.ofNat 32 (i 0).val) 0#32) (Scalar.cmpi .eq (Scalar.remsi (Scalar.subi (Scalar.addi (BitVec.ofNat 32 (i 0).val) 16#32) 1#32) 16#32) 0#32)) : BitVec 32) 0#32 = 1#1)
/-- The grid's first point. -/
abbrev i0 : grid0.Coords := fun _ => ⟨0, by decide +revert⟩

end Cert.Kernel2Ideal.Mix

end
-- ==== Proof.Mix.RunA.lean ====
module

public import proofs.«01_k».proof.Proof.Gen.Kernel2Ideal.Frame
public import proofs.«01_k».proof.Proof.Gen.Kernel2Ideal.Skeleton
public import proofs.«01_k».proof.Proof.Mix.Cond

@[expose] public section

set_option maxRecDepth 65536

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 0 in
/-- The pieces the body's stores leave, with the run that finds them (case A). -/
def runA (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0)
    (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) :
    Σ' (L10 : List (View.Piece (Elt F) S256x1024 .bf16)), Σ' (L11 : List (View.Piece (Elt F) S256x1024 .bf16)), Σ' (L12 : List (View.Piece (Elt F) S32x2048 .bf16)), Σ' (L13 : List (View.Piece (Elt F) S2048x128 .bf16)), Σ' (L14 : List (View.Piece (Elt F) S128x2048 .bf16)), Σ' (L15 : List (View.Piece (Elt F) S256x2048 .bf16)), Σ' (L16 : List (View.Piece (Elt F) S2x256x1024 .bf16)), Σ' (L17 : List (View.Piece (Elt F) S2x256x256 .bf16)), Σ' (L18 : List (View.Piece (Elt F) S2x256x512 .bf16)), Σ' (L19 : List (View.Piece (Elt F) S2x256x512 .bf16)), Σ' (L20 : List (View.Piece (Elt F) S2x256x1024 .bf16)), Σ' (L21 : List (View.Piece (Elt F) S2x256x1024 .bf16)), Σ' (L22 : List (View.Piece (Elt F) S2x256x512 .f32)), Σ' (L23 : List (View.Piece (Elt F) S2x256x512 .f32)), Σ' (L24 : List (View.Piece (Elt F) S4x256x128 .f32)), { L25 : List (View.Piece (Elt F) S128x256 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f) ∗ (∃ f, arg25.view.loc (c : Thread nD τ) ↦[arg25.view.set]{fullShare} f)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25)) -∗ K ⟨⟩))
          ⊢ wp frame (wpE (defs₀ (F := F)) Variants.none c none) E (cc0_token_mixer i0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, ?_, ?_, ?_, ?_, fun E K => ?run⟩
  case run =>
    simp only [cc0_token_mixer_eq_skeleton]; unfold cc0_token_mixer_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    set_option sl_exec.resultNames true in
    sl_exec (disch := first | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact H25

end Cert.Kernel2Ideal.Mix

end
-- ==== Proof.Mix.RunN.lean ====
module

public import proofs.«01_k».proof.Proof.Gen.Kernel2Ideal.Frame
public import proofs.«01_k».proof.Proof.Gen.Kernel2Ideal.Skeleton
public import proofs.«01_k».proof.Proof.Mix.Cond

@[expose] public section

set_option maxRecDepth 65536

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 0 in
/-- The pieces the body's stores leave, with the run that finds them (case N). -/
def runN (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : ¬cond1 i)
    (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (x15 : Vec F S256x2048 .bf16) (x16 : Vec F S2x256x1024 .bf16) (x17 : Vec F S2x256x256 .bf16) (x18 : Vec F S2x256x512 .bf16) (x19 : Vec F S2x256x512 .bf16) (x20 : Vec F S2x256x1024 .bf16) (x21 : Vec F S2x256x1024 .bf16) (x22 : Vec F S2x256x512 .f32) (x23 : Vec F S2x256x512 .f32) (x24 : Vec F S4x256x128 .f32) (x25 : Vec F S128x256 .bf16) :
    Σ' (L10 : List (View.Piece (Elt F) S256x1024 .bf16)), Σ' (L11 : List (View.Piece (Elt F) S256x1024 .bf16)), Σ' (L12 : List (View.Piece (Elt F) S32x2048 .bf16)), Σ' (L13 : List (View.Piece (Elt F) S2048x128 .bf16)), Σ' (L14 : List (View.Piece (Elt F) S128x2048 .bf16)), Σ' (L15 : List (View.Piece (Elt F) S256x2048 .bf16)), Σ' (L16 : List (View.Piece (Elt F) S2x256x1024 .bf16)), Σ' (L17 : List (View.Piece (Elt F) S2x256x256 .bf16)), Σ' (L18 : List (View.Piece (Elt F) S2x256x512 .bf16)), Σ' (L19 : List (View.Piece (Elt F) S2x256x512 .bf16)), Σ' (L20 : List (View.Piece (Elt F) S2x256x1024 .bf16)), Σ' (L21 : List (View.Piece (Elt F) S2x256x1024 .bf16)), Σ' (L22 : List (View.Piece (Elt F) S2x256x512 .f32)), Σ' (L23 : List (View.Piece (Elt F) S2x256x512 .f32)), Σ' (G24 : Buf (Elt F) (arg24.view.loc (c : Thread nD τ))), { L25 : List (View.Piece (Elt F) S128x256 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22) ∗ (arg23.view.loc (c : Thread nD τ) ↦[arg23.view.set]{fullShare} arg23.view.writes (Elt F) (harg23.unread x23) L23) ∗ (arg24.view.loc (c : Thread nD τ) ↦[arg24.view.set]{fullShare} G24) ∗ (arg25.view.loc (c : Thread nD τ) ↦[arg25.view.set]{fullShare} arg25.view.writes (Elt F) (harg25.unread x25) L25)) -∗ K ⟨⟩))
          ⊢ wp frame (wpE (defs₀ (F := F)) Variants.none c none) E (cc0_token_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, ?_, ?_, ?_, ?_, fun E K => ?run⟩
  case run =>
    simp only [cc0_token_mixer_eq_skeleton]; unfold cc0_token_mixer_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, H10⟩, ⟨%f11, H11⟩, ⟨%f12, H12⟩, ⟨%f13, H13⟩, ⟨%f14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25
    set_option sl_exec.resultNames true in
    sl_exec_parts (disch := first | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.Kernel2Ideal.Mix

end
-- ==== Proof.Mix.Traj.lean ====
module

public import proofs.«01_k».proof.Proof.Gen.Kernel2Ideal.Frame
public import proofs.«01_k».proof.Proof.Gen.Kernel2Ideal.Skeleton
public import proofs.«01_k».proof.Proof.Mix.RunA
public import proofs.«01_k».proof.Proof.Mix.RunN
public import Idealize.ShloMosaic.Lib.Pipeline.FrameBody
public import Idealize.ShloMosaic.Lib.Pipeline.TableIdle
public import Idealize.ShloMosaic.Lib.Ring
public import Idealize.ShloMosaic.Lib.Tactic

@[expose] public section

set_option maxRecDepth 65536

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging memref of window 0 at point `t`, and that it is whole. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
/-- The staging memref of window 1 at point `t`, and that it is whole. -/
abbrev ms0_1 (t : Fin cfg0.N) : Memref sig .tc .vmem S256x2048 .f32 := win0_1.stage (cfg0.slots t 1)
abbrev hs0_1 (t : Fin cfg0.N) : (ms0_1 t).IsWhole := hstage0_1 ((cfg0.slots t 1).cast nbuf0_1)
/-- The staging memref of window 2 at point `t`, and that it is whole. -/
abbrev ms0_2 (t : Fin cfg0.N) : Memref sig .tc .vmem S2048x4480 .bf16 := win0_2.stage (cfg0.slots t 2)
abbrev hs0_2 (t : Fin cfg0.N) : (ms0_2 t).IsWhole := hstage0_2 ((cfg0.slots t 2).cast nbuf0_2)
/-- The staging memref of window 3 at point `t`, and that it is whole. -/
abbrev ms0_3 (t : Fin cfg0.N) : Memref sig .tc .vmem S128x512 .bf16 := win0_3.stage (cfg0.slots t 3)
abbrev hs0_3 (t : Fin cfg0.N) : (ms0_3 t).IsWhole := hstage0_3 ((cfg0.slots t 3).cast nbuf0_3)
/-- The staging memref of window 4 at point `t`, and that it is whole. -/
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
/-- The staging memref of window 5 at point `t`, and that it is whole. -/
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
/-- The staging memref of window 6 at point `t`, and that it is whole. -/
abbrev ms0_6 (t : Fin cfg0.N) : Memref sig .tc .vmem S32x2048 .f32 := win0_6.stage (cfg0.slots t 6)
abbrev hs0_6 (t : Fin cfg0.N) : (ms0_6 t).IsWhole := hstage0_6 ((cfg0.slots t 6).cast nbuf0_6)
/-- The staging memref of window 7 at point `t`, and that it is whole. -/
abbrev ms0_7 (t : Fin cfg0.N) : Memref sig .tc .vmem S2048x128 .f32 := win0_7.stage (cfg0.slots t 7)
abbrev hs0_7 (t : Fin cfg0.N) : (ms0_7 t).IsWhole := hstage0_7 ((cfg0.slots t 7).cast nbuf0_7)
/-- The staging memref of window 8 at point `t`, and that it is whole. -/
abbrev ms0_8 (t : Fin cfg0.N) : Memref sig .tc .vmem S128x2048 .f32 := win0_8.stage (cfg0.slots t 8)
abbrev hs0_8 (t : Fin cfg0.N) : (ms0_8 t).IsWhole := hstage0_8 ((cfg0.slots t 8).cast nbuf0_8)
/-- The staging memref of window 9 at point `t`, and that it is whole. -/
abbrev ms0_9 (t : Fin cfg0.N) : Memref sig .tc .vmem S256x1024 .bf16 := win0_9.stage (cfg0.slots t 9)
abbrev hs0_9 (t : Fin cfg0.N) : (ms0_9 t).IsWhole := hstage0_9 ((cfg0.slots t 9).cast nbuf0_9)
/-- The staging memref of window 10 at point `t`, and that it is whole. -/
abbrev ms0_10 (t : Fin cfg0.N) : Memref sig .tc .vmem S256x1024 .bf16 := win0_10.stage (cfg0.slots t 10)
abbrev hs0_10 (t : Fin cfg0.N) : (ms0_10 t).IsWhole := hstage0_10 ((cfg0.slots t 10).cast nbuf0_10)
/-- The staging memref of window 11 at point `t`, and that it is whole. -/
abbrev ms0_11 (t : Fin cfg0.N) : Memref sig .tc .vmem S32x2048 .bf16 := win0_11.stage (cfg0.slots t 11)
abbrev hs0_11 (t : Fin cfg0.N) : (ms0_11 t).IsWhole := hstage0_11 ((cfg0.slots t 11).cast nbuf0_11)
/-- The staging memref of window 12 at point `t`, and that it is whole. -/
abbrev ms0_12 (t : Fin cfg0.N) : Memref sig .tc .vmem S2048x128 .bf16 := win0_12.stage (cfg0.slots t 12)
abbrev hs0_12 (t : Fin cfg0.N) : (ms0_12 t).IsWhole := hstage0_12 ((cfg0.slots t 12).cast nbuf0_12)
/-- The staging memref of window 13 at point `t`, and that it is whole. -/
abbrev ms0_13 (t : Fin cfg0.N) : Memref sig .tc .vmem S128x2048 .bf16 := win0_13.stage (cfg0.slots t 13)
abbrev hs0_13 (t : Fin cfg0.N) : (ms0_13 t).IsWhole := hstage0_13 ((cfg0.slots t 13).cast nbuf0_13)
/-- Scratch operand 0, and that it is whole. -/
abbrev scM0_0 : Memref sig .tc .vmem S256x2048 .bf16 := Memref.whole cc0_scratch0
abbrev hsc_0 : (scM0_0).IsWhole := Memref.isWhole_whole _
/-- Scratch operand 1, and that it is whole. -/
abbrev scM0_1 : Memref sig .tc .vmem S2x256x1024 .bf16 := Memref.whole cc0_scratch1
abbrev hsc_1 : (scM0_1).IsWhole := Memref.isWhole_whole _
/-- Scratch operand 2, and that it is whole. -/
abbrev scM0_2 : Memref sig .tc .vmem S2x256x256 .bf16 := Memref.whole cc0_scratch2
abbrev hsc_2 : (scM0_2).IsWhole := Memref.isWhole_whole _
/-- Scratch operand 3, and that it is whole. -/
abbrev scM0_3 : Memref sig .tc .vmem S2x256x512 .bf16 := Memref.whole cc0_scratch3
abbrev hsc_3 : (scM0_3).IsWhole := Memref.isWhole_whole _
/-- Scratch operand 4, and that it is whole. -/
abbrev scM0_4 : Memref sig .tc .vmem S2x256x512 .bf16 := Memref.whole cc0_scratch4
abbrev hsc_4 : (scM0_4).IsWhole := Memref.isWhole_whole _
/-- Scratch operand 5, and that it is whole. -/
abbrev scM0_5 : Memref sig .tc .vmem S2x256x1024 .bf16 := Memref.whole cc0_scratch5
abbrev hsc_5 : (scM0_5).IsWhole := Memref.isWhole_whole _
/-- Scratch operand 6, and that it is whole. -/
abbrev scM0_6 : Memref sig .tc .vmem S2x256x1024 .bf16 := Memref.whole cc0_scratch6
abbrev hsc_6 : (scM0_6).IsWhole := Memref.isWhole_whole _
/-- Scratch operand 7, and that it is whole. -/
abbrev scM0_7 : Memref sig .tc .vmem S2x256x512 .f32 := Memref.whole cc0_scratch7
abbrev hsc_7 : (scM0_7).IsWhole := Memref.isWhole_whole _
/-- Scratch operand 8, and that it is whole. -/
abbrev scM0_8 : Memref sig .tc .vmem S2x256x512 .f32 := Memref.whole cc0_scratch8
abbrev hsc_8 : (scM0_8).IsWhole := Memref.isWhole_whole _
/-- Scratch operand 9, and that it is whole. -/
abbrev scM0_9 : Memref sig .tc .vmem S4x256x128 .f32 := Memref.whole cc0_scratch9
abbrev hsc_9 : (scM0_9).IsWhole := Memref.isWhole_whole _
/-- Scratch operand 10, and that it is whole. -/
abbrev scM0_10 : Memref sig .tc .vmem S128x256 .bf16 := Memref.whole cc0_scratch10
abbrev hsc_10 : (scM0_10).IsWhole := Memref.isWhole_whole _

/-- The first point is the one at which the slots are cleared. -/
theorem hcond1 : ∀ t : Fin cfg0.N, cond1 (grid0.coords t) ↔ t.val = 0 := by decide +kernel
/-- The grid's first point, as a point of the schedule. -/
abbrev t0 : Fin cfg0.N := ⟨0, by decide⟩
theorem coords_t0 : grid0.coords t0 = i0 := by decide +kernel
theorem cond1_i0 : cond1 i0 := by decide +kernel
theorem cond2_i0 : cond2 i0 := by decide +kernel

/-- What the scratch buffers hold between points. -/
structure Scr (F : FTy → Type) where
  s15 : Vec F S256x2048 .bf16
  s16 : Vec F S2x256x1024 .bf16
  s17 : Vec F S2x256x256 .bf16
  s18 : Vec F S2x256x512 .bf16
  s19 : Vec F S2x256x512 .bf16
  s20 : Vec F S2x256x1024 .bf16
  s21 : Vec F S2x256x1024 .bf16
  s22 : Vec F S2x256x512 .f32
  s23 : Vec F S2x256x512 .f32
  s24 : Vec F S4x256x128 .f32
  s25 : Vec F S128x256 .bf16

/-- What the outputs' staging buffers hold after a point. -/
structure Out (F : FTy → Type) where
  o10 : Vec F S256x1024 .bf16
  o11 : Vec F S256x1024 .bf16
  o12 : Vec F S32x2048 .bf16
  o13 : Vec F S2048x128 .bf16
  o14 : Vec F S128x2048 .bf16

/-- The run at the first point, on the point's memrefs and input blocks. -/
def RA (c : Dev nD) := runA (F := F) c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (ms0_13 t0) (hs0_13 t0) scM0_0 hsc_0 scM0_1 hsc_1 scM0_2 hsc_2 scM0_3 hsc_3 scM0_4 hsc_4 scM0_5 hsc_5 scM0_6 hsc_6 scM0_7 hsc_7 scM0_8 hsc_8 scM0_9 hsc_9 scM0_10 hsc_10 cond1_i0 cond2_i0 (iblk m c 0 t0) (iblk m c 1 t0) (iblk m c 2 t0) (iblk m c 3 t0) (iblk m c 4 t0) (iblk m c 5 t0) (iblk m c 6 t0) (iblk m c 7 t0) (iblk m c 8 t0)
/-- The run at a later point, on the point's memrefs and input blocks and what the scratch holds. -/
def RN (c : Dev nD) (t : Fin cfg0.N) (h : ¬cond1 (grid0.coords t)) (s : Scr F) := runN (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 hsc_0 scM0_1 hsc_1 scM0_2 hsc_2 scM0_3 hsc_3 scM0_4 hsc_4 scM0_5 hsc_5 scM0_6 hsc_6 scM0_7 hsc_7 scM0_8 hsc_8 scM0_9 hsc_9 scM0_10 hsc_10 h (iblk m c 0 t) (iblk m c 1 t) (iblk m c 2 t) (iblk m c 3 t) (iblk m c 4 t) (iblk m c 5 t) (iblk m c 6 t) (iblk m c 7 t) (iblk m c 8 t) s.s15 s.s16 s.s17 s.s18 s.s19 s.s20 s.s21 s.s22 s.s23 s.s24 s.s25

/-- What the first point leaves. -/
def stepA (c : Dev nD) : Out F × Scr F :=
  (⟨View.canon ((RA m c).1), View.canon ((RA m c).2.1), View.canon ((RA m c).2.2.1), View.canon ((RA m c).2.2.2.1), View.canon ((RA m c).2.2.2.2.1)⟩,
   ⟨View.canon ((RA m c).2.2.2.2.2.1), View.canon ((RA m c).2.2.2.2.2.2.1), View.canon ((RA m c).2.2.2.2.2.2.2.1), View.canon ((RA m c).2.2.2.2.2.2.2.2.1), View.canon ((RA m c).2.2.2.2.2.2.2.2.2.1), View.canon ((RA m c).2.2.2.2.2.2.2.2.2.2.1), View.canon ((RA m c).2.2.2.2.2.2.2.2.2.2.2.1), View.canon ((RA m c).2.2.2.2.2.2.2.2.2.2.2.2.1), View.canon ((RA m c).2.2.2.2.2.2.2.2.2.2.2.2.2.1), View.canon ((RA m c).2.2.2.2.2.2.2.2.2.2.2.2.2.2.1), View.canon ((RA m c).2.2.2.2.2.2.2.2.2.2.2.2.2.2.2.1)⟩)
/-- What a later point leaves, over what the scratch held. -/
def stepN (c : Dev nD) (t : Fin cfg0.N) (h : ¬cond1 (grid0.coords t)) (s : Scr F) : Out F × Scr F :=
  (⟨View.canon ((RN m c t h s).1), View.canon ((RN m c t h s).2.1), View.canon ((RN m c t h s).2.2.1), View.canon ((RN m c t h s).2.2.2.1), View.canon ((RN m c t h s).2.2.2.2.1)⟩,
   ⟨(scM0_0).view.read (Elt F) ((scM0_0).view.writes (Elt F) ((hsc_0).unread s.s15) ((RN m c t h s).2.2.2.2.2.1)), (scM0_1).view.read (Elt F) ((scM0_1).view.writes (Elt F) ((hsc_1).unread s.s16) ((RN m c t h s).2.2.2.2.2.2.1)), (scM0_2).view.read (Elt F) ((scM0_2).view.writes (Elt F) ((hsc_2).unread s.s17) ((RN m c t h s).2.2.2.2.2.2.2.1)), (scM0_3).view.read (Elt F) ((scM0_3).view.writes (Elt F) ((hsc_3).unread s.s18) ((RN m c t h s).2.2.2.2.2.2.2.2.1)), (scM0_4).view.read (Elt F) ((scM0_4).view.writes (Elt F) ((hsc_4).unread s.s19) ((RN m c t h s).2.2.2.2.2.2.2.2.2.1)), (scM0_5).view.read (Elt F) ((scM0_5).view.writes (Elt F) ((hsc_5).unread s.s20) ((RN m c t h s).2.2.2.2.2.2.2.2.2.2.1)), (scM0_6).view.read (Elt F) ((scM0_6).view.writes (Elt F) ((hsc_6).unread s.s21) ((RN m c t h s).2.2.2.2.2.2.2.2.2.2.2.1)), (scM0_7).view.read (Elt F) ((scM0_7).view.writes (Elt F) ((hsc_7).unread s.s22) ((RN m c t h s).2.2.2.2.2.2.2.2.2.2.2.2.1)), (scM0_8).view.read (Elt F) ((scM0_8).view.writes (Elt F) ((hsc_8).unread s.s23) ((RN m c t h s).2.2.2.2.2.2.2.2.2.2.2.2.2.1)), (scM0_9).view.read (Elt F) ((RN m c t h s).2.2.2.2.2.2.2.2.2.2.2.2.2.2.1), (scM0_10).view.read (Elt F) ((scM0_10).view.writes (Elt F) ((hsc_10).unread s.s25) ((RN m c t h s).2.2.2.2.2.2.2.2.2.2.2.2.2.2.2.1))⟩)

/-- What the outputs' staging buffers and the scratch hold after the point at position `n`. -/
def outsAt (c : Dev nD) : (n : ℕ) → n < cfg0.N → Out F × Scr F
  | 0, _ => stepA m c
  | n + 1, hn => stepN m c ⟨n + 1, hn⟩ (fun h => Nat.succ_ne_zero n ((hcond1 ⟨n + 1, hn⟩).mp h)) (outsAt c n (Nat.lt_of_succ_lt hn)).2

theorem outsAt_pos (c : Dev nD) (t : Fin cfg0.N) (h : t.val ≠ 0) :
    outsAt m c t.val t.isLt = stepN m c t (fun h' => h ((hcond1 t).mp h')) (outsAt m c (t.val - 1) (Nat.lt_of_le_of_lt (Nat.sub_le _ _) t.isLt)).2 := by
  obtain ⟨n, hn⟩ := t
  cases n with
  | zero => exact absurd rfl h
  | succ n => rfl

set_option maxHeartbeats 0

/-- The pieces of argument 10 (case N) cover its block. -/
theorem coverN_10 (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : ¬cond1 i) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (x15 : Vec F S256x2048 .bf16) (x16 : Vec F S2x256x1024 .bf16) (x17 : Vec F S2x256x256 .bf16) (x18 : Vec F S2x256x512 .bf16) (x19 : Vec F S2x256x512 .bf16) (x20 : Vec F S2x256x1024 .bf16) (x21 : Vec F S2x256x1024 .bf16) (x22 : Vec F S2x256x512 .f32) (x23 : Vec F S2x256x512 .f32) (x24 : Vec F S4x256x128 .f32) (x25 : Vec F S128x256 .bf16) (y : S256x1024.Idx) :
    ∃ p ∈ ((runN (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 x1 x2 x3 x4 x5 x6 x7 x8 x9 x15 x16 x17 x18 x19 x20 x21 x22 x23 x24 x25).1), y ∈ p.1.set := by
  exact View.cover_of_tiledBy ((runN (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 x1 x2 x3 x4 x5 x6 x7 x8 x9 x15 x16 x17 x18 x19 x20 x21 x22 x23 x24 x25).1) ![128, 256] (by sl_kernel_rfl) y

/-- The pieces of argument 11 (case N) cover its block. -/
theorem coverN_11 (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : ¬cond1 i) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (x15 : Vec F S256x2048 .bf16) (x16 : Vec F S2x256x1024 .bf16) (x17 : Vec F S2x256x256 .bf16) (x18 : Vec F S2x256x512 .bf16) (x19 : Vec F S2x256x512 .bf16) (x20 : Vec F S2x256x1024 .bf16) (x21 : Vec F S2x256x1024 .bf16) (x22 : Vec F S2x256x512 .f32) (x23 : Vec F S2x256x512 .f32) (x24 : Vec F S4x256x128 .f32) (x25 : Vec F S128x256 .bf16) (y : S256x1024.Idx) :
    ∃ p ∈ ((runN (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 x1 x2 x3 x4 x5 x6 x7 x8 x9 x15 x16 x17 x18 x19 x20 x21 x22 x23 x24 x25).2.1), y ∈ p.1.set := by
  exact View.cover_of_tiledBy ((runN (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 x1 x2 x3 x4 x5 x6 x7 x8 x9 x15 x16 x17 x18 x19 x20 x21 x22 x23 x24 x25).2.1) ![128, 128] (by sl_kernel_rfl) y

/-- The pieces of argument 12 (case N) cover its block. -/
theorem coverN_12 (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : ¬cond1 i) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (x15 : Vec F S256x2048 .bf16) (x16 : Vec F S2x256x1024 .bf16) (x17 : Vec F S2x256x256 .bf16) (x18 : Vec F S2x256x512 .bf16) (x19 : Vec F S2x256x512 .bf16) (x20 : Vec F S2x256x1024 .bf16) (x21 : Vec F S2x256x1024 .bf16) (x22 : Vec F S2x256x512 .f32) (x23 : Vec F S2x256x512 .f32) (x24 : Vec F S4x256x128 .f32) (x25 : Vec F S128x256 .bf16) (y : S32x2048.Idx) :
    ∃ p ∈ ((runN (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 x1 x2 x3 x4 x5 x6 x7 x8 x9 x15 x16 x17 x18 x19 x20 x21 x22 x23 x24 x25).2.2.1), y ∈ p.1.set := by
  exact View.cover_of_tiledBy ((runN (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 x1 x2 x3 x4 x5 x6 x7 x8 x9 x15 x16 x17 x18 x19 x20 x21 x22 x23 x24 x25).2.2.1) S32x2048.size (by sl_kernel_rfl) y

/-- The pieces of argument 13 (case N) cover its block. -/
theorem coverN_13 (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : ¬cond1 i) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (x15 : Vec F S256x2048 .bf16) (x16 : Vec F S2x256x1024 .bf16) (x17 : Vec F S2x256x256 .bf16) (x18 : Vec F S2x256x512 .bf16) (x19 : Vec F S2x256x512 .bf16) (x20 : Vec F S2x256x1024 .bf16) (x21 : Vec F S2x256x1024 .bf16) (x22 : Vec F S2x256x512 .f32) (x23 : Vec F S2x256x512 .f32) (x24 : Vec F S4x256x128 .f32) (x25 : Vec F S128x256 .bf16) (y : S2048x128.Idx) :
    ∃ p ∈ ((runN (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 x1 x2 x3 x4 x5 x6 x7 x8 x9 x15 x16 x17 x18 x19 x20 x21 x22 x23 x24 x25).2.2.2.1), y ∈ p.1.set := by
  exact View.cover_of_tiledBy ((runN (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 x1 x2 x3 x4 x5 x6 x7 x8 x9 x15 x16 x17 x18 x19 x20 x21 x22 x23 x24 x25).2.2.2.1) S2048x128.size (by sl_kernel_rfl) y

/-- The pieces of argument 14 (case N) cover its block. -/
theorem coverN_14 (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : ¬cond1 i) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (x15 : Vec F S256x2048 .bf16) (x16 : Vec F S2x256x1024 .bf16) (x17 : Vec F S2x256x256 .bf16) (x18 : Vec F S2x256x512 .bf16) (x19 : Vec F S2x256x512 .bf16) (x20 : Vec F S2x256x1024 .bf16) (x21 : Vec F S2x256x1024 .bf16) (x22 : Vec F S2x256x512 .f32) (x23 : Vec F S2x256x512 .f32) (x24 : Vec F S4x256x128 .f32) (x25 : Vec F S128x256 .bf16) (y : S128x2048.Idx) :
    ∃ p ∈ ((runN (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 x1 x2 x3 x4 x5 x6 x7 x8 x9 x15 x16 x17 x18 x19 x20 x21 x22 x23 x24 x25).2.2.2.2.1), y ∈ p.1.set := by
  exact View.cover_of_tiledBy ((runN (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 x1 x2 x3 x4 x5 x6 x7 x8 x9 x15 x16 x17 x18 x19 x20 x21 x22 x23 x24 x25).2.2.2.2.1) S128x2048.size (by sl_kernel_rfl) y

/-- The pieces of argument 15 (case A) cover its block. -/
theorem coverA_15 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S256x2048.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.1), y ∈ p.1.set := by
  exact View.cover_of_tiledBy ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.1) S256x2048.size (by sl_kernel_rfl) y

/-- The pieces of argument 16 (case A) cover its block. -/
theorem coverA_16 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S2x256x1024.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.1), y ∈ p.1.set := by
  exact View.cover_of_tiledBy ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.1) ![1, 256, 256] (by sl_kernel_rfl) y

/-- The pieces of argument 17 (case A) cover its block. -/
theorem coverA_17 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S2x256x256.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.1), y ∈ p.1.set := by
  exact View.cover_of_tiledBy ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.1) ![1, 256, 256] (by sl_kernel_rfl) y

/-- The pieces of argument 18 (case A) cover its block. -/
theorem coverA_18 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S2x256x512.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.1), y ∈ p.1.set := by
  exact View.cover_of_tiledBy ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.1) ![1, 256, 256] (by sl_kernel_rfl) y

/-- The pieces of argument 19 (case A) cover its block. -/
theorem coverA_19 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S2x256x512.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.2.1), y ∈ p.1.set := by
  exact View.cover_of_tiledBy ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.2.1) ![1, 256, 256] (by sl_kernel_rfl) y

/-- The pieces of argument 20 (case A) cover its block. -/
theorem coverA_20 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S2x256x1024.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.2.2.1), y ∈ p.1.set := by
  exact View.cover_of_tiledBy ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.2.2.1) ![1, 256, 256] (by sl_kernel_rfl) y

/-- The pieces of argument 21 (case A) cover its block. -/
theorem coverA_21 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S2x256x1024.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.2.2.2.1), y ∈ p.1.set := by
  exact View.cover_of_tiledBy ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.2.2.2.1) ![1, 256, 256] (by sl_kernel_rfl) y

/-- The pieces of argument 22 (case A) cover its block. -/
theorem coverA_22 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S2x256x512.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.2.2.2.2.1), y ∈ p.1.set := by
  exact View.cover_of_tiledBy ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.2.2.2.2.1) ![1, 256, 512] (by sl_kernel_rfl) y

/-- The pieces of argument 23 (case A) cover its block. -/
theorem coverA_23 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S2x256x512.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.2.2.2.2.2.1), y ∈ p.1.set := by
  exact View.cover_of_tiledBy ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.2.2.2.2.2.1) ![1, 128, 512] (by sl_kernel_rfl) y

/-- The pieces of argument 24 (case A) cover its block. -/
theorem coverA_24 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S4x256x128.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.2.2.2.2.2.2.1), y ∈ p.1.set := by
  exact View.cover_of_wholeMem ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.2.2.2.2.2.2.1) (by open View in sl_whole_mem) y

/-- The pieces of argument 25 (case A) cover its block. -/
theorem coverA_25 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S128x256.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.2.2.2.2.2.2.2.1), y ∈ p.1.set := by
  exact View.cover_of_wholeMem ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.2.2.2.2.2.2.2.2.2.2.2.1) (by open View in sl_whole_mem) y

/-- The pieces of argument 10 (case A) cover its block. -/
theorem coverA_10 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S256x1024.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).1), y ∈ p.1.set := by
  exact View.cover_of_tiledBy ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).1) ![128, 256] (by sl_kernel_rfl) y

/-- The pieces of argument 11 (case A) cover its block. -/
theorem coverA_11 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S256x1024.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.1), y ∈ p.1.set := by
  exact View.cover_of_tiledBy ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.1) ![128, 128] (by sl_kernel_rfl) y

/-- The pieces of argument 12 (case A) cover its block. -/
theorem coverA_12 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S32x2048.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.1), y ∈ p.1.set := by
  exact View.cover_of_tiledBy ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.1) S32x2048.size (by sl_kernel_rfl) y

/-- The pieces of argument 13 (case A) cover its block. -/
theorem coverA_13 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S2048x128.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.1), y ∈ p.1.set := by
  exact View.cover_of_tiledBy ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.1) S2048x128.size (by sl_kernel_rfl) y

/-- The pieces of argument 14 (case A) cover its block. -/
theorem coverA_14 (c : Dev nD)  (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S32x2048 .f32) (harg7 : arg7.IsWhole) (arg8 : Memref sig .tc .vmem S2048x128 .f32) (harg8 : arg8.IsWhole) (arg9 : Memref sig .tc .vmem S128x2048 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S2048x128 .bf16) (harg13 : arg13.IsWhole) (arg14 : Memref sig .tc .vmem S128x2048 .bf16) (harg14 : arg14.IsWhole) (arg15 : Memref sig .tc .vmem S256x2048 .bf16) (harg15 : arg15.IsWhole) (arg16 : Memref sig .tc .vmem S2x256x1024 .bf16) (harg16 : arg16.IsWhole) (arg17 : Memref sig .tc .vmem S2x256x256 .bf16) (harg17 : arg17.IsWhole) (arg18 : Memref sig .tc .vmem S2x256x512 .bf16) (harg18 : arg18.IsWhole) (arg19 : Memref sig .tc .vmem S2x256x512 .bf16) (harg19 : arg19.IsWhole) (arg20 : Memref sig .tc .vmem S2x256x1024 .bf16) (harg20 : arg20.IsWhole) (arg21 : Memref sig .tc .vmem S2x256x1024 .bf16) (harg21 : arg21.IsWhole) (arg22 : Memref sig .tc .vmem S2x256x512 .f32) (harg22 : arg22.IsWhole) (arg23 : Memref sig .tc .vmem S2x256x512 .f32) (harg23 : arg23.IsWhole) (arg24 : Memref sig .tc .vmem S4x256x128 .f32) (harg24 : arg24.IsWhole) (arg25 : Memref sig .tc .vmem S128x256 .bf16) (harg25 : arg25.IsWhole) (hc1 : cond1 i0) (hc2 : cond2 i0) (x1 : Vec F S16 .f32) (x2 : Vec F S256x2048 .f32) (x3 : Vec F S2048x4480 .bf16) (x4 : Vec F S128x512 .bf16) (x5 : Vec F S1x512 .f32) (x6 : Vec F S1x1024 .f32) (x7 : Vec F S32x2048 .f32) (x8 : Vec F S2048x128 .f32) (x9 : Vec F S128x2048 .f32) (y : S128x2048.Idx) :
    ∃ p ∈ ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.1), y ∈ p.1.set := by
  exact View.cover_of_tiledBy ((runA (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 x1 x2 x3 x4 x5 x6 x7 x8 x9).2.2.2.2.1) S128x2048.size (by sl_kernel_rfl) y

end Cert.Kernel2Ideal.Mix

end
-- ==== Proof.Mix.Dats.lean ====
module

public import proofs.«01_k».proof.Proof.Gen.Kernel2Ideal.Frame
public import proofs.«01_k».proof.Proof.Gen.Kernel2Ideal.Skeleton
public import proofs.«01_k».proof.Proof.Mix.Traj

@[expose] public section

set_option maxRecDepth 65536

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A buffer's elements at some contents are its memref at what is read there. -/
theorem owns_of_pts {c : Thread nD τ} {cs : Space} {s : Shape} {e : EltTy} {M : Memref sig c.2.kind cs s e} {g : Buf (Elt F) (M.view.loc c)} :
    (M.view.loc c ↦[M.view.set]{fullShare} g : sProp 𝕄) ⊢ owns c M fullShare (M.view.read (Elt F) g) := by
  unfold owns
  iintro H
  iexists g
  isplitr
  · ipureintro; rfl
  · iexact H

/-- A buffer's elements after stores that cover its block are its memref at what the stores put there. -/
theorem owns_of_cover {c : Thread nD τ} {cs : Space} {s : Shape} {e : EltTy} {M : Memref sig c.2.kind cs s e} (L : List (View.Piece (Elt F) s e))
    (h : ∀ y : s.Idx, ∃ p ∈ L, y ∈ p.1.set) :
    (iprop(∃ f, M.view.loc c ↦[M.view.set]{fullShare} M.view.writes (Elt F) f L) : sProp 𝕄) ⊢ owns c M fullShare (View.canon L) := by
  unfold owns
  iintro ⟨%f, H⟩
  iexists _
  isplitr
  swap
  · iexact H
  · ipureintro; exact View.read_writes_eq_canon _ _ _ h

/-- A memref at some contents is its buffer's elements at some contents. -/
theorem any_of_owns {c : Thread nD τ} {cs : Space} {s : Shape} {e : EltTy} {M : Memref sig c.2.kind cs s e} (x : Vec F s e) :
    (owns c M fullShare x : sProp 𝕄) ⊢ iprop(∃ f, M.view.loc c ↦[M.view.set]{fullShare} f) := by
  unfold owns
  iintro ⟨%f, %hf, H⟩
  iexists f
  iexact H

/-- The scratch buffers owned at the given contents. -/
def scOwns (c : Dev nD) (s : Scr F) : sProp 𝕄 := iprop(owns (c : Thread nD τ) scM0_0 fullShare s.s15 ∗ owns (c : Thread nD τ) scM0_1 fullShare s.s16 ∗ owns (c : Thread nD τ) scM0_2 fullShare s.s17 ∗ owns (c : Thread nD τ) scM0_3 fullShare s.s18 ∗ owns (c : Thread nD τ) scM0_4 fullShare s.s19 ∗ owns (c : Thread nD τ) scM0_5 fullShare s.s20 ∗ owns (c : Thread nD τ) scM0_6 fullShare s.s21 ∗ owns (c : Thread nD τ) scM0_7 fullShare s.s22 ∗ owns (c : Thread nD τ) scM0_8 fullShare s.s23 ∗ owns (c : Thread nD τ) scM0_9 fullShare s.s24 ∗ owns (c : Thread nD τ) scM0_10 fullShare s.s25)

/-- What the launch hands over, the scratch operands as memrefs at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, owns_whole]; try rfl

/-- The invariant between points: the scratch at what the points so far left in it. -/
def PhiS (c : Dev nD) : (n : ℕ) → n ≤ cfg0.N → sProp 𝕄
  | 0, _ => Pipeline.ΦA spec0 c
  | n + 1, hn => iprop(scOwns c (outsAt m c n hn).2 ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n + 1 ≤ cfg0.N) :
    PhiS m c (n + 1) hn = iprop(scOwns c (outsAt m c n hn).2 ∗ (∃ r, prngReg c r)) := rfl
theorem PhiS_pos (c : Dev nD) (n : ℕ) (h : n ≤ cfg0.N) (hz : n ≠ 0) :
    PhiS m c n h = iprop(scOwns c (outsAt m c (n - 1) (by omega)).2 ∗ (∃ r, prngReg c r)) := by
  cases n with
  | zero => exact absurd rfl hz
  | succ n => rfl

/-- The proof data: the arrays as the region finds them, each window's buffer after the body, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1.o10
    | ⟨10, _⟩ => (outsAt m c t.val t.isLt).1.o11
    | ⟨11, _⟩ => (outsAt m c t.val t.isLt).1.o12
    | ⟨12, _⟩ => (outsAt m c t.val t.isLt).1.o13
    | ⟨13, _⟩ => (outsAt m c t.val t.isLt).1.o14
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt m c t.val t.isLt).1.o10 := by dsimp only [dats]
theorem after0_10 (c : Dev nD) (t : Fin cfg0.N) : (dats m 0 c).after 10 t = (outsAt m c t.val t.isLt).1.o11 := by dsimp only [dats]
theorem after0_11 (c : Dev nD) (t : Fin cfg0.N) : (dats m 0 c).after 11 t = (outsAt m c t.val t.isLt).1.o12 := by dsimp only [dats]
theorem after0_12 (c : Dev nD) (t : Fin cfg0.N) : (dats m 0 c).after 12 t = (outsAt m c t.val t.isLt).1.o13 := by dsimp only [dats]
theorem after0_13 (c : Dev nD) (t : Fin cfg0.N) : (dats m 0 c).after 13 t = (outsAt m c t.val t.isLt).1.o14 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem leaves0_0 (c : Dev nD) (t : Fin cfg0.N) : (dats m 0 c).leavesExact 0 t = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t = owns (c : Thread nD τ) (ms0_2 t) fullShare ((dats m 0 c).after 2 t) := by
  unfold Dat.leavesExact; rw [liveAt0_2 t]
theorem leaves0_3 (c : Dev nD) (t : Fin cfg0.N) : (dats m 0 c).leavesExact 3 t = owns (c : Thread nD τ) (ms0_3 t) fullShare ((dats m 0 c).after 3 t) := by
  unfold Dat.leavesExact; rw [liveAt0_3 t]
theorem leaves0_4 (c : Dev nD) (t : Fin cfg0.N) : (dats m 0 c).leavesExact 4 t = owns (c : Thread nD τ) (ms0_4 t) fullShare ((dats m 0 c).after 4 t) := by
  unfold Dat.leavesExact; rw [liveAt0_4 t]
theorem leaves0_5 (c : Dev nD) (t : Fin cfg0.N) : (dats m 0 c).leavesExact 5 t = owns (c : Thread nD τ) (ms0_5 t) fullShare ((dats m 0 c).after 5 t) := by
  unfold Dat.leavesExact; rw [liveAt0_5 t]
theorem leaves0_6 (c : Dev nD) (t : Fin cfg0.N) : (dats m 0 c).leavesExact 6 t = owns (c : Thread nD τ) (ms0_6 t) fullShare ((dats m 0 c).after 6 t) := by
  unfold Dat.leavesExact; rw [liveAt0_6 t]
theorem leaves0_7 (c : Dev nD) (t : Fin cfg0.N) : (dats m 0 c).leavesExact 7 t = owns (c : Thread nD τ) (ms0_7 t) fullShare ((dats m 0 c).after 7 t) := by
  unfold Dat.leavesExact; rw [liveAt0_7 t]
theorem leaves0_8 (c : Dev nD) (t : Fin cfg0.N) : (dats m 0 c).leavesExact 8 t = owns (c : Thread nD τ) (ms0_8 t) fullShare ((dats m 0 c).after 8 t) := by
  unfold Dat.leavesExact; rw [liveAt0_8 t]
theorem leaves0_9 (c : Dev nD) (t : Fin cfg0.N) : (dats m 0 c).leavesExact 9 t = owns (c : Thread nD τ) (ms0_9 t) fullShare ((dats m 0 c).after 9 t) := by
  unfold Dat.leavesExact; rw [liveAt0_9 t]
theorem leaves0_10 (c : Dev nD) (t : Fin cfg0.N) : (dats m 0 c).leavesExact 10 t = owns (c : Thread nD τ) (ms0_10 t) fullShare ((dats m 0 c).after 10 t) := by
  unfold Dat.leavesExact; rw [liveAt0_10 t]
theorem leaves0_11 (c : Dev nD) (t : Fin cfg0.N) : (dats m 0 c).leavesExact 11 t = owns (c : Thread nD τ) (ms0_11 t) fullShare ((dats m 0 c).after 11 t) := by
  unfold Dat.leavesExact; rw [liveAt0_11 t]
theorem leaves0_12 (c : Dev nD) (t : Fin cfg0.N) : (dats m 0 c).leavesExact 12 t = owns (c : Thread nD τ) (ms0_12 t) fullShare ((dats m 0 c).after 12 t) := by
  unfold Dat.leavesExact; rw [liveAt0_12 t]
theorem leaves0_13 (c : Dev nD) (t : Fin cfg0.N) : (dats m 0 c).leavesExact 13 t = owns (c : Thread nD τ) (ms0_13 t) fullShare ((dats m 0 c).after 13 t) := by
  unfold Dat.leavesExact; rw [liveAt0_13 t]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t)

end Cert.Kernel2Ideal.Mix

end
-- ==== Proof.Mix.Covs.lean ====
module

public import proofs.«01_k».proof.Proof.Gen.Kernel2Ideal.Frame
public import proofs.«01_k».proof.Proof.Gen.Kernel2Ideal.Skeleton
public import proofs.«01_k».proof.Proof.Mix.Traj

@[expose] public section

set_option maxRecDepth 65536

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pieces of output 9 cover its block. -/
theorem covN_10 (c : Dev nD) (t : Fin cfg0.N) (h : ¬cond1 (grid0.coords t)) (s : Scr F) : ∀ y : S256x1024.Idx, ∃ p ∈ ((RN m c t h s).1), y ∈ p.1.set := by
  delta RN; exact coverN_10 (F := F) c (grid0.coords t) _ _ _ _ _ _ _ _ _ _ _ _ _ _ _ _ _ _ _ _ _ _ _ _ _ _ _ _ _ _ _ _ _ _ _ _ _ _ _ _ _ _ _ _ _ _ _ _ _ _  h _ _ _ _ _ _ _ _ _ _ _ _ _ _ _ _ _ _ _ _
/-- The pieces of output 10 cover its block. -/
theorem covN_11 (c : Dev nD) (t : Fin cfg0.N) (h : ¬cond1 (grid0.coords t)) (s : Scr F) : ∀ y : S256x1024.Idx, ∃ p ∈ ((RN m c t h s).2.1), y ∈ p.1.set := by
  delta RN; exact coverN_11 (F := F) c (grid0.coords t) _ _ _ _ _ _ _ _ _ _ _ _ _ _ _ _ _ _ _ _ _ _ _ _ _ _ _ _ _ _ _ _ _ _ _ _ _ _ _ _ _ _ _ _ _ _ _ _ _ _  h _ _ _ _ _ _ _ _ _ _ _ _ _ _ _ _ _ _ _ _
/-- The pieces of output 11 cover its block. -/
theorem covN_12 (c : Dev nD) (t : Fin cfg0.N) (h : ¬cond1 (grid0.coords t)) (s : Scr F) : ∀ y : S32x2048.Idx, ∃ p ∈ ((RN m c t h s).2.2.1), y ∈ p.1.set := by
  delta RN; exact coverN_12 (F := F) c (grid0.coords t) _ _ _ _ _ _ _ _ _ _ _ _ _ _ _ _ _ _ _ _ _ _ _ _ _ _ _ _ _ _ _ _ _ _ _ _ _ _ _ _ _ _ _ _ _ _ _ _ _ _  h _ _ _ _ _ _ _ _ _ _ _ _ _ _ _ _ _ _ _ _
/-- The pieces of output 12 cover its block. -/
theorem covN_13 (c : Dev nD) (t : Fin cfg0.N) (h : ¬cond1 (grid0.coords t)) (s : Scr F) : ∀ y : S2048x128.Idx, ∃ p ∈ ((RN m c t h s).2.2.2.1), y ∈ p.1.set := by
  delta RN; exact coverN_13 (F := F) c (grid0.coords t) _ _ _ _ _ _ _ _ _ _ _ _ _ _ _ _ _ _ _ _ _ _ _ _ _ _ _ _ _ _ _ _ _ _ _ _ _ _ _ _ _ _ _ _ _ _ _ _ _ _  h _ _ _ _ _ _ _ _ _ _ _ _ _ _ _ _ _ _ _ _
/-- The pieces of output 13 cover its block. -/
theorem covN_14 (c : Dev nD) (t : Fin cfg0.N) (h : ¬cond1 (grid0.coords t)) (s : Scr F) : ∀ y : S128x2048.Idx, ∃ p ∈ ((RN m c t h s).2.2.2.2.1), y ∈ p.1.set := by
  delta RN; exact coverN_14 (F := F) c (grid0.coords t) _ _ _ _ _ _ _ _ _ _ _ _ _ _ _ _ _ _ _ _ _ _ _ _ _ _ _ _ _ _ _ _ _ _ _ _ _ _ _ _ _ _ _ _ _ _ _ _ _ _  h _ _ _ _ _ _ _ _ _ _ _ _ _ _ _ _ _ _ _ _
theorem covA_10 (c : Dev nD) : ∀ y : S256x1024.Idx, ∃ p ∈ ((RA m c).1), y ∈ p.1.set := by
  delta RA; exact coverA_10 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_11 (c : Dev nD) : ∀ y : S256x1024.Idx, ∃ p ∈ ((RA m c).2.1), y ∈ p.1.set := by
  delta RA; exact coverA_11 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_12 (c : Dev nD) : ∀ y : S32x2048.Idx, ∃ p ∈ ((RA m c).2.2.1), y ∈ p.1.set := by
  delta RA; exact coverA_12 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_13 (c : Dev nD) : ∀ y : S2048x128.Idx, ∃ p ∈ ((RA m c).2.2.2.1), y ∈ p.1.set := by
  delta RA; exact coverA_13 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_14 (c : Dev nD) : ∀ y : S128x2048.Idx, ∃ p ∈ ((RA m c).2.2.2.2.1), y ∈ p.1.set := by
  delta RA; exact coverA_14 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_15 (c : Dev nD) : ∀ y : S256x2048.Idx, ∃ p ∈ ((RA m c).2.2.2.2.2.1), y ∈ p.1.set := by
  delta RA; exact coverA_15 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_16 (c : Dev nD) : ∀ y : S2x256x1024.Idx, ∃ p ∈ ((RA m c).2.2.2.2.2.2.1), y ∈ p.1.set := by
  delta RA; exact coverA_16 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_17 (c : Dev nD) : ∀ y : S2x256x256.Idx, ∃ p ∈ ((RA m c).2.2.2.2.2.2.2.1), y ∈ p.1.set := by
  delta RA; exact coverA_17 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_18 (c : Dev nD) : ∀ y : S2x256x512.Idx, ∃ p ∈ ((RA m c).2.2.2.2.2.2.2.2.1), y ∈ p.1.set := by
  delta RA; exact coverA_18 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_19 (c : Dev nD) : ∀ y : S2x256x512.Idx, ∃ p ∈ ((RA m c).2.2.2.2.2.2.2.2.2.1), y ∈ p.1.set := by
  delta RA; exact coverA_19 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_20 (c : Dev nD) : ∀ y : S2x256x1024.Idx, ∃ p ∈ ((RA m c).2.2.2.2.2.2.2.2.2.2.1), y ∈ p.1.set := by
  delta RA; exact coverA_20 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_21 (c : Dev nD) : ∀ y : S2x256x1024.Idx, ∃ p ∈ ((RA m c).2.2.2.2.2.2.2.2.2.2.2.1), y ∈ p.1.set := by
  delta RA; exact coverA_21 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_22 (c : Dev nD) : ∀ y : S2x256x512.Idx, ∃ p ∈ ((RA m c).2.2.2.2.2.2.2.2.2.2.2.2.1), y ∈ p.1.set := by
  delta RA; exact coverA_22 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_23 (c : Dev nD) : ∀ y : S2x256x512.Idx, ∃ p ∈ ((RA m c).2.2.2.2.2.2.2.2.2.2.2.2.2.1), y ∈ p.1.set := by
  delta RA; exact coverA_23 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_24 (c : Dev nD) : ∀ y : S4x256x128.Idx, ∃ p ∈ ((RA m c).2.2.2.2.2.2.2.2.2.2.2.2.2.2.1), y ∈ p.1.set := by
  delta RA; exact coverA_24 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _
theorem covA_25 (c : Dev nD) : ∀ y : S128x256.Idx, ∃ p ∈ ((RA m c).2.2.2.2.2.2.2.2.2.2.2.2.2.2.2.1), y ∈ p.1.set := by
  delta RA; exact coverA_25 (F := F) c _ _ _ _ _ _ _ _ _ _ _ _ _ _ _ _ _ _ _ _ _ _ _ _ _ _ _ _ _ _ _ _ _ _ _ _ _ _ _ _ _ _ _ _ _ _ _ _ _ _  cond1_i0 cond2_i0 _ _ _ _ _ _ _ _ _

end Cert.Kernel2Ideal.Mix

end
-- ==== Proof.Mix.SoundA.lean ====
module

public import proofs.«01_k».proof.Proof.Gen.Kernel2Ideal.Frame
public import proofs.«01_k».proof.Proof.Gen.Kernel2Ideal.Skeleton
public import proofs.«01_k».proof.Proof.Mix.Dats
public import proofs.«01_k».proof.Proof.Mix.Covs

@[expose] public section

set_option maxRecDepth 65536

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at the first point. -/
theorem sound_A (c : Dev nD) :
    bodyPre m c t0 ⊢ wp frame (wpE (defs₀ (F := F)) Variants.none c none) Set.univ (bodyAt0 t0) (fun _ => bodyPost m c t0) := by
  unfold bodyPre bodyPost bodyAt0
  simp only [before0_0, before0_1, before0_2, before0_3, before0_4, before0_5, before0_6, before0_7, before0_8]
  rw [show (dats m 0 c).owesAt () t0.succ = (dats m 0 c).owesAt () t0.castSucc from rfl]
  rw [show (dats m 0 c).Φ t0.succ = PhiS m c (t0.val + 1) t0.isLt from rfl, PhiS_succ]
  rw [leaves0_0 m c t0, leaves0_1 m c t0, leaves0_2 m c t0, leaves0_3 m c t0, leaves0_4 m c t0, leaves0_5 m c t0, leaves0_6 m c t0, leaves0_7 m c t0, leaves0_8 m c t0, leaves0_9 m c t0, leaves0_10 m c t0, leaves0_11 m c t0, leaves0_12 m c t0, leaves0_13 m c t0]
  rw [after0_0 m c t0, after0_1 m c t0, after0_2 m c t0, after0_3 m c t0, after0_4 m c t0, after0_5 m c t0, after0_6 m c t0, after0_7 m c t0, after0_8 m c t0, after0_9 m c t0, after0_10 m c t0, after0_11 m c t0, after0_12 m c t0, after0_13 m c t0]
  rw [PhiS_castSucc m c t0, PhiS_zero m c _ _ rfl, PhiA0_eq]
  rw [show outsAt m c (t0 : Fin cfg0.N).val t0.isLt = stepA m c from rfl]
  rw [coords_t0]
  unfold scOwns stepA; dsimp only
  iintro ⟨⟨⟨⟨%d15, HS15⟩, ⟨%d16, HS16⟩, ⟨%d17, HS17⟩, ⟨%d18, HS18⟩, ⟨%d19, HS19⟩, ⟨%d20, HS20⟩, ⟨%d21, HS21⟩, ⟨%d22, HS22⟩, ⟨%d23, HS23⟩, ⟨%d24, HS24⟩, ⟨%d25, HS25⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
  iapply ((RA m c).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (any_of_owns _); iexact H9
  isplitl [H10]; · iapply (any_of_owns _); iexact H10
  isplitl [H11]; · iapply (any_of_owns _); iexact H11
  isplitl [H12]; · iapply (any_of_owns _); iexact H12
  isplitl [H13]; · iapply (any_of_owns _); iexact H13
  isplitl [HS15]; · iapply (any_of_owns _); iexact HS15
  isplitl [HS16]; · iapply (any_of_owns _); iexact HS16
  isplitl [HS17]; · iapply (any_of_owns _); iexact HS17
  isplitl [HS18]; · iapply (any_of_owns _); iexact HS18
  isplitl [HS19]; · iapply (any_of_owns _); iexact HS19
  isplitl [HS20]; · iapply (any_of_owns _); iexact HS20
  isplitl [HS21]; · iapply (any_of_owns _); iexact HS21
  isplitl [HS22]; · iapply (any_of_owns _); iexact HS22
  isplitl [HS23]; · iapply (any_of_owns _); iexact HS23
  isplitl [HS24]; · iapply (any_of_owns _); iexact HS24
  isplitl [HS25]; · iapply (any_of_owns _); iexact HS25
  iintro ⟨H0, H1, H2, H3, H4, H5, H6, H7, H8, H9, H10, H11, H12, H13, HS15, HS16, HS17, HS18, HS19, HS20, HS21, HS22, HS23, HS24, HS25⟩
  isplitl [HS15 HS16 HS17 HS18 HS19 HS20 HS21 HS22 HS23 HS24 HS25 Hg]
  · isplitl [HS15 HS16 HS17 HS18 HS19 HS20 HS21 HS22 HS23 HS24 HS25]
    · isplitl [HS15]; · iapply (owns_of_cover (c := (c : Thread nD τ)) (M := scM0_0) _ (covA_15 m c)); iexact HS15
      isplitl [HS16]; · iapply (owns_of_cover (c := (c : Thread nD τ)) (M := scM0_1) _ (covA_16 m c)); iexact HS16
      isplitl [HS17]; · iapply (owns_of_cover (c := (c : Thread nD τ)) (M := scM0_2) _ (covA_17 m c)); iexact HS17
      isplitl [HS18]; · iapply (owns_of_cover (c := (c : Thread nD τ)) (M := scM0_3) _ (covA_18 m c)); iexact HS18
      isplitl [HS19]; · iapply (owns_of_cover (c := (c : Thread nD τ)) (M := scM0_4) _ (covA_19 m c)); iexact HS19
      isplitl [HS20]; · iapply (owns_of_cover (c := (c : Thread nD τ)) (M := scM0_5) _ (covA_20 m c)); iexact HS20
      isplitl [HS21]; · iapply (owns_of_cover (c := (c : Thread nD τ)) (M := scM0_6) _ (covA_21 m c)); iexact HS21
      isplitl [HS22]; · iapply (owns_of_cover (c := (c : Thread nD τ)) (M := scM0_7) _ (covA_22 m c)); iexact HS22
      isplitl [HS23]; · iapply (owns_of_cover (c := (c : Thread nD τ)) (M := scM0_8) _ (covA_23 m c)); iexact HS23
      isplitl [HS24]; · iapply (owns_of_cover (c := (c : Thread nD τ)) (M := scM0_9) _ (covA_24 m c)); iexact HS24
      iapply (owns_of_cover (c := (c : Thread nD τ)) (M := scM0_10) _ (covA_25 m c)); iexact HS25
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (owns_of_cover (c := (c : Thread nD τ)) (M := (ms0_9 t0)) _ (covA_10 m c)); iexact H9
  isplitl [H10]; · iapply (owns_of_cover (c := (c : Thread nD τ)) (M := (ms0_10 t0)) _ (covA_11 m c)); iexact H10
  isplitl [H11]; · iapply (owns_of_cover (c := (c : Thread nD τ)) (M := (ms0_11 t0)) _ (covA_12 m c)); iexact H11
  isplitl [H12]; · iapply (owns_of_cover (c := (c : Thread nD τ)) (M := (ms0_12 t0)) _ (covA_13 m c)); iexact H12
  iapply (owns_of_cover (c := (c : Thread nD τ)) (M := (ms0_13 t0)) _ (covA_14 m c)); iexact H13

end Cert.Kernel2Ideal.Mix

end
-- ==== Proof.Mix.SoundN.lean ====
module

public import proofs.«01_k».proof.Proof.Gen.Kernel2Ideal.Frame
public import proofs.«01_k».proof.Proof.Gen.Kernel2Ideal.Skeleton
public import proofs.«01_k».proof.Proof.Mix.Dats
public import proofs.«01_k».proof.Proof.Mix.Covs

@[expose] public section

set_option maxRecDepth 65536

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at a later point. -/
theorem sound_N (c : Dev nD) (t : Fin cfg0.N) (h : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t, leaves0_13 m c t]
  rw [after0_0 m c t, after0_1 m c t, after0_2 m c t, after0_3 m c t, after0_4 m c t, after0_5 m c t, after0_6 m c t, after0_7 m c t, after0_8 m c t, after0_9 m c t, after0_10 m c t, after0_11 m c t, after0_12 m c t, after0_13 m c t]
  rw [PhiS_castSucc m c t, PhiS_pos m c _ _ h]
  rw [outsAt_pos m c t h]
  generalize (outsAt m c (t.val - 1) (Nat.lt_of_le_of_lt (Nat.sub_le _ _) t.isLt)).2 = s
  unfold scOwns stepN; dsimp only
  iintro ⟨⟨⟨HS15, HS16, HS17, HS18, HS19, HS20, HS21, HS22, HS23, HS24, HS25⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
  iapply ((RN m c t (fun h' => h ((hcond1 t).mp h')) s).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (any_of_owns _); iexact H9
  isplitl [H10]; · iapply (any_of_owns _); iexact H10
  isplitl [H11]; · iapply (any_of_owns _); iexact H11
  isplitl [H12]; · iapply (any_of_owns _); iexact H12
  isplitl [H13]; · iapply (any_of_owns _); iexact H13
  isplitl [HS15]; · iexact HS15
  isplitl [HS16]; · iexact HS16
  isplitl [HS17]; · iexact HS17
  isplitl [HS18]; · iexact HS18
  isplitl [HS19]; · iexact HS19
  isplitl [HS20]; · iexact HS20
  isplitl [HS21]; · iexact HS21
  isplitl [HS22]; · iexact HS22
  isplitl [HS23]; · iexact HS23
  isplitl [HS24]; · iexact HS24
  isplitl [HS25]; · iexact HS25
  iintro ⟨H0, H1, H2, H3, H4, H5, H6, H7, H8, H9, H10, H11, H12, H13, HS15, HS16, HS17, HS18, HS19, HS20, HS21, HS22, HS23, HS24, HS25⟩
  isplitl [HS15 HS16 HS17 HS18 HS19 HS20 HS21 HS22 HS23 HS24 HS25 Hg]
  · isplitl [HS15 HS16 HS17 HS18 HS19 HS20 HS21 HS22 HS23 HS24 HS25]
    · isplitl [HS15]; · iapply owns_of_pts; iexact HS15
      isplitl [HS16]; · iapply owns_of_pts; iexact HS16
      isplitl [HS17]; · iapply owns_of_pts; iexact HS17
      isplitl [HS18]; · iapply owns_of_pts; iexact HS18
      isplitl [HS19]; · iapply owns_of_pts; iexact HS19
      isplitl [HS20]; · iapply owns_of_pts; iexact HS20
      isplitl [HS21]; · iapply owns_of_pts; iexact HS21
      isplitl [HS22]; · iapply owns_of_pts; iexact HS22
      isplitl [HS23]; · iapply owns_of_pts; iexact HS23
      isplitl [HS24]; · iapply owns_of_pts; iexact HS24
      iapply owns_of_pts; iexact HS25
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (owns_of_cover (c := (c : Thread nD τ)) (M := (ms0_9 t)) _ (covN_10 m c t _ s)); iexact H9
  isplitl [H10]; · iapply (owns_of_cover (c := (c : Thread nD τ)) (M := (ms0_10 t)) _ (covN_11 m c t _ s)); iexact H10
  isplitl [H11]; · iapply (owns_of_cover (c := (c : Thread nD τ)) (M := (ms0_11 t)) _ (covN_12 m c t _ s)); iexact H11
  isplitl [H12]; · iapply (owns_of_cover (c := (c : Thread nD τ)) (M := (ms0_12 t)) _ (covN_13 m c t _ s)); iexact H12
  iapply (owns_of_cover (c := (c : Thread nD τ)) (M := (ms0_13 t)) _ (covN_14 m c t _ s)); iexact H13

end Cert.Kernel2Ideal.Mix

end
-- ==== Proof.Mix.Frame.lean ====
module

public import proofs.«01_k».proof.Proof.Gen.Kernel2Ideal.Frame
public import proofs.«01_k».proof.Proof.Gen.Kernel2Ideal.Skeleton
public import proofs.«01_k».proof.Proof.Mix.SoundA
public import proofs.«01_k».proof.Proof.Mix.SoundN
public import Idealize.ShloMosaic.Lib.Claim

@[expose] public section

set_option maxRecDepth 65536

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · obtain rfl : t = t0 := Fin.ext h
    exact sound_A m c
  · exact sound_N m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold scOwns
  iintro ⟨⟨HS15, HS16, HS17, HS18, HS19, HS20, HS21, HS22, HS23, HS24, HS25⟩, Hg⟩
  isplitl [HS15 HS16 HS17 HS18 HS19 HS20 HS21 HS22 HS23 HS24 HS25]
  · isplitl [HS15]; · iexists _; iexact HS15
    isplitl [HS16]; · iexists _; iexact HS16
    isplitl [HS17]; · iexists _; iexact HS17
    isplitl [HS18]; · iexists _; iexact HS18
    isplitl [HS19]; · iexists _; iexact HS19
    isplitl [HS20]; · iexists _; iexact HS20
    isplitl [HS21]; · iexists _; iexact HS21
    isplitl [HS22]; · iexists _; iexact HS22
    isplitl [HS23]; · iexists _; iexact HS23
    isplitl [HS24]; · iexists _; iexact HS24
    iexists _; iexact HS25
  · iexact Hg

theorem hout (c : Dev nD) : (dats m 0 c).Φ (Fin.last cfg0.N) ⊢ Pipeline.ΦA spec0 c :=
  Phi_out m c _ (by rw [Fin.val_last]; have : cfg0.N = 65 := N_0; omega)

set_option backward.isDefEq.respectTransparency.types false in
/-- The launch, with every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel2Ideal.Mix

end
-- ==== Proof.Mix.Mod.lean ====
module

public import proofs.«01_k».proof.Proof.Gen.Kernel2Ideal.Skeleton
public import proofs.«01_k».proof.Proof.Mix.RunN

@[expose] public section

set_option maxRecDepth 65536

noncomputable section

namespace Cert.Kernel2Ideal.Mix

open Cert.Kernel2Ideal.Gen
open Idealize.ShloMosaic Idealize.ShloMosaic.TcCoe Idealize.ShloMosaic.Tactic

variable {F : FTy → Type} [FloatOps F] [Named F]

/-- A pair's row block and a head's column block of the scores. -/
theorem slS : ∀ (p : Fin 4) (a : Fin 2), S512x512.Slices ![128 * p.val, 256 * a.val] S128x256 := by decide
/-- A pair's row block of the weighted sums. -/
theorem slO : ∀ p : Fin 4, S512x256.Slices ![128 * p.val, 0] S128x256 := by decide

/-- All scores of one key head against four pairs of query heads. -/
def scores (kr : FVec F S256x128 .f32) (q : Fin 4 → Vec F S1x128x128 .bf16) : FVec F S512x512 .f32 := k0_pay40 kr k0_pay32 (q 0) (q 1) (q 2) (q 3)
/-- One head's scores, the two blocks' columns folded into one by the window's mask. -/
def fold (pen : Option (F .f32)) (A : FVec F S128x256 .f32) : FVec F S128x128 .f32 :=
  match pen with
  | some u => select k0_pay33 (addf (extractStridedSlice S128x128 ![0, 0] A slices_S128x256_o0_0_S128x128) (broadcast S128x128 u)) (extractStridedSlice S128x128 ![0, 128] A slices_S128x256_o0_128_S128x128)
  | none => select k0_pay33 (extractStridedSlice S128x128 ![0, 0] A slices_S128x256_o0_0_S128x128) (extractStridedSlice S128x128 ![0, 128] A slices_S128x256_o0_128_S128x128)
/-- The row maxima of one head's scores. -/
def rmax (s : FVec F S128x128 .f32) : FVec F S128 .f32 := multiReduction .maximumf [1] S128 s 0xFF800000#32 reduces_S128x128_S128 (.inl rfl) rfl
/-- One head's weights, unfolded to both blocks. -/
def wts (s : FVec F S128x128 .f32) (sk : F .f32) : FVec F S128x256 .bf16 := k0_pay45 k0_pay33 (k0_pay41 sk) s (rmax s)
/-- The sink's own weight. -/
def snk (s : FVec F S128x128 .f32) (sk : F .f32) : FVec F S128x1 .f32 := k0_pay46 (k0_pay41 sk) (rmax s)
/-- Four pairs' weights, one head of each, times the values and a column of ones. -/
def wsum (w : Fin 4 → FVec F S128x256 .bf16) (v : FVec F S256x256 .bf16) : FVec F S512x256 .f32 :=
  matmul dot_S512x256_S256x256_S512x256_1_0_0_1_n_n none (concatenate S512x256 0 [⟨S128x256, w 0⟩, ⟨S128x256, w 1⟩, ⟨S128x256, w 2⟩, ⟨S128x256, w 3⟩] concatenates_S128x256_S128x256_S128x256_S128x256_S512x256_d0) v (constant S512x256 .f32 0x00000000#32)
/-- One head's folded scores out of all. -/
def hs (pen : Option (F .f32)) (kr : FVec F S256x128 .f32) (q : Fin 4 → Vec F S1x128x128 .bf16) (p : Fin 4) (a : Fin 2) : FVec F S128x128 .f32 :=
  fold pen (extractStridedSlice S128x256 ![128 * p.val, 256 * a.val] (scores kr q) (slS p a))
/-- Both heads of every pair: the weighted sums beside the weights' totals. -/
def sums (pen : Option (F .f32)) (kr vr : FVec F S256x128 .f32) (q : Fin 4 → Vec F S1x128x128 .bf16) (sk : Fin 4 → Fin 2 → F .f32) : FVec F S512x256 .f32 :=
  addf (wsum (fun p => wts (hs pen kr q p 0) (sk p 0)) (k0_pay38 vr k0_pay32)) (wsum (fun p => wts (hs pen kr q p 1) (sk p 1)) (k0_pay39 vr k0_pay32))
/-- One pair's block of the result. -/
def outp (pen : Option (F .f32)) (kr vr : FVec F S256x128 .f32) (q : Fin 4 → Vec F S1x128x128 .bf16) (sk : Fin 4 → Fin 2 → F .f32) (p : Fin 4) : FVec F S128x128 .bf16 :=
  let A : FVec F S128x256 .f32 := extractStridedSlice S128x256 ![128 * p.val, 0] (sums pen kr vr q sk) (slO p)
  let d : FVec F S128x128 .f32 := addf (extractStridedSlice S128x128 ![0, 128] A slices_S128x256_o0_128_S128x128)
    (select k0_pay34 (broadcastTo S128x128 (shapeCast S128x1 (snk (hs pen kr q p 0) (sk p 0)) shapeCasts_S128x1_S128x1) broadcasts_S128x1_S128x128)
      (broadcastTo S128x128 (shapeCast S128x1 (snk (hs pen kr q p 1) (sk p 1)) shapeCasts_S128x1_S128x1) broadcasts_S128x1_S128x128))
  truncf .bf16 (divf (extractStridedSlice S128x128 ![0, 0] A slices_S128x256_o0_0_S128x128) d) bitsLt_bf16_f32

end Cert.Kernel2Ideal.Mix

end
-- ==== Proof.Mix.Val.lean ====
module

public import proofs.«01_k».proof.Proof.Mix.Mod
public import Idealize.ShloMosaic.Lib.Pointwise

@[expose] public section

set_option maxRecDepth 65536

noncomputable section

namespace Cert.Kernel2Ideal.Mix

open Cert.Kernel2Ideal.Gen
open Idealize.ShloMosaic Idealize.ShloMosaic.TcCoe Idealize.ShloMosaic.Tactic

theorem bit_slt : ∀ x : Fin 128, IntOp.cmpi CmpIPredicate.slt (BitVec.ofNat 32 x.val) 64#32 = if x.val < 64 then 1#1 else 0#1 := by decide +kernel
theorem bit_sgt : ∀ l r : Fin 128, IntOp.cmpi CmpIPredicate.sgt (BitVec.ofNat 32 l.val) (BitVec.ofNat 32 r.val) = if r.val < l.val then 1#1 else 0#1 := by decide +kernel
theorem sel_slt {α : Type} (x : Fin 128) (a b : α) : Scalar.select (IntOp.cmpi CmpIPredicate.slt (BitVec.ofNat 32 x.val) 64#32) a b = if x.val < 64 then a else b := by
  rw [bit_slt]; split <;> rfl
theorem sel_slt' {α : Type} (x : ℕ) (h : x < 128) (a b : α) : Scalar.select (IntOp.cmpi CmpIPredicate.slt (BitVec.ofNat 32 x) 64#32) a b = if x < 64 then a else b :=
  sel_slt ⟨x, h⟩ a b
theorem sel_sgt {α : Type} (l r : Fin 128) (a b : α) : Scalar.select (IntOp.cmpi CmpIPredicate.sgt (BitVec.ofNat 32 l.val) (BitVec.ofNat 32 r.val)) a b = if r.val < l.val then a else b := by
  rw [bit_sgt]; split <;> rfl

theorem sum_lo (g : Fin 128 → EReal) : (∑ x : Fin 128, if x.val < 64 then g x else 0) = ∑ d : Fin 64, g ⟨d.val, by omega⟩ := by
  have e := Fin.sum_univ_add (a := 64) (b := 64) (fun x : Fin (64 + 64) => if x.val < 64 then g x else (0 : EReal))
  have e2 : (∑ d : Fin 64, if (Fin.castAdd 64 d : Fin (64 + 64)).val < 64 then g (Fin.castAdd 64 d) else (0 : EReal)) = ∑ d : Fin 64, g ⟨d.val, by omega⟩ :=
    Finset.sum_congr rfl (fun d _ => if_pos d.isLt)
  refine e.trans ?_
  rw [e2, Finset.sum_eq_zero (s := Finset.univ) (f := fun d : Fin 64 => if (Fin.natAdd 64 d : Fin (64 + 64)).val < 64 then g (Fin.natAdd 64 d) else (0 : EReal))
      (fun d _ => if_neg (by simp [Fin.natAdd])), add_zero]
theorem sum_hi (g : Fin 128 → EReal) : (∑ x : Fin 128, if (x.val + 128 - 64) % 128 < 64 then g x else 0) = ∑ d : Fin 64, g ⟨64 + d.val, by omega⟩ := by
  have e := Fin.sum_univ_add (a := 64) (b := 64) (fun x : Fin (64 + 64) => if (x.val + 128 - 64) % 128 < 64 then g x else (0 : EReal))
  refine e.trans ?_
  rw [Finset.sum_eq_zero (s := Finset.univ) (f := fun d : Fin 64 => if ((Fin.castAdd 64 d : Fin (64 + 64)).val + 128 - 64) % 128 < 64 then g (Fin.castAdd 64 d) else (0 : EReal))
      (fun d _ => if_neg (by simp only [Fin.val_castAdd]; omega)), zero_add]
  exact Finset.sum_congr rfl fun d _ => if_pos (by simp only [Fin.val_natAdd]; omega)

/-- The inner product of a query row of head `a` of a pair with a key row. -/
def dotS (kr : FVec Ideal S256x128 .f32) (q : Vec Ideal S1x128x128 .bf16) (a : Fin 2) (r : Fin 128) (kk : Fin 256) : EReal :=
  ∑ d : Fin 64, q (ix3 0 r ⟨64 * a.val + d.val, by omega⟩) * kr (ix2 kk ⟨d.val, by omega⟩)
/-- The folded scores over a row of 256. -/
def foldR (pen : Option EReal) (S : Fin 256 → EReal) (r l : Fin 128) : EReal :=
  if r.val < l.val then (match pen with | some u => S ⟨l.val, by omega⟩ + u | none => S ⟨l.val, by omega⟩) else S ⟨128 + l.val, by omega⟩

theorem fold_some (u : EReal) (A : FVec Ideal S128x256 .f32) (r l : Fin 128) : fold (F := Ideal) (some u) A (ix2 r l) = foldR (some u) (fun kk => A (ix2 r kk)) r l := by
  pointwise [fold, k0_pay33]
  rw [sel_sgt]; rfl
theorem fold_none (A : FVec Ideal S128x256 .f32) (r l : Fin 128) : fold (F := Ideal) none A (ix2 r l) = foldR none (fun kk => A (ix2 r kk)) r l := by
  pointwise [fold, k0_pay33]
  rw [sel_sgt]; rfl
theorem fold_at (pen : Option EReal) (A : FVec Ideal S128x256 .f32) (r l : Fin 128) : fold (F := Ideal) pen A (ix2 r l) = foldR pen (fun kk => A (ix2 r kk)) r l := by
  cases pen
  · exact fold_none A r l
  · exact fold_some _ A r l

theorem sc00 (kr : FVec Ideal S256x128 .f32) (q : Fin 4 → Vec Ideal S1x128x128 .bf16) (r : Fin 128) (kk : Fin 256) :
    extractStridedSlice S128x256 ![128 * (0 : Fin 4).val, 256 * (0 : Fin 2).val] (scores kr q) (slS 0 0) (ix2 r kk) = dotS kr (q 0) 0 r kk := by
  pointwise [scores, k0_pay40, k0_pay32]
  simp only [sel_slt]
  refine (sum_lo _).trans (Finset.sum_congr rfl fun d _ => ?_)
  simp
theorem sc01 (kr : FVec Ideal S256x128 .f32) (q : Fin 4 → Vec Ideal S1x128x128 .bf16) (r : Fin 128) (kk : Fin 256) :
    extractStridedSlice S128x256 ![128 * (0 : Fin 4).val, 256 * (1 : Fin 2).val] (scores kr q) (slS 0 1) (ix2 r kk) = dotS kr (q 0) 1 r kk := by
  pointwise [scores, k0_pay40, k0_pay32]
  refine (Finset.sum_congr rfl fun x _ => sel_slt' _ (by omega) _ _).trans ?_
  refine (Finset.sum_congr rfl fun x _ => ?_).trans ((sum_hi (fun x => q 0 (ix3 0 r x) * kr (ix2 kk ⟨(x.val + 128 - 64) % 128, by omega⟩))).trans (Finset.sum_congr rfl fun d _ => ?_))
  · rfl
  · have e : (⟨(64 + d.val + 128 - 64) % 128, by omega⟩ : Fin 128) = ⟨d.val, by omega⟩ := Fin.ext (by simp only []; omega)
    simp only [e]; rfl
theorem ws0 (w : Fin 4 → FVec Ideal S128x256 .bf16) (v : FVec Ideal S256x256 .bf16) (r : Fin 128) (x : Fin 256) :
    extractStridedSlice S128x256 ![128 * (0 : Fin 4).val, 0] (wsum w v) (slO 0) (ix2 r x) = ∑ k, w 0 (ix2 r k) * v (ix2 k x) := by
  pointwise [wsum]
theorem sc10 (kr : FVec Ideal S256x128 .f32) (q : Fin 4 → Vec Ideal S1x128x128 .bf16) (r : Fin 128) (kk : Fin 256) :
    extractStridedSlice S128x256 ![128 * (1 : Fin 4).val, 256 * (0 : Fin 2).val] (scores kr q) (slS 1 0) (ix2 r kk) = dotS kr (q 1) 0 r kk := by
  pointwise [scores, k0_pay40, k0_pay32]
  simp only [sel_slt]
  refine (sum_lo _).trans (Finset.sum_congr rfl fun d _ => ?_)
  simp
theorem sc11 (kr : FVec Ideal S256x128 .f32) (q : Fin 4 → Vec Ideal S1x128x128 .bf16) (r : Fin 128) (kk : Fin 256) :
    extractStridedSlice S128x256 ![128 * (1 : Fin 4).val, 256 * (1 : Fin 2).val] (scores kr q) (slS 1 1) (ix2 r kk) = dotS kr (q 1) 1 r kk := by
  pointwise [scores, k0_pay40, k0_pay32]
  refine (Finset.sum_congr rfl fun x _ => sel_slt' _ (by omega) _ _).trans ?_
  refine (Finset.sum_congr rfl fun x _ => ?_).trans ((sum_hi (fun x => q 1 (ix3 0 r x) * kr (ix2 kk ⟨(x.val + 128 - 64) % 128, by omega⟩))).trans (Finset.sum_congr rfl fun d _ => ?_))
  · rfl
  · have e : (⟨(64 + d.val + 128 - 64) % 128, by omega⟩ : Fin 128) = ⟨d.val, by omega⟩ := Fin.ext (by simp only []; omega)
    simp only [e]; rfl
theorem ws1 (w : Fin 4 → FVec Ideal S128x256 .bf16) (v : FVec Ideal S256x256 .bf16) (r : Fin 128) (x : Fin 256) :
    extractStridedSlice S128x256 ![128 * (1 : Fin 4).val, 0] (wsum w v) (slO 1) (ix2 r x) = ∑ k, w 1 (ix2 r k) * v (ix2 k x) := by
  pointwise [wsum]
theorem sc20 (kr : FVec Ideal S256x128 .f32) (q : Fin 4 → Vec Ideal S1x128x128 .bf16) (r : Fin 128) (kk : Fin 256) :
    extractStridedSlice S128x256 ![128 * (2 : Fin 4).val, 256 * (0 : Fin 2).val] (scores kr q) (slS 2 0) (ix2 r kk) = dotS kr (q 2) 0 r kk := by
  pointwise [scores, k0_pay40, k0_pay32]
  have e : (⟨256 + r.val - 128 - 128, by omega⟩ : Fin 128) = r := Fin.ext (by simp only []; omega)
  simp only [dif_neg (show ¬ (256 + r.val < 128) by omega), dif_neg (show ¬ (256 + r.val - 128 < 128) by omega), dif_pos (show 256 + r.val - 128 - 128 < 128 by omega), e]
  simp only [sel_slt]
  refine (sum_lo _).trans (Finset.sum_congr rfl fun d _ => ?_)
  simp
theorem sc21 (kr : FVec Ideal S256x128 .f32) (q : Fin 4 → Vec Ideal S1x128x128 .bf16) (r : Fin 128) (kk : Fin 256) :
    extractStridedSlice S128x256 ![128 * (2 : Fin 4).val, 256 * (1 : Fin 2).val] (scores kr q) (slS 2 1) (ix2 r kk) = dotS kr (q 2) 1 r kk := by
  pointwise [scores, k0_pay40, k0_pay32]
  have e : (⟨256 + r.val - 128 - 128, by omega⟩ : Fin 128) = r := Fin.ext (by simp only []; omega)
  simp only [dif_neg (show ¬ (256 + r.val < 128) by omega), dif_neg (show ¬ (256 + r.val - 128 < 128) by omega), dif_pos (show 256 + r.val - 128 - 128 < 128 by omega), e]
  refine (Finset.sum_congr rfl fun x _ => sel_slt' _ (by omega) _ _).trans ?_
  refine (Finset.sum_congr rfl fun x _ => ?_).trans ((sum_hi (fun x => q 2 (ix3 0 r x) * kr (ix2 kk ⟨(x.val + 128 - 64) % 128, by omega⟩))).trans (Finset.sum_congr rfl fun d _ => ?_))
  · rfl
  · have e : (⟨(64 + d.val + 128 - 64) % 128, by omega⟩ : Fin 128) = ⟨d.val, by omega⟩ := Fin.ext (by simp only []; omega)
    simp only [e]; rfl
theorem ws2 (w : Fin 4 → FVec Ideal S128x256 .bf16) (v : FVec Ideal S256x256 .bf16) (r : Fin 128) (x : Fin 256) :
    extractStridedSlice S128x256 ![128 * (2 : Fin 4).val, 0] (wsum w v) (slO 2) (ix2 r x) = ∑ k, w 2 (ix2 r k) * v (ix2 k x) := by
  pointwise [wsum]
  have e : (⟨256 + r.val - 128 - 128, by omega⟩ : Fin 128) = r := Fin.ext (by simp only []; omega)
  simp only [dif_neg (show ¬ (256 + r.val < 128) by omega), dif_neg (show ¬ (256 + r.val - 128 < 128) by omega), dif_pos (show 256 + r.val - 128 - 128 < 128 by omega), e]
theorem sc30 (kr : FVec Ideal S256x128 .f32) (q : Fin 4 → Vec Ideal S1x128x128 .bf16) (r : Fin 128) (kk : Fin 256) :
    extractStridedSlice S128x256 ![128 * (3 : Fin 4).val, 256 * (0 : Fin 2).val] (scores kr q) (slS 3 0) (ix2 r kk) = dotS kr (q 3) 0 r kk := by
  pointwise [scores, k0_pay40, k0_pay32]
  have e : (⟨384 + r.val - 128 - 128 - 128, by omega⟩ : Fin 128) = r := Fin.ext (by simp only []; omega)
  simp only [dif_neg (show ¬ (384 + r.val < 128) by omega), dif_neg (show ¬ (384 + r.val - 128 < 128) by omega), dif_neg (show ¬ (384 + r.val - 128 - 128 < 128) by omega), e]
  simp only [sel_slt]
  refine (sum_lo _).trans (Finset.sum_congr rfl fun d _ => ?_)
  simp
theorem sc31 (kr : FVec Ideal S256x128 .f32) (q : Fin 4 → Vec Ideal S1x128x128 .bf16) (r : Fin 128) (kk : Fin 256) :
    extractStridedSlice S128x256 ![128 * (3 : Fin 4).val, 256 * (1 : Fin 2).val] (scores kr q) (slS 3 1) (ix2 r kk) = dotS kr (q 3) 1 r kk := by
  pointwise [scores, k0_pay40, k0_pay32]
  have e : (⟨384 + r.val - 128 - 128 - 128, by omega⟩ : Fin 128) = r := Fin.ext (by simp only []; omega)
  simp only [dif_neg (show ¬ (384 + r.val < 128) by omega), dif_neg (show ¬ (384 + r.val - 128 < 128) by omega), dif_neg (show ¬ (384 + r.val - 128 - 128 < 128) by omega), e]
  refine (Finset.sum_congr rfl fun x _ => sel_slt' _ (by omega) _ _).trans ?_
  refine (Finset.sum_congr rfl fun x _ => ?_).trans ((sum_hi (fun x => q 3 (ix3 0 r x) * kr (ix2 kk ⟨(x.val + 128 - 64) % 128, by omega⟩))).trans (Finset.sum_congr rfl fun d _ => ?_))
  · rfl
  · have e : (⟨(64 + d.val + 128 - 64) % 128, by omega⟩ : Fin 128) = ⟨d.val, by omega⟩ := Fin.ext (by simp only []; omega)
    simp only [e]; rfl
theorem ws3 (w : Fin 4 → FVec Ideal S128x256 .bf16) (v : FVec Ideal S256x256 .bf16) (r : Fin 128) (x : Fin 256) :
    extractStridedSlice S128x256 ![128 * (3 : Fin 4).val, 0] (wsum w v) (slO 3) (ix2 r x) = ∑ k, w 3 (ix2 r k) * v (ix2 k x) := by
  pointwise [wsum]
  have e : (⟨384 + r.val - 128 - 128 - 128, by omega⟩ : Fin 128) = r := Fin.ext (by simp only []; omega)
  simp only [dif_neg (show ¬ (384 + r.val < 128) by omega), dif_neg (show ¬ (384 + r.val - 128 < 128) by omega), dif_neg (show ¬ (384 + r.val - 128 - 128 < 128) by omega), e]
theorem sc_at (kr : FVec Ideal S256x128 .f32) (q : Fin 4 → Vec Ideal S1x128x128 .bf16) (p : Fin 4) (a : Fin 2) (r : Fin 128) (kk : Fin 256) :
    extractStridedSlice S128x256 ![128 * p.val, 256 * a.val] (scores kr q) (slS p a) (ix2 r kk) = dotS kr (q p) a r kk := by
  match p, a with
  | 0, 0 => exact sc00 kr q r kk
  | 0, 1 => exact sc01 kr q r kk
  | 1, 0 => exact sc10 kr q r kk
  | 1, 1 => exact sc11 kr q r kk
  | 2, 0 => exact sc20 kr q r kk
  | 2, 1 => exact sc21 kr q r kk
  | 3, 0 => exact sc30 kr q r kk
  | 3, 1 => exact sc31 kr q r kk
theorem ws_at (w : Fin 4 → FVec Ideal S128x256 .bf16) (v : FVec Ideal S256x256 .bf16) (p : Fin 4) (r : Fin 128) (x : Fin 256) :
    extractStridedSlice S128x256 ![128 * p.val, 0] (wsum w v) (slO p) (ix2 r x) = ∑ k, w p (ix2 r k) * v (ix2 k x) := by
  match p with
  | 0 => exact ws0 w v r x
  | 1 => exact ws1 w v r x
  | 2 => exact ws2 w v r x
  | 3 => exact ws3 w v r x
theorem hs_at (pen : Option EReal) (kr : FVec Ideal S256x128 .f32) (q : Fin 4 → Vec Ideal S1x128x128 .bf16) (p : Fin 4) (a : Fin 2) (r l : Fin 128) :
    hs (F := Ideal) pen kr q p a (ix2 r l) = foldR pen (dotS kr (q p) a r) r l := by
  unfold hs
  rw [fold_at]
  congr 1
  funext kk
  exact sc_at kr q p a r kk

/-- The factor from natural to binary exponents. -/
def L2 : EReal := (Named.named (F := Ideal) (φ := .f32) κ "log2_e" (0x3FB8AA3B#32) : Ideal .f32)
/-- The running maximum of a folded row and the sink. -/
def mxR (s : Fin 128 → EReal) (sk : EReal) : EReal := max (Finset.fold max (Ideal.ofBits .f32 4286578688#32) s Finset.univ) (sk * L2)
/-- The weights of a row, unfolded. -/
def wR (s : Fin 128 → EReal) (sk : EReal) (r : Fin 128) (kk : Fin 256) : EReal :=
  if h : kk.val < 128 then (if r.val < kk.val then Ideal.exp2 (s ⟨kk.val, h⟩ - mxR s sk) else 0)
  else (if r.val < kk.val - 128 then 0 else Ideal.exp2 (s ⟨kk.val - 128, by omega⟩ - mxR s sk))

theorem exp2_def {φ : FTy} (x : Ideal φ) : FloatOps.exp2 x = Ideal.exp2 x := rfl

theorem wts_lo (s : FVec Ideal S128x128 .f32) (sk : EReal) (r l : Fin 128) : wts (F := Ideal) s sk (ix2 r ⟨l.val, by omega⟩) = if r.val < l.val then Ideal.exp2 (s (ix2 r l) - mxR (fun x => s (ix2 r x)) sk) else 0 := by
  pointwise [wts, rmax, k0_pay45, k0_pay44, k0_pay43, k0_pay42, k0_pay41, k0_pay33]
  rw [sel_sgt, exp2_def]; rfl
theorem wts_hi (s : FVec Ideal S128x128 .f32) (sk : EReal) (r l : Fin 128) : wts (F := Ideal) s sk (ix2 r ⟨128 + l.val, by omega⟩) = if r.val < l.val then 0 else Ideal.exp2 (s (ix2 r l) - mxR (fun x => s (ix2 r x)) sk) := by
  pointwise [wts, rmax, k0_pay45, k0_pay44, k0_pay43, k0_pay42, k0_pay41, k0_pay33]
  rw [sel_sgt, exp2_def]; rfl
theorem wts_at (s : FVec Ideal S128x128 .f32) (sk : EReal) (r : Fin 128) (kk : Fin 256) : wts (F := Ideal) s sk (ix2 r kk) = wR (fun x => s (ix2 r x)) sk r kk := by
  unfold wR
  split
  · next h => exact wts_lo s sk r ⟨kk.val, h⟩
  · next h =>
    have e : kk = ⟨128 + (kk.val - 128), by omega⟩ := Fin.ext (by simp only []; omega)
    have := wts_hi s sk r ⟨kk.val - 128, by omega⟩
    rw [← this]; exact congrArg (fun z => wts (F := Ideal) s sk (ix2 r z)) e
theorem snk_at (s : FVec Ideal S128x128 .f32) (sk : EReal) (r : Fin 128) : snk (F := Ideal) s sk (ix2 r 0) = Ideal.exp2 (sk * L2 - mxR (fun x => s (ix2 r x)) sk) := by
  pointwise [snk, rmax, k0_pay46, k0_pay45, k0_pay44, k0_pay43, k0_pay42, k0_pay41]
  rw [exp2_def]; rfl

theorem v0_lo (v : FVec Ideal S256x128 .f32) (kk : Fin 256) (x : Fin 128) : k0_pay38 (F := Ideal) v k0_pay32 (ix2 kk ⟨x.val, by omega⟩) = if x.val < 64 then v (ix2 kk x) else 0 := by
  pointwise [k0_pay38, k0_pay35, k0_pay36, k0_pay37, k0_pay32]
  rw [sel_slt]
theorem v0_hi (v : FVec Ideal S256x128 .f32) (kk : Fin 256) (x : Fin 128) : k0_pay38 (F := Ideal) v k0_pay32 (ix2 kk ⟨128 + x.val, by omega⟩) = if x.val < 64 then 1 else 0 := by
  pointwise [k0_pay38, k0_pay35, k0_pay36, k0_pay37, k0_pay32]
  simp only [bit_slt]; split <;> simp [FloatOps.sitofp, IntOp.xori]
theorem v1_lo (v : FVec Ideal S256x128 .f32) (kk : Fin 256) (x : Fin 128) : k0_pay39 (F := Ideal) v k0_pay32 (ix2 kk ⟨x.val, by omega⟩) = if x.val < 64 then 0 else v (ix2 kk ⟨x.val - 64, by omega⟩) := by
  pointwise [k0_pay39, k0_pay35, k0_pay36, k0_pay37, k0_pay32]
  rw [sel_slt' _ (by omega)]
  by_cases h : x.val < 64
  · rw [if_pos h, if_neg (by omega)]
  · have e : (⟨(x.val + 128 - 64) % 128, by omega⟩ : Fin 128) = ⟨x.val - 64, by omega⟩ := Fin.ext (by simp only []; omega)
    rw [if_neg h, if_pos (by omega)]
    exact congrArg (fun z => v (ix2 kk z)) e
theorem v1_hi (v : FVec Ideal S256x128 .f32) (kk : Fin 256) (x : Fin 128) : k0_pay39 (F := Ideal) v k0_pay32 (ix2 kk ⟨128 + x.val, by omega⟩) = if x.val < 64 then 0 else 1 := by
  pointwise [k0_pay39, k0_pay35, k0_pay36, k0_pay37, k0_pay32]
  simp only [bit_slt]; split <;> simp [FloatOps.sitofp, IntOp.xori]

/-- One head's row of the result from its scores, its values and its sink. -/
def attK (pen : Option EReal) (S : Fin 256 → EReal) (v : Fin 256 → EReal) (sk : EReal) (r : Fin 128) : EReal :=
  Ideal.div (∑ kk, wR (foldR pen S r) sk r kk * v kk) ((∑ kk, wR (foldR pen S r) sk r kk) + Ideal.exp2 (sk * L2 - mxR (foldR pen S r) sk))

theorem sums_lo (pen : Option EReal) (kr vr : FVec Ideal S256x128 .f32) (q : Fin 4 → Vec Ideal S1x128x128 .bf16) (sk : Fin 4 → Fin 2 → EReal) (p : Fin 4) (r : Fin 128) (x : Fin 256) :
    extractStridedSlice S128x256 ![128 * p.val, 0] (sums (F := Ideal) pen kr vr q sk) (slO p) (ix2 r x)
      = (∑ kk, wR (foldR pen (dotS kr (q p) 0 r) r) (sk p 0) r kk * k0_pay38 (F := Ideal) vr k0_pay32 (ix2 kk x))
        + ∑ kk, wR (foldR pen (dotS kr (q p) 1 r) r) (sk p 1) r kk * k0_pay39 (F := Ideal) vr k0_pay32 (ix2 kk x) := by
  have e (w v) := ws_at w v p r x
  have d : extractStridedSlice S128x256 ![128 * p.val, 0] (sums (F := Ideal) pen kr vr q sk) (slO p) (ix2 r x)
      = extractStridedSlice S128x256 ![128 * p.val, 0] (wsum (fun p => wts (hs pen kr q p 0) (sk p 0)) (k0_pay38 vr k0_pay32)) (slO p) (ix2 r x)
        + extractStridedSlice S128x256 ![128 * p.val, 0] (wsum (fun p => wts (hs pen kr q p 1) (sk p 1)) (k0_pay39 vr k0_pay32)) (slO p) (ix2 r x) := rfl
  rw [d, e, e]
  simp only [wts_at, hs_at]

theorem outp_at0 (pen : Option EReal) (kr vr : FVec Ideal S256x128 .f32) (q : Fin 4 → Vec Ideal S1x128x128 .bf16) (sk : Fin 4 → Fin 2 → EReal) (p : Fin 4) (r : Fin 128) (d : Fin 64) :
    outp (F := Ideal) pen kr vr q sk p (ix2 r ⟨64 * (0 : Fin 2).val + d.val, by have := (0 : Fin 2).isLt; omega⟩) = attK pen (dotS kr (q p) 0 r) (fun kk => vr (ix2 kk ⟨d.val, by omega⟩)) (sk p 0) r := by
  have e1 := sums_lo pen kr vr q sk p r ⟨d.val, by omega⟩
  have e2 := sums_lo pen kr vr q sk p r ⟨128 + d.val, by omega⟩
  have a1 (kk) := v0_lo vr kk ⟨d.val, by omega⟩
  have a2 (kk) := v0_hi vr kk ⟨d.val, by omega⟩
  have a3 (kk) := v1_lo vr kk ⟨d.val, by omega⟩
  have a4 (kk) := v1_hi vr kk ⟨d.val, by omega⟩
  simp only [d.isLt, if_true] at a1 a2 a3 a4
  simp only [a1, a2, a3, a4, mul_zero, mul_one, Finset.sum_const_zero, add_zero] at e1 e2
  pointwise [] at e1 e2
  pointwise [outp, k0_pay34, k0_pay32]
  rw [sel_slt' _ (by omega), if_pos (by omega), snk_at]
  simp only [hs_at]
  rw [e1, e2]
  rfl
theorem outp_at1 (pen : Option EReal) (kr vr : FVec Ideal S256x128 .f32) (q : Fin 4 → Vec Ideal S1x128x128 .bf16) (sk : Fin 4 → Fin 2 → EReal) (p : Fin 4) (r : Fin 128) (d : Fin 64) :
    outp (F := Ideal) pen kr vr q sk p (ix2 r ⟨64 * (1 : Fin 2).val + d.val, by have := d.isLt; simp only [Fin.val_one]; omega⟩) = attK pen (dotS kr (q p) 1 r) (fun kk => vr (ix2 kk ⟨d.val, by omega⟩)) (sk p 1) r := by
  have e1 := sums_lo pen kr vr q sk p r ⟨64 + d.val, by omega⟩
  have e2 := sums_lo pen kr vr q sk p r ⟨128 + (64 + d.val), by omega⟩
  have a1 (kk) := v0_lo vr kk ⟨64 + d.val, by omega⟩
  have a2 (kk) := v0_hi vr kk ⟨64 + d.val, by omega⟩
  have a3 (kk) := v1_lo vr kk ⟨64 + d.val, by omega⟩
  have a4 (kk) := v1_hi vr kk ⟨64 + d.val, by omega⟩
  simp only [show ¬ (64 + d.val < 64) by omega, if_false, Nat.add_sub_cancel_left] at a1 a2 a3 a4
  simp only [a1, a2, a3, a4, mul_zero, mul_one, Finset.sum_const_zero, zero_add] at e1 e2
  pointwise [] at e1 e2
  pointwise [outp, k0_pay34, k0_pay32]
  rw [sel_slt' _ (by omega), if_neg (by omega), snk_at]
  simp only [hs_at]
  rw [e1, e2]
  rfl
/-- A pair's block of the result, head by head. -/
theorem outp_at (pen : Option EReal) (kr vr : FVec Ideal S256x128 .f32) (q : Fin 4 → Vec Ideal S1x128x128 .bf16) (sk : Fin 4 → Fin 2 → EReal) (p : Fin 4) (a : Fin 2) (r : Fin 128) (d : Fin 64) :
    outp (F := Ideal) pen kr vr q sk p (ix2 r ⟨64 * a.val + d.val, by omega⟩) = attK pen (dotS kr (q p) a r) (fun kk => vr (ix2 kk ⟨d.val, by omega⟩)) (sk p a) r := by
  match a with
  | 0 => exact outp_at0 pen kr vr q sk p r d
  | 1 => exact outp_at1 pen kr vr q sk p r d

end Cert.Kernel2Ideal.Mix

end
-- ==== Proof.Mix.Proj.lean ====
module

public import proofs.«01_k».proof.Proof.Mix.Val
public import proofs.«01_k».proof.Proof.Mix.RunA
public import Idealize.ShloMosaic.Lib.Pipeline.FrameBody
public import Idealize.ShloMosaic.Lib.Pipeline.ValueKit.Tiles
public import Idealize.ShloMosaic.Lib.WritesUnit
public import Idealize.ShloMosaic.Lib.VecWindow

@[expose] public section

set_option maxRecDepth 65536

noncomputable section

namespace Cert.Kernel2Ideal.Mix

open Cert.Kernel2Ideal.Gen
open Idealize.ShloMosaic Idealize.ShloMosaic.TcCoe Idealize.ShloMosaic.Tactic

section canon
variable {s : Shape} {e : EltTy} {Val : EltTy → Type} [∀ e, Nonempty (Val e)]
/-- The canonical contents at an index the newest piece holds. -/
theorem canon_unit_mem {off off' size : Fin s.rank → ℕ} (inb : ∀ a, off a + size a ≤ s.size a)
    (w : (Rect.unit off size inb).shape.Idx → Val e) (L : List (View.Piece Val s e)) (y : s.Idx)
    (x : (Rect.unit off size inb).shape.Idx) (heq : off = off') (hx : ∀ a, (y a).val = off' a + (x a).val) :
    View.canon ((⟨Rect.unit off size inb, w⟩ : View.Piece Val s e) :: L) y = w x := by
  subst heq
  have hy : (Rect.unit off size inb).emb x = y := funext fun a => Fin.ext (by
    show off a + 1 * (x a).val = (y a).val
    rw [hx a, Nat.one_mul])
  rw [← hy]
  exact View.canon_cons_emb _ w L x
/-- The canonical contents at an index the newest piece misses. -/
theorem canon_unit_not {off off' size : Fin s.rank → ℕ} (inb : ∀ a, off a + size a ≤ s.size a)
    (w : (Rect.unit off size inb).shape.Idx → Val e) (L : List (View.Piece Val s e)) (y : s.Idx) (heq : off = off')
    (a : Fin s.rank) (ha : (y a).val < off' a ∨ off' a + size a ≤ (y a).val) :
    View.canon ((⟨Rect.unit off size inb, w⟩ : View.Piece Val s e) :: L) y = View.canon L y := by
  subst heq
  refine View.canon_cons_of_not_mem _ _ fun h => ?_
  have := (Rect.mem_set_unit (inb := inb) (i := y)).mp h
  have := this a
  omega
end canon

/-- The scale of the queries. -/
def QS : EReal := (Named.named (F := Ideal) (φ := .f32) κ "q_scale" (0x3E38AA3B#32) : Ideal .f32)
/-- A block's row times a column of the weights. -/
def proj (x : Vec Ideal S256x2048 .f32) (w : Vec Ideal S2048x4480 .bf16) (r : Fin 256) (col : Fin 4480) : EReal :=
  ∑ k : Fin 2048, x (ix2 r k) * w (ix2 k col)

theorem pay23_at (x : Vec Ideal S256x2048 .f32) (r : Fin 256) (k : Fin 2048) : k0_pay23 (F := Ideal) x (ix2 r k) = x (ix2 r k) := by
  pointwise [k0_pay23]
theorem pay24_at (x : Vec Ideal S256x2048 .bf16) (w : Vec Ideal S2048x256 .bf16) (r c : Fin 256) : k0_pay24 (F := Ideal) x w (ix3 0 r c) = (∑ k : Fin 2048, x (ix2 r k) * w (ix2 k c)) * QS := by
  pointwise [k0_pay24]
  rfl
theorem pay25_at (x : Vec Ideal S256x2048 .bf16) (w : Vec Ideal S2048x256 .bf16) (r c : Fin 256) : k0_pay25 (F := Ideal) x w (ix3 0 r c) = (∑ k : Fin 2048, x (ix2 r k) * w (ix2 k c)) * QS := by
  pointwise [k0_pay25]
  rfl
theorem pay27_at (x : Vec Ideal S256x2048 .bf16) (w : Vec Ideal S2048x256 .bf16) (r c : Fin 256) : k0_pay27 (F := Ideal) (k0_pay26 x w) (ix3 0 r c) = (∑ k : Fin 2048, x (ix2 r k) * w (ix2 k c)) * QS := by
  pointwise [k0_pay27, k0_pay26]
  rfl
theorem pay28_at (x : Vec Ideal S256x2048 .bf16) (w : Vec Ideal S2048x256 .bf16) (r c : Fin 256) : k0_pay28 (F := Ideal) x w (ix3 0 r c) = (∑ k : Fin 2048, x (ix2 r k) * w (ix2 k c)) * QS := by
  pointwise [k0_pay28]
  rfl
theorem pay150_at (x : Vec Ideal S256x2048 .bf16) (w : Vec Ideal S2048x256 .bf16) (r c : Fin 256) : k0_pay150 (F := Ideal) (k0_pay149 x w) (ix3 0 r c) = (∑ k : Fin 2048, x (ix2 r k) * w (ix2 k c)) := by
  pointwise [k0_pay150, k0_pay149]
theorem pay30_at (A : Vec Ideal S128x128 .bf16) (B : Vec Ideal S1x128x128 .bf16) (kk : Fin 256) (d : Fin 128) : k0_pay30 (F := Ideal) A B (ix2 kk d) = if h : kk.val < 128 then A (ix2 ⟨kk.val, h⟩ d) else B (ix3 0 ⟨kk.val - 128, by omega⟩ d) := by
  pointwise [k0_pay30]
theorem pay31_at (A : Vec Ideal S128x128 .bf16) (B : Vec Ideal S1x128x128 .bf16) (kk : Fin 256) (d : Fin 128) : k0_pay31 (F := Ideal) A B (ix2 kk d) = if h : kk.val < 128 then A (ix2 ⟨kk.val, h⟩ d) else B (ix3 0 ⟨kk.val - 128, by omega⟩ d) := by
  pointwise [k0_pay31]
theorem pay731_at (A : Vec Ideal S1x128x128 .bf16) (B : Vec Ideal S1x128x128 .bf16) (kk : Fin 256) (d : Fin 128) : k0_pay731 (F := Ideal) (k0_pay730 A) B (ix2 kk d) = if h : kk.val < 128 then A (ix3 0 ⟨kk.val, h⟩ d) else B (ix3 0 ⟨kk.val - 128, by omega⟩ d) := by
  pointwise [k0_pay731, k0_pay730]
theorem pay732_at (A : Vec Ideal S1x128x128 .bf16) (B : Vec Ideal S1x128x128 .bf16) (kk : Fin 256) (d : Fin 128) : k0_pay732 (F := Ideal) A B (ix2 kk d) = if h : kk.val < 128 then A (ix3 0 ⟨kk.val, h⟩ d) else B (ix3 0 ⟨kk.val - 128, by omega⟩ d) := by
  pointwise [k0_pay732]
theorem pay95_at (v : FVec Ideal S256x128 .f32) (kk : Fin 256) (d : Fin 64) : k0_pay95 (F := Ideal) v (ix2 kk ⟨d.val, by omega⟩) = v (ix2 kk ⟨64 + d.val, by omega⟩) := by
  pointwise [k0_pay95]
  have e : (⟨(d.val + 128 - 64) % 128, by omega⟩ : Fin 128) = ⟨64 + d.val, by omega⟩ := Fin.ext (by simp only []; omega)
  exact congrArg (fun z => v (ix2 kk z)) e
theorem pay96_at (v : FVec Ideal S256x128 .f32) (kk : Fin 256) (d : Fin 64) : k0_pay96 (F := Ideal) v (ix2 kk ⟨d.val, by omega⟩) = v (ix2 kk ⟨64 + d.val, by omega⟩) := by
  pointwise [k0_pay96]
  have e : (⟨(d.val + 128 - 64) % 128, by omega⟩ : Fin 128) = ⟨64 + d.val, by omega⟩ := Fin.ext (by simp only []; omega)
  exact congrArg (fun z => v (ix2 kk z)) e
theorem pay2_at (A : Vec Ideal S1x128x256 .bf16) (r : Fin 128) (d : Fin 256) : k0_pay2 (F := Ideal) A (ix2 r d) = A (ix3 0 r d) := by
  pointwise [k0_pay2]

/-- A unit-stride load of unread contents. -/
theorem load2 {sp : Space} {d : Fin 2 → ℕ} {e : EltTy} (arg : Memref sig .tc sp (⟨2, d⟩ : Shape) e) (h : arg.IsWhole) (x : Vec Ideal (⟨2, d⟩ : Shape) e)
    (off size : Fin 2 → ℕ) (inb : ∀ a : Fin 2, off a + size a ≤ d a) (y : (Rect.unit (s := ⟨2, d⟩) off size inb).shape.Idx) (i : (⟨2, d⟩ : Shape).Idx)
    (hi : ∀ a, (i a : ℕ) = off a + y a) :
    View.readAt (Elt Ideal) arg.view (Rect.unit (s := ⟨2, d⟩) off size inb).toLoadRect (h.unread x) y = x i := by
  rw [View.readAt_eq_ld, h.read_unread]
  exact View.ld_unit_apply_of x off size inb y i hi

theorem v82_at (c : Dev nD) (arg2 : Memref sig .tc .vmem S256x2048 .f32) (harg2 : arg2.IsWhole) (arg15 : Memref sig .tc .vmem S256x2048 .bf16) (x2 : Vec Ideal S256x2048 .f32) (r : Fin 256) (k : Fin 2048) :
    runN.sl.v82 (F := Ideal) c arg2 harg2 arg15 x2 (ix2 r k) = x2 (ix2 r k) := by
  have e : runN.sl.v82 (F := Ideal) c arg2 harg2 arg15 x2 = k0_pay23 (View.readAt (Elt Ideal) arg2.view (Rect.unit (s := S256x2048) ![0, 0] S256x2048.size inb_S256x2048_S256x2048_0_0).toLoadRect (harg2.unread x2)) :=
    View.readCov_full _ _ _ _ _
  rw [e]
  refine (pay23_at _ r k).trans ?_
  exact load2 arg2 harg2 x2 _ _ _ _ _ (Fin.forall_fin_two.mpr ⟨(Nat.zero_add _).symm, (Nat.zero_add _).symm⟩)

end Cert.Kernel2Ideal.Mix

end
-- ==== Proof.Mix.Pts.lean ====
module

public import proofs.«01_k».proof.Proof.Mix.Proj

@[expose] public section

set_option maxRecDepth 65536

noncomputable section

namespace Cert.Kernel2Ideal.Mix

open Cert.Kernel2Ideal.Gen
open Idealize.ShloMosaic Idealize.ShloMosaic.TcCoe Idealize.ShloMosaic.Tactic

theorem f3 {P : Fin 3 → Prop} (h0 : P 0) (h1 : P 1) (h2 : P 2) : ∀ a, P a := fun a => match a with | 0 => h0 | 1 => h1 | 2 => h2

/-- The slot point `i` writes. -/
abbrev ws (i : grid0.Coords) : Fin 2 := ⟨(i 0).val % 2, Nat.mod_lt _ (by decide)⟩
/-- The slot point `i` reads. -/
abbrev rs (i : grid0.Coords) : Fin 2 := ⟨1 - (i 0).val % 2, by omega⟩

section
variable (c : Dev nD) (i : grid0.Coords) (arg2 : Memref sig .tc .vmem S256x2048 .f32) (harg2 : arg2.IsWhole) (arg3 : Memref sig .tc .vmem S2048x4480 .bf16) (harg3 : arg3.IsWhole) (arg15 : Memref sig .tc .vmem S256x2048 .bf16)
  (x2 : Vec Ideal S256x2048 .f32) (x3 : Vec Ideal S2048x4480 .bf16)

/-- The queries' four pieces, newest first, before anything else. -/
abbrev qL (P : Fin 4 → FVec Ideal S1x256x256 .bf16) (L : List (View.Piece (Elt Ideal) S2x256x1024 .bf16)) : List (View.Piece (Elt Ideal) S2x256x1024 .bf16) :=
  ⟨Rect.unit (s := S2x256x1024) (k0_off4 i) S1x256x256.size (k0_off4_inb i), P 3⟩ :: ⟨Rect.unit (s := S2x256x1024) (k0_off3 i) S1x256x256.size (k0_off3_inb i), P 2⟩ ::
    ⟨Rect.unit (s := S2x256x1024) (k0_off2 i) S1x256x256.size (k0_off2_inb i), P 1⟩ :: ⟨Rect.unit (s := S2x256x1024) (k0_off1 i) S1x256x256.size (k0_off1_inb i), P 0⟩ :: L

theorem qL_canon (P : Fin 4 → FVec Ideal S1x256x256 .bf16) (L) (k : Fin 4) (r c' : Fin 256) :
    View.canon (qL i P L) (ix3 (ws i) r ⟨256 * k.val + c'.val, by omega⟩) = P k (ix3 0 r c') := by
  match k with
  | 3 => exact canon_unit_mem (s := S2x256x1024) _ _ _ _ (ix3 0 r c') (k0_off4_eq i) (f3 rfl (Nat.zero_add _).symm rfl)
  | 2 =>
    refine (canon_unit_not (s := S2x256x1024) _ _ _ _ (k0_off4_eq i) (2 : Fin 3) (.inl (show 256 * 2 + c'.val < 768 by omega))).trans ?_
    exact canon_unit_mem (s := S2x256x1024) _ _ _ _ (ix3 0 r c') (k0_off3_eq i) (f3 rfl (Nat.zero_add _).symm rfl)
  | 1 =>
    refine (canon_unit_not (s := S2x256x1024) _ _ _ _ (k0_off4_eq i) (2 : Fin 3) (.inl (show 256 * 1 + c'.val < 768 by omega))).trans ?_
    refine (canon_unit_not (s := S2x256x1024) _ _ _ _ (k0_off3_eq i) (2 : Fin 3) (.inl (show 256 * 1 + c'.val < 512 by omega))).trans ?_
    exact canon_unit_mem (s := S2x256x1024) _ _ _ _ (ix3 0 r c') (k0_off2_eq i) (f3 rfl (Nat.zero_add _).symm rfl)
  | 0 =>
    refine (canon_unit_not (s := S2x256x1024) _ _ _ _ (k0_off4_eq i) (2 : Fin 3) (.inl (show 256 * 0 + c'.val < 768 by omega))).trans ?_
    refine (canon_unit_not (s := S2x256x1024) _ _ _ _ (k0_off3_eq i) (2 : Fin 3) (.inl (show 256 * 0 + c'.val < 512 by omega))).trans ?_
    refine (canon_unit_not (s := S2x256x1024) _ _ _ _ (k0_off2_eq i) (2 : Fin 3) (.inl (show 256 * 0 + c'.val < 256 by omega))).trans ?_
    exact canon_unit_mem (s := S2x256x1024) _ _ _ _ (ix3 0 r c') (k0_off1_eq i) (f3 rfl (Nat.zero_add _).symm (by show 256 * 0 + c'.val = 0 + c'.val; omega))

theorem qL_read {sp : Space} (v : View sig .tc sp S2x256x1024 .bf16) (f : v.ty.Contents (Elt Ideal)) (P : Fin 4 → FVec Ideal S1x256x256 .bf16) (L) (k : Fin 4) (r c' : Fin 256) :
    v.read (Elt Ideal) (v.writes (Elt Ideal) f (qL i P L)) (ix3 (ws i) r ⟨256 * k.val + c'.val, by omega⟩) = P k (ix3 0 r c') := by
  match k with
  | 3 => exact View.read_writes_cons_unit_of_mem v f _ _ _ _ (ix3 0 r c') (k0_off4_eq i) (f3 rfl (Nat.zero_add _).symm rfl)
  | 2 =>
    refine (View.read_writes_cons_unit_of_not_mem v f _ _ _ _ (k0_off4_eq i) (2 : Fin 3) (.inl (show 256 * 2 + c'.val < 768 by omega))).trans ?_
    exact View.read_writes_cons_unit_of_mem v f _ _ _ _ (ix3 0 r c') (k0_off3_eq i) (f3 rfl (Nat.zero_add _).symm rfl)
  | 1 =>
    refine (View.read_writes_cons_unit_of_not_mem v f _ _ _ _ (k0_off4_eq i) (2 : Fin 3) (.inl (show 256 * 1 + c'.val < 768 by omega))).trans ?_
    refine (View.read_writes_cons_unit_of_not_mem v f _ _ _ _ (k0_off3_eq i) (2 : Fin 3) (.inl (show 256 * 1 + c'.val < 512 by omega))).trans ?_
    exact View.read_writes_cons_unit_of_mem v f _ _ _ _ (ix3 0 r c') (k0_off2_eq i) (f3 rfl (Nat.zero_add _).symm rfl)
  | 0 =>
    refine (View.read_writes_cons_unit_of_not_mem v f _ _ _ _ (k0_off4_eq i) (2 : Fin 3) (.inl (show 256 * 0 + c'.val < 768 by omega))).trans ?_
    refine (View.read_writes_cons_unit_of_not_mem v f _ _ _ _ (k0_off3_eq i) (2 : Fin 3) (.inl (show 256 * 0 + c'.val < 512 by omega))).trans ?_
    refine (View.read_writes_cons_unit_of_not_mem v f _ _ _ _ (k0_off2_eq i) (2 : Fin 3) (.inl (show 256 * 0 + c'.val < 256 by omega))).trans ?_
    exact View.read_writes_cons_unit_of_mem v f _ _ _ _ (ix3 0 r c') (k0_off1_eq i) (f3 rfl (Nat.zero_add _).symm (by show 256 * 0 + c'.val = 0 + c'.val; omega))

/-- The four query pieces point `i` stores. -/
abbrev qP : Fin 4 → FVec Ideal S1x256x256 .bf16 := fun k => match k with
  | 0 => k0_pay24 (runN.sl.v82 c arg2 harg2 arg15 x2) (View.readAt (Elt Ideal) arg3.view (Rect.unit (s := S2048x4480) ![0, 0] S2048x256.size inb_S2048x4480_S2048x256_0_0).toLoadRect (harg3.unread x3))
  | 1 => k0_pay25 (runN.sl.v82 c arg2 harg2 arg15 x2) (View.readAt (Elt Ideal) arg3.view (Rect.unit (s := S2048x4480) ![0, 256] S2048x256.size inb_S2048x4480_S2048x256_0_256).toLoadRect (harg3.unread x3))
  | 2 => k0_pay27 (k0_pay26 (runN.sl.v82 c arg2 harg2 arg15 x2) (View.readAt (Elt Ideal) arg3.view (Rect.unit (s := S2048x4480) ![0, 512] S2048x256.size inb_S2048x4480_S2048x256_0_512).toLoadRect (harg3.unread x3)))
  | 3 => k0_pay28 (runN.sl.v82 c arg2 harg2 arg15 x2) (View.readAt (Elt Ideal) arg3.view (Rect.unit (s := S2048x4480) ![0, 768] S2048x256.size inb_S2048x4480_S2048x256_0_768).toLoadRect (harg3.unread x3))

theorem qP_sum (o : ℕ) (ho : o + 256 ≤ 4480) (inb) (r c' : Fin 256) (col : Fin 4480) (hcol : col.val = o + c'.val) :
    (∑ k : Fin 2048, runN.sl.v82 (F := Ideal) c arg2 harg2 arg15 x2 (ix2 r k) * View.readAt (Elt Ideal) arg3.view (Rect.unit (s := S2048x4480) ![0, o] S2048x256.size inb).toLoadRect (harg3.unread x3) (ix2 k c'))
      = proj x2 x3 r col := by
  refine Finset.sum_congr rfl fun k _ => ?_
  have e1 := v82_at c arg2 harg2 arg15 x2 r k
  have e2 := load2 arg3 harg3 x3 ![0, o] S2048x256.size inb (ix2 k c') (ix2 k col) (Fin.forall_fin_two.mpr ⟨(Nat.zero_add _).symm, hcol⟩)
  exact congr (congrArg HMul.hMul e1) e2

theorem qP_at (k : Fin 4) (r c' : Fin 256) : qP c arg2 harg2 arg3 harg3 arg15 x2 x3 k (ix3 0 r c') = proj x2 x3 r ⟨256 * k.val + c'.val, by omega⟩ * QS := by
  match k with
  | 0 => exact (pay24_at _ _ r c').trans (congrArg (· * QS) (qP_sum c arg2 harg2 arg3 harg3 arg15 x2 x3 0 (by decide) _ r c' _ rfl))
  | 1 => exact (pay25_at _ _ r c').trans (congrArg (· * QS) (qP_sum c arg2 harg2 arg3 harg3 arg15 x2 x3 256 (by decide) _ r c' _ rfl))
  | 2 => exact (pay27_at _ _ r c').trans (congrArg (· * QS) (qP_sum c arg2 harg2 arg3 harg3 arg15 x2 x3 512 (by decide) _ r c' _ rfl))
  | 3 => exact (pay28_at _ _ r c').trans (congrArg (· * QS) (qP_sum c arg2 harg2 arg3 harg3 arg15 x2 x3 768 (by decide) _ r c' _ rfl))

theorem H16_4_eq : runN.sl.H16_4 (F := Ideal) c i arg2 harg2 arg3 harg3 arg15 x2 x3 = qL i (qP c arg2 harg2 arg3 harg3 arg15 x2 x3) [] := rfl
theorem H16_5_eq : ∃ L, runA.sl.H16_5 (F := Ideal) c arg2 harg2 arg3 harg3 arg15 x2 x3 = qL i0 (qP c arg2 harg2 arg3 harg3 arg15 x2 x3) L := ⟨_, rfl⟩

/-- The queries point `i` stores. -/
theorem q_new {sp : Space} (v : View sig .tc sp S2x256x1024 .bf16) (f : v.ty.Contents (Elt Ideal)) (r : Fin 256) (col : Fin 1024) :
    v.read (Elt Ideal) (v.writes (Elt Ideal) f (runN.sl.H16_4 (F := Ideal) c i arg2 harg2 arg3 harg3 arg15 x2 x3)) (ix3 (ws i) r col) = proj x2 x3 r ⟨col.val, by omega⟩ * QS := by
  obtain ⟨k, c', hk⟩ : ∃ (k : Fin 4) (c' : Fin 256), col = ⟨256 * k.val + c'.val, by omega⟩ := ⟨⟨col.val / 256, by omega⟩, ⟨col.val % 256, by omega⟩, Fin.ext (by simp only []; omega)⟩
  subst hk
  rw [H16_4_eq]
  exact (qL_read i v f _ _ k r c').trans (qP_at c arg2 harg2 arg3 harg3 arg15 x2 x3 k r c')
theorem q_first (r : Fin 256) (col : Fin 1024) :
    View.canon (runA.sl.H16_5 (F := Ideal) c arg2 harg2 arg3 harg3 arg15 x2 x3) (ix3 (ws i0) r col) = proj x2 x3 r ⟨col.val, by omega⟩ * QS := by
  obtain ⟨k, c', hk⟩ : ∃ (k : Fin 4) (c' : Fin 256), col = ⟨256 * k.val + c'.val, by omega⟩ := ⟨⟨col.val / 256, by omega⟩, ⟨col.val % 256, by omega⟩, Fin.ext (by simp only []; omega)⟩
  subst hk
  obtain ⟨L, hL⟩ := H16_5_eq c arg2 harg2 arg3 harg3 arg15 x2 x3
  rw [hL]
  exact (qL_canon i0 _ _ k r c').trans (qP_at c arg2 harg2 arg3 harg3 arg15 x2 x3 k r c')
/-- The other slot's queries stay. -/
theorem q_keep {sp : Space} (v : View sig .tc sp S2x256x1024 .bf16) (f : v.ty.Contents (Elt Ideal)) (r : Fin 256) (col : Fin 1024) :
    v.read (Elt Ideal) (v.writes (Elt Ideal) f (runN.sl.H16_4 (F := Ideal) c i arg2 harg2 arg3 harg3 arg15 x2 x3)) (ix3 (rs i) r col) = v.read (Elt Ideal) f (ix3 (rs i) r col) := by
  rw [H16_4_eq]
  have h (n : ℕ) : 1 - n % 2 < n % 2 ∨ n % 2 + 1 ≤ 1 - n % 2 := by omega
  refine (View.read_writes_cons_unit_of_not_mem v f _ _ _ _ (k0_off4_eq i) (0 : Fin 3) (h _)).trans ?_
  refine (View.read_writes_cons_unit_of_not_mem v f _ _ _ _ (k0_off3_eq i) (0 : Fin 3) (h _)).trans ?_
  refine (View.read_writes_cons_unit_of_not_mem v f _ _ _ _ (k0_off2_eq i) (0 : Fin 3) (h _)).trans ?_
  exact (View.read_writes_cons_unit_of_not_mem v f _ _ _ _ (k0_off1_eq i) (0 : Fin 3) (h _)).trans rfl

/-- The keys and values point `i` stores. -/
theorem kvP_at (r c' : Fin 256) : k0_pay150 (F := Ideal) (runN.sl.v716 c arg2 harg2 arg3 harg3 arg15 x2 x3) (ix3 0 r c') = proj x2 x3 r ⟨1024 + c'.val, by omega⟩ :=
  (pay150_at _ _ r c').trans (qP_sum c arg2 harg2 arg3 harg3 arg15 x2 x3 1024 (by decide) _ r c' _ rfl)
/-- The keys' and values' piece before anything else. -/
abbrev kvL (P : FVec Ideal S1x256x256 .bf16) (L : List (View.Piece (Elt Ideal) S2x256x256 .bf16)) : List (View.Piece (Elt Ideal) S2x256x256 .bf16) :=
  ⟨Rect.unit (s := S2x256x256) (k0_off15 i) S1x256x256.size (k0_off15_inb i), P⟩ :: L
theorem H17_1_eq : runN.sl.H17_1 (F := Ideal) c i arg2 harg2 arg3 harg3 arg15 x2 x3 = kvL i (k0_pay150 (F := Ideal) (runN.sl.v716 c arg2 harg2 arg3 harg3 arg15 x2 x3)) [] := rfl
theorem H17_2_eq : ∃ L, runA.sl.H17_2 (F := Ideal) c arg2 harg2 arg3 harg3 arg15 x2 x3 = kvL i0 (k0_pay150 (F := Ideal) (runN.sl.v716 c arg2 harg2 arg3 harg3 arg15 x2 x3)) L := ⟨_, rfl⟩
theorem kvL_read {sp : Space} (v : View sig .tc sp S2x256x256 .bf16) (f : v.ty.Contents (Elt Ideal)) (P) (L) (r : Fin 256) (col : Fin 256) :
    v.read (Elt Ideal) (v.writes (Elt Ideal) f (kvL i P L)) (ix3 (ws i) r col) = P (ix3 0 r col) :=
  View.read_writes_cons_unit_of_mem v f _ _ _ _ (ix3 0 r col) (k0_off15_eq i) (f3 rfl (Nat.zero_add _).symm (Nat.zero_add _).symm)
theorem kvL_canon (P) (L) (r : Fin 256) (col : Fin 256) :
    View.canon (kvL i P L) (ix3 (ws i) r col) = P (ix3 0 r col) :=
  canon_unit_mem (s := S2x256x256) _ _ _ _ (ix3 0 r col) (k0_off15_eq i) (f3 rfl (Nat.zero_add _).symm (Nat.zero_add _).symm)
theorem kv_new {sp : Space} (v : View sig .tc sp S2x256x256 .bf16) (f : v.ty.Contents (Elt Ideal)) (r : Fin 256) (col : Fin 256) :
    v.read (Elt Ideal) (v.writes (Elt Ideal) f (runN.sl.H17_1 (F := Ideal) c i arg2 harg2 arg3 harg3 arg15 x2 x3)) (ix3 (ws i) r col) = proj x2 x3 r ⟨1024 + col.val, by omega⟩ := by
  rw [H17_1_eq]
  exact (kvL_read i v f _ _ r col).trans (kvP_at c arg2 harg2 arg3 harg3 arg15 x2 x3 r col)
theorem kv_first (r : Fin 256) (col : Fin 256) :
    View.canon (runA.sl.H17_2 (F := Ideal) c arg2 harg2 arg3 harg3 arg15 x2 x3) (ix3 (ws i0) r col) = proj x2 x3 r ⟨1024 + col.val, by omega⟩ := by
  obtain ⟨L, hL⟩ := H17_2_eq c arg2 harg2 arg3 harg3 arg15 x2 x3
  rw [hL]
  exact (kvL_canon i0 _ _ r col).trans (kvP_at c arg2 harg2 arg3 harg3 arg15 x2 x3 r col)
theorem kv_keep {sp : Space} (v : View sig .tc sp S2x256x256 .bf16) (f : v.ty.Contents (Elt Ideal)) (r : Fin 256) (col : Fin 256) :
    v.read (Elt Ideal) (v.writes (Elt Ideal) f (runN.sl.H17_1 (F := Ideal) c i arg2 harg2 arg3 harg3 arg15 x2 x3)) (ix3 (rs i) r col) = v.read (Elt Ideal) f (ix3 (rs i) r col) := by
  have h (n : ℕ) : 1 - n % 2 < n % 2 ∨ n % 2 + 1 ≤ 1 - n % 2 := by omega
  exact (View.read_writes_cons_unit_of_not_mem v f _ _ _ _ (k0_off15_eq i) (0 : Fin 3) (h _)).trans rfl
end

/-- A load of a box of the slot read. -/
theorem load3 {sp : Space} {d : Fin 3 → ℕ} {e : EltTy} (v : View sig .tc sp (⟨3, d⟩ : Shape) e) (f : v.ty.Contents (Elt Ideal))
    {off off' : Fin 3 → ℕ} (size : Fin 3 → ℕ) (inb : ∀ a : Fin 3, off a + size a ≤ d a) (y : (Rect.unit (s := ⟨3, d⟩) off size inb).shape.Idx) (i : (⟨3, d⟩ : Shape).Idx)
    (heq : off = off') (hi : ∀ a, (i a : ℕ) = off' a + y a) :
    View.readAt (Elt Ideal) v (Rect.unit (s := ⟨3, d⟩) off size inb).toLoadRect f y = v.read (Elt Ideal) f i := by
  rw [View.readAt_eq_ld]
  subst heq
  exact View.ld_unit_apply_of _ off size inb y i hi

end Cert.Kernel2Ideal.Mix

end
-- ==== Proof.Mix.LsH11_4.lean ====
module

public import proofs.«01_k».proof.Proof.Gen.Kernel2Ideal.Skeleton
public import proofs.«01_k».proof.Proof.Mix.Mod

@[expose] public section

set_option maxRecDepth 65536

noncomputable section

namespace Cert.Kernel2Ideal.Mix

open Cert.Kernel2Ideal.Gen
open Idealize.ShloMosaic Idealize.ShloMosaic.TcCoe Idealize.ShloMosaic.Tactic

variable {F : FTy → Type} [FloatOps F] [Named F]

set_option maxHeartbeats 0 in
theorem H11_4_eq (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg15 : Memref sig .tc .vmem S256x2048 .bf16) (arg16 : Memref sig .tc .vmem S2x256x1024 .bf16) (harg16 : arg16.IsWhole) (arg17 : Memref sig .tc .vmem S2x256x256 .bf16) (harg17 : arg17.IsWhole) (arg25 : Memref sig .tc .vmem S128x256 .bf16) (harg25 : arg25.IsWhole) (x1 : Vec F S16 .f32) (x2 : Vec F S256x2048 .f32) (x3 : Vec F S2048x4480 .bf16) (x16 : Vec F S2x256x1024 .bf16) (x17 : Vec F S2x256x256 .bf16) (x25 : Vec F S128x256 .bf16) :
    runN.sl.H11_4 c i arg1 harg1 arg2 harg2 arg3 harg3 arg15 arg16 harg16 arg17 harg17 arg25 harg25 x1 x2 x3 x16 x17 x25 = [⟨Rect.unit (s := S256x1024) ![0, 384] S128x128.size inb_S256x1024_S128x128_0_384, outp (some (runN.sl.v124 i)) (k0_pay30 (View.readAt (Elt F) arg25.view (Rect.unit (s := S128x256) ![0, 0] S128x128.size inb_S128x256_S128x128_0_0).toLoadRect (harg25.unread x25)) (View.readAt (Elt F) arg17.view (Rect.unit (s := S2x256x256) (k0_off5 i) S1x128x128.size (k0_off5_inb i)).toLoadRect (harg17.unread x17))) (k0_pay31 (View.readAt (Elt F) arg25.view (Rect.unit (s := S128x256) ![0, 128] S128x128.size inb_S128x256_S128x128_0_128).toLoadRect (harg25.unread x25)) (View.readAt (Elt F) arg17.view (Rect.unit (s := S2x256x256) (k0_off6 i) S1x128x128.size (k0_off6_inb i)).toLoadRect (harg17.unread x17))) ![(View.readAt (Elt F) arg16.view (Rect.unit (s := S2x256x1024) (k0_off7 i) S1x128x128.size (k0_off7_inb i)).toLoadRect (arg16.view.writes (Elt F) (harg16.unread x16) (runN.sl.H16_4 c i arg2 harg2 arg3 harg3 arg15 x2 x3))), (View.readAt (Elt F) arg16.view (Rect.unit (s := S2x256x1024) (k0_off8 i) S1x128x128.size (k0_off8_inb i)).toLoadRect (arg16.view.writes (Elt F) (harg16.unread x16) (runN.sl.H16_4 c i arg2 harg2 arg3 harg3 arg15 x2 x3))), (View.readAt (Elt F) arg16.view (Rect.unit (s := S2x256x1024) (k0_off9 i) S1x128x128.size (k0_off9_inb i)).toLoadRect (arg16.view.writes (Elt F) (harg16.unread x16) (runN.sl.H16_4 c i arg2 harg2 arg3 harg3 arg15 x2 x3))), (View.readAt (Elt F) arg16.view (Rect.unit (s := S2x256x1024) (k0_off10 i) S1x128x128.size (k0_off10_inb i)).toLoadRect (arg16.view.writes (Elt F) (harg16.unread x16) (runN.sl.H16_4 c i arg2 harg2 arg3 harg3 arg15 x2 x3)))] ![![(View.readAt (Elt F) arg1.view (Rect.unit (s := S16) ![0] S1.size inb_S16_S1_0).toLoadRect (harg1.unread x1) (Shape.Idx.first (by decide))), (View.readAt (Elt F) arg1.view (Rect.unit (s := S16) ![1] S1.size inb_S16_S1_1).toLoadRect (harg1.unread x1) (Shape.Idx.first (by decide)))], ![(View.readAt (Elt F) arg1.view (Rect.unit (s := S16) ![2] S1.size inb_S16_S1_2).toLoadRect (harg1.unread x1) (Shape.Idx.first (by decide))), (View.readAt (Elt F) arg1.view (Rect.unit (s := S16) ![3] S1.size inb_S16_S1_3).toLoadRect (harg1.unread x1) (Shape.Idx.first (by decide)))], ![(View.readAt (Elt F) arg1.view (Rect.unit (s := S16) ![4] S1.size inb_S16_S1_4).toLoadRect (harg1.unread x1) (Shape.Idx.first (by decide))), (View.readAt (Elt F) arg1.view (Rect.unit (s := S16) ![5] S1.size inb_S16_S1_5).toLoadRect (harg1.unread x1) (Shape.Idx.first (by decide)))], ![(View.readAt (Elt F) arg1.view (Rect.unit (s := S16) ![6] S1.size inb_S16_S1_6).toLoadRect (harg1.unread x1) (Shape.Idx.first (by decide))), (View.readAt (Elt F) arg1.view (Rect.unit (s := S16) ![7] S1.size inb_S16_S1_7).toLoadRect (harg1.unread x1) (Shape.Idx.first (by decide)))]] 3⟩,
    ⟨Rect.unit (s := S256x1024) ![0, 256] S128x128.size inb_S256x1024_S128x128_0_256, outp (some (runN.sl.v124 i)) (k0_pay30 (View.readAt (Elt F) arg25.view (Rect.unit (s := S128x256) ![0, 0] S128x128.size inb_S128x256_S128x128_0_0).toLoadRect (harg25.unread x25)) (View.readAt (Elt F) arg17.view (Rect.unit (s := S2x256x256) (k0_off5 i) S1x128x128.size (k0_off5_inb i)).toLoadRect (harg17.unread x17))) (k0_pay31 (View.readAt (Elt F) arg25.view (Rect.unit (s := S128x256) ![0, 128] S128x128.size inb_S128x256_S128x128_0_128).toLoadRect (harg25.unread x25)) (View.readAt (Elt F) arg17.view (Rect.unit (s := S2x256x256) (k0_off6 i) S1x128x128.size (k0_off6_inb i)).toLoadRect (harg17.unread x17))) ![(View.readAt (Elt F) arg16.view (Rect.unit (s := S2x256x1024) (k0_off7 i) S1x128x128.size (k0_off7_inb i)).toLoadRect (arg16.view.writes (Elt F) (harg16.unread x16) (runN.sl.H16_4 c i arg2 harg2 arg3 harg3 arg15 x2 x3))), (View.readAt (Elt F) arg16.view (Rect.unit (s := S2x256x1024) (k0_off8 i) S1x128x128.size (k0_off8_inb i)).toLoadRect (arg16.view.writes (Elt F) (harg16.unread x16) (runN.sl.H16_4 c i arg2 harg2 arg3 harg3 arg15 x2 x3))), (View.readAt (Elt F) arg16.view (Rect.unit (s := S2x256x1024) (k0_off9 i) S1x128x128.size (k0_off9_inb i)).toLoadRect (arg16.view.writes (Elt F) (harg16.unread x16) (runN.sl.H16_4 c i arg2 harg2 arg3 harg3 arg15 x2 x3))), (View.readAt (Elt F) arg16.view (Rect.unit (s := S2x256x1024) (k0_off10 i) S1x128x128.size (k0_off10_inb i)).toLoadRect (arg16.view.writes (Elt F) (harg16.unread x16) (runN.sl.H16_4 c i arg2 harg2 arg3 harg3 arg15 x2 x3)))] ![![(View.readAt (Elt F) arg1.view (Rect.unit (s := S16) ![0] S1.size inb_S16_S1_0).toLoadRect (harg1.unread x1) (Shape.Idx.first (by decide))), (View.readAt (Elt F) arg1.view (Rect.unit (s := S16) ![1] S1.size inb_S16_S1_1).toLoadRect (harg1.unread x1) (Shape.Idx.first (by decide)))], ![(View.readAt (Elt F) arg1.view (Rect.unit (s := S16) ![2] S1.size inb_S16_S1_2).toLoadRect (harg1.unread x1) (Shape.Idx.first (by decide))), (View.readAt (Elt F) arg1.view (Rect.unit (s := S16) ![3] S1.size inb_S16_S1_3).toLoadRect (harg1.unread x1) (Shape.Idx.first (by decide)))], ![(View.readAt (Elt F) arg1.view (Rect.unit (s := S16) ![4] S1.size inb_S16_S1_4).toLoadRect (harg1.unread x1) (Shape.Idx.first (by decide))), (View.readAt (Elt F) arg1.view (Rect.unit (s := S16) ![5] S1.size inb_S16_S1_5).toLoadRect (harg1.unread x1) (Shape.Idx.first (by decide)))], ![(View.readAt (Elt F) arg1.view (Rect.unit (s := S16) ![6] S1.size inb_S16_S1_6).toLoadRect (harg1.unread x1) (Shape.Idx.first (by decide))), (View.readAt (Elt F) arg1.view (Rect.unit (s := S16) ![7] S1.size inb_S16_S1_7).toLoadRect (harg1.unread x1) (Shape.Idx.first (by decide)))]] 2⟩,
    ⟨Rect.unit (s := S256x1024) ![0, 128] S128x128.size inb_S256x1024_S128x128_0_128, outp (some (runN.sl.v124 i)) (k0_pay30 (View.readAt (Elt F) arg25.view (Rect.unit (s := S128x256) ![0, 0] S128x128.size inb_S128x256_S128x128_0_0).toLoadRect (harg25.unread x25)) (View.readAt (Elt F) arg17.view (Rect.unit (s := S2x256x256) (k0_off5 i) S1x128x128.size (k0_off5_inb i)).toLoadRect (harg17.unread x17))) (k0_pay31 (View.readAt (Elt F) arg25.view (Rect.unit (s := S128x256) ![0, 128] S128x128.size inb_S128x256_S128x128_0_128).toLoadRect (harg25.unread x25)) (View.readAt (Elt F) arg17.view (Rect.unit (s := S2x256x256) (k0_off6 i) S1x128x128.size (k0_off6_inb i)).toLoadRect (harg17.unread x17))) ![(View.readAt (Elt F) arg16.view (Rect.unit (s := S2x256x1024) (k0_off7 i) S1x128x128.size (k0_off7_inb i)).toLoadRect (arg16.view.writes (Elt F) (harg16.unread x16) (runN.sl.H16_4 c i arg2 harg2 arg3 harg3 arg15 x2 x3))), (View.readAt (Elt F) arg16.view (Rect.unit (s := S2x256x1024) (k0_off8 i) S1x128x128.size (k0_off8_inb i)).toLoadRect (arg16.view.writes (Elt F) (harg16.unread x16) (runN.sl.H16_4 c i arg2 harg2 arg3 harg3 arg15 x2 x3))), (View.readAt (Elt F) arg16.view (Rect.unit (s := S2x256x1024) (k0_off9 i) S1x128x128.size (k0_off9_inb i)).toLoadRect (arg16.view.writes (Elt F) (harg16.unread x16) (runN.sl.H16_4 c i arg2 harg2 arg3 harg3 arg15 x2 x3))), (View.readAt (Elt F) arg16.view (Rect.unit (s := S2x256x1024) (k0_off10 i) S1x128x128.size (k0_off10_inb i)).toLoadRect (arg16.view.writes (Elt F) (harg16.unread x16) (runN.sl.H16_4 c i arg2 harg2 arg3 harg3 arg15 x2 x3)))] ![![(View.readAt (Elt F) arg1.view (Rect.unit (s := S16) ![0] S1.size inb_S16_S1_0).toLoadRect (harg1.unread x1) (Shape.Idx.first (by decide))), (View.readAt (Elt F) arg1.view (Rect.unit (s := S16) ![1] S1.size inb_S16_S1_1).toLoadRect (harg1.unread x1) (Shape.Idx.first (by decide)))], ![(View.readAt (Elt F) arg1.view (Rect.unit (s := S16) ![2] S1.size inb_S16_S1_2).toLoadRect (harg1.unread x1) (Shape.Idx.first (by decide))), (View.readAt (Elt F) arg1.view (Rect.unit (s := S16) ![3] S1.size inb_S16_S1_3).toLoadRect (harg1.unread x1) (Shape.Idx.first (by decide)))], ![(View.readAt (Elt F) arg1.view (Rect.unit (s := S16) ![4] S1.size inb_S16_S1_4).toLoadRect (harg1.unread x1) (Shape.Idx.first (by decide))), (View.readAt (Elt F) arg1.view (Rect.unit (s := S16) ![5] S1.size inb_S16_S1_5).toLoadRect (harg1.unread x1) (Shape.Idx.first (by decide)))], ![(View.readAt (Elt F) arg1.view (Rect.unit (s := S16) ![6] S1.size inb_S16_S1_6).toLoadRect (harg1.unread x1) (Shape.Idx.first (by decide))), (View.readAt (Elt F) arg1.view (Rect.unit (s := S16) ![7] S1.size inb_S16_S1_7).toLoadRect (harg1.unread x1) (Shape.Idx.first (by decide)))]] 1⟩,
    ⟨Rect.unit (s := S256x1024) ![0, 0] S128x128.size inb_S256x1024_S128x128_0_0, outp (some (runN.sl.v124 i)) (k0_pay30 (View.readAt (Elt F) arg25.view (Rect.unit (s := S128x256) ![0, 0] S128x128.size inb_S128x256_S128x128_0_0).toLoadRect (harg25.unread x25)) (View.readAt (Elt F) arg17.view (Rect.unit (s := S2x256x256) (k0_off5 i) S1x128x128.size (k0_off5_inb i)).toLoadRect (harg17.unread x17))) (k0_pay31 (View.readAt (Elt F) arg25.view (Rect.unit (s := S128x256) ![0, 128] S128x128.size inb_S128x256_S128x128_0_128).toLoadRect (harg25.unread x25)) (View.readAt (Elt F) arg17.view (Rect.unit (s := S2x256x256) (k0_off6 i) S1x128x128.size (k0_off6_inb i)).toLoadRect (harg17.unread x17))) ![(View.readAt (Elt F) arg16.view (Rect.unit (s := S2x256x1024) (k0_off7 i) S1x128x128.size (k0_off7_inb i)).toLoadRect (arg16.view.writes (Elt F) (harg16.unread x16) (runN.sl.H16_4 c i arg2 harg2 arg3 harg3 arg15 x2 x3))), (View.readAt (Elt F) arg16.view (Rect.unit (s := S2x256x1024) (k0_off8 i) S1x128x128.size (k0_off8_inb i)).toLoadRect (arg16.view.writes (Elt F) (harg16.unread x16) (runN.sl.H16_4 c i arg2 harg2 arg3 harg3 arg15 x2 x3))), (View.readAt (Elt F) arg16.view (Rect.unit (s := S2x256x1024) (k0_off9 i) S1x128x128.size (k0_off9_inb i)).toLoadRect (arg16.view.writes (Elt F) (harg16.unread x16) (runN.sl.H16_4 c i arg2 harg2 arg3 harg3 arg15 x2 x3))), (View.readAt (Elt F) arg16.view (Rect.unit (s := S2x256x1024) (k0_off10 i) S1x128x128.size (k0_off10_inb i)).toLoadRect (arg16.view.writes (Elt F) (harg16.unread x16) (runN.sl.H16_4 c i arg2 harg2 arg3 harg3 arg15 x2 x3)))] ![![(View.readAt (Elt F) arg1.view (Rect.unit (s := S16) ![0] S1.size inb_S16_S1_0).toLoadRect (harg1.unread x1) (Shape.Idx.first (by decide))), (View.readAt (Elt F) arg1.view (Rect.unit (s := S16) ![1] S1.size inb_S16_S1_1).toLoadRect (harg1.unread x1) (Shape.Idx.first (by decide)))], ![(View.readAt (Elt F) arg1.view (Rect.unit (s := S16) ![2] S1.size inb_S16_S1_2).toLoadRect (harg1.unread x1) (Shape.Idx.first (by decide))), (View.readAt (Elt F) arg1.view (Rect.unit (s := S16) ![3] S1.size inb_S16_S1_3).toLoadRect (harg1.unread x1) (Shape.Idx.first (by decide)))], ![(View.readAt (Elt F) arg1.view (Rect.unit (s := S16) ![4] S1.size inb_S16_S1_4).toLoadRect (harg1.unread x1) (Shape.Idx.first (by decide))), (View.readAt (Elt F) arg1.view (Rect.unit (s := S16) ![5] S1.size inb_S16_S1_5).toLoadRect (harg1.unread x1) (Shape.Idx.first (by decide)))], ![(View.readAt (Elt F) arg1.view (Rect.unit (s := S16) ![6] S1.size inb_S16_S1_6).toLoadRect (harg1.unread x1) (Shape.Idx.first (by decide))), (View.readAt (Elt F) arg1.view (Rect.unit (s := S16) ![7] S1.size inb_S16_S1_7).toLoadRect (harg1.unread x1) (Shape.Idx.first (by decide)))]] 0⟩] := rfl

end Cert.Kernel2Ideal.Mix

end
-- ==== Proof.Mix.LsH11_8.lean ====
module

public import proofs.«01_k».proof.Proof.Gen.Kernel2Ideal.Skeleton
public import proofs.«01_k».proof.Proof.Mix.Mod

@[expose] public section

set_option maxRecDepth 65536

noncomputable section

namespace Cert.Kernel2Ideal.Mix

open Cert.Kernel2Ideal.Gen
open Idealize.ShloMosaic Idealize.ShloMosaic.TcCoe Idealize.ShloMosaic.Tactic

variable {F : FTy → Type} [FloatOps F] [Named F]

set_option maxHeartbeats 0 in
theorem H11_8_eq (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg15 : Memref sig .tc .vmem S256x2048 .bf16) (arg16 : Memref sig .tc .vmem S2x256x1024 .bf16) (harg16 : arg16.IsWhole) (arg17 : Memref sig .tc .vmem S2x256x256 .bf16) (harg17 : arg17.IsWhole) (arg25 : Memref sig .tc .vmem S128x256 .bf16) (harg25 : arg25.IsWhole) (x1 : Vec F S16 .f32) (x2 : Vec F S256x2048 .f32) (x3 : Vec F S2048x4480 .bf16) (x16 : Vec F S2x256x1024 .bf16) (x17 : Vec F S2x256x256 .bf16) (x25 : Vec F S128x256 .bf16) :
    runN.sl.H11_8 c i arg1 harg1 arg2 harg2 arg3 harg3 arg15 arg16 harg16 arg17 harg17 arg25 harg25 x1 x2 x3 x16 x17 x25 = ⟨Rect.unit (s := S256x1024) ![0, 896] S128x128.size inb_S256x1024_S128x128_0_896, outp (some (runN.sl.v124 i)) (k0_pay95 (k0_pay30 (View.readAt (Elt F) arg25.view (Rect.unit (s := S128x256) ![0, 0] S128x128.size inb_S128x256_S128x128_0_0).toLoadRect (harg25.unread x25)) (View.readAt (Elt F) arg17.view (Rect.unit (s := S2x256x256) (k0_off5 i) S1x128x128.size (k0_off5_inb i)).toLoadRect (harg17.unread x17)))) (k0_pay96 (k0_pay31 (View.readAt (Elt F) arg25.view (Rect.unit (s := S128x256) ![0, 128] S128x128.size inb_S128x256_S128x128_0_128).toLoadRect (harg25.unread x25)) (View.readAt (Elt F) arg17.view (Rect.unit (s := S2x256x256) (k0_off6 i) S1x128x128.size (k0_off6_inb i)).toLoadRect (harg17.unread x17)))) ![(View.readAt (Elt F) arg16.view (Rect.unit (s := S2x256x1024) (k0_off11 i) S1x128x128.size (k0_off11_inb i)).toLoadRect (arg16.view.writes (Elt F) (harg16.unread x16) (runN.sl.H16_4 c i arg2 harg2 arg3 harg3 arg15 x2 x3))), (View.readAt (Elt F) arg16.view (Rect.unit (s := S2x256x1024) (k0_off12 i) S1x128x128.size (k0_off12_inb i)).toLoadRect (arg16.view.writes (Elt F) (harg16.unread x16) (runN.sl.H16_4 c i arg2 harg2 arg3 harg3 arg15 x2 x3))), (View.readAt (Elt F) arg16.view (Rect.unit (s := S2x256x1024) (k0_off13 i) S1x128x128.size (k0_off13_inb i)).toLoadRect (arg16.view.writes (Elt F) (harg16.unread x16) (runN.sl.H16_4 c i arg2 harg2 arg3 harg3 arg15 x2 x3))), (View.readAt (Elt F) arg16.view (Rect.unit (s := S2x256x1024) (k0_off14 i) S1x128x128.size (k0_off14_inb i)).toLoadRect (arg16.view.writes (Elt F) (harg16.unread x16) (runN.sl.H16_4 c i arg2 harg2 arg3 harg3 arg15 x2 x3)))] ![![(View.readAt (Elt F) arg1.view (Rect.unit (s := S16) ![8] S1.size inb_S16_S1_8).toLoadRect (harg1.unread x1) (Shape.Idx.first (by decide))), (View.readAt (Elt F) arg1.view (Rect.unit (s := S16) ![9] S1.size inb_S16_S1_9).toLoadRect (harg1.unread x1) (Shape.Idx.first (by decide)))], ![(View.readAt (Elt F) arg1.view (Rect.unit (s := S16) ![10] S1.size inb_S16_S1_10).toLoadRect (harg1.unread x1) (Shape.Idx.first (by decide))), (View.readAt (Elt F) arg1.view (Rect.unit (s := S16) ![11] S1.size inb_S16_S1_11).toLoadRect (harg1.unread x1) (Shape.Idx.first (by decide)))], ![(View.readAt (Elt F) arg1.view (Rect.unit (s := S16) ![12] S1.size inb_S16_S1_12).toLoadRect (harg1.unread x1) (Shape.Idx.first (by decide))), (View.readAt (Elt F) arg1.view (Rect.unit (s := S16) ![13] S1.size inb_S16_S1_13).toLoadRect (harg1.unread x1) (Shape.Idx.first (by decide)))], ![(View.readAt (Elt F) arg1.view (Rect.unit (s := S16) ![14] S1.size inb_S16_S1_14).toLoadRect (harg1.unread x1) (Shape.Idx.first (by decide))), (View.readAt (Elt F) arg1.view (Rect.unit (s := S16) ![15] S1.size inb_S16_S1_15).toLoadRect (harg1.unread x1) (Shape.Idx.first (by decide)))]] 3⟩
 :: ⟨Rect.unit (s := S256x1024) ![0, 768] S128x128.size inb_S256x1024_S128x128_0_768, outp (some (runN.sl.v124 i)) (k0_pay95 (k0_pay30 (View.readAt (Elt F) arg25.view (Rect.unit (s := S128x256) ![0, 0] S128x128.size inb_S128x256_S128x128_0_0).toLoadRect (harg25.unread x25)) (View.readAt (Elt F) arg17.view (Rect.unit (s := S2x256x256) (k0_off5 i) S1x128x128.size (k0_off5_inb i)).toLoadRect (harg17.unread x17)))) (k0_pay96 (k0_pay31 (View.readAt (Elt F) arg25.view (Rect.unit (s := S128x256) ![0, 128] S128x128.size inb_S128x256_S128x128_0_128).toLoadRect (harg25.unread x25)) (View.readAt (Elt F) arg17.view (Rect.unit (s := S2x256x256) (k0_off6 i) S1x128x128.size (k0_off6_inb i)).toLoadRect (harg17.unread x17)))) ![(View.readAt (Elt F) arg16.view (Rect.unit (s := S2x256x1024) (k0_off11 i) S1x128x128.size (k0_off11_inb i)).toLoadRect (arg16.view.writes (Elt F) (harg16.unread x16) (runN.sl.H16_4 c i arg2 harg2 arg3 harg3 arg15 x2 x3))), (View.readAt (Elt F) arg16.view (Rect.unit (s := S2x256x1024) (k0_off12 i) S1x128x128.size (k0_off12_inb i)).toLoadRect (arg16.view.writes (Elt F) (harg16.unread x16) (runN.sl.H16_4 c i arg2 harg2 arg3 harg3 arg15 x2 x3))), (View.readAt (Elt F) arg16.view (Rect.unit (s := S2x256x1024) (k0_off13 i) S1x128x128.size (k0_off13_inb i)).toLoadRect (arg16.view.writes (Elt F) (harg16.unread x16) (runN.sl.H16_4 c i arg2 harg2 arg3 harg3 arg15 x2 x3))), (View.readAt (Elt F) arg16.view (Rect.unit (s := S2x256x1024) (k0_off14 i) S1x128x128.size (k0_off14_inb i)).toLoadRect (arg16.view.writes (Elt F) (harg16.unread x16) (runN.sl.H16_4 c i arg2 harg2 arg3 harg3 arg15 x2 x3)))] ![![(View.readAt (Elt F) arg1.view (Rect.unit (s := S16) ![8] S1.size inb_S16_S1_8).toLoadRect (harg1.unread x1) (Shape.Idx.first (by decide))), (View.readAt (Elt F) arg1.view (Rect.unit (s := S16) ![9] S1.size inb_S16_S1_9).toLoadRect (harg1.unread x1) (Shape.Idx.first (by decide)))], ![(View.readAt (Elt F) arg1.view (Rect.unit (s := S16) ![10] S1.size inb_S16_S1_10).toLoadRect (harg1.unread x1) (Shape.Idx.first (by decide))), (View.readAt (Elt F) arg1.view (Rect.unit (s := S16) ![11] S1.size inb_S16_S1_11).toLoadRect (harg1.unread x1) (Shape.Idx.first (by decide)))], ![(View.readAt (Elt F) arg1.view (Rect.unit (s := S16) ![12] S1.size inb_S16_S1_12).toLoadRect (harg1.unread x1) (Shape.Idx.first (by decide))), (View.readAt (Elt F) arg1.view (Rect.unit (s := S16) ![13] S1.size inb_S16_S1_13).toLoadRect (harg1.unread x1) (Shape.Idx.first (by decide)))], ![(View.readAt (Elt F) arg1.view (Rect.unit (s := S16) ![14] S1.size inb_S16_S1_14).toLoadRect (harg1.unread x1) (Shape.Idx.first (by decide))), (View.readAt (Elt F) arg1.view (Rect.unit (s := S16) ![15] S1.size inb_S16_S1_15).toLoadRect (harg1.unread x1) (Shape.Idx.first (by decide)))]] 2⟩
 :: ⟨Rect.unit (s := S256x1024) ![0, 640] S128x128.size inb_S256x1024_S128x128_0_640, outp (some (runN.sl.v124 i)) (k0_pay95 (k0_pay30 (View.readAt (Elt F) arg25.view (Rect.unit (s := S128x256) ![0, 0] S128x128.size inb_S128x256_S128x128_0_0).toLoadRect (harg25.unread x25)) (View.readAt (Elt F) arg17.view (Rect.unit (s := S2x256x256) (k0_off5 i) S1x128x128.size (k0_off5_inb i)).toLoadRect (harg17.unread x17)))) (k0_pay96 (k0_pay31 (View.readAt (Elt F) arg25.view (Rect.unit (s := S128x256) ![0, 128] S128x128.size inb_S128x256_S128x128_0_128).toLoadRect (harg25.unread x25)) (View.readAt (Elt F) arg17.view (Rect.unit (s := S2x256x256) (k0_off6 i) S1x128x128.size (k0_off6_inb i)).toLoadRect (harg17.unread x17)))) ![(View.readAt (Elt F) arg16.view (Rect.unit (s := S2x256x1024) (k0_off11 i) S1x128x128.size (k0_off11_inb i)).toLoadRect (arg16.view.writes (Elt F) (harg16.unread x16) (runN.sl.H16_4 c i arg2 harg2 arg3 harg3 arg15 x2 x3))), (View.readAt (Elt F) arg16.view (Rect.unit (s := S2x256x1024) (k0_off12 i) S1x128x128.size (k0_off12_inb i)).toLoadRect (arg16.view.writes (Elt F) (harg16.unread x16) (runN.sl.H16_4 c i arg2 harg2 arg3 harg3 arg15 x2 x3))), (View.readAt (Elt F) arg16.view (Rect.unit (s := S2x256x1024) (k0_off13 i) S1x128x128.size (k0_off13_inb i)).toLoadRect (arg16.view.writes (Elt F) (harg16.unread x16) (runN.sl.H16_4 c i arg2 harg2 arg3 harg3 arg15 x2 x3))), (View.readAt (Elt F) arg16.view (Rect.unit (s := S2x256x1024) (k0_off14 i) S1x128x128.size (k0_off14_inb i)).toLoadRect (arg16.view.writes (Elt F) (harg16.unread x16) (runN.sl.H16_4 c i arg2 harg2 arg3 harg3 arg15 x2 x3)))] ![![(View.readAt (Elt F) arg1.view (Rect.unit (s := S16) ![8] S1.size inb_S16_S1_8).toLoadRect (harg1.unread x1) (Shape.Idx.first (by decide))), (View.readAt (Elt F) arg1.view (Rect.unit (s := S16) ![9] S1.size inb_S16_S1_9).toLoadRect (harg1.unread x1) (Shape.Idx.first (by decide)))], ![(View.readAt (Elt F) arg1.view (Rect.unit (s := S16) ![10] S1.size inb_S16_S1_10).toLoadRect (harg1.unread x1) (Shape.Idx.first (by decide))), (View.readAt (Elt F) arg1.view (Rect.unit (s := S16) ![11] S1.size inb_S16_S1_11).toLoadRect (harg1.unread x1) (Shape.Idx.first (by decide)))], ![(View.readAt (Elt F) arg1.view (Rect.unit (s := S16) ![12] S1.size inb_S16_S1_12).toLoadRect (harg1.unread x1) (Shape.Idx.first (by decide))), (View.readAt (Elt F) arg1.view (Rect.unit (s := S16) ![13] S1.size inb_S16_S1_13).toLoadRect (harg1.unread x1) (Shape.Idx.first (by decide)))], ![(View.readAt (Elt F) arg1.view (Rect.unit (s := S16) ![14] S1.size inb_S16_S1_14).toLoadRect (harg1.unread x1) (Shape.Idx.first (by decide))), (View.readAt (Elt F) arg1.view (Rect.unit (s := S16) ![15] S1.size inb_S16_S1_15).toLoadRect (harg1.unread x1) (Shape.Idx.first (by decide)))]] 1⟩
 :: ⟨Rect.unit (s := S256x1024) ![0, 512] S128x128.size inb_S256x1024_S128x128_0_512, outp (some (runN.sl.v124 i)) (k0_pay95 (k0_pay30 (View.readAt (Elt F) arg25.view (Rect.unit (s := S128x256) ![0, 0] S128x128.size inb_S128x256_S128x128_0_0).toLoadRect (harg25.unread x25)) (View.readAt (Elt F) arg17.view (Rect.unit (s := S2x256x256) (k0_off5 i) S1x128x128.size (k0_off5_inb i)).toLoadRect (harg17.unread x17)))) (k0_pay96 (k0_pay31 (View.readAt (Elt F) arg25.view (Rect.unit (s := S128x256) ![0, 128] S128x128.size inb_S128x256_S128x128_0_128).toLoadRect (harg25.unread x25)) (View.readAt (Elt F) arg17.view (Rect.unit (s := S2x256x256) (k0_off6 i) S1x128x128.size (k0_off6_inb i)).toLoadRect (harg17.unread x17)))) ![(View.readAt (Elt F) arg16.view (Rect.unit (s := S2x256x1024) (k0_off11 i) S1x128x128.size (k0_off11_inb i)).toLoadRect (arg16.view.writes (Elt F) (harg16.unread x16) (runN.sl.H16_4 c i arg2 harg2 arg3 harg3 arg15 x2 x3))), (View.readAt (Elt F) arg16.view (Rect.unit (s := S2x256x1024) (k0_off12 i) S1x128x128.size (k0_off12_inb i)).toLoadRect (arg16.view.writes (Elt F) (harg16.unread x16) (runN.sl.H16_4 c i arg2 harg2 arg3 harg3 arg15 x2 x3))), (View.readAt (Elt F) arg16.view (Rect.unit (s := S2x256x1024) (k0_off13 i) S1x128x128.size (k0_off13_inb i)).toLoadRect (arg16.view.writes (Elt F) (harg16.unread x16) (runN.sl.H16_4 c i arg2 harg2 arg3 harg3 arg15 x2 x3))), (View.readAt (Elt F) arg16.view (Rect.unit (s := S2x256x1024) (k0_off14 i) S1x128x128.size (k0_off14_inb i)).toLoadRect (arg16.view.writes (Elt F) (harg16.unread x16) (runN.sl.H16_4 c i arg2 harg2 arg3 harg3 arg15 x2 x3)))] ![![(View.readAt (Elt F) arg1.view (Rect.unit (s := S16) ![8] S1.size inb_S16_S1_8).toLoadRect (harg1.unread x1) (Shape.Idx.first (by decide))), (View.readAt (Elt F) arg1.view (Rect.unit (s := S16) ![9] S1.size inb_S16_S1_9).toLoadRect (harg1.unread x1) (Shape.Idx.first (by decide)))], ![(View.readAt (Elt F) arg1.view (Rect.unit (s := S16) ![10] S1.size inb_S16_S1_10).toLoadRect (harg1.unread x1) (Shape.Idx.first (by decide))), (View.readAt (Elt F) arg1.view (Rect.unit (s := S16) ![11] S1.size inb_S16_S1_11).toLoadRect (harg1.unread x1) (Shape.Idx.first (by decide)))], ![(View.readAt (Elt F) arg1.view (Rect.unit (s := S16) ![12] S1.size inb_S16_S1_12).toLoadRect (harg1.unread x1) (Shape.Idx.first (by decide))), (View.readAt (Elt F) arg1.view (Rect.unit (s := S16) ![13] S1.size inb_S16_S1_13).toLoadRect (harg1.unread x1) (Shape.Idx.first (by decide)))], ![(View.readAt (Elt F) arg1.view (Rect.unit (s := S16) ![14] S1.size inb_S16_S1_14).toLoadRect (harg1.unread x1) (Shape.Idx.first (by decide))), (View.readAt (Elt F) arg1.view (Rect.unit (s := S16) ![15] S1.size inb_S16_S1_15).toLoadRect (harg1.unread x1) (Shape.Idx.first (by decide)))]] 0⟩
 :: runN.sl.H11_4 c i arg1 harg1 arg2 harg2 arg3 harg3 arg15 arg16 harg16 arg17 harg17 arg25 harg25 x1 x2 x3 x16 x17 x25 := rfl

end Cert.Kernel2Ideal.Mix

end
-- ==== Proof.Mix.LsH11_12.lean ====
module

public import proofs.«01_k».proof.Proof.Gen.Kernel2Ideal.Skeleton
public import proofs.«01_k».proof.Proof.Mix.Mod

@[expose] public section

set_option maxRecDepth 65536

noncomputable section

namespace Cert.Kernel2Ideal.Mix

open Cert.Kernel2Ideal.Gen
open Idealize.ShloMosaic Idealize.ShloMosaic.TcCoe Idealize.ShloMosaic.Tactic

variable {F : FTy → Type} [FloatOps F] [Named F]

set_option maxHeartbeats 0 in
theorem H11_12_eq (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg15 : Memref sig .tc .vmem S256x2048 .bf16) (arg16 : Memref sig .tc .vmem S2x256x1024 .bf16) (harg16 : arg16.IsWhole) (arg17 : Memref sig .tc .vmem S2x256x256 .bf16) (harg17 : arg17.IsWhole) (arg25 : Memref sig .tc .vmem S128x256 .bf16) (harg25 : arg25.IsWhole) (x1 : Vec F S16 .f32) (x2 : Vec F S256x2048 .f32) (x3 : Vec F S2048x4480 .bf16) (x16 : Vec F S2x256x1024 .bf16) (x17 : Vec F S2x256x256 .bf16) (x25 : Vec F S128x256 .bf16) :
    runN.sl.H11_12 c i arg1 harg1 arg2 harg2 arg3 harg3 arg15 arg16 harg16 arg17 harg17 arg25 harg25 x1 x2 x3 x16 x17 x25 = ⟨Rect.unit (s := S256x1024) ![128, 384] S128x128.size inb_S256x1024_S128x128_128_384, outp none (k0_pay731 (k0_pay730 (View.readAt (Elt F) arg17.view (Rect.unit (s := S2x256x256) (k0_off5 i) S1x128x128.size (k0_off5_inb i)).toLoadRect (arg17.view.writes (Elt F) (harg17.unread x17) (runN.sl.H17_1 c i arg2 harg2 arg3 harg3 arg15 x2 x3)))) (View.readAt (Elt F) arg17.view (Rect.unit (s := S2x256x256) (k0_off282 i) S1x128x128.size (k0_off282_inb i)).toLoadRect (arg17.view.writes (Elt F) (harg17.unread x17) (runN.sl.H17_1 c i arg2 harg2 arg3 harg3 arg15 x2 x3)))) (k0_pay732 (View.readAt (Elt F) arg17.view (Rect.unit (s := S2x256x256) (k0_off6 i) S1x128x128.size (k0_off6_inb i)).toLoadRect (arg17.view.writes (Elt F) (harg17.unread x17) (runN.sl.H17_1 c i arg2 harg2 arg3 harg3 arg15 x2 x3))) (View.readAt (Elt F) arg17.view (Rect.unit (s := S2x256x256) (k0_off283 i) S1x128x128.size (k0_off283_inb i)).toLoadRect (arg17.view.writes (Elt F) (harg17.unread x17) (runN.sl.H17_1 c i arg2 harg2 arg3 harg3 arg15 x2 x3)))) ![(View.readAt (Elt F) arg16.view (Rect.unit (s := S2x256x1024) (k0_off284 i) S1x128x128.size (k0_off284_inb i)).toLoadRect (arg16.view.writes (Elt F) (harg16.unread x16) (runN.sl.H16_4 c i arg2 harg2 arg3 harg3 arg15 x2 x3))), (View.readAt (Elt F) arg16.view (Rect.unit (s := S2x256x1024) (k0_off285 i) S1x128x128.size (k0_off285_inb i)).toLoadRect (arg16.view.writes (Elt F) (harg16.unread x16) (runN.sl.H16_4 c i arg2 harg2 arg3 harg3 arg15 x2 x3))), (View.readAt (Elt F) arg16.view (Rect.unit (s := S2x256x1024) (k0_off286 i) S1x128x128.size (k0_off286_inb i)).toLoadRect (arg16.view.writes (Elt F) (harg16.unread x16) (runN.sl.H16_4 c i arg2 harg2 arg3 harg3 arg15 x2 x3))), (View.readAt (Elt F) arg16.view (Rect.unit (s := S2x256x1024) (k0_off287 i) S1x128x128.size (k0_off287_inb i)).toLoadRect (arg16.view.writes (Elt F) (harg16.unread x16) (runN.sl.H16_4 c i arg2 harg2 arg3 harg3 arg15 x2 x3)))] ![![(View.readAt (Elt F) arg1.view (Rect.unit (s := S16) ![0] S1.size inb_S16_S1_0).toLoadRect (harg1.unread x1) (Shape.Idx.first (by decide))), (View.readAt (Elt F) arg1.view (Rect.unit (s := S16) ![1] S1.size inb_S16_S1_1).toLoadRect (harg1.unread x1) (Shape.Idx.first (by decide)))], ![(View.readAt (Elt F) arg1.view (Rect.unit (s := S16) ![2] S1.size inb_S16_S1_2).toLoadRect (harg1.unread x1) (Shape.Idx.first (by decide))), (View.readAt (Elt F) arg1.view (Rect.unit (s := S16) ![3] S1.size inb_S16_S1_3).toLoadRect (harg1.unread x1) (Shape.Idx.first (by decide)))], ![(View.readAt (Elt F) arg1.view (Rect.unit (s := S16) ![4] S1.size inb_S16_S1_4).toLoadRect (harg1.unread x1) (Shape.Idx.first (by decide))), (View.readAt (Elt F) arg1.view (Rect.unit (s := S16) ![5] S1.size inb_S16_S1_5).toLoadRect (harg1.unread x1) (Shape.Idx.first (by decide)))], ![(View.readAt (Elt F) arg1.view (Rect.unit (s := S16) ![6] S1.size inb_S16_S1_6).toLoadRect (harg1.unread x1) (Shape.Idx.first (by decide))), (View.readAt (Elt F) arg1.view (Rect.unit (s := S16) ![7] S1.size inb_S16_S1_7).toLoadRect (harg1.unread x1) (Shape.Idx.first (by decide)))]] 3⟩
 :: ⟨Rect.unit (s := S256x1024) ![128, 256] S128x128.size inb_S256x1024_S128x128_128_256, outp none (k0_pay731 (k0_pay730 (View.readAt (Elt F) arg17.view (Rect.unit (s := S2x256x256) (k0_off5 i) S1x128x128.size (k0_off5_inb i)).toLoadRect (arg17.view.writes (Elt F) (harg17.unread x17) (runN.sl.H17_1 c i arg2 harg2 arg3 harg3 arg15 x2 x3)))) (View.readAt (Elt F) arg17.view (Rect.unit (s := S2x256x256) (k0_off282 i) S1x128x128.size (k0_off282_inb i)).toLoadRect (arg17.view.writes (Elt F) (harg17.unread x17) (runN.sl.H17_1 c i arg2 harg2 arg3 harg3 arg15 x2 x3)))) (k0_pay732 (View.readAt (Elt F) arg17.view (Rect.unit (s := S2x256x256) (k0_off6 i) S1x128x128.size (k0_off6_inb i)).toLoadRect (arg17.view.writes (Elt F) (harg17.unread x17) (runN.sl.H17_1 c i arg2 harg2 arg3 harg3 arg15 x2 x3))) (View.readAt (Elt F) arg17.view (Rect.unit (s := S2x256x256) (k0_off283 i) S1x128x128.size (k0_off283_inb i)).toLoadRect (arg17.view.writes (Elt F) (harg17.unread x17) (runN.sl.H17_1 c i arg2 harg2 arg3 harg3 arg15 x2 x3)))) ![(View.readAt (Elt F) arg16.view (Rect.unit (s := S2x256x1024) (k0_off284 i) S1x128x128.size (k0_off284_inb i)).toLoadRect (arg16.view.writes (Elt F) (harg16.unread x16) (runN.sl.H16_4 c i arg2 harg2 arg3 harg3 arg15 x2 x3))), (View.readAt (Elt F) arg16.view (Rect.unit (s := S2x256x1024) (k0_off285 i) S1x128x128.size (k0_off285_inb i)).toLoadRect (arg16.view.writes (Elt F) (harg16.unread x16) (runN.sl.H16_4 c i arg2 harg2 arg3 harg3 arg15 x2 x3))), (View.readAt (Elt F) arg16.view (Rect.unit (s := S2x256x1024) (k0_off286 i) S1x128x128.size (k0_off286_inb i)).toLoadRect (arg16.view.writes (Elt F) (harg16.unread x16) (runN.sl.H16_4 c i arg2 harg2 arg3 harg3 arg15 x2 x3))), (View.readAt (Elt F) arg16.view (Rect.unit (s := S2x256x1024) (k0_off287 i) S1x128x128.size (k0_off287_inb i)).toLoadRect (arg16.view.writes (Elt F) (harg16.unread x16) (runN.sl.H16_4 c i arg2 harg2 arg3 harg3 arg15 x2 x3)))] ![![(View.readAt (Elt F) arg1.view (Rect.unit (s := S16) ![0] S1.size inb_S16_S1_0).toLoadRect (harg1.unread x1) (Shape.Idx.first (by decide))), (View.readAt (Elt F) arg1.view (Rect.unit (s := S16) ![1] S1.size inb_S16_S1_1).toLoadRect (harg1.unread x1) (Shape.Idx.first (by decide)))], ![(View.readAt (Elt F) arg1.view (Rect.unit (s := S16) ![2] S1.size inb_S16_S1_2).toLoadRect (harg1.unread x1) (Shape.Idx.first (by decide))), (View.readAt (Elt F) arg1.view (Rect.unit (s := S16) ![3] S1.size inb_S16_S1_3).toLoadRect (harg1.unread x1) (Shape.Idx.first (by decide)))], ![(View.readAt (Elt F) arg1.view (Rect.unit (s := S16) ![4] S1.size inb_S16_S1_4).toLoadRect (harg1.unread x1) (Shape.Idx.first (by decide))), (View.readAt (Elt F) arg1.view (Rect.unit (s := S16) ![5] S1.size inb_S16_S1_5).toLoadRect (harg1.unread x1) (Shape.Idx.first (by decide)))], ![(View.readAt (Elt F) arg1.view (Rect.unit (s := S16) ![6] S1.size inb_S16_S1_6).toLoadRect (harg1.unread x1) (Shape.Idx.first (by decide))), (View.readAt (Elt F) arg1.view (Rect.unit (s := S16) ![7] S1.size inb_S16_S1_7).toLoadRect (harg1.unread x1) (Shape.Idx.first (by decide)))]] 2⟩
 :: ⟨Rect.unit (s := S256x1024) ![128, 128] S128x128.size inb_S256x1024_S128x128_128_128, outp none (k0_pay731 (k0_pay730 (View.readAt (Elt F) arg17.view (Rect.unit (s := S2x256x256) (k0_off5 i) S1x128x128.size (k0_off5_inb i)).toLoadRect (arg17.view.writes (Elt F) (harg17.unread x17) (runN.sl.H17_1 c i arg2 harg2 arg3 harg3 arg15 x2 x3)))) (View.readAt (Elt F) arg17.view (Rect.unit (s := S2x256x256) (k0_off282 i) S1x128x128.size (k0_off282_inb i)).toLoadRect (arg17.view.writes (Elt F) (harg17.unread x17) (runN.sl.H17_1 c i arg2 harg2 arg3 harg3 arg15 x2 x3)))) (k0_pay732 (View.readAt (Elt F) arg17.view (Rect.unit (s := S2x256x256) (k0_off6 i) S1x128x128.size (k0_off6_inb i)).toLoadRect (arg17.view.writes (Elt F) (harg17.unread x17) (runN.sl.H17_1 c i arg2 harg2 arg3 harg3 arg15 x2 x3))) (View.readAt (Elt F) arg17.view (Rect.unit (s := S2x256x256) (k0_off283 i) S1x128x128.size (k0_off283_inb i)).toLoadRect (arg17.view.writes (Elt F) (harg17.unread x17) (runN.sl.H17_1 c i arg2 harg2 arg3 harg3 arg15 x2 x3)))) ![(View.readAt (Elt F) arg16.view (Rect.unit (s := S2x256x1024) (k0_off284 i) S1x128x128.size (k0_off284_inb i)).toLoadRect (arg16.view.writes (Elt F) (harg16.unread x16) (runN.sl.H16_4 c i arg2 harg2 arg3 harg3 arg15 x2 x3))), (View.readAt (Elt F) arg16.view (Rect.unit (s := S2x256x1024) (k0_off285 i) S1x128x128.size (k0_off285_inb i)).toLoadRect (arg16.view.writes (Elt F) (harg16.unread x16) (runN.sl.H16_4 c i arg2 harg2 arg3 harg3 arg15 x2 x3))), (View.readAt (Elt F) arg16.view (Rect.unit (s := S2x256x1024) (k0_off286 i) S1x128x128.size (k0_off286_inb i)).toLoadRect (arg16.view.writes (Elt F) (harg16.unread x16) (runN.sl.H16_4 c i arg2 harg2 arg3 harg3 arg15 x2 x3))), (View.readAt (Elt F) arg16.view (Rect.unit (s := S2x256x1024) (k0_off287 i) S1x128x128.size (k0_off287_inb i)).toLoadRect (arg16.view.writes (Elt F) (harg16.unread x16) (runN.sl.H16_4 c i arg2 harg2 arg3 harg3 arg15 x2 x3)))] ![![(View.readAt (Elt F) arg1.view (Rect.unit (s := S16) ![0] S1.size inb_S16_S1_0).toLoadRect (harg1.unread x1) (Shape.Idx.first (by decide))), (View.readAt (Elt F) arg1.view (Rect.unit (s := S16) ![1] S1.size inb_S16_S1_1).toLoadRect (harg1.unread x1) (Shape.Idx.first (by decide)))], ![(View.readAt (Elt F) arg1.view (Rect.unit (s := S16) ![2] S1.size inb_S16_S1_2).toLoadRect (harg1.unread x1) (Shape.Idx.first (by decide))), (View.readAt (Elt F) arg1.view (Rect.unit (s := S16) ![3] S1.size inb_S16_S1_3).toLoadRect (harg1.unread x1) (Shape.Idx.first (by decide)))], ![(View.readAt (Elt F) arg1.view (Rect.unit (s := S16) ![4] S1.size inb_S16_S1_4).toLoadRect (harg1.unread x1) (Shape.Idx.first (by decide))), (View.readAt (Elt F) arg1.view (Rect.unit (s := S16) ![5] S1.size inb_S16_S1_5).toLoadRect (harg1.unread x1) (Shape.Idx.first (by decide)))], ![(View.readAt (Elt F) arg1.view (Rect.unit (s := S16) ![6] S1.size inb_S16_S1_6).toLoadRect (harg1.unread x1) (Shape.Idx.first (by decide))), (View.readAt (Elt F) arg1.view (Rect.unit (s := S16) ![7] S1.size inb_S16_S1_7).toLoadRect (harg1.unread x1) (Shape.Idx.first (by decide)))]] 1⟩
 :: ⟨Rect.unit (s := S256x1024) ![128, 0] S128x128.size inb_S256x1024_S128x128_128_0, outp none (k0_pay731 (k0_pay730 (View.readAt (Elt F) arg17.view (Rect.unit (s := S2x256x256) (k0_off5 i) S1x128x128.size (k0_off5_inb i)).toLoadRect (arg17.view.writes (Elt F) (harg17.unread x17) (runN.sl.H17_1 c i arg2 harg2 arg3 harg3 arg15 x2 x3)))) (View.readAt (Elt F) arg17.view (Rect.unit (s := S2x256x256) (k0_off282 i) S1x128x128.size (k0_off282_inb i)).toLoadRect (arg17.view.writes (Elt F) (harg17.unread x17) (runN.sl.H17_1 c i arg2 harg2 arg3 harg3 arg15 x2 x3)))) (k0_pay732 (View.readAt (Elt F) arg17.view (Rect.unit (s := S2x256x256) (k0_off6 i) S1x128x128.size (k0_off6_inb i)).toLoadRect (arg17.view.writes (Elt F) (harg17.unread x17) (runN.sl.H17_1 c i arg2 harg2 arg3 harg3 arg15 x2 x3))) (View.readAt (Elt F) arg17.view (Rect.unit (s := S2x256x256) (k0_off283 i) S1x128x128.size (k0_off283_inb i)).toLoadRect (arg17.view.writes (Elt F) (harg17.unread x17) (runN.sl.H17_1 c i arg2 harg2 arg3 harg3 arg15 x2 x3)))) ![(View.readAt (Elt F) arg16.view (Rect.unit (s := S2x256x1024) (k0_off284 i) S1x128x128.size (k0_off284_inb i)).toLoadRect (arg16.view.writes (Elt F) (harg16.unread x16) (runN.sl.H16_4 c i arg2 harg2 arg3 harg3 arg15 x2 x3))), (View.readAt (Elt F) arg16.view (Rect.unit (s := S2x256x1024) (k0_off285 i) S1x128x128.size (k0_off285_inb i)).toLoadRect (arg16.view.writes (Elt F) (harg16.unread x16) (runN.sl.H16_4 c i arg2 harg2 arg3 harg3 arg15 x2 x3))), (View.readAt (Elt F) arg16.view (Rect.unit (s := S2x256x1024) (k0_off286 i) S1x128x128.size (k0_off286_inb i)).toLoadRect (arg16.view.writes (Elt F) (harg16.unread x16) (runN.sl.H16_4 c i arg2 harg2 arg3 harg3 arg15 x2 x3))), (View.readAt (Elt F) arg16.view (Rect.unit (s := S2x256x1024) (k0_off287 i) S1x128x128.size (k0_off287_inb i)).toLoadRect (arg16.view.writes (Elt F) (harg16.unread x16) (runN.sl.H16_4 c i arg2 harg2 arg3 harg3 arg15 x2 x3)))] ![![(View.readAt (Elt F) arg1.view (Rect.unit (s := S16) ![0] S1.size inb_S16_S1_0).toLoadRect (harg1.unread x1) (Shape.Idx.first (by decide))), (View.readAt (Elt F) arg1.view (Rect.unit (s := S16) ![1] S1.size inb_S16_S1_1).toLoadRect (harg1.unread x1) (Shape.Idx.first (by decide)))], ![(View.readAt (Elt F) arg1.view (Rect.unit (s := S16) ![2] S1.size inb_S16_S1_2).toLoadRect (harg1.unread x1) (Shape.Idx.first (by decide))), (View.readAt (Elt F) arg1.view (Rect.unit (s := S16) ![3] S1.size inb_S16_S1_3).toLoadRect (harg1.unread x1) (Shape.Idx.first (by decide)))], ![(View.readAt (Elt F) arg1.view (Rect.unit (s := S16) ![4] S1.size inb_S16_S1_4).toLoadRect (harg1.unread x1) (Shape.Idx.first (by decide))), (View.readAt (Elt F) arg1.view (Rect.unit (s := S16) ![5] S1.size inb_S16_S1_5).toLoadRect (harg1.unread x1) (Shape.Idx.first (by decide)))], ![(View.readAt (Elt F) arg1.view (Rect.unit (s := S16) ![6] S1.size inb_S16_S1_6).toLoadRect (harg1.unread x1) (Shape.Idx.first (by decide))), (View.readAt (Elt F) arg1.view (Rect.unit (s := S16) ![7] S1.size inb_S16_S1_7).toLoadRect (harg1.unread x1) (Shape.Idx.first (by decide)))]] 0⟩
 :: runN.sl.H11_8 c i arg1 harg1 arg2 harg2 arg3 harg3 arg15 arg16 harg16 arg17 harg17 arg25 harg25 x1 x2 x3 x16 x17 x25 := rfl

end Cert.Kernel2Ideal.Mix

end
-- ==== Proof.Mix.LsH11_16.lean ====
module

public import proofs.«01_k».proof.Proof.Gen.Kernel2Ideal.Skeleton
public import proofs.«01_k».proof.Proof.Mix.Mod

@[expose] public section

set_option maxRecDepth 65536

noncomputable section

namespace Cert.Kernel2Ideal.Mix

open Cert.Kernel2Ideal.Gen
open Idealize.ShloMosaic Idealize.ShloMosaic.TcCoe Idealize.ShloMosaic.Tactic

variable {F : FTy → Type} [FloatOps F] [Named F]

set_option maxHeartbeats 0 in
theorem H11_16_eq (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg15 : Memref sig .tc .vmem S256x2048 .bf16) (arg16 : Memref sig .tc .vmem S2x256x1024 .bf16) (harg16 : arg16.IsWhole) (arg17 : Memref sig .tc .vmem S2x256x256 .bf16) (harg17 : arg17.IsWhole) (arg25 : Memref sig .tc .vmem S128x256 .bf16) (harg25 : arg25.IsWhole) (x1 : Vec F S16 .f32) (x2 : Vec F S256x2048 .f32) (x3 : Vec F S2048x4480 .bf16) (x16 : Vec F S2x256x1024 .bf16) (x17 : Vec F S2x256x256 .bf16) (x25 : Vec F S128x256 .bf16) :
    runN.sl.H11_16 c i arg1 harg1 arg2 harg2 arg3 harg3 arg15 arg16 harg16 arg17 harg17 arg25 harg25 x1 x2 x3 x16 x17 x25 = ⟨Rect.unit (s := S256x1024) ![128, 896] S128x128.size inb_S256x1024_S128x128_128_896, outp none (k0_pay95 (k0_pay731 (k0_pay730 (View.readAt (Elt F) arg17.view (Rect.unit (s := S2x256x256) (k0_off5 i) S1x128x128.size (k0_off5_inb i)).toLoadRect (arg17.view.writes (Elt F) (harg17.unread x17) (runN.sl.H17_1 c i arg2 harg2 arg3 harg3 arg15 x2 x3)))) (View.readAt (Elt F) arg17.view (Rect.unit (s := S2x256x256) (k0_off282 i) S1x128x128.size (k0_off282_inb i)).toLoadRect (arg17.view.writes (Elt F) (harg17.unread x17) (runN.sl.H17_1 c i arg2 harg2 arg3 harg3 arg15 x2 x3))))) (k0_pay96 (k0_pay732 (View.readAt (Elt F) arg17.view (Rect.unit (s := S2x256x256) (k0_off6 i) S1x128x128.size (k0_off6_inb i)).toLoadRect (arg17.view.writes (Elt F) (harg17.unread x17) (runN.sl.H17_1 c i arg2 harg2 arg3 harg3 arg15 x2 x3))) (View.readAt (Elt F) arg17.view (Rect.unit (s := S2x256x256) (k0_off283 i) S1x128x128.size (k0_off283_inb i)).toLoadRect (arg17.view.writes (Elt F) (harg17.unread x17) (runN.sl.H17_1 c i arg2 harg2 arg3 harg3 arg15 x2 x3))))) ![(View.readAt (Elt F) arg16.view (Rect.unit (s := S2x256x1024) (k0_off288 i) S1x128x128.size (k0_off288_inb i)).toLoadRect (arg16.view.writes (Elt F) (harg16.unread x16) (runN.sl.H16_4 c i arg2 harg2 arg3 harg3 arg15 x2 x3))), (View.readAt (Elt F) arg16.view (Rect.unit (s := S2x256x1024) (k0_off289 i) S1x128x128.size (k0_off289_inb i)).toLoadRect (arg16.view.writes (Elt F) (harg16.unread x16) (runN.sl.H16_4 c i arg2 harg2 arg3 harg3 arg15 x2 x3))), (View.readAt (Elt F) arg16.view (Rect.unit (s := S2x256x1024) (k0_off290 i) S1x128x128.size (k0_off290_inb i)).toLoadRect (arg16.view.writes (Elt F) (harg16.unread x16) (runN.sl.H16_4 c i arg2 harg2 arg3 harg3 arg15 x2 x3))), (View.readAt (Elt F) arg16.view (Rect.unit (s := S2x256x1024) (k0_off291 i) S1x128x128.size (k0_off291_inb i)).toLoadRect (arg16.view.writes (Elt F) (harg16.unread x16) (runN.sl.H16_4 c i arg2 harg2 arg3 harg3 arg15 x2 x3)))] ![![(View.readAt (Elt F) arg1.view (Rect.unit (s := S16) ![8] S1.size inb_S16_S1_8).toLoadRect (harg1.unread x1) (Shape.Idx.first (by decide))), (View.readAt (Elt F) arg1.view (Rect.unit (s := S16) ![9] S1.size inb_S16_S1_9).toLoadRect (harg1.unread x1) (Shape.Idx.first (by decide)))], ![(View.readAt (Elt F) arg1.view (Rect.unit (s := S16) ![10] S1.size inb_S16_S1_10).toLoadRect (harg1.unread x1) (Shape.Idx.first (by decide))), (View.readAt (Elt F) arg1.view (Rect.unit (s := S16) ![11] S1.size inb_S16_S1_11).toLoadRect (harg1.unread x1) (Shape.Idx.first (by decide)))], ![(View.readAt (Elt F) arg1.view (Rect.unit (s := S16) ![12] S1.size inb_S16_S1_12).toLoadRect (harg1.unread x1) (Shape.Idx.first (by decide))), (View.readAt (Elt F) arg1.view (Rect.unit (s := S16) ![13] S1.size inb_S16_S1_13).toLoadRect (harg1.unread x1) (Shape.Idx.first (by decide)))], ![(View.readAt (Elt F) arg1.view (Rect.unit (s := S16) ![14] S1.size inb_S16_S1_14).toLoadRect (harg1.unread x1) (Shape.Idx.first (by decide))), (View.readAt (Elt F) arg1.view (Rect.unit (s := S16) ![15] S1.size inb_S16_S1_15).toLoadRect (harg1.unread x1) (Shape.Idx.first (by decide)))]] 3⟩
 :: ⟨Rect.unit (s := S256x1024) ![128, 768] S128x128.size inb_S256x1024_S128x128_128_768, outp none (k0_pay95 (k0_pay731 (k0_pay730 (View.readAt (Elt F) arg17.view (Rect.unit (s := S2x256x256) (k0_off5 i) S1x128x128.size (k0_off5_inb i)).toLoadRect (arg17.view.writes (Elt F) (harg17.unread x17) (runN.sl.H17_1 c i arg2 harg2 arg3 harg3 arg15 x2 x3)))) (View.readAt (Elt F) arg17.view (Rect.unit (s := S2x256x256) (k0_off282 i) S1x128x128.size (k0_off282_inb i)).toLoadRect (arg17.view.writes (Elt F) (harg17.unread x17) (runN.sl.H17_1 c i arg2 harg2 arg3 harg3 arg15 x2 x3))))) (k0_pay96 (k0_pay732 (View.readAt (Elt F) arg17.view (Rect.unit (s := S2x256x256) (k0_off6 i) S1x128x128.size (k0_off6_inb i)).toLoadRect (arg17.view.writes (Elt F) (harg17.unread x17) (runN.sl.H17_1 c i arg2 harg2 arg3 harg3 arg15 x2 x3))) (View.readAt (Elt F) arg17.view (Rect.unit (s := S2x256x256) (k0_off283 i) S1x128x128.size (k0_off283_inb i)).toLoadRect (arg17.view.writes (Elt F) (harg17.unread x17) (runN.sl.H17_1 c i arg2 harg2 arg3 harg3 arg15 x2 x3))))) ![(View.readAt (Elt F) arg16.view (Rect.unit (s := S2x256x1024) (k0_off288 i) S1x128x128.size (k0_off288_inb i)).toLoadRect (arg16.view.writes (Elt F) (harg16.unread x16) (runN.sl.H16_4 c i arg2 harg2 arg3 harg3 arg15 x2 x3))), (View.readAt (Elt F) arg16.view (Rect.unit (s := S2x256x1024) (k0_off289 i) S1x128x128.size (k0_off289_inb i)).toLoadRect (arg16.view.writes (Elt F) (harg16.unread x16) (runN.sl.H16_4 c i arg2 harg2 arg3 harg3 arg15 x2 x3))), (View.readAt (Elt F) arg16.view (Rect.unit (s := S2x256x1024) (k0_off290 i) S1x128x128.size (k0_off290_inb i)).toLoadRect (arg16.view.writes (Elt F) (harg16.unread x16) (runN.sl.H16_4 c i arg2 harg2 arg3 harg3 arg15 x2 x3))), (View.readAt (Elt F) arg16.view (Rect.unit (s := S2x256x1024) (k0_off291 i) S1x128x128.size (k0_off291_inb i)).toLoadRect (arg16.view.writes (Elt F) (harg16.unread x16) (runN.sl.H16_4 c i arg2 harg2 arg3 harg3 arg15 x2 x3)))] ![![(View.readAt (Elt F) arg1.view (Rect.unit (s := S16) ![8] S1.size inb_S16_S1_8).toLoadRect (harg1.unread x1) (Shape.Idx.first (by decide))), (View.readAt (Elt F) arg1.view (Rect.unit (s := S16) ![9] S1.size inb_S16_S1_9).toLoadRect (harg1.unread x1) (Shape.Idx.first (by decide)))], ![(View.readAt (Elt F) arg1.view (Rect.unit (s := S16) ![10] S1.size inb_S16_S1_10).toLoadRect (harg1.unread x1) (Shape.Idx.first (by decide))), (View.readAt (Elt F) arg1.view (Rect.unit (s := S16) ![11] S1.size inb_S16_S1_11).toLoadRect (harg1.unread x1) (Shape.Idx.first (by decide)))], ![(View.readAt (Elt F) arg1.view (Rect.unit (s := S16) ![12] S1.size inb_S16_S1_12).toLoadRect (harg1.unread x1) (Shape.Idx.first (by decide))), (View.readAt (Elt F) arg1.view (Rect.unit (s := S16) ![13] S1.size inb_S16_S1_13).toLoadRect (harg1.unread x1) (Shape.Idx.first (by decide)))], ![(View.readAt (Elt F) arg1.view (Rect.unit (s := S16) ![14] S1.size inb_S16_S1_14).toLoadRect (harg1.unread x1) (Shape.Idx.first (by decide))), (View.readAt (Elt F) arg1.view (Rect.unit (s := S16) ![15] S1.size inb_S16_S1_15).toLoadRect (harg1.unread x1) (Shape.Idx.first (by decide)))]] 2⟩
 :: ⟨Rect.unit (s := S256x1024) ![128, 640] S128x128.size inb_S256x1024_S128x128_128_640, outp none (k0_pay95 (k0_pay731 (k0_pay730 (View.readAt (Elt F) arg17.view (Rect.unit (s := S2x256x256) (k0_off5 i) S1x128x128.size (k0_off5_inb i)).toLoadRect (arg17.view.writes (Elt F) (harg17.unread x17) (runN.sl.H17_1 c i arg2 harg2 arg3 harg3 arg15 x2 x3)))) (View.readAt (Elt F) arg17.view (Rect.unit (s := S2x256x256) (k0_off282 i) S1x128x128.size (k0_off282_inb i)).toLoadRect (arg17.view.writes (Elt F) (harg17.unread x17) (runN.sl.H17_1 c i arg2 harg2 arg3 harg3 arg15 x2 x3))))) (k0_pay96 (k0_pay732 (View.readAt (Elt F) arg17.view (Rect.unit (s := S2x256x256) (k0_off6 i) S1x128x128.size (k0_off6_inb i)).toLoadRect (arg17.view.writes (Elt F) (harg17.unread x17) (runN.sl.H17_1 c i arg2 harg2 arg3 harg3 arg15 x2 x3))) (View.readAt (Elt F) arg17.view (Rect.unit (s := S2x256x256) (k0_off283 i) S1x128x128.size (k0_off283_inb i)).toLoadRect (arg17.view.writes (Elt F) (harg17.unread x17) (runN.sl.H17_1 c i arg2 harg2 arg3 harg3 arg15 x2 x3))))) ![(View.readAt (Elt F) arg16.view (Rect.unit (s := S2x256x1024) (k0_off288 i) S1x128x128.size (k0_off288_inb i)).toLoadRect (arg16.view.writes (Elt F) (harg16.unread x16) (runN.sl.H16_4 c i arg2 harg2 arg3 harg3 arg15 x2 x3))), (View.readAt (Elt F) arg16.view (Rect.unit (s := S2x256x1024) (k0_off289 i) S1x128x128.size (k0_off289_inb i)).toLoadRect (arg16.view.writes (Elt F) (harg16.unread x16) (runN.sl.H16_4 c i arg2 harg2 arg3 harg3 arg15 x2 x3))), (View.readAt (Elt F) arg16.view (Rect.unit (s := S2x256x1024) (k0_off290 i) S1x128x128.size (k0_off290_inb i)).toLoadRect (arg16.view.writes (Elt F) (harg16.unread x16) (runN.sl.H16_4 c i arg2 harg2 arg3 harg3 arg15 x2 x3))), (View.readAt (Elt F) arg16.view (Rect.unit (s := S2x256x1024) (k0_off291 i) S1x128x128.size (k0_off291_inb i)).toLoadRect (arg16.view.writes (Elt F) (harg16.unread x16) (runN.sl.H16_4 c i arg2 harg2 arg3 harg3 arg15 x2 x3)))] ![![(View.readAt (Elt F) arg1.view (Rect.unit (s := S16) ![8] S1.size inb_S16_S1_8).toLoadRect (harg1.unread x1) (Shape.Idx.first (by decide))), (View.readAt (Elt F) arg1.view (Rect.unit (s := S16) ![9] S1.size inb_S16_S1_9).toLoadRect (harg1.unread x1) (Shape.Idx.first (by decide)))], ![(View.readAt (Elt F) arg1.view (Rect.unit (s := S16) ![10] S1.size inb_S16_S1_10).toLoadRect (harg1.unread x1) (Shape.Idx.first (by decide))), (View.readAt (Elt F) arg1.view (Rect.unit (s := S16) ![11] S1.size inb_S16_S1_11).toLoadRect (harg1.unread x1) (Shape.Idx.first (by decide)))], ![(View.readAt (Elt F) arg1.view (Rect.unit (s := S16) ![12] S1.size inb_S16_S1_12).toLoadRect (harg1.unread x1) (Shape.Idx.first (by decide))), (View.readAt (Elt F) arg1.view (Rect.unit (s := S16) ![13] S1.size inb_S16_S1_13).toLoadRect (harg1.unread x1) (Shape.Idx.first (by decide)))], ![(View.readAt (Elt F) arg1.view (Rect.unit (s := S16) ![14] S1.size inb_S16_S1_14).toLoadRect (harg1.unread x1) (Shape.Idx.first (by decide))), (View.readAt (Elt F) arg1.view (Rect.unit (s := S16) ![15] S1.size inb_S16_S1_15).toLoadRect (harg1.unread x1) (Shape.Idx.first (by decide)))]] 1⟩
 :: ⟨Rect.unit (s := S256x1024) ![128, 512] S128x128.size inb_S256x1024_S128x128_128_512, outp none (k0_pay95 (k0_pay731 (k0_pay730 (View.readAt (Elt F) arg17.view (Rect.unit (s := S2x256x256) (k0_off5 i) S1x128x128.size (k0_off5_inb i)).toLoadRect (arg17.view.writes (Elt F) (harg17.unread x17) (runN.sl.H17_1 c i arg2 harg2 arg3 harg3 arg15 x2 x3)))) (View.readAt (Elt F) arg17.view (Rect.unit (s := S2x256x256) (k0_off282 i) S1x128x128.size (k0_off282_inb i)).toLoadRect (arg17.view.writes (Elt F) (harg17.unread x17) (runN.sl.H17_1 c i arg2 harg2 arg3 harg3 arg15 x2 x3))))) (k0_pay96 (k0_pay732 (View.readAt (Elt F) arg17.view (Rect.unit (s := S2x256x256) (k0_off6 i) S1x128x128.size (k0_off6_inb i)).toLoadRect (arg17.view.writes (Elt F) (harg17.unread x17) (runN.sl.H17_1 c i arg2 harg2 arg3 harg3 arg15 x2 x3))) (View.readAt (Elt F) arg17.view (Rect.unit (s := S2x256x256) (k0_off283 i) S1x128x128.size (k0_off283_inb i)).toLoadRect (arg17.view.writes (Elt F) (harg17.unread x17) (runN.sl.H17_1 c i arg2 harg2 arg3 harg3 arg15 x2 x3))))) ![(View.readAt (Elt F) arg16.view (Rect.unit (s := S2x256x1024) (k0_off288 i) S1x128x128.size (k0_off288_inb i)).toLoadRect (arg16.view.writes (Elt F) (harg16.unread x16) (runN.sl.H16_4 c i arg2 harg2 arg3 harg3 arg15 x2 x3))), (View.readAt (Elt F) arg16.view (Rect.unit (s := S2x256x1024) (k0_off289 i) S1x128x128.size (k0_off289_inb i)).toLoadRect (arg16.view.writes (Elt F) (harg16.unread x16) (runN.sl.H16_4 c i arg2 harg2 arg3 harg3 arg15 x2 x3))), (View.readAt (Elt F) arg16.view (Rect.unit (s := S2x256x1024) (k0_off290 i) S1x128x128.size (k0_off290_inb i)).toLoadRect (arg16.view.writes (Elt F) (harg16.unread x16) (runN.sl.H16_4 c i arg2 harg2 arg3 harg3 arg15 x2 x3))), (View.readAt (Elt F) arg16.view (Rect.unit (s := S2x256x1024) (k0_off291 i) S1x128x128.size (k0_off291_inb i)).toLoadRect (arg16.view.writes (Elt F) (harg16.unread x16) (runN.sl.H16_4 c i arg2 harg2 arg3 harg3 arg15 x2 x3)))] ![![(View.readAt (Elt F) arg1.view (Rect.unit (s := S16) ![8] S1.size inb_S16_S1_8).toLoadRect (harg1.unread x1) (Shape.Idx.first (by decide))), (View.readAt (Elt F) arg1.view (Rect.unit (s := S16) ![9] S1.size inb_S16_S1_9).toLoadRect (harg1.unread x1) (Shape.Idx.first (by decide)))], ![(View.readAt (Elt F) arg1.view (Rect.unit (s := S16) ![10] S1.size inb_S16_S1_10).toLoadRect (harg1.unread x1) (Shape.Idx.first (by decide))), (View.readAt (Elt F) arg1.view (Rect.unit (s := S16) ![11] S1.size inb_S16_S1_11).toLoadRect (harg1.unread x1) (Shape.Idx.first (by decide)))], ![(View.readAt (Elt F) arg1.view (Rect.unit (s := S16) ![12] S1.size inb_S16_S1_12).toLoadRect (harg1.unread x1) (Shape.Idx.first (by decide))), (View.readAt (Elt F) arg1.view (Rect.unit (s := S16) ![13] S1.size inb_S16_S1_13).toLoadRect (harg1.unread x1) (Shape.Idx.first (by decide)))], ![(View.readAt (Elt F) arg1.view (Rect.unit (s := S16) ![14] S1.size inb_S16_S1_14).toLoadRect (harg1.unread x1) (Shape.Idx.first (by decide))), (View.readAt (Elt F) arg1.view (Rect.unit (s := S16) ![15] S1.size inb_S16_S1_15).toLoadRect (harg1.unread x1) (Shape.Idx.first (by decide)))]] 0⟩
 :: runN.sl.H11_12 c i arg1 harg1 arg2 harg2 arg3 harg3 arg15 arg16 harg16 arg17 harg17 arg25 harg25 x1 x2 x3 x16 x17 x25 := rfl

end Cert.Kernel2Ideal.Mix

end
-- ==== Proof.Mix.Tiles.lean ====
module

public import proofs.«01_k».proof.Proof.Mix.Pts
public import proofs.«01_k».proof.Proof.Mix.LsH11_4
public import proofs.«01_k».proof.Proof.Mix.LsH11_8
public import proofs.«01_k».proof.Proof.Mix.LsH11_12
public import proofs.«01_k».proof.Proof.Mix.LsH11_16

@[expose] public section

set_option maxRecDepth 65536

noncomputable section

namespace Cert.Kernel2Ideal.Mix

open Cert.Kernel2Ideal.Gen
open Idealize.ShloMosaic Idealize.ShloMosaic.TcCoe Idealize.ShloMosaic.Tactic

/-- Sixteen tiles, newest first. -/
abbrev tiles (P : Fin 2 → Fin 2 → Fin 4 → FVec Ideal S128x128 .bf16) : List (View.Piece (Elt Ideal) S256x1024 .bf16) :=
  [⟨Rect.unit (s := S256x1024) ![128, 896] S128x128.size inb_S256x1024_S128x128_128_896, P 1 1 3⟩,
    ⟨Rect.unit (s := S256x1024) ![128, 768] S128x128.size inb_S256x1024_S128x128_128_768, P 1 1 2⟩,
    ⟨Rect.unit (s := S256x1024) ![128, 640] S128x128.size inb_S256x1024_S128x128_128_640, P 1 1 1⟩,
    ⟨Rect.unit (s := S256x1024) ![128, 512] S128x128.size inb_S256x1024_S128x128_128_512, P 1 1 0⟩,
    ⟨Rect.unit (s := S256x1024) ![128, 384] S128x128.size inb_S256x1024_S128x128_128_384, P 1 0 3⟩,
    ⟨Rect.unit (s := S256x1024) ![128, 256] S128x128.size inb_S256x1024_S128x128_128_256, P 1 0 2⟩,
    ⟨Rect.unit (s := S256x1024) ![128, 128] S128x128.size inb_S256x1024_S128x128_128_128, P 1 0 1⟩,
    ⟨Rect.unit (s := S256x1024) ![128, 0] S128x128.size inb_S256x1024_S128x128_128_0, P 1 0 0⟩,
    ⟨Rect.unit (s := S256x1024) ![0, 896] S128x128.size inb_S256x1024_S128x128_0_896, P 0 1 3⟩,
    ⟨Rect.unit (s := S256x1024) ![0, 768] S128x128.size inb_S256x1024_S128x128_0_768, P 0 1 2⟩,
    ⟨Rect.unit (s := S256x1024) ![0, 640] S128x128.size inb_S256x1024_S128x128_0_640, P 0 1 1⟩,
    ⟨Rect.unit (s := S256x1024) ![0, 512] S128x128.size inb_S256x1024_S128x128_0_512, P 0 1 0⟩,
    ⟨Rect.unit (s := S256x1024) ![0, 384] S128x128.size inb_S256x1024_S128x128_0_384, P 0 0 3⟩,
    ⟨Rect.unit (s := S256x1024) ![0, 256] S128x128.size inb_S256x1024_S128x128_0_256, P 0 0 2⟩,
    ⟨Rect.unit (s := S256x1024) ![0, 128] S128x128.size inb_S256x1024_S128x128_0_128, P 0 0 1⟩,
    ⟨Rect.unit (s := S256x1024) ![0, 0] S128x128.size inb_S256x1024_S128x128_0_0, P 0 0 0⟩]

theorem tiles_at (P : Fin 2 → Fin 2 → Fin 4 → FVec Ideal S128x128 .bf16) (j g : Fin 2) (p : Fin 4) (r x : Fin 128) :
    View.canon (tiles P) (ix2 ⟨128 * j.val + r.val, by omega⟩ ⟨512 * g.val + 128 * p.val + x.val, by omega⟩) = P j g p (ix2 r x) := by
  match j, g, p with
  | 1, 1, 3 =>
    exact canon_unit_mem (s := S256x1024) (off' := ![128, 896]) _ _ _ _ (ix2 r x) rfl (Fin.forall_fin_two.mpr ⟨(show 128 * 1 + r.val = 128 + r.val by omega), (show 512 * 1 + 128 * 3 + x.val = 896 + x.val by omega)⟩)
  | 1, 1, 2 =>
    refine (canon_unit_not (s := S256x1024) _ _ _ _ rfl (1 : Fin 2) (.inl (show 512 * 1 + 128 * 2 + x.val < 896 by omega))).trans ?_
    exact canon_unit_mem (s := S256x1024) (off' := ![128, 768]) _ _ _ _ (ix2 r x) rfl (Fin.forall_fin_two.mpr ⟨(show 128 * 1 + r.val = 128 + r.val by omega), (show 512 * 1 + 128 * 2 + x.val = 768 + x.val by omega)⟩)
  | 1, 1, 1 =>
    refine (canon_unit_not (s := S256x1024) _ _ _ _ rfl (1 : Fin 2) (.inl (show 512 * 1 + 128 * 1 + x.val < 896 by omega))).trans ?_
    refine (canon_unit_not (s := S256x1024) _ _ _ _ rfl (1 : Fin 2) (.inl (show 512 * 1 + 128 * 1 + x.val < 768 by omega))).trans ?_
    exact canon_unit_mem (s := S256x1024) (off' := ![128, 640]) _ _ _ _ (ix2 r x) rfl (Fin.forall_fin_two.mpr ⟨(show 128 * 1 + r.val = 128 + r.val by omega), (show 512 * 1 + 128 * 1 + x.val = 640 + x.val by omega)⟩)
  | 1, 1, 0 =>
    refine (canon_unit_not (s := S256x1024) _ _ _ _ rfl (1 : Fin 2) (.inl (show 512 * 1 + 128 * 0 + x.val < 896 by omega))).trans ?_
    refine (canon_unit_not (s := S256x1024) _ _ _ _ rfl (1 : Fin 2) (.inl (show 512 * 1 + 128 * 0 + x.val < 768 by omega))).trans ?_
    refine (canon_unit_not (s := S256x1024) _ _ _ _ rfl (1 : Fin 2) (.inl (show 512 * 1 + 128 * 0 + x.val < 640 by omega))).trans ?_
    exact canon_unit_mem (s := S256x1024) (off' := ![128, 512]) _ _ _ _ (ix2 r x) rfl (Fin.forall_fin_two.mpr ⟨(show 128 * 1 + r.val = 128 + r.val by omega), (show 512 * 1 + 128 * 0 + x.val = 512 + x.val by omega)⟩)
  | 1, 0, 3 =>
    refine (canon_unit_not (s := S256x1024) _ _ _ _ rfl (1 : Fin 2) (.inl (show 512 * 0 + 128 * 3 + x.val < 896 by omega))).trans ?_
    refine (canon_unit_not (s := S256x1024) _ _ _ _ rfl (1 : Fin 2) (.inl (show 512 * 0 + 128 * 3 + x.val < 768 by omega))).trans ?_
    refine (canon_unit_not (s := S256x1024) _ _ _ _ rfl (1 : Fin 2) (.inl (show 512 * 0 + 128 * 3 + x.val < 640 by omega))).trans ?_
    refine (canon_unit_not (s := S256x1024) _ _ _ _ rfl (1 : Fin 2) (.inl (show 512 * 0 + 128 * 3 + x.val < 512 by omega))).trans ?_
    exact canon_unit_mem (s := S256x1024) (off' := ![128, 384]) _ _ _ _ (ix2 r x) rfl (Fin.forall_fin_two.mpr ⟨(show 128 * 1 + r.val = 128 + r.val by omega), (show 512 * 0 + 128 * 3 + x.val = 384 + x.val by omega)⟩)
  | 1, 0, 2 =>
    refine (canon_unit_not (s := S256x1024) _ _ _ _ rfl (1 : Fin 2) (.inl (show 512 * 0 + 128 * 2 + x.val < 896 by omega))).trans ?_
    refine (canon_unit_not (s := S256x1024) _ _ _ _ rfl (1 : Fin 2) (.inl (show 512 * 0 + 128 * 2 + x.val < 768 by omega))).trans ?_
    refine (canon_unit_not (s := S256x1024) _ _ _ _ rfl (1 : Fin 2) (.inl (show 512 * 0 + 128 * 2 + x.val < 640 by omega))).trans ?_
    refine (canon_unit_not (s := S256x1024) _ _ _ _ rfl (1 : Fin 2) (.inl (show 512 * 0 + 128 * 2 + x.val < 512 by omega))).trans ?_
    refine (canon_unit_not (s := S256x1024) _ _ _ _ rfl (1 : Fin 2) (.inl (show 512 * 0 + 128 * 2 + x.val < 384 by omega))).trans ?_
    exact canon_unit_mem (s := S256x1024) (off' := ![128, 256]) _ _ _ _ (ix2 r x) rfl (Fin.forall_fin_two.mpr ⟨(show 128 * 1 + r.val = 128 + r.val by omega), (show 512 * 0 + 128 * 2 + x.val = 256 + x.val by omega)⟩)
  | 1, 0, 1 =>
    refine (canon_unit_not (s := S256x1024) _ _ _ _ rfl (1 : Fin 2) (.inl (show 512 * 0 + 128 * 1 + x.val < 896 by omega))).trans ?_
    refine (canon_unit_not (s := S256x1024) _ _ _ _ rfl (1 : Fin 2) (.inl (show 512 * 0 + 128 * 1 + x.val < 768 by omega))).trans ?_
    refine (canon_unit_not (s := S256x1024) _ _ _ _ rfl (1 : Fin 2) (.inl (show 512 * 0 + 128 * 1 + x.val < 640 by omega))).trans ?_
    refine (canon_unit_not (s := S256x1024) _ _ _ _ rfl (1 : Fin 2) (.inl (show 512 * 0 + 128 * 1 + x.val < 512 by omega))).trans ?_
    refine (canon_unit_not (s := S256x1024) _ _ _ _ rfl (1 : Fin 2) (.inl (show 512 * 0 + 128 * 1 + x.val < 384 by omega))).trans ?_
    refine (canon_unit_not (s := S256x1024) _ _ _ _ rfl (1 : Fin 2) (.inl (show 512 * 0 + 128 * 1 + x.val < 256 by omega))).trans ?_
    exact canon_unit_mem (s := S256x1024) (off' := ![128, 128]) _ _ _ _ (ix2 r x) rfl (Fin.forall_fin_two.mpr ⟨(show 128 * 1 + r.val = 128 + r.val by omega), (show 512 * 0 + 128 * 1 + x.val = 128 + x.val by omega)⟩)
  | 1, 0, 0 =>
    refine (canon_unit_not (s := S256x1024) _ _ _ _ rfl (1 : Fin 2) (.inl (show 512 * 0 + 128 * 0 + x.val < 896 by omega))).trans ?_
    refine (canon_unit_not (s := S256x1024) _ _ _ _ rfl (1 : Fin 2) (.inl (show 512 * 0 + 128 * 0 + x.val < 768 by omega))).trans ?_
    refine (canon_unit_not (s := S256x1024) _ _ _ _ rfl (1 : Fin 2) (.inl (show 512 * 0 + 128 * 0 + x.val < 640 by omega))).trans ?_
    refine (canon_unit_not (s := S256x1024) _ _ _ _ rfl (1 : Fin 2) (.inl (show 512 * 0 + 128 * 0 + x.val < 512 by omega))).trans ?_
    refine (canon_unit_not (s := S256x1024) _ _ _ _ rfl (1 : Fin 2) (.inl (show 512 * 0 + 128 * 0 + x.val < 384 by omega))).trans ?_
    refine (canon_unit_not (s := S256x1024) _ _ _ _ rfl (1 : Fin 2) (.inl (show 512 * 0 + 128 * 0 + x.val < 256 by omega))).trans ?_
    refine (canon_unit_not (s := S256x1024) _ _ _ _ rfl (1 : Fin 2) (.inl (show 512 * 0 + 128 * 0 + x.val < 128 by omega))).trans ?_
    exact canon_unit_mem (s := S256x1024) (off' := ![128, 0]) _ _ _ _ (ix2 r x) rfl (Fin.forall_fin_two.mpr ⟨(show 128 * 1 + r.val = 128 + r.val by omega), (show 512 * 0 + 128 * 0 + x.val = 0 + x.val by omega)⟩)
  | 0, 1, 3 =>
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    exact canon_unit_mem (s := S256x1024) (off' := ![0, 896]) _ _ _ _ (ix2 r x) rfl (Fin.forall_fin_two.mpr ⟨(show 128 * 0 + r.val = 0 + r.val by omega), (show 512 * 1 + 128 * 3 + x.val = 896 + x.val by omega)⟩)
  | 0, 1, 2 =>
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (1 : Fin 2) (.inl (show 512 * 1 + 128 * 2 + x.val < 896 by omega))).trans ?_
    exact canon_unit_mem (s := S256x1024) (off' := ![0, 768]) _ _ _ _ (ix2 r x) rfl (Fin.forall_fin_two.mpr ⟨(show 128 * 0 + r.val = 0 + r.val by omega), (show 512 * 1 + 128 * 2 + x.val = 768 + x.val by omega)⟩)
  | 0, 1, 1 =>
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (1 : Fin 2) (.inl (show 512 * 1 + 128 * 1 + x.val < 896 by omega))).trans ?_
    refine (canon_unit_not (s := S256x1024) _ _ _ _ rfl (1 : Fin 2) (.inl (show 512 * 1 + 128 * 1 + x.val < 768 by omega))).trans ?_
    exact canon_unit_mem (s := S256x1024) (off' := ![0, 640]) _ _ _ _ (ix2 r x) rfl (Fin.forall_fin_two.mpr ⟨(show 128 * 0 + r.val = 0 + r.val by omega), (show 512 * 1 + 128 * 1 + x.val = 640 + x.val by omega)⟩)
  | 0, 1, 0 =>
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (1 : Fin 2) (.inl (show 512 * 1 + 128 * 0 + x.val < 896 by omega))).trans ?_
    refine (canon_unit_not (s := S256x1024) _ _ _ _ rfl (1 : Fin 2) (.inl (show 512 * 1 + 128 * 0 + x.val < 768 by omega))).trans ?_
    refine (canon_unit_not (s := S256x1024) _ _ _ _ rfl (1 : Fin 2) (.inl (show 512 * 1 + 128 * 0 + x.val < 640 by omega))).trans ?_
    exact canon_unit_mem (s := S256x1024) (off' := ![0, 512]) _ _ _ _ (ix2 r x) rfl (Fin.forall_fin_two.mpr ⟨(show 128 * 0 + r.val = 0 + r.val by omega), (show 512 * 1 + 128 * 0 + x.val = 512 + x.val by omega)⟩)
  | 0, 0, 3 =>
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (1 : Fin 2) (.inl (show 512 * 0 + 128 * 3 + x.val < 896 by omega))).trans ?_
    refine (canon_unit_not (s := S256x1024) _ _ _ _ rfl (1 : Fin 2) (.inl (show 512 * 0 + 128 * 3 + x.val < 768 by omega))).trans ?_
    refine (canon_unit_not (s := S256x1024) _ _ _ _ rfl (1 : Fin 2) (.inl (show 512 * 0 + 128 * 3 + x.val < 640 by omega))).trans ?_
    refine (canon_unit_not (s := S256x1024) _ _ _ _ rfl (1 : Fin 2) (.inl (show 512 * 0 + 128 * 3 + x.val < 512 by omega))).trans ?_
    exact canon_unit_mem (s := S256x1024) (off' := ![0, 384]) _ _ _ _ (ix2 r x) rfl (Fin.forall_fin_two.mpr ⟨(show 128 * 0 + r.val = 0 + r.val by omega), (show 512 * 0 + 128 * 3 + x.val = 384 + x.val by omega)⟩)
  | 0, 0, 2 =>
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (1 : Fin 2) (.inl (show 512 * 0 + 128 * 2 + x.val < 896 by omega))).trans ?_
    refine (canon_unit_not (s := S256x1024) _ _ _ _ rfl (1 : Fin 2) (.inl (show 512 * 0 + 128 * 2 + x.val < 768 by omega))).trans ?_
    refine (canon_unit_not (s := S256x1024) _ _ _ _ rfl (1 : Fin 2) (.inl (show 512 * 0 + 128 * 2 + x.val < 640 by omega))).trans ?_
    refine (canon_unit_not (s := S256x1024) _ _ _ _ rfl (1 : Fin 2) (.inl (show 512 * 0 + 128 * 2 + x.val < 512 by omega))).trans ?_
    refine (canon_unit_not (s := S256x1024) _ _ _ _ rfl (1 : Fin 2) (.inl (show 512 * 0 + 128 * 2 + x.val < 384 by omega))).trans ?_
    exact canon_unit_mem (s := S256x1024) (off' := ![0, 256]) _ _ _ _ (ix2 r x) rfl (Fin.forall_fin_two.mpr ⟨(show 128 * 0 + r.val = 0 + r.val by omega), (show 512 * 0 + 128 * 2 + x.val = 256 + x.val by omega)⟩)
  | 0, 0, 1 =>
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (1 : Fin 2) (.inl (show 512 * 0 + 128 * 1 + x.val < 896 by omega))).trans ?_
    refine (canon_unit_not (s := S256x1024) _ _ _ _ rfl (1 : Fin 2) (.inl (show 512 * 0 + 128 * 1 + x.val < 768 by omega))).trans ?_
    refine (canon_unit_not (s := S256x1024) _ _ _ _ rfl (1 : Fin 2) (.inl (show 512 * 0 + 128 * 1 + x.val < 640 by omega))).trans ?_
    refine (canon_unit_not (s := S256x1024) _ _ _ _ rfl (1 : Fin 2) (.inl (show 512 * 0 + 128 * 1 + x.val < 512 by omega))).trans ?_
    refine (canon_unit_not (s := S256x1024) _ _ _ _ rfl (1 : Fin 2) (.inl (show 512 * 0 + 128 * 1 + x.val < 384 by omega))).trans ?_
    refine (canon_unit_not (s := S256x1024) _ _ _ _ rfl (1 : Fin 2) (.inl (show 512 * 0 + 128 * 1 + x.val < 256 by omega))).trans ?_
    exact canon_unit_mem (s := S256x1024) (off' := ![0, 128]) _ _ _ _ (ix2 r x) rfl (Fin.forall_fin_two.mpr ⟨(show 128 * 0 + r.val = 0 + r.val by omega), (show 512 * 0 + 128 * 1 + x.val = 128 + x.val by omega)⟩)
  | 0, 0, 0 =>
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (0 : Fin 2) (.inl (show 128 * 0 + r.val < 128 by omega))).trans ?_
    refine (canon_unit_not (s := S256x1024) _ _ _ _ rfl (1 : Fin 2) (.inl (show 512 * 0 + 128 * 0 + x.val < 896 by omega))).trans ?_
    refine (canon_unit_not (s := S256x1024) _ _ _ _ rfl (1 : Fin 2) (.inl (show 512 * 0 + 128 * 0 + x.val < 768 by omega))).trans ?_
    refine (canon_unit_not (s := S256x1024) _ _ _ _ rfl (1 : Fin 2) (.inl (show 512 * 0 + 128 * 0 + x.val < 640 by omega))).trans ?_
    refine (canon_unit_not (s := S256x1024) _ _ _ _ rfl (1 : Fin 2) (.inl (show 512 * 0 + 128 * 0 + x.val < 512 by omega))).trans ?_
    refine (canon_unit_not (s := S256x1024) _ _ _ _ rfl (1 : Fin 2) (.inl (show 512 * 0 + 128 * 0 + x.val < 384 by omega))).trans ?_
    refine (canon_unit_not (s := S256x1024) _ _ _ _ rfl (1 : Fin 2) (.inl (show 512 * 0 + 128 * 0 + x.val < 256 by omega))).trans ?_
    refine (canon_unit_not (s := S256x1024) _ _ _ _ rfl (1 : Fin 2) (.inl (show 512 * 0 + 128 * 0 + x.val < 128 by omega))).trans ?_
    exact canon_unit_mem (s := S256x1024) (off' := ![0, 0]) _ _ _ _ (ix2 r x) rfl (Fin.forall_fin_two.mpr ⟨(show 128 * 0 + r.val = 0 + r.val by omega), (show 512 * 0 + 128 * 0 + x.val = 0 + x.val by omega)⟩)

section
variable (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg15 : Memref sig .tc .vmem S256x2048 .bf16) (arg16 : Memref sig .tc .vmem S2x256x1024 .bf16) (harg16 : arg16.IsWhole) (arg17 : Memref sig .tc .vmem S2x256x256 .bf16) (harg17 : arg17.IsWhole) (arg25 : Memref sig .tc .vmem S128x256 .bf16) (harg25 : arg25.IsWhole) (x1 : Vec Ideal S16 .f32) (x2 : Vec Ideal S256x2048 .f32) (x3 : Vec Ideal S2048x4480 .bf16) (x16 : Vec Ideal S2x256x1024 .bf16) (x17 : Vec Ideal S2x256x256 .bf16) (x25 : Vec Ideal S128x256 .bf16)

/-- A sink read from its window. -/
abbrev skR (n : ℕ) (inb : ∀ a, (![n] : Fin 1 → ℕ) a + S1.size a ≤ S16.size a) : EReal := (View.readAt (Elt Ideal) arg1.view (Rect.unit (s := S16) ![n] S1.size inb).toLoadRect (harg1.unread x1) (Shape.Idx.first (show 0 < S1.numel by decide)))
/-- A query tile read from its slot. -/
abbrev qR (off : Fin 3 → ℕ) (inb : ∀ a : Fin 3, off a + S1x128x128.size a ≤ S2x256x1024.size a) : Vec Ideal S1x128x128 .bf16 := View.readAt (Elt Ideal) arg16.view (Rect.unit (s := S2x256x1024) off S1x128x128.size inb).toLoadRect (arg16.view.writes (Elt Ideal) (harg16.unread x16) (runN.sl.H16_4 c i arg2 harg2 arg3 harg3 arg15 x2 x3))
/-- A key or value tile read from its slot after the point's own store. -/
abbrev kR (off : Fin 3 → ℕ) (inb : ∀ a : Fin 3, off a + S1x128x128.size a ≤ S2x256x256.size a) : Vec Ideal S1x128x128 .bf16 := View.readAt (Elt Ideal) arg17.view (Rect.unit (s := S2x256x256) off S1x128x128.size inb).toLoadRect (arg17.view.writes (Elt Ideal) (harg17.unread x17) (runN.sl.H17_1 c i arg2 harg2 arg3 harg3 arg15 x2 x3))
/-- A key or value tile read from its slot before the point's own store. -/
abbrev kR0 (off : Fin 3 → ℕ) (inb : ∀ a : Fin 3, off a + S1x128x128.size a ≤ S2x256x256.size a) : Vec Ideal S1x128x128 .bf16 := View.readAt (Elt Ideal) arg17.view (Rect.unit (s := S2x256x256) off S1x128x128.size inb).toLoadRect (harg17.unread x17)

/-- The carried keys. -/
abbrev kC0 : Vec Ideal S128x128 .bf16 := View.readAt (Elt Ideal) arg25.view (Rect.unit (s := S128x256) ![0, 0] S128x128.size inb_S128x256_S128x128_0_0).toLoadRect (harg25.unread x25)
abbrev kC1 : Vec Ideal S128x128 .bf16 := View.readAt (Elt Ideal) arg25.view (Rect.unit (s := S128x256) ![0, 128] S128x128.size inb_S128x256_S128x128_0_128).toLoadRect (harg25.unread x25)

/-- The keys of a half block and a head. -/
abbrev krT : Fin 2 → Fin 2 → FVec Ideal S256x128 .f32 := fun j g => match j, g with
  | 0, 0 => k0_pay30 (kC0 arg25 harg25 x25) (kR0 arg17 harg17 x17 (k0_off5 i) (k0_off5_inb i))
  | 0, 1 => k0_pay95 (k0_pay30 (kC0 arg25 harg25 x25) (kR0 arg17 harg17 x17 (k0_off5 i) (k0_off5_inb i)))
  | 1, 0 => k0_pay731 (k0_pay730 (kR c i arg2 harg2 arg3 harg3 arg15 arg17 harg17 x2 x3 x17 (k0_off5 i) (k0_off5_inb i))) (kR c i arg2 harg2 arg3 harg3 arg15 arg17 harg17 x2 x3 x17 (k0_off282 i) (k0_off282_inb i))
  | 1, 1 => k0_pay95 (k0_pay731 (k0_pay730 (kR c i arg2 harg2 arg3 harg3 arg15 arg17 harg17 x2 x3 x17 (k0_off5 i) (k0_off5_inb i))) (kR c i arg2 harg2 arg3 harg3 arg15 arg17 harg17 x2 x3 x17 (k0_off282 i) (k0_off282_inb i)))
/-- The values of a half block and a head. -/
abbrev vrT : Fin 2 → Fin 2 → FVec Ideal S256x128 .f32 := fun j g => match j, g with
  | 0, 0 => k0_pay31 (kC1 arg25 harg25 x25) (kR0 arg17 harg17 x17 (k0_off6 i) (k0_off6_inb i))
  | 0, 1 => k0_pay96 (k0_pay31 (kC1 arg25 harg25 x25) (kR0 arg17 harg17 x17 (k0_off6 i) (k0_off6_inb i)))
  | 1, 0 => k0_pay732 (kR c i arg2 harg2 arg3 harg3 arg15 arg17 harg17 x2 x3 x17 (k0_off6 i) (k0_off6_inb i)) (kR c i arg2 harg2 arg3 harg3 arg15 arg17 harg17 x2 x3 x17 (k0_off283 i) (k0_off283_inb i))
  | 1, 1 => k0_pay96 (k0_pay732 (kR c i arg2 harg2 arg3 harg3 arg15 arg17 harg17 x2 x3 x17 (k0_off6 i) (k0_off6_inb i)) (kR c i arg2 harg2 arg3 harg3 arg15 arg17 harg17 x2 x3 x17 (k0_off283 i) (k0_off283_inb i)))
/-- The query tiles of a half block and a group. -/
abbrev qT : Fin 2 → Fin 2 → Fin 4 → Vec Ideal S1x128x128 .bf16 := fun j g => match j, g with
  | 0, 0 => ![qR c i arg2 harg2 arg3 harg3 arg15 arg16 harg16 x2 x3 x16 (k0_off7 i) (k0_off7_inb i), qR c i arg2 harg2 arg3 harg3 arg15 arg16 harg16 x2 x3 x16 (k0_off8 i) (k0_off8_inb i), qR c i arg2 harg2 arg3 harg3 arg15 arg16 harg16 x2 x3 x16 (k0_off9 i) (k0_off9_inb i), qR c i arg2 harg2 arg3 harg3 arg15 arg16 harg16 x2 x3 x16 (k0_off10 i) (k0_off10_inb i)]
  | 0, 1 => ![qR c i arg2 harg2 arg3 harg3 arg15 arg16 harg16 x2 x3 x16 (k0_off11 i) (k0_off11_inb i), qR c i arg2 harg2 arg3 harg3 arg15 arg16 harg16 x2 x3 x16 (k0_off12 i) (k0_off12_inb i), qR c i arg2 harg2 arg3 harg3 arg15 arg16 harg16 x2 x3 x16 (k0_off13 i) (k0_off13_inb i), qR c i arg2 harg2 arg3 harg3 arg15 arg16 harg16 x2 x3 x16 (k0_off14 i) (k0_off14_inb i)]
  | 1, 0 => ![qR c i arg2 harg2 arg3 harg3 arg15 arg16 harg16 x2 x3 x16 (k0_off284 i) (k0_off284_inb i), qR c i arg2 harg2 arg3 harg3 arg15 arg16 harg16 x2 x3 x16 (k0_off285 i) (k0_off285_inb i), qR c i arg2 harg2 arg3 harg3 arg15 arg16 harg16 x2 x3 x16 (k0_off286 i) (k0_off286_inb i), qR c i arg2 harg2 arg3 harg3 arg15 arg16 harg16 x2 x3 x16 (k0_off287 i) (k0_off287_inb i)]
  | 1, 1 => ![qR c i arg2 harg2 arg3 harg3 arg15 arg16 harg16 x2 x3 x16 (k0_off288 i) (k0_off288_inb i), qR c i arg2 harg2 arg3 harg3 arg15 arg16 harg16 x2 x3 x16 (k0_off289 i) (k0_off289_inb i), qR c i arg2 harg2 arg3 harg3 arg15 arg16 harg16 x2 x3 x16 (k0_off290 i) (k0_off290_inb i), qR c i arg2 harg2 arg3 harg3 arg15 arg16 harg16 x2 x3 x16 (k0_off291 i) (k0_off291_inb i)]
/-- The sinks of a group. -/
abbrev skT : Fin 2 → Fin 4 → Fin 2 → EReal := fun g => match g with
  | 0 => ![![skR arg1 harg1 x1 0 inb_S16_S1_0, skR arg1 harg1 x1 1 inb_S16_S1_1], ![skR arg1 harg1 x1 2 inb_S16_S1_2, skR arg1 harg1 x1 3 inb_S16_S1_3], ![skR arg1 harg1 x1 4 inb_S16_S1_4, skR arg1 harg1 x1 5 inb_S16_S1_5], ![skR arg1 harg1 x1 6 inb_S16_S1_6, skR arg1 harg1 x1 7 inb_S16_S1_7]]
  | 1 => ![![skR arg1 harg1 x1 8 inb_S16_S1_8, skR arg1 harg1 x1 9 inb_S16_S1_9], ![skR arg1 harg1 x1 10 inb_S16_S1_10, skR arg1 harg1 x1 11 inb_S16_S1_11], ![skR arg1 harg1 x1 12 inb_S16_S1_12, skR arg1 harg1 x1 13 inb_S16_S1_13], ![skR arg1 harg1 x1 14 inb_S16_S1_14, skR arg1 harg1 x1 15 inb_S16_S1_15]]
/-- The first half's penalty for the block before; the second half has none. -/
abbrev penT : Fin 2 → Option EReal := fun j => match j with
  | 0 => some (runN.sl.v124 (F := Ideal) i)
  | 1 => none
/-- The sixteen tiles of the block. -/
abbrev outT (j g : Fin 2) (p : Fin 4) : FVec Ideal S128x128 .bf16 :=
  outp (F := Ideal) (penT i j) (krT c i arg2 harg2 arg3 harg3 arg15 arg17 harg17 arg25 harg25 x2 x3 x17 x25 j g) (vrT c i arg2 harg2 arg3 harg3 arg15 arg17 harg17 arg25 harg25 x2 x3 x17 x25 j g) (qT c i arg2 harg2 arg3 harg3 arg15 arg16 harg16 x2 x3 x16 j g) (skT arg1 harg1 x1 g) p

theorem list_eq : runN.sl.H11_16 (F := Ideal) c i arg1 harg1 arg2 harg2 arg3 harg3 arg15 arg16 harg16 arg17 harg17 arg25 harg25 x1 x2 x3 x16 x17 x25 = tiles (outT c i arg1 harg1 arg2 harg2 arg3 harg3 arg15 arg16 harg16 arg17 harg17 arg25 harg25 x1 x2 x3 x16 x17 x25) := by
  rw [H11_16_eq, H11_12_eq, H11_8_eq, H11_4_eq]

end

end Cert.Kernel2Ideal.Mix

end
-- ==== Proof.Mix.Blk.lean ====
module

public import proofs.«01_k».proof.Proof.Mix.Tiles

@[expose] public section

set_option maxRecDepth 65536

noncomputable section

namespace Cert.Kernel2Ideal.Mix

open Cert.Kernel2Ideal.Gen
open Idealize.ShloMosaic Idealize.ShloMosaic.TcCoe Idealize.ShloMosaic.Tactic

section
variable (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x4480 .bf16) (harg3 : arg3.IsWhole) (arg15 : Memref sig .tc .vmem S256x2048 .bf16) (arg16 : Memref sig .tc .vmem S2x256x1024 .bf16) (harg16 : arg16.IsWhole) (arg17 : Memref sig .tc .vmem S2x256x256 .bf16) (harg17 : arg17.IsWhole) (arg25 : Memref sig .tc .vmem S128x256 .bf16) (harg25 : arg25.IsWhole) (x1 : Vec Ideal S16 .f32) (x2 : Vec Ideal S256x2048 .f32) (x3 : Vec Ideal S2048x4480 .bf16) (x16 : Vec Ideal S2x256x1024 .bf16) (x17 : Vec Ideal S2x256x256 .bf16) (x25 : Vec Ideal S128x256 .bf16)

/-- A key or value read by half block `j`, from the carried rows and the slot read. -/
def kvAt (j : Fin 2) (kk col : Fin 256) : EReal := match j with
  | 0 => if h : kk.val < 128 then x25 (ix2 ⟨kk.val, h⟩ col) else x17 (ix3 (rs i) ⟨kk.val - 128, by omega⟩ col)
  | 1 => x17 (ix3 (rs i) kk col)

theorem kR0_at {off off' : Fin 3 → ℕ} (inb) (heq : off = off') (r d : Fin 128) (y : S2x256x256.Idx) (hy : ∀ a, (y a : ℕ) = off' a + (ix3 (0 : Fin 1) r d : S1x128x128.Idx) a) :
    kR0 arg17 harg17 x17 off inb (ix3 0 r d) = x17 y := by
  refine (load3 arg17.view _ _ inb _ y heq hy).trans ?_
  rw [harg17.read_unread]
theorem kR_at {off off' : Fin 3 → ℕ} (inb) (heq : off = off') (r d : Fin 128) (row col : Fin 256) (hy : ∀ a, ((ix3 (rs i) row col : S2x256x256.Idx) a : ℕ) = off' a + (ix3 (0 : Fin 1) r d : S1x128x128.Idx) a) :
    kR c i arg2 harg2 arg3 harg3 arg15 arg17 harg17 x2 x3 x17 off inb (ix3 0 r d) = x17 (ix3 (rs i) row col) := by
  refine (load3 arg17.view _ _ inb _ _ heq hy).trans ?_
  rw [kv_keep, harg17.read_unread]
theorem qR_at {off off' : Fin 3 → ℕ} (inb) (heq : off = off') (r d : Fin 128) (row : Fin 256) (col : Fin 1024) (hy : ∀ a, ((ix3 (rs i) row col : S2x256x1024.Idx) a : ℕ) = off' a + (ix3 (0 : Fin 1) r d : S1x128x128.Idx) a) :
    qR c i arg2 harg2 arg3 harg3 arg15 arg16 harg16 x2 x3 x16 off inb (ix3 0 r d) = x16 (ix3 (rs i) row col) := by
  refine (load3 arg16.view _ _ inb _ _ heq hy).trans ?_
  rw [q_keep, harg16.read_unread]
theorem skR_at (n : Fin 16) (inb) : skR arg1 harg1 x1 n.val inb = x1 (ix1 n) := by
  show View.readAt (Elt Ideal) arg1.view (Rect.unit (s := S16) ![n.val] S1.size inb).toLoadRect (harg1.unread x1) _ = _
  rw [View.readAt_eq_ld, harg1.read_unread]
  exact View.ld_unit_apply_of x1 _ S1.size inb _ (ix1 n) (fun a => match a with | 0 => rfl)

theorem krT_at (j g : Fin 2) (kk : Fin 256) (d : Fin 64) : krT c i arg2 harg2 arg3 harg3 arg15 arg17 harg17 arg25 harg25 x2 x3 x17 x25 j g (ix2 kk ⟨d.val, by omega⟩) = kvAt i x17 x25 j kk ⟨0 + (64 * g.val + d.val), by omega⟩ := by
  match j, g with
  | 0, 0 =>
    refine (pay30_at _ _ kk ⟨d.val, by omega⟩).trans ?_
    show _ = dite _ _ _
    by_cases h : kk.val < 128
    · rw [dif_pos h, dif_pos h]
      exact load2 arg25 harg25 x25 _ _ _ _ _ (Fin.forall_fin_two.mpr ⟨(Nat.zero_add _).symm, (show 0 + (64 * 0 + d.val) = 0 + d.val by omega)⟩)
    · rw [dif_neg h, dif_neg h]
      exact kR0_at arg17 harg17 x17 (k0_off5_inb i) (k0_off5_eq i) _ ⟨d.val, by omega⟩ _ (f3 rfl (Nat.zero_add _).symm (show 0 + (64 * 0 + d.val) = 0 + d.val by omega))
  | 0, 1 =>
    refine (pay95_at _ kk d).trans ?_
    refine (pay30_at _ _ kk ⟨64 + d.val, by omega⟩).trans ?_
    show _ = dite _ _ _
    by_cases h : kk.val < 128
    · rw [dif_pos h, dif_pos h]
      exact load2 arg25 harg25 x25 _ _ _ _ _ (Fin.forall_fin_two.mpr ⟨(Nat.zero_add _).symm, (show 0 + (64 * 1 + d.val) = 0 + (64 + d.val) by omega)⟩)
    · rw [dif_neg h, dif_neg h]
      exact kR0_at arg17 harg17 x17 (k0_off5_inb i) (k0_off5_eq i) _ ⟨64 + d.val, by omega⟩ _ (f3 rfl (Nat.zero_add _).symm (show 0 + (64 * 1 + d.val) = 0 + (64 + d.val) by omega))
  | 1, 0 =>
    refine (pay731_at _ _ kk ⟨d.val, by omega⟩).trans ?_
    show _ = x17 _
    by_cases h : kk.val < 128
    · rw [dif_pos h]
      exact kR_at c i arg2 harg2 arg3 harg3 arg15 arg17 harg17 x2 x3 x17 (k0_off5_inb i) (k0_off5_eq i) _ ⟨d.val, by omega⟩ _ _ (f3 rfl (Nat.zero_add _).symm (show 0 + (64 * 0 + d.val) = 0 + d.val by omega))
    · rw [dif_neg h]
      exact kR_at c i arg2 harg2 arg3 harg3 arg15 arg17 harg17 x2 x3 x17 (k0_off282_inb i) (k0_off282_eq i) _ ⟨d.val, by omega⟩ _ _ (f3 rfl (show kk.val = 128 + (kk.val - 128) by omega) (show 0 + (64 * 0 + d.val) = 0 + d.val by omega))
  | 1, 1 =>
    refine (pay95_at _ kk d).trans ?_
    refine (pay731_at _ _ kk ⟨64 + d.val, by omega⟩).trans ?_
    show _ = x17 _
    by_cases h : kk.val < 128
    · rw [dif_pos h]
      exact kR_at c i arg2 harg2 arg3 harg3 arg15 arg17 harg17 x2 x3 x17 (k0_off5_inb i) (k0_off5_eq i) _ ⟨64 + d.val, by omega⟩ _ _ (f3 rfl (Nat.zero_add _).symm (show 0 + (64 * 1 + d.val) = 0 + (64 + d.val) by omega))
    · rw [dif_neg h]
      exact kR_at c i arg2 harg2 arg3 harg3 arg15 arg17 harg17 x2 x3 x17 (k0_off282_inb i) (k0_off282_eq i) _ ⟨64 + d.val, by omega⟩ _ _ (f3 rfl (show kk.val = 128 + (kk.val - 128) by omega) (show 0 + (64 * 1 + d.val) = 0 + (64 + d.val) by omega))
theorem vrT_at (j g : Fin 2) (kk : Fin 256) (d : Fin 64) : vrT c i arg2 harg2 arg3 harg3 arg15 arg17 harg17 arg25 harg25 x2 x3 x17 x25 j g (ix2 kk ⟨d.val, by omega⟩) = kvAt i x17 x25 j kk ⟨128 + (64 * g.val + d.val), by omega⟩ := by
  match j, g with
  | 0, 0 =>
    refine (pay31_at _ _ kk ⟨d.val, by omega⟩).trans ?_
    show _ = dite _ _ _
    by_cases h : kk.val < 128
    · rw [dif_pos h, dif_pos h]
      exact load2 arg25 harg25 x25 _ _ _ _ _ (Fin.forall_fin_two.mpr ⟨(Nat.zero_add _).symm, (show 128 + (64 * 0 + d.val) = 128 + d.val by omega)⟩)
    · rw [dif_neg h, dif_neg h]
      exact kR0_at arg17 harg17 x17 (k0_off6_inb i) (k0_off6_eq i) _ ⟨d.val, by omega⟩ _ (f3 rfl (Nat.zero_add _).symm (show 128 + (64 * 0 + d.val) = 128 + d.val by omega))
  | 0, 1 =>
    refine (pay96_at _ kk d).trans ?_
    refine (pay31_at _ _ kk ⟨64 + d.val, by omega⟩).trans ?_
    show _ = dite _ _ _
    by_cases h : kk.val < 128
    · rw [dif_pos h, dif_pos h]
      exact load2 arg25 harg25 x25 _ _ _ _ _ (Fin.forall_fin_two.mpr ⟨(Nat.zero_add _).symm, (show 128 + (64 * 1 + d.val) = 128 + (64 + d.val) by omega)⟩)
    · rw [dif_neg h, dif_neg h]
      exact kR0_at arg17 harg17 x17 (k0_off6_inb i) (k0_off6_eq i) _ ⟨64 + d.val, by omega⟩ _ (f3 rfl (Nat.zero_add _).symm (show 128 + (64 * 1 + d.val) = 128 + (64 + d.val) by omega))
  | 1, 0 =>
    refine (pay732_at _ _ kk ⟨d.val, by omega⟩).trans ?_
    show _ = x17 _
    by_cases h : kk.val < 128
    · rw [dif_pos h]
      exact kR_at c i arg2 harg2 arg3 harg3 arg15 arg17 harg17 x2 x3 x17 (k0_off6_inb i) (k0_off6_eq i) _ ⟨d.val, by omega⟩ _ _ (f3 rfl (Nat.zero_add _).symm (show 128 + (64 * 0 + d.val) = 128 + d.val by omega))
    · rw [dif_neg h]
      exact kR_at c i arg2 harg2 arg3 harg3 arg15 arg17 harg17 x2 x3 x17 (k0_off283_inb i) (k0_off283_eq i) _ ⟨d.val, by omega⟩ _ _ (f3 rfl (show kk.val = 128 + (kk.val - 128) by omega) (show 128 + (64 * 0 + d.val) = 128 + d.val by omega))
  | 1, 1 =>
    refine (pay96_at _ kk d).trans ?_
    refine (pay732_at _ _ kk ⟨64 + d.val, by omega⟩).trans ?_
    show _ = x17 _
    by_cases h : kk.val < 128
    · rw [dif_pos h]
      exact kR_at c i arg2 harg2 arg3 harg3 arg15 arg17 harg17 x2 x3 x17 (k0_off6_inb i) (k0_off6_eq i) _ ⟨64 + d.val, by omega⟩ _ _ (f3 rfl (Nat.zero_add _).symm (show 128 + (64 * 1 + d.val) = 128 + (64 + d.val) by omega))
    · rw [dif_neg h]
      exact kR_at c i arg2 harg2 arg3 harg3 arg15 arg17 harg17 x2 x3 x17 (k0_off283_inb i) (k0_off283_eq i) _ ⟨64 + d.val, by omega⟩ _ _ (f3 rfl (show kk.val = 128 + (kk.val - 128) by omega) (show 128 + (64 * 1 + d.val) = 128 + (64 + d.val) by omega))

set_option maxHeartbeats 0 in
theorem qT_at (j g : Fin 2) (p : Fin 4) (r x : Fin 128) : qT c i arg2 harg2 arg3 harg3 arg15 arg16 harg16 x2 x3 x16 j g p (ix3 0 r x) = x16 (ix3 (rs i) ⟨128 * j.val + r.val, by omega⟩ ⟨512 * g.val + 128 * p.val + x.val, by omega⟩) := by
  match j, g, p with
  | 0, 0, 0 => exact qR_at c i arg2 harg2 arg3 harg3 arg15 arg16 harg16 x2 x3 x16 (k0_off7_inb i) (k0_off7_eq i) r x _ _ (f3 rfl (show 128 * 0 + r.val = 0 + r.val by omega) (show 512 * 0 + 128 * 0 + x.val = 0 + x.val by omega))
  | 0, 0, 1 => exact qR_at c i arg2 harg2 arg3 harg3 arg15 arg16 harg16 x2 x3 x16 (k0_off8_inb i) (k0_off8_eq i) r x _ _ (f3 rfl (show 128 * 0 + r.val = 0 + r.val by omega) (show 512 * 0 + 128 * 1 + x.val = 128 + x.val by omega))
  | 0, 0, 2 => exact qR_at c i arg2 harg2 arg3 harg3 arg15 arg16 harg16 x2 x3 x16 (k0_off9_inb i) (k0_off9_eq i) r x _ _ (f3 rfl (show 128 * 0 + r.val = 0 + r.val by omega) (show 512 * 0 + 128 * 2 + x.val = 256 + x.val by omega))
  | 0, 0, 3 => exact qR_at c i arg2 harg2 arg3 harg3 arg15 arg16 harg16 x2 x3 x16 (k0_off10_inb i) (k0_off10_eq i) r x _ _ (f3 rfl (show 128 * 0 + r.val = 0 + r.val by omega) (show 512 * 0 + 128 * 3 + x.val = 384 + x.val by omega))
  | 0, 1, 0 => exact qR_at c i arg2 harg2 arg3 harg3 arg15 arg16 harg16 x2 x3 x16 (k0_off11_inb i) (k0_off11_eq i) r x _ _ (f3 rfl (show 128 * 0 + r.val = 0 + r.val by omega) (show 512 * 1 + 128 * 0 + x.val = 512 + x.val by omega))
  | 0, 1, 1 => exact qR_at c i arg2 harg2 arg3 harg3 arg15 arg16 harg16 x2 x3 x16 (k0_off12_inb i) (k0_off12_eq i) r x _ _ (f3 rfl (show 128 * 0 + r.val = 0 + r.val by omega) (show 512 * 1 + 128 * 1 + x.val = 640 + x.val by omega))
  | 0, 1, 2 => exact qR_at c i arg2 harg2 arg3 harg3 arg15 arg16 harg16 x2 x3 x16 (k0_off13_inb i) (k0_off13_eq i) r x _ _ (f3 rfl (show 128 * 0 + r.val = 0 + r.val by omega) (show 512 * 1 + 128 * 2 + x.val = 768 + x.val by omega))
  | 0, 1, 3 => exact qR_at c i arg2 harg2 arg3 harg3 arg15 arg16 harg16 x2 x3 x16 (k0_off14_inb i) (k0_off14_eq i) r x _ _ (f3 rfl (show 128 * 0 + r.val = 0 + r.val by omega) (show 512 * 1 + 128 * 3 + x.val = 896 + x.val by omega))
  | 1, 0, 0 => exact qR_at c i arg2 harg2 arg3 harg3 arg15 arg16 harg16 x2 x3 x16 (k0_off284_inb i) (k0_off284_eq i) r x _ _ (f3 rfl (show 128 * 1 + r.val = 128 + r.val by omega) (show 512 * 0 + 128 * 0 + x.val = 0 + x.val by omega))
  | 1, 0, 1 => exact qR_at c i arg2 harg2 arg3 harg3 arg15 arg16 harg16 x2 x3 x16 (k0_off285_inb i) (k0_off285_eq i) r x _ _ (f3 rfl (show 128 * 1 + r.val = 128 + r.val by omega) (show 512 * 0 + 128 * 1 + x.val = 128 + x.val by omega))
  | 1, 0, 2 => exact qR_at c i arg2 harg2 arg3 harg3 arg15 arg16 harg16 x2 x3 x16 (k0_off286_inb i) (k0_off286_eq i) r x _ _ (f3 rfl (show 128 * 1 + r.val = 128 + r.val by omega) (show 512 * 0 + 128 * 2 + x.val = 256 + x.val by omega))
  | 1, 0, 3 => exact qR_at c i arg2 harg2 arg3 harg3 arg15 arg16 harg16 x2 x3 x16 (k0_off287_inb i) (k0_off287_eq i) r x _ _ (f3 rfl (show 128 * 1 + r.val = 128 + r.val by omega) (show 512 * 0 + 128 * 3 + x.val = 384 + x.val by omega))
  | 1, 1, 0 => exact qR_at c i arg2 harg2 arg3 harg3 arg15 arg16 harg16 x2 x3 x16 (k0_off288_inb i) (k0_off288_eq i) r x _ _ (f3 rfl (show 128 * 1 + r.val = 128 + r.val by omega) (show 512 * 1 + 128 * 0 + x.val = 512 + x.val by omega))
  | 1, 1, 1 => exact qR_at c i arg2 harg2 arg3 harg3 arg15 arg16 harg16 x2 x3 x16 (k0_off289_inb i) (k0_off289_eq i) r x _ _ (f3 rfl (show 128 * 1 + r.val = 128 + r.val by omega) (show 512 * 1 + 128 * 1 + x.val = 640 + x.val by omega))
  | 1, 1, 2 => exact qR_at c i arg2 harg2 arg3 harg3 arg15 arg16 harg16 x2 x3 x16 (k0_off290_inb i) (k0_off290_eq i) r x _ _ (f3 rfl (show 128 * 1 + r.val = 128 + r.val by omega) (show 512 * 1 + 128 * 2 + x.val = 768 + x.val by omega))
  | 1, 1, 3 => exact qR_at c i arg2 harg2 arg3 harg3 arg15 arg16 harg16 x2 x3 x16 (k0_off291_inb i) (k0_off291_eq i) r x _ _ (f3 rfl (show 128 * 1 + r.val = 128 + r.val by omega) (show 512 * 1 + 128 * 3 + x.val = 896 + x.val by omega))

set_option maxHeartbeats 0 in
theorem skT_at (g : Fin 2) (p : Fin 4) (a : Fin 2) : skT arg1 harg1 x1 g p a = x1 (ix1 ⟨8 * g.val + 2 * p.val + a.val, by omega⟩) := by
  match g, p, a with
  | 0, 0, 0 => exact skR_at arg1 harg1 x1 0 inb_S16_S1_0
  | 0, 0, 1 => exact skR_at arg1 harg1 x1 1 inb_S16_S1_1
  | 0, 1, 0 => exact skR_at arg1 harg1 x1 2 inb_S16_S1_2
  | 0, 1, 1 => exact skR_at arg1 harg1 x1 3 inb_S16_S1_3
  | 0, 2, 0 => exact skR_at arg1 harg1 x1 4 inb_S16_S1_4
  | 0, 2, 1 => exact skR_at arg1 harg1 x1 5 inb_S16_S1_5
  | 0, 3, 0 => exact skR_at arg1 harg1 x1 6 inb_S16_S1_6
  | 0, 3, 1 => exact skR_at arg1 harg1 x1 7 inb_S16_S1_7
  | 1, 0, 0 => exact skR_at arg1 harg1 x1 8 inb_S16_S1_8
  | 1, 0, 1 => exact skR_at arg1 harg1 x1 9 inb_S16_S1_9
  | 1, 1, 0 => exact skR_at arg1 harg1 x1 10 inb_S16_S1_10
  | 1, 1, 1 => exact skR_at arg1 harg1 x1 11 inb_S16_S1_11
  | 1, 2, 0 => exact skR_at arg1 harg1 x1 12 inb_S16_S1_12
  | 1, 2, 1 => exact skR_at arg1 harg1 x1 13 inb_S16_S1_13
  | 1, 3, 0 => exact skR_at arg1 harg1 x1 14 inb_S16_S1_14
  | 1, 3, 1 => exact skR_at arg1 harg1 x1 15 inb_S16_S1_15

theorem attK_congr (pen : Option EReal) {S S' V V' : Fin 256 → EReal} {sk sk' : EReal} (r : Fin 128) (h1 : S = S') (h2 : V = V') (h3 : sk = sk') : attK pen S V sk r = attK pen S' V' sk' r := by
  subst h1 h2 h3; rfl

set_option maxHeartbeats 0 in
/-- The block's output entry, over the slots read. -/
theorem block_at (j g : Fin 2) (p : Fin 4) (a : Fin 2) (r : Fin 128) (d : Fin 64) :
    View.canon (runN.sl.H11_16 (F := Ideal) c i arg1 harg1 arg2 harg2 arg3 harg3 arg15 arg16 harg16 arg17 harg17 arg25 harg25 x1 x2 x3 x16 x17 x25) (ix2 ⟨128 * j.val + r.val, by omega⟩ ⟨512 * g.val + 128 * p.val + (64 * a.val + d.val), by omega⟩)
      = attK (penT i j) (fun kk => ∑ d' : Fin 64, x16 (ix3 (rs i) ⟨128 * j.val + r.val, by omega⟩ ⟨512 * g.val + 128 * p.val + (64 * a.val + d'.val), by omega⟩) * kvAt i x17 x25 j kk ⟨0 + (64 * g.val + d'.val), by omega⟩)
          (fun kk => kvAt i x17 x25 j kk ⟨128 + (64 * g.val + d.val), by omega⟩) (x1 (ix1 ⟨8 * g.val + 2 * p.val + a.val, by omega⟩)) r := by
  refine (congrFun (congrArg View.canon (list_eq c i arg1 harg1 arg2 harg2 arg3 harg3 arg15 arg16 harg16 arg17 harg17 arg25 harg25 x1 x2 x3 x16 x17 x25)) _).trans ?_
  refine (tiles_at _ j g p r ⟨64 * a.val + d.val, by omega⟩).trans ?_
  refine (outp_at _ _ _ _ _ p a r d).trans ?_
  refine attK_congr _ r (funext fun kk => ?_) (funext fun kk => ?_) (skT_at arg1 harg1 x1 g p a)
  · exact Finset.sum_congr rfl fun d' _ => congr (congrArg HMul.hMul (qT_at c i arg2 harg2 arg3 harg3 arg15 arg16 harg16 x2 x3 x16 j g p r ⟨64 * a.val + d'.val, by omega⟩)) (krT_at c i arg2 harg2 arg3 harg3 arg15 arg17 harg17 arg25 harg25 x2 x3 x17 x25 j g kk d')
  · exact vrT_at c i arg2 harg2 arg3 harg3 arg15 arg17 harg17 arg25 harg25 x2 x3 x17 x25 j g kk d

end

end Cert.Kernel2Ideal.Mix

end
-- ==== Proof.Mix.Blks.lean ====
/- The blocks the mixer's points read, as elements of the launched arrays. -/
module

public import proofs.«01_k».proof.Proof.Gen.Kernel2Ideal.Frame
public import Idealize.ShloMosaic.Lib.Pipeline.ValueKit.Point
public import Idealize.ShloMosaic.Lib.Pointwise
public import Idealize.ShloMosaic.Lib.Claim

@[expose] public section

set_option maxRecDepth 65536

noncomputable section

namespace Cert.Kernel2Ideal.Mix

open Cert.Kernel2Ideal Cert.Kernel2Ideal.Gen Idealize.ShloMosaic Idealize.ShloMosaic.TcCoe

variable (m : (ℓ : Loc nD τ sig) → Buf (Elt Ideal) ℓ)

theorem idxs : ∀ t : Fin cfg0.N, win0_0.index t = ![0] ∧ win0_1.index t = ![min t.val 63, 0] ∧ win0_2.index t = ![0, 0]
    ∧ win0_6.index t = ![min t.val 63, 0] ∧ win0_7.index t = ![0, min t.val 63] ∧ win0_8.index t = ![min t.val 63, 0] :=
  (by decide +kernel : ∀ t : Fin grid0.N, _)
theorem co : ∀ t : Fin cfg0.N, (grid0.coords t 0).val = t.val := (by decide +kernel : ∀ t : Fin grid0.N, _)
theorem tlt (t : Fin cfg0.N) : t.val < 65 := lt_of_lt_of_eq t.isLt N_0

variable (c : Dev nD) (t : Fin cfg0.N)

theorem V_v0 : V m c main_v0 = (shapeCast S16384x2048 (m ((c : Thread nD τ).loc main_arg0) : Vec Ideal S4x4096x2048 .f32) shapeCasts_S4x4096x2048_S16384x2048 : Vec Ideal S16384x2048 .f32) := rfl
theorem V_v4 : V m c main_v4 = (shapeCast S16 (m ((c : Thread nD τ).loc main_arg5) : Vec Ideal S1x16 .f32) shapeCasts_S1x16_S16 : Vec Ideal S16 .f32) := rfl
theorem V_v5 : V m c main_v5 = (shapeCast S2048x2048 (m ((c : Thread nD τ).loc main_arg6) : Vec Ideal S1x2048x2048 .f32) shapeCasts_S1x2048x2048_S2048x2048 : Vec Ideal S2048x2048 .f32) := rfl
theorem V_v6 : V m c main_v6 = (shapeCast S2048x8192 (m ((c : Thread nD τ).loc main_arg7) : Vec Ideal S1x2048x8192 .f32) shapeCasts_S1x2048x8192_S2048x8192 : Vec Ideal S2048x8192 .f32) := rfl
theorem V_v7 : V m c main_v7 = (shapeCast S8192x2048 (m ((c : Thread nD τ).loc main_arg8) : Vec Ideal S1x8192x2048 .f32) shapeCasts_S1x8192x2048_S8192x2048 : Vec Ideal S8192x2048 .f32) := rfl
theorem b0 (n : Fin 16) : (iblk m c 0 t : Vec Ideal S16 .f32) (ix1 n) = m ((c : Thread nD τ).loc main_arg5) (ix2 0 n) := by
  have e : (iblk m c 0 t : Vec Ideal S16 .f32) (ix1 n) = (V m c main_v4 : Vec Ideal S16 .f32) (ix1 n) := by blk_ext! [iblk, idxs t]
  rw [e, V_v4]
  pointwise []
theorem b1 (r : Fin 256) (k : Fin 2048) : (iblk m c 1 t : Vec Ideal S256x2048 .f32) (ix2 r k) = (V m c main_v0 : Vec Ideal S16384x2048 .f32) (ix2 ⟨256 * (min t.val 63) + r.val, by omega⟩ k) := by
  blk_ext! [iblk, idxs t]
theorem b6 (r : Fin 32) (k : Fin 2048) : (iblk m c 6 t : Vec Ideal S32x2048 .f32) (ix2 r k) = (V m c main_v5 : Vec Ideal S2048x2048 .f32) (ix2 ⟨32 * (min t.val 63) + r.val, by omega⟩ k) := by
  blk_ext! [iblk, idxs t]
theorem b7 (r : Fin 2048) (k : Fin 128) : (iblk m c 7 t : Vec Ideal S2048x128 .f32) (ix2 r k) = (V m c main_v6 : Vec Ideal S2048x8192 .f32) (ix2 r ⟨128 * (min t.val 63) + k.val, by omega⟩) := by
  blk_ext! [iblk, idxs t]
theorem b8 (r : Fin 128) (k : Fin 2048) : (iblk m c 8 t : Vec Ideal S128x2048 .f32) (ix2 r k) = (V m c main_v7 : Vec Ideal S8192x2048 .f32) (ix2 ⟨128 * (min t.val 63) + r.val, by omega⟩ k) := by
  blk_ext! [iblk, idxs t]
theorem b2 (r : Fin 2048) (k : Fin 4480) : (iblk m c 2 t : Vec Ideal S2048x4480 .bf16) (ix2 r k) = m ((c : Thread nD τ).loc main_arg1) (ix2 r k) := by
  blk_ext! [iblk, V, idxs t]

end Cert.Kernel2Ideal.Mix
end
-- ==== Proof.Mix.Inv.lean ====
/- What the attention's slots hold between points, and what a later point leaves of the attention's output. -/
module

public import proofs.«01_k».proof.Proof.Mix.Blk
public import proofs.«01_k».proof.Proof.Mix.Blks
public import proofs.«01_k».proof.Proof.Mix.Dats

@[expose] public section

set_option maxRecDepth 65536

noncomputable section

namespace Cert.Kernel2Ideal.Mix

open Cert.Kernel2Ideal.Gen
open Idealize.ShloMosaic Idealize.ShloMosaic.TcCoe Idealize.ShloMosaic.Tactic

variable (m : (ℓ : Loc nD τ sig) → Buf (Elt Ideal) ℓ) (c : Dev nD)

/-- A row of the stream times a column of the weights. -/
def PRx (xs : Vec Ideal S16384x2048 .f32) (w : Vec Ideal S2048x4480 .bf16) (row : Fin 16384) (col : Fin 4480) : EReal :=
  ∑ k : Fin 2048, xs (ix2 row k) * w (ix2 k col)
/-- The program's own projections. -/
abbrev PR (row : Fin 16384) (col : Fin 4480) : EReal := PRx (V m c main_v0) (m ((c : Thread nD τ).loc main_arg1)) row col

theorem proj_blk (t : Fin cfg0.N) (r : Fin 256) (col : Fin 4480) :
    proj (iblk m c 1 t) (iblk m c 2 t) r col = PR m c ⟨256 * (min t.val 63) + r.val, by omega⟩ col :=
  Finset.sum_congr rfl fun k _ => congr (congrArg (fun a b : EReal => a * b) (b1 m c t r k)) (b2 m c t k col)

set_option maxHeartbeats 0

theorem stepN_s16 (t : Fin cfg0.N) (h : ¬cond1 (grid0.coords t)) (s : Scr Ideal) :
    (stepN m c t h s).2.s16 = scM0_1.view.read (Elt Ideal) (scM0_1.view.writes (Elt Ideal) (hsc_1.unread s.s16) (runN.sl.H16_4 (F := Ideal) c (grid0.coords t) (ms0_1 t) (hs0_1 t) (ms0_2 t) (hs0_2 t) scM0_0 (iblk m c 1 t) (iblk m c 2 t))) := by
  delta stepN RN runN; dsimp only
theorem stepN_s17 (t : Fin cfg0.N) (h : ¬cond1 (grid0.coords t)) (s : Scr Ideal) :
    (stepN m c t h s).2.s17 = scM0_2.view.read (Elt Ideal) (scM0_2.view.writes (Elt Ideal) (hsc_2.unread s.s17) (runN.sl.H17_1 (F := Ideal) c (grid0.coords t) (ms0_1 t) (hs0_1 t) (ms0_2 t) (hs0_2 t) scM0_0 (iblk m c 1 t) (iblk m c 2 t))) := by
  delta stepN RN runN; dsimp only
theorem stepN_s25 (t : Fin cfg0.N) (h : ¬cond1 (grid0.coords t)) (s : Scr Ideal) :
    (stepN m c t h s).2.s25 = scM0_10.view.read (Elt Ideal) (scM0_10.view.writes (Elt Ideal) (hsc_10.unread s.s25) [⟨Rect.unit (s := S128x256) ![0, 0] S128x256.size inb_S128x256_S128x256_0_0, k0_pay2 (View.readAt (Elt Ideal) scM0_2.view (Rect.unit (s := S2x256x256) (k0_off559 (grid0.coords t)) S1x128x256.size (k0_off559_inb (grid0.coords t))).toLoadRect (scM0_2.view.writes (Elt Ideal) (hsc_2.unread s.s17) (runN.sl.H17_1 (F := Ideal) c (grid0.coords t) (ms0_1 t) (hs0_1 t) (ms0_2 t) (hs0_2 t) scM0_0 (iblk m c 1 t) (iblk m c 2 t))))⟩]) := by
  delta stepN RN runN; dsimp only
theorem stepN_o11 (t : Fin cfg0.N) (h : ¬cond1 (grid0.coords t)) (s : Scr Ideal) :
    (stepN m c t h s).1.o11 = View.canon (runN.sl.H11_16 (F := Ideal) c (grid0.coords t) (ms0_0 t) (hs0_0 t) (ms0_1 t) (hs0_1 t) (ms0_2 t) (hs0_2 t) scM0_0 scM0_1 hsc_1 scM0_2 hsc_2 scM0_10 hsc_10 (iblk m c 0 t) (iblk m c 1 t) (iblk m c 2 t) s.s16 s.s17 s.s25) := by
  delta stepN RN runN; dsimp only
theorem stepA_s16 : (stepA m c).2.s16 = View.canon (runA.sl.H16_5 (F := Ideal) c (ms0_1 t0) (hs0_1 t0) (ms0_2 t0) (hs0_2 t0) scM0_0 (iblk m c 1 t0) (iblk m c 2 t0)) := by
  delta stepA RA runA; dsimp only
theorem stepA_s17 : (stepA m c).2.s17 = View.canon (runA.sl.H17_2 (F := Ideal) c (ms0_1 t0) (hs0_1 t0) (ms0_2 t0) (hs0_2 t0) scM0_0 (iblk m c 1 t0) (iblk m c 2 t0)) := by
  delta stepA RA runA; dsimp only

theorem ws_eq (t : Fin cfg0.N) : ws (grid0.coords t) = ⟨t.val % 2, Nat.mod_lt _ (by decide)⟩ := Fin.ext (by show (grid0.coords t 0).val % 2 = _; rw [co])
theorem ws_i0 : ws i0 = 0 := by decide +kernel

theorem s16_at (n : ℕ) (hn : n < cfg0.N) (r : Fin 256) (col : Fin 1024) :
    (outsAt m c n hn).2.s16 (ix3 ⟨n % 2, Nat.mod_lt _ (by decide)⟩ r col) = PR m c ⟨256 * (min n 63) + r.val, by omega⟩ ⟨col.val, by omega⟩ * QS := by
  cases n with
  | zero =>
    have e := q_first c (ms0_1 t0) (hs0_1 t0) (ms0_2 t0) (hs0_2 t0) scM0_0 (iblk m c 1 t0) (iblk m c 2 t0) r col
    rw [ws_i0] at e
    refine (congrFun (stepA_s16 m c) _).trans (e.trans ?_)
    exact congrArg (· * QS) (proj_blk m c t0 r _)
  | succ n =>
    have e := q_new c (grid0.coords ⟨n + 1, hn⟩) (ms0_1 ⟨n + 1, hn⟩) (hs0_1 ⟨n + 1, hn⟩) (ms0_2 ⟨n + 1, hn⟩) (hs0_2 ⟨n + 1, hn⟩) scM0_0 (iblk m c 1 ⟨n + 1, hn⟩) (iblk m c 2 ⟨n + 1, hn⟩) scM0_1.view (hsc_1.unread (outsAt m c n (Nat.lt_of_succ_lt hn)).2.s16) r col
    rw [ws_eq] at e
    refine (congrFun (stepN_s16 m c ⟨n + 1, hn⟩ _ _) _).trans (e.trans ?_)
    exact congrArg (· * QS) (proj_blk m c ⟨n + 1, hn⟩ r _)
theorem s17_at (n : ℕ) (hn : n < cfg0.N) (r col : Fin 256) :
    (outsAt m c n hn).2.s17 (ix3 ⟨n % 2, Nat.mod_lt _ (by decide)⟩ r col) = PR m c ⟨256 * (min n 63) + r.val, by omega⟩ ⟨1024 + col.val, by omega⟩ := by
  cases n with
  | zero =>
    have e := kv_first c (ms0_1 t0) (hs0_1 t0) (ms0_2 t0) (hs0_2 t0) scM0_0 (iblk m c 1 t0) (iblk m c 2 t0) r col
    rw [ws_i0] at e
    refine (congrFun (stepA_s17 m c) _).trans (e.trans ?_)
    exact proj_blk m c t0 r _
  | succ n =>
    have e := kv_new c (grid0.coords ⟨n + 1, hn⟩) (ms0_1 ⟨n + 1, hn⟩) (hs0_1 ⟨n + 1, hn⟩) (ms0_2 ⟨n + 1, hn⟩) (hs0_2 ⟨n + 1, hn⟩) scM0_0 (iblk m c 1 ⟨n + 1, hn⟩) (iblk m c 2 ⟨n + 1, hn⟩) scM0_2.view (hsc_2.unread (outsAt m c n (Nat.lt_of_succ_lt hn)).2.s17) r col
    rw [ws_eq] at e
    refine (congrFun (stepN_s17 m c ⟨n + 1, hn⟩ _ _) _).trans (e.trans ?_)
    exact proj_blk m c ⟨n + 1, hn⟩ r _

theorem rs_eq (n : ℕ) (hn : n + 1 < cfg0.N) : rs (grid0.coords ⟨n + 1, hn⟩) = ⟨n % 2, Nat.mod_lt _ (by decide)⟩ :=
  Fin.ext (by show 1 - (grid0.coords ⟨n + 1, hn⟩ 0).val % 2 = n % 2; rw [co]; show 1 - (n + 1) % 2 = n % 2; omega)

/-- The rows carried after a later point: the second half of the block before. -/
theorem s25_at (n : ℕ) (hn : n + 1 < cfg0.N) (r : Fin 128) (col : Fin 256) :
    (outsAt m c (n + 1) hn).2.s25 (ix2 r col) = PR m c ⟨256 * (min n 63) + (128 + r.val), by omega⟩ ⟨1024 + col.val, by omega⟩ := by
  have e1 := congrFun (stepN_s25 m c ⟨n + 1, hn⟩ (fun h => Nat.succ_ne_zero n ((hcond1 ⟨n + 1, hn⟩).mp h)) (outsAt m c n (Nat.lt_of_succ_lt hn)).2) (ix2 r col)
  refine e1.trans ?_
  refine (View.read_writes_cons_unit_of_mem scM0_10.view _ _ _ _ _ (ix2 r col) rfl (Fin.forall_fin_two.mpr ⟨(Nat.zero_add _).symm, (Nat.zero_add _).symm⟩)).trans ?_
  refine (pay2_at _ r col).trans ?_
  refine (load3 scM0_2.view _ _ _ (ix3 0 r col) (ix3 (rs (grid0.coords ⟨n + 1, hn⟩)) ⟨128 + r.val, by omega⟩ col) (k0_off559_eq _) (f3 rfl rfl (Nat.zero_add _).symm)).trans ?_
  rw [kv_keep, hsc_2.read_unread, rs_eq]
  exact s17_at m c n (Nat.lt_of_succ_lt hn) _ col

end Cert.Kernel2Ideal.Mix

end
-- ==== Proof.Mix.Tie.lean ====
/- One row of the window attention: the kernel's folded scores in powers of two, against the plain softmax. -/
module

public import proofs.«01_k».proof.Proof.Mix.Val
public import proofs.«01_k».proof.Proof.Mix.Proj

@[expose] public section

noncomputable section

namespace Cert.Kernel2Ideal.Mix

open Cert.Kernel2Ideal.Gen
open Idealize.ShloMosaic Idealize.ShloMosaic.TcCoe

theorem log2_pos : 0 < Real.log 2 := Real.log_pos (by norm_num)
/-- The inverse of the logarithm of two. -/
abbrev lg : ℝ := (Real.log 2)⁻¹
theorem lg_pos : 0 < lg := inv_pos.mpr log2_pos

theorem L2_eq : L2 = ((lg : ℝ) : EReal) := IdealRules.named_const.ideal_named_scalar _ _ _ _ rfl
theorem QS_eq : QS = (((Real.log 256)⁻¹ : ℝ) : EReal) := IdealRules.named_const.ideal_named_scalar _ _ _ _ rfl
theorem eighth_eq : (Ideal.ofBits .f32 0x3E000000#32 : EReal) = ((0.125 : ℝ) : EReal) := by
  simp [Ideal.ofBits, Ideal.ieee, -EReal.coe_mul]; norm_num
theorem negInf_eq : (Ideal.ofBits .f32 0xFF800000#32 : EReal) = ⊥ := by
  simp [Ideal.ofBits, Ideal.ieee]
theorem QS_split : QS = ((0.125 : ℝ) : EReal) * ((lg : ℝ) : EReal) := by
  rw [QS_eq, ← EReal.coe_mul]
  have h : Real.log 256 = 8 * Real.log 2 := by
    rw [show (256 : ℝ) = 2 ^ (8 : ℕ) by norm_num, Real.log_pow]; norm_num
  congr 1
  rw [h, mul_inv]
  norm_num

theorem mul_lg_mono {x y : EReal} (h : x ≤ y) : x * ((lg : ℝ) : EReal) ≤ y * ((lg : ℝ) : EReal) :=
  mul_le_mul_of_nonneg_right h (EReal.coe_nonneg.mpr lg_pos.le)
theorem bot_mul_lg : (⊥ : EReal) * ((lg : ℝ) : EReal) = ⊥ := EReal.bot_mul_coe_of_pos lg_pos
theorem top_mul_lg : (⊤ : EReal) * ((lg : ℝ) : EReal) = ⊤ := EReal.top_mul_coe_of_pos lg_pos

theorem sub_mul_lg (x y : EReal) : (x - y) * ((lg : ℝ) : EReal) = x * ((lg : ℝ) : EReal) - y * ((lg : ℝ) : EReal) := by
  rw [sub_eq_add_neg, sub_eq_add_neg, EReal.right_distrib_of_nonneg_of_ne_top (EReal.coe_nonneg.mpr lg_pos.le) (EReal.coe_ne_top _), EReal.neg_mul]

theorem exp2_mul_lg (y : EReal) : Ideal.exp2 (y * ((lg : ℝ) : EReal)) = Ideal.exp y := by
  induction y using EReal.rec with
  | bot => rw [bot_mul_lg]; rfl
  | top => rw [top_mul_lg]; rfl
  | coe r =>
    rw [← EReal.coe_mul]
    show ((Real.rpow 2 (r * lg) : ℝ) : EReal) = ((Real.exp r : ℝ) : EReal)
    congr 1
    show (2 : ℝ) ^ (r * lg) = Real.exp r
    rw [Real.rpow_def_of_pos (by norm_num : (0 : ℝ) < 2)]
    congr 1
    have := log2_pos.ne'
    field_simp

theorem sum_mul_pos {ι : Type} (s : Finset ι) (f : ι → EReal) (c : ℝ) (hc : 0 ≤ c) : (∑ i ∈ s, f i * (c : EReal)) = (∑ i ∈ s, f i) * (c : EReal) := by
  classical
  induction s using Finset.induction_on with
  | empty => simp
  | insert a s ha ih => rw [Finset.sum_insert ha, Finset.sum_insert ha, ih, EReal.right_distrib_of_nonneg_of_ne_top (EReal.coe_nonneg.mpr hc) (EReal.coe_ne_top _)]

/-- A scaled query's score is the plain score, scaled. -/
theorem score_scale (q k : Fin 64 → EReal) : (∑ d, q d * QS * k d) = (∑ d, q d * k d) * ((0.125 : ℝ) : EReal) * ((lg : ℝ) : EReal) := by
  rw [mul_assoc, ← QS_split, QS_eq, ← sum_mul_pos _ _ _ (inv_nonneg.mpr (Real.log_nonneg (by norm_num)))]
  exact Finset.sum_congr rfl fun d _ => mul_right_comm _ _ _

/-- The window: the key is inside it, and not before the sequence's start. -/
def valid (first : Prop) (r : Fin 128) (kk : Fin 256) : Prop := (r.val < kk.val ∧ kk.val ≤ r.val + 128) ∧ (¬ first ∨ 128 ≤ kk.val)

open Classical in
/-- A masked score. -/
def msk (first : Prop) (r : Fin 128) (s : Fin 256 → EReal) (kk : Fin 256) : EReal := if valid first r kk then s kk else ⊥
/-- The row's maximum with its sink. -/
def mxM (first : Prop) (r : Fin 128) (s : Fin 256 → EReal) (sk : EReal) : EReal := max (Finset.univ.fold max ⊥ (msk first r s)) sk
/-- The plain softmax with a sink, and the values under it. -/
def attP (first : Prop) (r : Fin 128) (s v : Fin 256 → EReal) (sk : EReal) : EReal :=
  Ideal.div (∑ kk, Ideal.exp (msk first r s kk - mxM first r s sk) * v kk)
    ((∑ kk, Ideal.exp (msk first r s kk - mxM first r s sk)) + Ideal.exp (sk - mxM first r s sk))

section
variable (first : Prop) (pen : Option EReal) (hpen : (pen = none ∧ ¬ first) ∨ (pen = some 0 ∧ ¬ first) ∨ (pen = some ⊥ ∧ first))
  (r : Fin 128) (S s V v : Fin 256 → EReal) (hS : ∀ kk, valid first r kk → S kk = s kk * ((lg : ℝ) : EReal)) (hV : ∀ kk, valid first r kk → V kk = v kk) (sk : EReal)
include hpen hS

theorem fold_lo (l : Fin 128) (h : r.val < l.val) : foldR pen S r l = msk first r s ⟨l.val, by omega⟩ * ((lg : ℝ) : EReal) := by
  have hv (hf : ¬ first) : valid first r ⟨l.val, by omega⟩ := ⟨⟨h, show l.val ≤ r.val + 128 by omega⟩, .inl hf⟩
  rcases hpen with ⟨rfl, hf⟩ | ⟨rfl, hf⟩ | ⟨rfl, hf⟩
  · rw [foldR.eq_def, if_pos h, msk, if_pos (hv hf)]; exact hS _ (hv hf)
  · rw [foldR.eq_def, if_pos h, msk, if_pos (hv hf)]; exact (add_zero _).trans (hS _ (hv hf))
  · have hn : ¬ valid first r ⟨l.val, by omega⟩ := fun hh => hh.2.elim (fun h' => h' hf) (fun h' => absurd (show 128 ≤ l.val from h') (by omega))
    rw [foldR.eq_def, if_pos h, msk, if_neg hn, bot_mul_lg]; exact EReal.add_bot _
theorem fold_hi (l : Fin 128) (h : ¬ r.val < l.val) : foldR pen S r l = msk first r s ⟨128 + l.val, by omega⟩ * ((lg : ℝ) : EReal) := by
  have hv : valid first r ⟨128 + l.val, by omega⟩ := ⟨⟨show r.val < 128 + l.val by omega, show 128 + l.val ≤ r.val + 128 by omega⟩, .inr (show 128 ≤ 128 + l.val by omega)⟩
  rw [foldR.eq_def, if_neg h, msk, if_pos hv]; exact hS _ hv

theorem fold_max : Finset.univ.fold max ⊥ (foldR pen S r) = Finset.univ.fold max ⊥ (msk first r s) * ((lg : ℝ) : EReal) := by
  have e1 : Finset.univ.fold max ⊥ (foldR pen S r) = Finset.univ.sup (foldR pen S r) := rfl
  have e2 : Finset.univ.fold max ⊥ (msk first r s) = Finset.univ.sup (msk first r s) := rfl
  rw [e1, e2, Finset.comp_sup_eq_sup_comp_of_is_total (fun x : EReal => x * ((lg : ℝ) : EReal)) (fun _ _ h => mul_lg_mono h) bot_mul_lg]
  refine le_antisymm (Finset.sup_le fun l _ => ?_) (Finset.sup_le fun kk _ => ?_)
  · by_cases h : r.val < l.val
    · rw [fold_lo first pen hpen r S s hS l h]
      exact Finset.le_sup (f := (fun x : EReal => x * ((lg : ℝ) : EReal)) ∘ msk first r s) (Finset.mem_univ _)
    · rw [fold_hi first pen hpen r S s hS l h]
      exact Finset.le_sup (f := (fun x : EReal => x * ((lg : ℝ) : EReal)) ∘ msk first r s) (Finset.mem_univ _)
  · show msk first r s kk * ((lg : ℝ) : EReal) ≤ _
    by_cases hv : valid first r kk
    · by_cases h : kk.val < 128
      · have := fold_lo first pen hpen r S s hS ⟨kk.val, h⟩ hv.1.1
        exact this.symm.le.trans (Finset.le_sup (f := foldR pen S r) (Finset.mem_univ _))
      · have h2 := hv.1.2
        have := fold_hi first pen hpen r S s hS ⟨kk.val - 128, by omega⟩ (show ¬ r.val < kk.val - 128 by omega)
        have e : (⟨128 + (kk.val - 128), by omega⟩ : Fin 256) = kk := Fin.ext (by show 128 + (kk.val - 128) = kk.val; omega)
        rw [e] at this
        exact this.symm.le.trans (Finset.le_sup (f := foldR pen S r) (Finset.mem_univ _))
    · rw [msk, if_neg hv, bot_mul_lg]; exact bot_le

theorem mx_eq : mxR (foldR pen S r) sk = mxM first r s sk * ((lg : ℝ) : EReal) := by
  rw [mxR, negInf_eq, fold_max first pen hpen r S s hS, L2_eq, mxM]
  rcases le_total (Finset.univ.fold max ⊥ (msk first r s)) sk with h | h
  · rw [max_eq_right h, max_eq_right (mul_lg_mono h)]
  · rw [max_eq_left h, max_eq_left (mul_lg_mono h)]

theorem w_eq (kk : Fin 256) : wR (foldR pen S r) sk r kk = Ideal.exp (msk first r s kk - mxM first r s sk) := by
  have hb : ¬ valid first r kk → Ideal.exp (msk first r s kk - mxM first r s sk) = 0 := fun hv => by
    rw [msk, if_neg hv, sub_eq_add_neg, EReal.bot_add]; rfl
  unfold wR
  by_cases h : kk.val < 128
  · rw [dif_pos h]
    by_cases h1 : r.val < kk.val
    · rw [if_pos h1, mx_eq first pen hpen r S s hS, fold_lo first pen hpen r S s hS ⟨kk.val, h⟩ h1, ← sub_mul_lg, exp2_mul_lg]
    · rw [if_neg h1, hb fun hv => h1 hv.1.1]
  · rw [dif_neg h]
    by_cases h1 : r.val < kk.val - 128
    · rw [if_pos h1, hb fun hv => by have := hv.1.2; omega]
    · have e : (⟨128 + (kk.val - 128), by omega⟩ : Fin 256) = kk := Fin.ext (by show 128 + (kk.val - 128) = kk.val; omega)
      have e2 := fold_hi first pen hpen r S s hS ⟨kk.val - 128, by omega⟩ h1
      rw [e] at e2
      rw [if_neg h1, mx_eq first pen hpen r S s hS, e2, ← sub_mul_lg, exp2_mul_lg]

include hV in
/-- The kernel's row is the plain row. -/
theorem att_eq : attK pen S V sk r = attP first r s v sk := by
  unfold attK attP
  have e1 : (∑ kk, wR (foldR pen S r) sk r kk * V kk) = ∑ kk, Ideal.exp (msk first r s kk - mxM first r s sk) * v kk := by
    refine Finset.sum_congr rfl fun kk _ => ?_
    rw [w_eq first pen hpen r S s hS]
    by_cases hv : valid first r kk
    · rw [hV kk hv]
    · have : Ideal.exp (msk first r s kk - mxM first r s sk) = 0 := by
        rw [msk, if_neg hv, sub_eq_add_neg, EReal.bot_add]; rfl
      rw [this, zero_mul, zero_mul]
  have e2 : (∑ kk, wR (foldR pen S r) sk r kk) = ∑ kk, Ideal.exp (msk first r s kk - mxM first r s sk) :=
    Finset.sum_congr rfl fun kk _ => w_eq first pen hpen r S s hS sk kk
  have e3 : Ideal.exp2 (sk * L2 - mxR (foldR pen S r) sk) = Ideal.exp (sk - mxM first r s sk) := by
    rw [mx_eq first pen hpen r S s hS, L2_eq, ← sub_mul_lg, exp2_mul_lg]
  rw [e1, e2, e3]

end

end Cert.Kernel2Ideal.Mix

end
-- ==== Proof.Mix.Spec.lean ====
/- The attention's output as one function of the projections and the sinks. -/
module

public import proofs.«01_k».proof.Proof.Mix.Tie

@[expose] public section

noncomputable section

namespace Cert.Kernel2Ideal.Mix

open Idealize.ShloMosaic Idealize.ShloMosaic.TcCoe

/-- The rows a block of queries sees: the block before (zeros before the first) and its own. -/
def bz (Z : Fin 16384 → Fin 4480 → EReal) (B : Fin 128) (kk : Fin 256) (col : Fin 4480) : EReal :=
  if hk : kk.val < 128 then (if hB : B.val < 1 then 0 else Z ⟨128 * (B.val - 1) + kk.val, by omega⟩ col) else Z ⟨128 * B.val + (kk.val - 128), by omega⟩ col

/-- The attention's output: block `B`, row `r` of it, head `h`, entry `d`. -/
def attO (Z : Fin 16384 → Fin 4480 → EReal) (sk : Fin 16 → EReal) (B r : Fin 128) (h : Fin 16) (d : Fin 64) : EReal :=
  attP (B.val % 32 = 0) r
    (fun kk => (∑ d' : Fin 64, Z ⟨128 * B.val + r.val, by omega⟩ ⟨64 * h.val + d'.val, by omega⟩ * bz Z B kk ⟨1024 + (64 * (h.val / 8) + d'.val), by omega⟩) * ((0.125 : ℝ) : EReal))
    (fun kk => bz Z B kk ⟨1152 + (64 * (h.val / 8) + d.val), by omega⟩) (sk h)

end Cert.Kernel2Ideal.Mix

end
-- ==== Proof.Mix.Inv2.lean ====
/- A later point's block of the attention's output, read off the projections. -/
module

public import proofs.«01_k».proof.Proof.Mix.Inv
public import proofs.«01_k».proof.Proof.Mix.Spec

@[expose] public section

set_option maxRecDepth 65536

noncomputable section

namespace Cert.Kernel2Ideal.Mix

open Cert.Kernel2Ideal.Gen
open Idealize.ShloMosaic Idealize.ShloMosaic.TcCoe Idealize.ShloMosaic.Tactic

variable (m : (ℓ : Loc nD τ sig) → Buf (Elt Ideal) ℓ) (c : Dev nD)

theorem neg_big_eq : (Named.named (F := Ideal) (φ := .f32) κ "neg_big" 0xF149F2CA#32 : EReal) = ⊥ := IdealRules.named_const.ideal_named_scalar _ _ _ _ rfl

theorem v17_val : ∀ t : Fin cfg0.N, runN.sl.v17 (grid0.coords t) = if (t.val + 15) % 16 = 0 then 1#1 else 0#1 :=
  (by decide +kernel : ∀ t : Fin grid0.N, _)

theorem pen_first (t : Fin cfg0.N) (h : (t.val + 15) % 16 = 0) : runN.sl.v124 (F := Ideal) (grid0.coords t) = (⊥ : EReal) := by
  have e : runN.sl.v124 (F := Ideal) (grid0.coords t) = k0_pay29 (F := Ideal) (runN.sl.v17 (grid0.coords t)) := rfl
  rw [e, v17_val, if_pos h]
  exact neg_big_eq
theorem pen_rest (t : Fin cfg0.N) (h : ¬ (t.val + 15) % 16 = 0) : runN.sl.v124 (F := Ideal) (grid0.coords t) = (0 : EReal) := by
  have e : runN.sl.v124 (F := Ideal) (grid0.coords t) = k0_pay29 (F := Ideal) (runN.sl.v17 (grid0.coords t)) := rfl
  rw [e, v17_val, if_neg h]
  exact Ideal.ofBits_zero_f32

theorem fin4480 {a b : ℕ} (ha : a < 4480) (hb : b < 4480) (h : a = b) : (⟨a, ha⟩ : Fin 4480) = ⟨b, hb⟩ := Fin.ext h
theorem PR_congr {a a' : Fin 16384} {b b' : Fin 4480} (h : a.val = a'.val) (h' : b.val = b'.val) : PR m c a b = PR m c a' b' := by
  rw [Fin.ext h, Fin.ext h']

theorem kv_eq (n : ℕ) (hn : n + 1 < cfg0.N) (hn64 : n < 64) (j : Fin 2) (kk col : Fin 256) (hv : ¬ (2 * n + j.val) % 32 = 0 ∨ 128 ≤ kk.val) :
    kvAt (grid0.coords ⟨n + 1, hn⟩) (outsAt m c n (Nat.lt_of_succ_lt hn)).2.s17 (outsAt m c n (Nat.lt_of_succ_lt hn)).2.s25 j kk col
      = bz (PR m c) ⟨2 * n + j.val, by omega⟩ kk ⟨1024 + col.val, by omega⟩ := by
  match j with
  | 0 =>
    show dite _ _ _ = _
    unfold bz
    by_cases hk : kk.val < 128
    · rw [dif_pos hk, dif_pos hk]
      cases n with
      | zero => exact (hv.elim (fun h => h rfl) (fun h => absurd h (by omega))).elim
      | succ n' =>
        refine Eq.trans ?_ (dif_neg (show ¬ (2 * (n' + 1) + 0 < 1) by omega)).symm
        refine (s25_at m c n' _ ⟨kk.val, hk⟩ col).trans (PR_congr m c ?_ rfl)
        show 256 * min n' 63 + (128 + kk.val) = 128 * (2 * (n' + 1) + 0 - 1) + kk.val
        omega
    · rw [dif_neg hk, dif_neg hk, rs_eq]
      refine (s17_at m c n _ ⟨kk.val - 128, by omega⟩ col).trans (PR_congr m c ?_ rfl)
      show 256 * min n 63 + (kk.val - 128) = 128 * (2 * n + 0) + (kk.val - 128)
      omega
  | 1 =>
    show (outsAt m c n (Nat.lt_of_succ_lt hn)).2.s17 (ix3 (rs (grid0.coords ⟨n + 1, hn⟩)) kk col) = _
    rw [rs_eq]
    refine (s17_at m c n _ kk col).trans ?_
    unfold bz
    by_cases hk : kk.val < 128
    · rw [dif_pos hk]
      refine Eq.trans ?_ (dif_neg (show ¬ (2 * n + 1 < 1) by omega)).symm
      refine PR_congr m c ?_ rfl
      show 256 * min n 63 + kk.val = 128 * (2 * n + 1 - 1) + kk.val
      omega
    · rw [dif_neg hk]
      refine PR_congr m c ?_ rfl
      show 256 * min n 63 + kk.val = 128 * (2 * n + 1) + (kk.val - 128)
      omega

theorem pen_cases (n : ℕ) (hn : n + 1 < cfg0.N) (j : Fin 2) :
    (penT (grid0.coords ⟨n + 1, hn⟩) j = none ∧ ¬ (2 * n + j.val) % 32 = 0) ∨ (penT (grid0.coords ⟨n + 1, hn⟩) j = some 0 ∧ ¬ (2 * n + j.val) % 32 = 0)
      ∨ (penT (grid0.coords ⟨n + 1, hn⟩) j = some ⊥ ∧ (2 * n + j.val) % 32 = 0) := by
  match j with
  | 0 =>
    by_cases h : (n + 1 + 15) % 16 = 0
    · exact .inr (.inr ⟨congrArg some (pen_first ⟨n + 1, hn⟩ h), (by omega : (2 * n + 0) % 32 = 0)⟩)
    · exact .inr (.inl ⟨congrArg some (pen_rest ⟨n + 1, hn⟩ h), (by omega : ¬ (2 * n + 0) % 32 = 0)⟩)
  | 1 => exact .inl ⟨rfl, (by omega : ¬ (2 * n + 1) % 32 = 0)⟩

/-- The sinks. -/
abbrev SK (h : Fin 16) : EReal := (m ((c : Thread nD τ).loc main_arg5) : Vec Ideal S1x16 .f32) (ix2 0 h)

theorem o11_at (n : ℕ) (hn : n + 1 < cfg0.N) (hn64 : n < 64) (j g : Fin 2) (p : Fin 4) (a : Fin 2) (r : Fin 128) (d : Fin 64) :
    (outsAt m c (n + 1) hn).1.o11 (ix2 ⟨128 * j.val + r.val, by omega⟩ ⟨512 * g.val + 128 * p.val + (64 * a.val + d.val), by omega⟩)
      = attO (PR m c) (SK m c) ⟨2 * n + j.val, by omega⟩ r ⟨8 * g.val + 2 * p.val + a.val, by omega⟩ d := by
  have e1 := congrFun (stepN_o11 m c ⟨n + 1, hn⟩ (fun h => Nat.succ_ne_zero n ((hcond1 ⟨n + 1, hn⟩).mp h)) (outsAt m c n (Nat.lt_of_succ_lt hn)).2)
    (ix2 ⟨128 * j.val + r.val, by omega⟩ ⟨512 * g.val + 128 * p.val + (64 * a.val + d.val), by omega⟩)
  refine e1.trans ?_
  refine (block_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 scM0_1 hsc_1 scM0_2 hsc_2 scM0_10 hsc_10
    (iblk m c 0 ⟨n + 1, hn⟩) (iblk m c 1 ⟨n + 1, hn⟩) (iblk m c 2 ⟨n + 1, hn⟩) (outsAt m c n (Nat.lt_of_succ_lt hn)).2.s16 (outsAt m c n (Nat.lt_of_succ_lt hn)).2.s17 (outsAt m c n (Nat.lt_of_succ_lt hn)).2.s25 j g p a r d).trans ?_
  have esk := b0 m c ⟨n + 1, hn⟩ ⟨8 * g.val + 2 * p.val + a.val, by omega⟩
  have hg : (8 * g.val + 2 * p.val + a.val) / 8 = g.val := by omega
  unfold attO
  refine (att_eq ((2 * n + j.val) % 32 = 0) _ (pen_cases n hn j) r _ _ _ _ ?_ ?_ _).trans (congrArg (attP ((2 * n + j.val) % 32 = 0) r _ _) esk)
  · intro kk hv
    refine Eq.trans (Finset.sum_congr rfl fun d' _ => ?_) (score_scale
      (fun d' => PR m c ⟨128 * (2 * n + j.val) + r.val, by omega⟩ ⟨64 * (8 * g.val + 2 * p.val + a.val) + d'.val, by omega⟩)
      (fun d' => bz (PR m c) ⟨2 * n + j.val, by omega⟩ kk ⟨1024 + (64 * ((8 * g.val + 2 * p.val + a.val) / 8) + d'.val), by omega⟩))
    refine congr (congrArg (fun x y : EReal => x * y) ?_) ?_
    · rw [rs_eq]
      refine (s16_at m c n _ _ ⟨512 * g.val + 128 * p.val + (64 * a.val + d'.val), by omega⟩).trans (congrArg (· * QS) (PR_congr m c ?_ ?_))
      · show 256 * min n 63 + (128 * j.val + r.val) = 128 * (2 * n + j.val) + r.val
        omega
      · show 512 * g.val + 128 * p.val + (64 * a.val + d'.val) = 64 * (8 * g.val + 2 * p.val + a.val) + d'.val
        omega
    · refine (kv_eq m c n hn hn64 j kk _ hv.2).trans (congrArg (bz (PR m c) _ kk) (Fin.ext ?_))
      show 1024 + (0 + (64 * g.val + d'.val)) = 1024 + (64 * ((8 * g.val + 2 * p.val + a.val) / 8) + d'.val)
      omega
  · intro kk hv
    refine (kv_eq m c n hn hn64 j kk _ hv.2).trans (congrArg (bz (PR m c) _ kk) (Fin.ext ?_))
    show 1024 + (128 + (64 * g.val + d.val)) = 1152 + (64 * ((8 * g.val + 2 * p.val + a.val) / 8) + d.val)
    omega

end Cert.Kernel2Ideal.Mix

end
-- ==== Proof.Mix.Casts.lean ====
/- The cast weights: every point leaves the cast of its own blocks. -/
module

public import proofs.«01_k».proof.Proof.Mix.Inv

@[expose] public section

set_option maxRecDepth 65536

noncomputable section

namespace Cert.Kernel2Ideal.Mix

open Cert.Kernel2Ideal.Gen
open Idealize.ShloMosaic Idealize.ShloMosaic.TcCoe Idealize.ShloMosaic.Tactic

set_option maxHeartbeats 0

variable (m : (ℓ : Loc nD τ sig) → Buf (Elt Ideal) ℓ) (c : Dev nD)

theorem pay10_at (x : Vec Ideal S32x2048 .f32) (r : Fin 32) (k : Fin 2048) : k0_pay10 (F := Ideal) x (ix2 r k) = x (ix2 r k) := by
  pointwise [k0_pay10]
/-- The one piece of a cast block, over the loaded block. -/
abbrev cp12 (arg : Memref sig .tc .vmem S32x2048 .f32) (h : arg.IsWhole) (x : Vec Ideal S32x2048 .f32) : List (View.Piece (Elt Ideal) S32x2048 .bf16) :=
  [⟨Rect.unit (s := S32x2048) ![0, 0] S32x2048.size inb_S32x2048_S32x2048_0_0, k0_pay10 (F := Ideal) (View.readAt (Elt Ideal) arg.view (Rect.unit (s := S32x2048) ![0, 0] S32x2048.size inb_S32x2048_S32x2048_0_0).toLoadRect (h.unread x))⟩]
theorem cp12_at (arg : Memref sig .tc .vmem S32x2048 .f32) (h : arg.IsWhole) (x : Vec Ideal S32x2048 .f32) (r : Fin 32) (k : Fin 2048) : View.canon (cp12 arg h x) (ix2 r k) = x (ix2 r k) := by
  refine (canon_unit_mem (s := S32x2048) _ _ _ _ (ix2 r k) rfl (Fin.forall_fin_two.mpr ⟨(Nat.zero_add _).symm, (Nat.zero_add _).symm⟩)).trans ?_
  refine (pay10_at _ r k).trans ?_
  exact load2 arg h x _ _ _ _ _ (Fin.forall_fin_two.mpr ⟨(Nat.zero_add _).symm, (Nat.zero_add _).symm⟩)
theorem stepN_o12 (t : Fin cfg0.N) (h : ¬cond1 (grid0.coords t)) (s : Scr Ideal) : (stepN m c t h s).1.o12 = View.canon (cp12 (ms0_6 t) (hs0_6 t) (iblk m c 6 t)) := by
  delta stepN RN runN; dsimp only; rfl
theorem stepA_o12 : (stepA m c).1.o12 = View.canon (cp12 (ms0_6 t0) (hs0_6 t0) (iblk m c 6 t0)) := by
  delta stepA RA runA; dsimp only; rfl
theorem o12_at (t : Fin cfg0.N) (r : Fin 32) (k : Fin 2048) : (outsAt m c t.val t.isLt).1.o12 (ix2 r k) = (iblk m c 6 t : Vec Ideal S32x2048 .f32) (ix2 r k) := by
  obtain ⟨n, hn⟩ := t
  cases n with
  | zero => exact (congrFun (stepA_o12 m c) _).trans (cp12_at _ _ _ r k)
  | succ n => exact (congrFun (stepN_o12 m c ⟨n + 1, hn⟩ _ _) _).trans (cp12_at _ _ _ r k)

theorem pay11_at (x : Vec Ideal S2048x128 .f32) (r : Fin 2048) (k : Fin 128) : k0_pay11 (F := Ideal) x (ix2 r k) = x (ix2 r k) := by
  pointwise [k0_pay11]
/-- The one piece of a cast block, over the loaded block. -/
abbrev cp13 (arg : Memref sig .tc .vmem S2048x128 .f32) (h : arg.IsWhole) (x : Vec Ideal S2048x128 .f32) : List (View.Piece (Elt Ideal) S2048x128 .bf16) :=
  [⟨Rect.unit (s := S2048x128) ![0, 0] S2048x128.size inb_S2048x128_S2048x128_0_0, k0_pay11 (F := Ideal) (View.readAt (Elt Ideal) arg.view (Rect.unit (s := S2048x128) ![0, 0] S2048x128.size inb_S2048x128_S2048x128_0_0).toLoadRect (h.unread x))⟩]
theorem cp13_at (arg : Memref sig .tc .vmem S2048x128 .f32) (h : arg.IsWhole) (x : Vec Ideal S2048x128 .f32) (r : Fin 2048) (k : Fin 128) : View.canon (cp13 arg h x) (ix2 r k) = x (ix2 r k) := by
  refine (canon_unit_mem (s := S2048x128) _ _ _ _ (ix2 r k) rfl (Fin.forall_fin_two.mpr ⟨(Nat.zero_add _).symm, (Nat.zero_add _).symm⟩)).trans ?_
  refine (pay11_at _ r k).trans ?_
  exact load2 arg h x _ _ _ _ _ (Fin.forall_fin_two.mpr ⟨(Nat.zero_add _).symm, (Nat.zero_add _).symm⟩)
theorem stepN_o13 (t : Fin cfg0.N) (h : ¬cond1 (grid0.coords t)) (s : Scr Ideal) : (stepN m c t h s).1.o13 = View.canon (cp13 (ms0_7 t) (hs0_7 t) (iblk m c 7 t)) := by
  delta stepN RN runN; dsimp only; rfl
theorem stepA_o13 : (stepA m c).1.o13 = View.canon (cp13 (ms0_7 t0) (hs0_7 t0) (iblk m c 7 t0)) := by
  delta stepA RA runA; dsimp only; rfl
theorem o13_at (t : Fin cfg0.N) (r : Fin 2048) (k : Fin 128) : (outsAt m c t.val t.isLt).1.o13 (ix2 r k) = (iblk m c 7 t : Vec Ideal S2048x128 .f32) (ix2 r k) := by
  obtain ⟨n, hn⟩ := t
  cases n with
  | zero => exact (congrFun (stepA_o13 m c) _).trans (cp13_at _ _ _ r k)
  | succ n => exact (congrFun (stepN_o13 m c ⟨n + 1, hn⟩ _ _) _).trans (cp13_at _ _ _ r k)

theorem pay12_at (x : Vec Ideal S128x2048 .f32) (r : Fin 128) (k : Fin 2048) : k0_pay12 (F := Ideal) x (ix2 r k) = x (ix2 r k) := by
  pointwise [k0_pay12]
/-- The one piece of a cast block, over the loaded block. -/
abbrev cp14 (arg : Memref sig .tc .vmem S128x2048 .f32) (h : arg.IsWhole) (x : Vec Ideal S128x2048 .f32) : List (View.Piece (Elt Ideal) S128x2048 .bf16) :=
  [⟨Rect.unit (s := S128x2048) ![0, 0] S128x2048.size inb_S128x2048_S128x2048_0_0, k0_pay12 (F := Ideal) (View.readAt (Elt Ideal) arg.view (Rect.unit (s := S128x2048) ![0, 0] S128x2048.size inb_S128x2048_S128x2048_0_0).toLoadRect (h.unread x))⟩]
theorem cp14_at (arg : Memref sig .tc .vmem S128x2048 .f32) (h : arg.IsWhole) (x : Vec Ideal S128x2048 .f32) (r : Fin 128) (k : Fin 2048) : View.canon (cp14 arg h x) (ix2 r k) = x (ix2 r k) := by
  refine (canon_unit_mem (s := S128x2048) _ _ _ _ (ix2 r k) rfl (Fin.forall_fin_two.mpr ⟨(Nat.zero_add _).symm, (Nat.zero_add _).symm⟩)).trans ?_
  refine (pay12_at _ r k).trans ?_
  exact load2 arg h x _ _ _ _ _ (Fin.forall_fin_two.mpr ⟨(Nat.zero_add _).symm, (Nat.zero_add _).symm⟩)
theorem stepN_o14 (t : Fin cfg0.N) (h : ¬cond1 (grid0.coords t)) (s : Scr Ideal) : (stepN m c t h s).1.o14 = View.canon (cp14 (ms0_8 t) (hs0_8 t) (iblk m c 8 t)) := by
  delta stepN RN runN; dsimp only; rfl
theorem stepA_o14 : (stepA m c).1.o14 = View.canon (cp14 (ms0_8 t0) (hs0_8 t0) (iblk m c 8 t0)) := by
  delta stepA RA runA; dsimp only; rfl
theorem o14_at (t : Fin cfg0.N) (r : Fin 128) (k : Fin 2048) : (outsAt m c t.val t.isLt).1.o14 (ix2 r k) = (iblk m c 8 t : Vec Ideal S128x2048 .f32) (ix2 r k) := by
  obtain ⟨n, hn⟩ := t
  cases n with
  | zero => exact (congrFun (stepA_o14 m c) _).trans (cp14_at _ _ _ r k)
  | succ n => exact (congrFun (stepN_o14 m c ⟨n + 1, hn⟩ _ _) _).trans (cp14_at _ _ _ r k)

end Cert.Kernel2Ideal.Mix

end
-- ==== Proof.Mix.Arr.lean ====
/- The mixer's results after the run. -/
module

public import proofs.«01_k».proof.Proof.Mix.Inv2
public import proofs.«01_k».proof.Proof.Mix.Casts
public import proofs.«01_k».proof.Proof.Mix.Frame
public import Idealize.ShloMosaic.Lib.Pipeline.Value

@[expose] public section

set_option maxRecDepth 65536

noncomputable section

namespace Cert.Kernel2Ideal.Mix

open Cert.Kernel2Ideal.Gen
open Idealize.ShloMosaic Idealize.ShloMosaic.TcCoe Idealize.ShloMosaic.Tactic

variable (m : (ℓ : Loc nD τ sig) → Buf (Elt Ideal) ℓ) (ρ : Dev nD → PrngReg) (c : Dev nD)

theorem attO_congr (Z : Fin 16384 → Fin 4480 → EReal) (sk : Fin 16 → EReal) {B B' r r' : Fin 128} {h h' : Fin 16} {d d' : Fin 64}
    (eB : B.val = B'.val) (er : r.val = r'.val) (eh : h.val = h'.val) (ed : d.val = d'.val) : attO Z sk B r h d = attO Z sk B' r' h' d' := by
  rw [Fin.ext eB, Fin.ext er, Fin.ext eh, Fin.ext ed]

/-- The attention's output. -/
def G10 : Vec Ideal S16384x1024 .bf16 := fun i =>
  attO (PR m c) (SK m c) ⟨(i 0).val / 128, by have h : (i 0).val < 16384 := (i 0).isLt; omega⟩ ⟨(i 0).val % 128, by omega⟩
    ⟨(i 1).val / 64, by have h : (i 1).val < 1024 := (i 1).isLt; omega⟩ ⟨(i 1).val % 64, by omega⟩
/-- The cast weights. -/
def G11 : Vec Ideal S2048x2048 .bf16 := fun i => (V m c main_v5 : Vec Ideal S2048x2048 .f32) i
def G12 : Vec Ideal S2048x8192 .bf16 := fun i => (V m c main_v6 : Vec Ideal S2048x8192 .f32) i
def G13 : Vec Ideal S8192x2048 .bf16 := fun i => (V m c main_v7 : Vec Ideal S8192x2048 .f32) i

theorem idx10 : ∀ t : Fin cfg0.N, (win0_10.flush t = true → t.val ≠ 0) ∧ win0_10.index t = ![t.val - 1, 0] := (by decide +kernel : ∀ t : Fin grid0.N, _)
theorem idx11 : ∀ t : Fin cfg0.N, win0_11.index t = ![min t.val 63, 0] := (by decide +kernel : ∀ t : Fin grid0.N, _)
theorem idx12 : ∀ t : Fin cfg0.N, win0_12.index t = ![0, min t.val 63] := (by decide +kernel : ∀ t : Fin grid0.N, _)
theorem idx13 : ∀ t : Fin cfg0.N, win0_13.index t = ![min t.val 63, 0] := (by decide +kernel : ∀ t : Fin grid0.N, _)

/-- The point that writes a block of the attention's output back, and the one that writes a block of a cast weight back. -/
abbrev ptO (q : Fin 64) : Fin grid0.N := ⟨q.val + 1, lt_of_lt_of_eq (by omega) N_0.symm⟩
abbrev ptC (q : Fin 64) : Fin grid0.N := ⟨q.val + q.val / 63, lt_of_lt_of_eq (by omega) N_0.symm⟩
theorem fl10 : ∀ q : Fin 64, win0_10.flush (ptO q) = true := by decide +kernel
theorem fl11 : ∀ q : Fin 64, win0_11.flush (ptC q) = true := by decide +kernel
theorem fl12 : ∀ q : Fin 64, win0_12.flush (ptC q) = true := by decide +kernel
theorem fl13 : ∀ q : Fin 64, win0_13.flush (ptC q) = true := by decide +kernel

theorem flushed10_eq (t : Fin cfg0.N) (hf : (cfg0.win 10).flush t = true) :
    (dats m 0 c).flushed 10 t = ((cfg0.win 10).blk t).view.read (Elt Ideal) (G10 m c) := by
  show (cfg0.win 10).cut (grid0.coords t) ((dats m 0 c).after 10 t) = _
  rw [after0_10]
  have ht0 := (idx10 t).1 hf
  have htl := tlt t
  have e0 : win0_10.index t (0 : Fin 2) = t.val - 1 := congrFun (idx10 t).2 0
  have e1 : win0_10.index t (1 : Fin 2) = 0 := congrFun (idx10 t).2 1
  funext y
  have hy0 : (y 0).val < 256 := (y 0).isLt
  have hy1 : (y 1).val < 1024 := (y 1).isLt
  have hb0 : (((cfg0.win 10).blk t).view.emb y 0).val = win0_10.index t (0 : Fin 2) * 256 + 1 * (y 0).val := rfl
  have hb1 : (((cfg0.win 10).blk t).view.emb y 1).val = win0_10.index t (1 : Fin 2) * 1024 + 1 * (y 1).val := rfl
  show (outsAt m c t.val t.isLt).1.o11 ((cfg0.win 10).xinj (grid0.coords t) y) = G10 m c (((cfg0.win 10).blk t).view.emb y)
  obtain ⟨n, hn⟩ := t
  cases n with
  | zero => exact absurd rfl ht0
  | succ n =>
    have hn64 : n < 64 := Nat.lt_of_succ_lt_succ htl
    have hl : (cfg0.win 10).xinj (grid0.coords ⟨n + 1, hn⟩) y = (ix2 ⟨128 * (⟨(y 0).val / 128, by omega⟩ : Fin 2).val + (⟨(y 0).val % 128, by omega⟩ : Fin 128).val, by omega⟩
        ⟨512 * (⟨(y 1).val / 512, by omega⟩ : Fin 2).val + 128 * (⟨(y 1).val / 128 % 4, by omega⟩ : Fin 4).val + (64 * (⟨(y 1).val / 64 % 2, by omega⟩ : Fin 2).val + (⟨(y 1).val % 64, by omega⟩ : Fin 64).val), by omega⟩ : S256x1024.Idx) := by
      funext a; apply Fin.ext
      match a with
      | ⟨0, _⟩ => show (y 0).val = 128 * ((y 0).val / 128) + (y 0).val % 128; omega
      | ⟨1, _⟩ => show (y 1).val = 512 * ((y 1).val / 512) + 128 * ((y 1).val / 128 % 4) + (64 * ((y 1).val / 64 % 2) + (y 1).val % 64); omega
    refine (congrArg (outsAt m c (n + 1) hn).1.o11 hl).trans ((o11_at m c n hn hn64 _ _ _ _ _ _).trans ?_)
    have e0' : win0_10.index ⟨n + 1, hn⟩ (0 : Fin 2) = n := e0
    rw [e0'] at hb0
    rw [e1] at hb1
    refine attO_congr _ _ ?_ ?_ ?_ ?_
    · show 2 * n + (y 0).val / 128 = (((cfg0.win 10).blk ⟨n + 1, hn⟩).view.emb y 0).val / 128
      rw [hb0]; omega
    · show (y 0).val % 128 = (((cfg0.win 10).blk ⟨n + 1, hn⟩).view.emb y 0).val % 128
      rw [hb0]; omega
    · show 8 * ((y 1).val / 512) + 2 * ((y 1).val / 128 % 4) + (y 1).val / 64 % 2 = (((cfg0.win 10).blk ⟨n + 1, hn⟩).view.emb y 1).val / 64
      rw [hb1]; omega
    · show (y 1).val % 64 = (((cfg0.win 10).blk ⟨n + 1, hn⟩).view.emb y 1).val % 64
      rw [hb1]; omega

theorem flushed11_eq (t : Fin cfg0.N) (hf : (cfg0.win 11).flush t = true) :
    (dats m 0 c).flushed 11 t = ((cfg0.win 11).blk t).view.read (Elt Ideal) (G11 m c) := by
  show (cfg0.win 11).cut (grid0.coords t) ((dats m 0 c).after 11 t) = _
  rw [after0_11]
  have e0 : win0_11.index t (0 : Fin 2) = min t.val 63 := congrFun (idx11 t) 0
  have e1 : win0_11.index t (1 : Fin 2) = 0 := congrFun (idx11 t) 1
  funext y
  have hb0 : (((cfg0.win 11).blk t).view.emb y 0).val = win0_11.index t (0 : Fin 2) * 32 + 1 * (y 0).val := rfl
  have hb1 : (((cfg0.win 11).blk t).view.emb y 1).val = win0_11.index t (1 : Fin 2) * 2048 + 1 * (y 1).val := rfl
  show (outsAt m c t.val t.isLt).1.o12 ((cfg0.win 11).xinj (grid0.coords t) y) = G11 m c (((cfg0.win 11).blk t).view.emb y)
  have hl : (cfg0.win 11).xinj (grid0.coords t) y = (ix2 (y 0 : Fin 32) (y 1 : Fin 2048) : S32x2048.Idx) := by
    funext a; apply Fin.ext
    match a with
    | ⟨0, _⟩ => rfl
    | ⟨1, _⟩ => rfl
  refine (congrArg (outsAt m c t.val t.isLt).1.o12 hl).trans ((o12_at m c t _ _).trans ((b6 m c t _ _).trans (congrArg (G11 m c) ?_)))
  funext a; apply Fin.ext
  match a with
  | ⟨0, _⟩ =>
    refine Eq.trans ?_ hb0.symm
    rw [e0]
    show 32 * (min t.val 63) + (y 0).val = min t.val 63 * 32 + 1 * (y 0).val
    omega
  | ⟨1, _⟩ =>
    refine Eq.trans ?_ hb1.symm
    rw [e1]
    show (y 1).val = 0 * 2048 + 1 * (y 1).val
    omega

theorem flushed12_eq (t : Fin cfg0.N) (hf : (cfg0.win 12).flush t = true) :
    (dats m 0 c).flushed 12 t = ((cfg0.win 12).blk t).view.read (Elt Ideal) (G12 m c) := by
  show (cfg0.win 12).cut (grid0.coords t) ((dats m 0 c).after 12 t) = _
  rw [after0_12]
  have e0 : win0_12.index t (0 : Fin 2) = 0 := congrFun (idx12 t) 0
  have e1 : win0_12.index t (1 : Fin 2) = min t.val 63 := congrFun (idx12 t) 1
  funext y
  have hb0 : (((cfg0.win 12).blk t).view.emb y 0).val = win0_12.index t (0 : Fin 2) * 2048 + 1 * (y 0).val := rfl
  have hb1 : (((cfg0.win 12).blk t).view.emb y 1).val = win0_12.index t (1 : Fin 2) * 128 + 1 * (y 1).val := rfl
  show (outsAt m c t.val t.isLt).1.o13 ((cfg0.win 12).xinj (grid0.coords t) y) = G12 m c (((cfg0.win 12).blk t).view.emb y)
  have hl : (cfg0.win 12).xinj (grid0.coords t) y = (ix2 (y 0 : Fin 2048) (y 1 : Fin 128) : S2048x128.Idx) := by
    funext a; apply Fin.ext
    match a with
    | ⟨0, _⟩ => rfl
    | ⟨1, _⟩ => rfl
  refine (congrArg (outsAt m c t.val t.isLt).1.o13 hl).trans ((o13_at m c t _ _).trans ((b7 m c t _ _).trans (congrArg (G12 m c) ?_)))
  funext a; apply Fin.ext
  match a with
  | ⟨0, _⟩ =>
    refine Eq.trans ?_ hb0.symm
    rw [e0]
    show (y 0).val = 0 * 2048 + 1 * (y 0).val
    omega
  | ⟨1, _⟩ =>
    refine Eq.trans ?_ hb1.symm
    rw [e1]
    show 128 * (min t.val 63) + (y 1).val = min t.val 63 * 128 + 1 * (y 1).val
    omega

theorem flushed13_eq (t : Fin cfg0.N) (hf : (cfg0.win 13).flush t = true) :
    (dats m 0 c).flushed 13 t = ((cfg0.win 13).blk t).view.read (Elt Ideal) (G13 m c) := by
  show (cfg0.win 13).cut (grid0.coords t) ((dats m 0 c).after 13 t) = _
  rw [after0_13]
  have e0 : win0_13.index t (0 : Fin 2) = min t.val 63 := congrFun (idx13 t) 0
  have e1 : win0_13.index t (1 : Fin 2) = 0 := congrFun (idx13 t) 1
  funext y
  have hb0 : (((cfg0.win 13).blk t).view.emb y 0).val = win0_13.index t (0 : Fin 2) * 128 + 1 * (y 0).val := rfl
  have hb1 : (((cfg0.win 13).blk t).view.emb y 1).val = win0_13.index t (1 : Fin 2) * 2048 + 1 * (y 1).val := rfl
  show (outsAt m c t.val t.isLt).1.o14 ((cfg0.win 13).xinj (grid0.coords t) y) = G13 m c (((cfg0.win 13).blk t).view.emb y)
  have hl : (cfg0.win 13).xinj (grid0.coords t) y = (ix2 (y 0 : Fin 128) (y 1 : Fin 2048) : S128x2048.Idx) := by
    funext a; apply Fin.ext
    match a with
    | ⟨0, _⟩ => rfl
    | ⟨1, _⟩ => rfl
  refine (congrArg (outsAt m c t.val t.isLt).1.o14 hl).trans ((o14_at m c t _ _).trans ((b8 m c t _ _).trans (congrArg (G13 m c) ?_)))
  funext a; apply Fin.ext
  match a with
  | ⟨0, _⟩ =>
    refine Eq.trans ?_ hb0.symm
    rw [e0]
    show 128 * (min t.val 63) + (y 0).val = min t.val 63 * 128 + 1 * (y 0).val
    omega
  | ⟨1, _⟩ =>
    refine Eq.trans ?_ hb1.symm
    rw [e1]
    show (y 1).val = 0 * 2048 + 1 * (y 1).val
    omega

theorem mem_blk10 (t : Fin cfg0.N) (i : S16384x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v15_1).slice (win0_10.rect t)).set ↔ _
  rw [View.set_slice_whole, Rect.mem_set_unit]
  exact Iff.rfl
theorem final10 : (dats m 0 c).arrAt 10 cfg0.N = G10 m c :=
  (dats m 0 c).arrAt_eq_of_cover 10 _ (fun t hf => flushed10_eq m c t hf) (fun i => by
    have hi0 : (i 0).val < 16384 := (i 0).isLt
    have hi1 : (i 1).val < 1024 := (i 1).isLt
    obtain ⟨q, hq⟩ : ∃ q : Fin 64, q.val = (i 0).val / 256 := ⟨⟨(i 0).val / 256, by omega⟩, rfl⟩
    have q0 : win0_10.index (ptO q) (0 : Fin 2) = q.val + 1 - 1 := congrFun ((idx10 (ptO q)).2) 0
    have q1 : win0_10.index (ptO q) (1 : Fin 2) = 0 := congrFun ((idx10 (ptO q)).2) 1
    refine ⟨ptO q, fl10 q, ?_⟩
    rw [mem_blk10]
    intro a
    match a with
    | ⟨0, _⟩ => show win0_10.index (ptO q) (0 : Fin 2) * 256 ≤ (i 0).val ∧ (i 0).val < win0_10.index (ptO q) (0 : Fin 2) * 256 + 256; rw [q0]; omega
    | ⟨1, _⟩ => show win0_10.index (ptO q) (1 : Fin 2) * 1024 ≤ (i 1).val ∧ (i 1).val < win0_10.index (ptO q) (1 : Fin 2) * 1024 + 1024; rw [q1]; omega)

theorem mem_blk11 (t : Fin cfg0.N) (i : S2048x2048.Idx) :
    i ∈ ((cfg0.win 11).blk t).view.set ↔ ∀ a : Fin 2, win0_11.index t a * S32x2048.size a ≤ (i a).val ∧ (i a).val < win0_11.index t a * S32x2048.size a + S32x2048.size a := by
  show i ∈ ((View.whole main_v15_2).slice (win0_11.rect t)).set ↔ _
  rw [View.set_slice_whole, Rect.mem_set_unit]
  exact Iff.rfl
theorem final11 : (dats m 0 c).arrAt 11 cfg0.N = G11 m c :=
  (dats m 0 c).arrAt_eq_of_cover 11 _ (fun t hf => flushed11_eq m c t hf) (fun i => by
    have hi0 : (i 0).val < 2048 := (i 0).isLt
    have hi1 : (i 1).val < 2048 := (i 1).isLt
    obtain ⟨q, hq⟩ : ∃ q : Fin 64, q.val = (i 0).val / 32 := ⟨⟨(i 0).val / 32, by omega⟩, rfl⟩
    have q0 : win0_11.index (ptC q) (0 : Fin 2) = min (q.val + q.val / 63) 63 := congrFun (idx11 (ptC q)) 0
    have q1 : win0_11.index (ptC q) (1 : Fin 2) = 0 := congrFun (idx11 (ptC q)) 1
    refine ⟨ptC q, fl11 q, ?_⟩
    rw [mem_blk11]
    intro a
    match a with
    | ⟨0, _⟩ => show win0_11.index (ptC q) (0 : Fin 2) * 32 ≤ (i 0).val ∧ (i 0).val < win0_11.index (ptC q) (0 : Fin 2) * 32 + 32; rw [q0]; omega
    | ⟨1, _⟩ => show win0_11.index (ptC q) (1 : Fin 2) * 2048 ≤ (i 1).val ∧ (i 1).val < win0_11.index (ptC q) (1 : Fin 2) * 2048 + 2048; rw [q1]; omega)

theorem mem_blk12 (t : Fin cfg0.N) (i : S2048x8192.Idx) :
    i ∈ ((cfg0.win 12).blk t).view.set ↔ ∀ a : Fin 2, win0_12.index t a * S2048x128.size a ≤ (i a).val ∧ (i a).val < win0_12.index t a * S2048x128.size a + S2048x128.size a := by
  show i ∈ ((View.whole main_v15_3).slice (win0_12.rect t)).set ↔ _
  rw [View.set_slice_whole, Rect.mem_set_unit]
  exact Iff.rfl
theorem final12 : (dats m 0 c).arrAt 12 cfg0.N = G12 m c :=
  (dats m 0 c).arrAt_eq_of_cover 12 _ (fun t hf => flushed12_eq m c t hf) (fun i => by
    have hi0 : (i 0).val < 2048 := (i 0).isLt
    have hi1 : (i 1).val < 8192 := (i 1).isLt
    obtain ⟨q, hq⟩ : ∃ q : Fin 64, q.val = (i 1).val / 128 := ⟨⟨(i 1).val / 128, by omega⟩, rfl⟩
    have q0 : win0_12.index (ptC q) (0 : Fin 2) = 0 := congrFun (idx12 (ptC q)) 0
    have q1 : win0_12.index (ptC q) (1 : Fin 2) = min (q.val + q.val / 63) 63 := congrFun (idx12 (ptC q)) 1
    refine ⟨ptC q, fl12 q, ?_⟩
    rw [mem_blk12]
    intro a
    match a with
    | ⟨0, _⟩ => show win0_12.index (ptC q) (0 : Fin 2) * 2048 ≤ (i 0).val ∧ (i 0).val < win0_12.index (ptC q) (0 : Fin 2) * 2048 + 2048; rw [q0]; omega
    | ⟨1, _⟩ => show win0_12.index (ptC q) (1 : Fin 2) * 128 ≤ (i 1).val ∧ (i 1).val < win0_12.index (ptC q) (1 : Fin 2) * 128 + 128; rw [q1]; omega)

theorem mem_blk13 (t : Fin cfg0.N) (i : S8192x2048.Idx) :
    i ∈ ((cfg0.win 13).blk t).view.set ↔ ∀ a : Fin 2, win0_13.index t a * S128x2048.size a ≤ (i a).val ∧ (i a).val < win0_13.index t a * S128x2048.size a + S128x2048.size a := by
  show i ∈ ((View.whole main_v15_4).slice (win0_13.rect t)).set ↔ _
  rw [View.set_slice_whole, Rect.mem_set_unit]
  exact Iff.rfl
theorem final13 : (dats m 0 c).arrAt 13 cfg0.N = G13 m c :=
  (dats m 0 c).arrAt_eq_of_cover 13 _ (fun t hf => flushed13_eq m c t hf) (fun i => by
    have hi0 : (i 0).val < 8192 := (i 0).isLt
    have hi1 : (i 1).val < 2048 := (i 1).isLt
    obtain ⟨q, hq⟩ : ∃ q : Fin 64, q.val = (i 0).val / 128 := ⟨⟨(i 0).val / 128, by omega⟩, rfl⟩
    have q0 : win0_13.index (ptC q) (0 : Fin 2) = min (q.val + q.val / 63) 63 := congrFun (idx13 (ptC q)) 0
    have q1 : win0_13.index (ptC q) (1 : Fin 2) = 0 := congrFun (idx13 (ptC q)) 1
    refine ⟨ptC q, fl13 q, ?_⟩
    rw [mem_blk13]
    intro a
    match a with
    | ⟨0, _⟩ => show win0_13.index (ptC q) (0 : Fin 2) * 128 ≤ (i 0).val ∧ (i 0).val < win0_13.index (ptC q) (0 : Fin 2) * 128 + 128; rw [q0]; omega
    | ⟨1, _⟩ => show win0_13.index (ptC q) (1 : Fin 2) * 2048 ≤ (i 1).val ∧ (i 1).val < win0_13.index (ptC q) (1 : Fin 2) * 2048 + 2048; rw [q1]; omega)

/-- The run with the mixer's results and the arguments. -/
theorem value_run : θ_run defs (onTc (τ := τ) (main (F := Ideal))) ⟨m, fun _ => 0, ρ⟩ (fun r => ∀ c : Dev nD,
      r.2.mem ((c.tc : Thread nD τ).loc main_v15_1) = G10 m c
      ∧ r.2.mem ((c.tc : Thread nD τ).loc main_v15_2) = G11 m c
      ∧ r.2.mem ((c.tc : Thread nD τ).loc main_v15_3) = G12 m c
      ∧ r.2.mem ((c.tc : Thread nD τ).loc main_v15_4) = G13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).1 10).trans (final10 m c), ((h.1 c).1 11).trans (final11 m c), ((h.1 c).1 12).trans (final12 m c),
    ((h.1 c).1 13).trans (final13 m c), h.2 c⟩) (θ_run_and (run_main m ρ) (unchanged m ρ))

end Cert.Kernel2Ideal.Mix

end
-- ==== Proof.Mix.Ref2.lean ====
/- The reference's attention at an index. -/
module

public import proofs.«01_k».proof.Proof.Mix.Tie
public import proofs.«01_k».proof.Proof.Gen.Reference2Ideal.Run
public import Idealize.ShloMosaic.Lib.Pointwise

@[expose] public section

set_option maxRecDepth 65536

noncomputable section

namespace Cert.Reference2Ideal.Band

open Cert.Kernel2Ideal.Mix (valid msk mxM attP eighth_eq negInf_eq)
open Cert.Reference2Ideal Cert.Reference2Ideal.Gen Cert.Reference2Ideal.Value Idealize.ShloMosaic Idealize.ShloMosaic.TcCoe

/-- The projections. -/
def zz (x : FVec Ideal S4x4096x2048 .f32) (w : FVec Ideal S2048x4480 .bf16) : FVec Ideal S16384x1280 .f32 :=
  (Host.dotGeneral dot_S16384x2048_S2048x1280_S16384x1280_1_0_0_1_n_n none (shapeCast _ x shapeCasts_S4x4096x2048_S16384x2048) (extf .f32 (extractStridedSlice S2048x1280 ![0, 0] w slices_S2048x4480_S2048x1280_0_0) bitsLt_bf16_f32))
/-- The queries by head. -/
def qq (z : FVec Ideal S16384x1280 .f32) : FVec Ideal S128x128x16x64 .f32 :=
  (shapeCast _ (extractStridedSlice S16384x1024 ![0, 0] z slices_S16384x1280_S16384x1024_0_0) shapeCasts_S16384x1024_S128x128x16x64)
/-- The keys, each repeated for its eight heads. -/
def kh (z : FVec Ideal S16384x1280 .f32) : FVec Ideal S128x128x16x64 .f32 :=
  (shapeCast _ (broadcastInDim S128x128x2x8x64 ![0, 1, 2, 4] bcast_S128x128x2x64_S128x128x2x8x64_0_1_2_4 (shapeCast _ (extractStridedSlice S16384x128 ![0, 1024] z slices_S16384x1280_S16384x128_0_1024) shapeCasts_S16384x128_S128x128x2x64)) shapeCasts_S128x128x2x8x64_S128x128x16x64)
/-- The values, each repeated for its eight heads. -/
def vh (z : FVec Ideal S16384x1280 .f32) : FVec Ideal S128x128x16x64 .f32 :=
  (shapeCast _ (broadcastInDim S128x128x2x8x64 ![0, 1, 2, 4] bcast_S128x128x2x64_S128x128x2x8x64_0_1_2_4 (shapeCast _ (extractStridedSlice S16384x128 ![0, 1152] z slices_S16384x1280_S16384x128_0_1152) shapeCasts_S16384x128_S128x128x2x64)) shapeCasts_S128x128x2x8x64_S128x128x16x64)
/-- The block before and the own block. -/
def band (t : FVec Ideal S128x128x16x64 .f32) : FVec Ideal S128x256x16x64 .f32 :=
  (concatenate S128x256x16x64 1 [⟨S128x128x16x64, (concatenate S128x128x16x64 0 [⟨S1x128x16x64, (broadcastInDim S1x128x16x64 ![] bcast_S_S1x128x16x64 (constant S_ .f32 0x00000000#32))⟩, ⟨S127x128x16x64, (extractStridedSlice S127x128x16x64 ![0, 0, 0, 0] t slices_S128x128x16x64_S127x128x16x64_0_0_0_0)⟩] concatenates_S1x128x16x64_S127x128x16x64_S128x128x16x64_d0)⟩, ⟨S128x128x16x64, t⟩] concatenates_S128x128x16x64_S128x128x16x64_S128x256x16x64_d1)
/-- Which keys a query sees. -/
def mask : IVec S128x16x128x256 1 :=
  (broadcastInDim S128x16x128x256 ![0, 1, 2, 3] bcast_S128x1x128x256_S128x16x128x256_0_1_2_3 (broadcastInDim S128x1x128x256 ![0, 2, 3] bcast_S128x128x256_S128x1x128x256_0_2_3 (andi (broadcastInDim S128x128x256 ![0, 1, 2] bcast_S1x128x256_S128x128x256_0_1_2 (broadcastInDim S1x128x256 ![1, 2] bcast_S128x256_S1x128x256_1_2 (andi (cmpi .sgt (broadcastInDim S128x256 ![0, 1] bcast_S1x256_S128x256_0_1 (broadcastInDim S1x256 ![1] bcast_S256_S1x256_1 (iotaInDim S256 32 0))) (broadcastInDim S128x256 ![0, 1] bcast_S128x1_S128x256_0_1 (broadcastInDim S128x1 ![0] bcast_S128_S128x1_0 (iotaInDim S128 32 0)))) (cmpi .sle (broadcastInDim S128x256 ![0, 1] bcast_S1x256_S128x256_0_1 (broadcastInDim S1x256 ![1] bcast_S256_S1x256_1 (iotaInDim S256 32 0))) (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))))))) (broadcastInDim S128x128x256 ![0, 1, 2] bcast_S128x1x256_S128x128x256_0_1_2 (ori (broadcastInDim S128x1x256 ![0, 1, 2] bcast_S128x1x1_S128x1x256_0_1_2 (cmpi .sgt (broadcastInDim S128x1x1 ![0] bcast_S128_S128x1x1_0 (Host.remsi (iotaInDim S128 32 0) (broadcastInDim S128 ![] bcast_S_S128 (constantI S_ 32 32#32)))) (broadcastInDim S128x1x1 ![] bcast_S_S128x1x1 (constantI S_ 32 0#32)))) (broadcastInDim S128x1x256 ![0, 1, 2] bcast_S1x1x256_S128x1x256_0_1_2 (cmpi .sge (broadcastInDim S1x1x256 ![1, 2] bcast_S1x256_S1x1x256_1_2 (broadcastInDim S1x256 ![1] bcast_S256_S1x256_1 (iotaInDim S256 32 0))) (broadcastInDim S1x1x256 ![] bcast_S_S1x1x256 (constantI S_ 32 128#32)))))))))
/-- The masked scores. -/
def score (q : FVec Ideal S128x128x16x64 .f32) (kb : FVec Ideal S128x256x16x64 .f32) : FVec Ideal S128x16x128x256 .f32 :=
  (select mask (mulf (Host.dotGeneral dot_S128x128x16x64_S128x256x16x64_S128x16x128x256_3_3_1_1_02_02 none q kb) (broadcastInDim S128x16x128x256 ![] bcast_S_S128x16x128x256 (constant S_ .f32 0x3E000000#32))) (broadcastInDim S128x16x128x256 ![] bcast_S_S128x16x128x256 (id (constant (F := Ideal) S_ .f32 0xFF800000#32))))
/-- The sinks, one a head. -/
def sink (sk0 : FVec Ideal S1x16 .f32) : FVec Ideal S128x16x128x1 .f32 :=
  (broadcastInDim S128x16x128x1 ![0, 1, 2, 3] bcast_S1x16x1x1_S128x16x128x1_0_1_2_3 (broadcastInDim S1x16x1x1 ![1] bcast_S16_S1x16x1x1_1 (shapeCast _ sk0 shapeCasts_S1x16_S16)))
/-- The rows' maxima with the sinks. -/
def rmax (S : FVec Ideal S128x16x128x256 .f32) (K : FVec Ideal S128x16x128x1 .f32) : FVec Ideal S128x16x128x1 .f32 :=
  (maximumf (broadcastInDim S128x16x128x1 ![0, 1, 2] bcast_S128x16x128_S128x16x128x1_0_1_2 (Host.reduce FloatOps.maximumf S (constant S_ .f32 0xFF800000#32) reducesTo_S128x16x128x256_S128x16x128_d3 h_S_)) K)
/-- The exponentials. -/
def pexp (S : FVec Ideal S128x16x128x256 .f32) (M : FVec Ideal S128x16x128x1 .f32) : FVec Ideal S128x16x128x256 .f32 :=
  (Host.exp (subf S (broadcastInDim S128x16x128x256 ![0, 1, 2, 3] bcast_S128x16x128x1_S128x16x128x256_0_1_2_3 M)))
/-- The softmax applied to the values. -/
def outp (E : FVec Ideal S128x16x128x256 .f32) (vb : FVec Ideal S128x256x16x64 .f32) (K M : FVec Ideal S128x16x128x1 .f32) : FVec Ideal S16384x1024 .bf16 :=
  truncf .bf16 (shapeCast _ (transpose S128x128x16x64 [0, 2, 1, 3] (Host.divf (Host.dotGeneral dot_S128x16x128x256_S128x256x16x64_S128x16x128x64_3_1_2_3_01_02 none E vb) (broadcastInDim S128x16x128x64 ![0, 1, 2, 3] bcast_S128x16x128x1_S128x16x128x64_0_1_2_3 (addf (broadcastInDim S128x16x128x1 ![0, 1, 2] bcast_S128x16x128_S128x16x128x1_0_1_2 (Host.reduceAdd E (constant S_ .f32 0x00000000#32) reducesTo_S128x16x128x256_S128x16x128_d3 h_S_)) (Host.exp (subf K M))))) transposes_S128x16x128x64_S128x128x16x64_0_2_1_3) shapeCasts_S128x128x16x64_S16384x1024) bitsLt_bf16_f32

theorem res_eq (m : (ℓ : Loc nD τ sig) → Buf (Elt Ideal) ℓ) (c : Dev nD) :
    res_out0 m c = (let z := zz (m ((c.tc : Thread nD τ).loc main_arg0)) (m ((c.tc : Thread nD τ).loc main_arg1))
      let S := score (qq z) (band (kh z))
      let K := sink (m ((c.tc : Thread nD τ).loc main_arg5))
      outp (pexp S (rmax S K)) (band (vh z)) K (rmax S K)) := rfl

theorem zz_at (x : FVec Ideal S4x4096x2048 .f32) (w : FVec Ideal S2048x4480 .bf16) (r : Fin 16384) (col : Fin 1280) :
    zz x w (ix2 r col) = ∑ k : Fin 2048, (shapeCast S16384x2048 x shapeCasts_S4x4096x2048_S16384x2048 : FVec Ideal S16384x2048 .f32) (ix2 r k) * w (ix2 k ⟨col.val, by omega⟩) := by
  generalize hx : (shapeCast S16384x2048 x shapeCasts_S4x4096x2048_S16384x2048 : FVec Ideal S16384x2048 .f32) = xs
  unfold zz
  rw [hx]
  pointwise []
theorem qq_at (z : FVec Ideal S16384x1280 .f32) (B r : Fin 128) (h : Fin 16) (d : Fin 64) : qq z (ix4 B r h d) = z (ix2 ⟨128 * B.val + r.val, by omega⟩ ⟨64 * h.val + d.val, by omega⟩) := by
  pointwise [qq]
  congr 3 <;> omega
theorem kh_at (z : FVec Ideal S16384x1280 .f32) (B r : Fin 128) (h : Fin 16) (d : Fin 64) : kh z (ix4 B r h d) = z (ix2 ⟨128 * B.val + r.val, by omega⟩ ⟨1024 + (64 * (h.val / 8) + d.val), by omega⟩) := by
  pointwise [kh]
  congr 3 <;> omega
theorem vh_at (z : FVec Ideal S16384x1280 .f32) (B r : Fin 128) (h : Fin 16) (d : Fin 64) : vh z (ix4 B r h d) = z (ix2 ⟨128 * B.val + r.val, by omega⟩ ⟨1152 + (64 * (h.val / 8) + d.val), by omega⟩) := by
  pointwise [vh]
  congr 3 <;> omega
theorem band_at (t : FVec Ideal S128x128x16x64 .f32) (B : Fin 128) (kk : Fin 256) (h : Fin 16) (d : Fin 64) :
    band t (ix4 B kk h d) = if hk : kk.val < 128 then (if hB : B.val < 1 then 0 else t (ix4 ⟨B.val - 1, by omega⟩ ⟨kk.val, hk⟩ h d)) else t (ix4 B ⟨kk.val - 128, by omega⟩ h d) := by
  pointwise [band]
theorem mask_a : ∀ (r : Fin 128) (kk : Fin 256), IntOp.andi (IntOp.cmpi CmpIPredicate.sgt (BitVec.ofNat 32 kk.val) (BitVec.ofNat 32 r.val))
    (IntOp.cmpi CmpIPredicate.sle (BitVec.ofNat 32 kk.val) (IntOp.addi (BitVec.ofNat 32 r.val) 128#32)) = if r.val < kk.val ∧ kk.val ≤ r.val + 128 then 1#1 else 0#1 := by decide +kernel
theorem mask_b : ∀ (B : Fin 128), IntOp.cmpi CmpIPredicate.sgt (IntOp.remsi ArithUnit.host (BitVec.ofNat 32 B.val) 32#32) 0#32 = if ¬ B.val % 32 = 0 then 1#1 else 0#1 := by decide +kernel
theorem mask_c : ∀ (kk : Fin 256), IntOp.cmpi CmpIPredicate.sge (BitVec.ofNat 32 kk.val) 128#32 = if 128 ≤ kk.val then 1#1 else 0#1 := by decide +kernel
open Classical in
theorem mask_at (B : Fin 128) (h : Fin 16) (r : Fin 128) (kk : Fin 256) :
    mask (ix4 B h r kk) = if valid (B.val % 32 = 0) r kk then 1#1 else 0#1 := by
  pointwise [mask]
  rw [mask_a, mask_b, mask_c]
  unfold valid
  by_cases h1 : r.val < kk.val ∧ kk.val ≤ r.val + 128 <;> by_cases h2 : B.val % 32 = 0 <;> by_cases h3 : 128 ≤ kk.val <;> simp [h1, h2, h3] <;> rfl
theorem score_at (q : FVec Ideal S128x128x16x64 .f32) (kb : FVec Ideal S128x256x16x64 .f32) (B : Fin 128) (h : Fin 16) (r : Fin 128) (kk : Fin 256) :
    score q kb (ix4 B h r kk) = msk (B.val % 32 = 0) r (fun kk => (∑ d, q (ix4 B r h d) * kb (ix4 B kk h d)) * ((0.125 : ℝ) : EReal)) kk := by
  pointwise [score]
  rw [mask_at, eighth_eq]
  unfold msk
  by_cases hv : valid (B.val % 32 = 0) r kk
  · rw [if_pos hv, if_pos hv]; rfl
  · rw [if_neg hv, if_neg hv]; exact negInf_eq
theorem sink_at (sk0 : FVec Ideal S1x16 .f32) (B : Fin 128) (h : Fin 16) (r : Fin 128) : sink sk0 (ix4 B h r 0) = sk0 (ix2 0 h) := by
  pointwise [sink]
theorem hmax {n0 n1 n2 n3 : ℕ} (hr : (⟨4, ![n0, n1, n2, n3]⟩ : Shape).ReducesTo [3] ⟨3, ![n0, n1, n2]⟩) (v : FVec Ideal ⟨4, ![n0, n1, n2, n3]⟩ .f32) (c : FVec Ideal ⟨0, ![]⟩ .f32)
    (hu : 0 < (⟨0, ![]⟩ : Shape).numel) (a : Fin n0) (b : Fin n1) (r : Fin n2) :
    Host.reduce FloatOps.maximumf v c hr hu (ix3 a b r) = Finset.univ.fold max (c (Shape.Idx.first hu)) fun k : Fin n3 => v (ix4 a b r k) := by
  rw [Host.reduce_eq_fold]
  exact Shape.ReducesTo.fold_fiber_r4_a3 hr (ix3 a b r) _ _ v
theorem rmax_aux (R : FVec Ideal S128x16x128 .f32) (K : FVec Ideal S128x16x128x1 .f32) (B : Fin 128) (h : Fin 16) (r : Fin 128) :
    maximumf (broadcastInDim S128x16x128x1 ![0, 1, 2] bcast_S128x16x128_S128x16x128x1_0_1_2 R) K (ix4 B h r 0) = max (R (ix3 B h r)) (K (ix4 B h r 0)) := by
  pointwise []
theorem rm_at (S : FVec Ideal S128x16x128x256 .f32) (B : Fin 128) (h : Fin 16) (r : Fin 128) :
    Host.reduce FloatOps.maximumf S (constant (F := Ideal) S_ .f32 0xFF800000#32) reducesTo_S128x16x128x256_S128x16x128_d3 h_S_ (ix3 B h r) =
      Finset.univ.fold max (Ideal.ofBits .f32 0xFF800000#32) fun kk : Fin 256 => S (ix4 B h r kk) :=
  hmax reducesTo_S128x16x128x256_S128x16x128_d3 S (constant (F := Ideal) S_ .f32 0xFF800000#32) h_S_ B h r
theorem rmax_at (S : FVec Ideal S128x16x128x256 .f32) (K : FVec Ideal S128x16x128x1 .f32) (B : Fin 128) (h : Fin 16) (r : Fin 128) :
    rmax S K (ix4 B h r 0) = max (Finset.univ.fold max ⊥ fun kk : Fin 256 => S (ix4 B h r kk)) (K (ix4 B h r 0)) := by
  unfold rmax
  rw [rmax_aux, rm_at, negInf_eq]
theorem pexp_at (S : FVec Ideal S128x16x128x256 .f32) (M : FVec Ideal S128x16x128x1 .f32) (B : Fin 128) (h : Fin 16) (r : Fin 128) (kk : Fin 256) :
    pexp S M (ix4 B h r kk) = Ideal.exp (S (ix4 B h r kk) - M (ix4 B h r 0)) := by
  pointwise [pexp]
theorem outp_at (E : FVec Ideal S128x16x128x256 .f32) (vb : FVec Ideal S128x256x16x64 .f32) (K M : FVec Ideal S128x16x128x1 .f32) (B r : Fin 128) (h : Fin 16) (d : Fin 64) :
    outp E vb K M (ix2 ⟨128 * B.val + r.val, by omega⟩ ⟨64 * h.val + d.val, by omega⟩) =
      Ideal.div (∑ kk : Fin 256, E (ix4 B h r kk) * vb (ix4 B kk h d)) ((∑ kk : Fin 256, E (ix4 B h r kk)) + Ideal.exp (K (ix4 B h r 0) - M (ix4 B h r 0))) := by
  pointwise [outp]

end Cert.Reference2Ideal.Band

end
-- ==== Proof.Mix.Ref3.lean ====
/- The reference's attention as the function of its projections and sinks. -/
module

public import proofs.«01_k».proof.Proof.Mix.Ref2
public import proofs.«01_k».proof.Proof.Mix.Spec

@[expose] public section

set_option maxRecDepth 65536

noncomputable section

namespace Cert.Reference2Ideal.Band

open Cert.Kernel2Ideal.Mix (valid msk mxM attP bz attO)
open Cert.Reference2Ideal Cert.Reference2Ideal.Gen Cert.Reference2Ideal.Value Idealize.ShloMosaic Idealize.ShloMosaic.TcCoe

variable (x : FVec Ideal S4x4096x2048 .f32) (w : FVec Ideal S2048x4480 .bf16)

/-- A row of the stream times a column of the weights. -/
def ZR (row : Fin 16384) (col : Fin 4480) : EReal :=
  ∑ k : Fin 2048, (shapeCast S16384x2048 x shapeCasts_S4x4096x2048_S16384x2048 : FVec Ideal S16384x2048 .f32) (ix2 row k) * w (ix2 k col)

theorem bandk (B : Fin 128) (kk : Fin 256) (h : Fin 16) (d : Fin 64) :
    band (kh (zz x w)) (ix4 B kk h d) = bz (ZR x w) B kk ⟨1024 + (64 * (h.val / 8) + d.val), by omega⟩ := by
  rw [band_at]
  unfold bz
  split
  · split
    · rfl
    · rw [kh_at, zz_at]; rfl
  · rw [kh_at, zz_at]; rfl
theorem bandv (B : Fin 128) (kk : Fin 256) (h : Fin 16) (d : Fin 64) :
    band (vh (zz x w)) (ix4 B kk h d) = bz (ZR x w) B kk ⟨1152 + (64 * (h.val / 8) + d.val), by omega⟩ := by
  rw [band_at]
  unfold bz
  split
  · split
    · rfl
    · rw [vh_at, zz_at]; rfl
  · rw [vh_at, zz_at]; rfl

theorem out_at (sk : FVec Ideal S1x16 .f32) (B r : Fin 128) (h : Fin 16) (d : Fin 64) :
    (let z := zz x w
      let S := score (qq z) (band (kh z))
      let K := sink sk
      outp (pexp S (rmax S K)) (band (vh z)) K (rmax S K)) (ix2 ⟨128 * B.val + r.val, by omega⟩ ⟨64 * h.val + d.val, by omega⟩)
      = attO (ZR x w) (fun h => sk (ix2 0 h)) B r h d := by
  dsimp only
  rw [outp_at]
  unfold attO attP mxM
  have hs (kk : Fin 256) : score (qq (zz x w)) (band (kh (zz x w))) (ix4 B h r kk) = msk (B.val % 32 = 0) r (fun kk => (∑ d' : Fin 64, ZR x w ⟨128 * B.val + r.val, by omega⟩ ⟨64 * h.val + d'.val, by omega⟩ * bz (ZR x w) B kk ⟨1024 + (64 * (h.val / 8) + d'.val), by omega⟩) * ((0.125 : ℝ) : EReal)) kk := by
    rw [score_at]
    refine congrArg (fun f => msk (B.val % 32 = 0) r f kk) (funext fun kk => congrArg (· * ((0.125 : ℝ) : EReal)) (Finset.sum_congr rfl fun d' _ => ?_))
    rw [bandk, qq_at, zz_at]
    rfl
  have hm : rmax (score (qq (zz x w)) (band (kh (zz x w)))) (sink sk) (ix4 B h r 0) = _ := rmax_at _ _ B h r
  rw [sink_at] at hm
  simp only [hs] at hm
  simp only [pexp_at, hs, bandv, sink_at, hm]

/-- The reference's first result at an index. -/
theorem res_at (m : (ℓ : Loc nD τ sig) → Buf (Elt Ideal) ℓ) (c : Dev nD) (B r : Fin 128) (h : Fin 16) (d : Fin 64) :
    (res_out0 m c : FVec Ideal S16384x1024 .bf16) (ix2 ⟨128 * B.val + r.val, by omega⟩ ⟨64 * h.val + d.val, by omega⟩)
      = attO (ZR (m ((c.tc : Thread nD τ).loc main_arg0)) (m ((c.tc : Thread nD τ).loc main_arg1))) (fun h => (m ((c.tc : Thread nD τ).loc main_arg5) : FVec Ideal S1x16 .f32) (ix2 0 h)) B r h d := by
  rw [res_eq]
  exact out_at _ _ _ B r h d

end Cert.Reference2Ideal.Band

end
-- ==== Proof.Mix.Ends.lean ====
/- The mixer's results are its reference's. -/
module

public import proofs.«01_k».proof.Proof.Mix.Arr
public import proofs.«01_k».proof.Proof.Mix.Ref3

@[expose] public section

set_option maxRecDepth 65536

noncomputable section

namespace Cert.MixEnds

open Idealize.ShloMosaic Idealize.ShloMosaic.TcCoe Idealize.ShloMosaic.Tactic

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

theorem att
    (e0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (e1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (e5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    (Cert.Reference2Ideal.Value.res_out0 m' c : FVec Ideal Cert.Reference2Ideal.S16384x1024 .bf16) = Cert.Kernel2Ideal.Mix.G10 m c := by
  funext i
  have h0 : (i 0).val < 16384 := (i 0).isLt
  have h1 : (i 1).val < 1024 := (i 1).isLt
  have hi : i = ix2 (⟨128 * (⟨(i 0).val / 128, by omega⟩ : Fin 128).val + (⟨(i 0).val % 128, by omega⟩ : Fin 128).val, by omega⟩ : Fin 16384)
      (⟨64 * (⟨(i 1).val / 64, by omega⟩ : Fin 16).val + (⟨(i 1).val % 64, by omega⟩ : Fin 64).val, by omega⟩ : Fin 1024) := by
    funext a; apply Fin.ext
    match a with
    | ⟨0, _⟩ => show (i 0).val = 128 * ((i 0).val / 128) + (i 0).val % 128; omega
    | ⟨1, _⟩ => show (i 1).val = 64 * ((i 1).val / 64) + (i 1).val % 64; omega
  refine (congrArg (Cert.Reference2Ideal.Value.res_out0 m' c : FVec Ideal Cert.Reference2Ideal.S16384x1024 .bf16) hi).trans ?_
  refine (Cert.Reference2Ideal.Band.res_at m' c _ _ _ _).trans ?_
  rw [e0, e1, e5]
  unfold Cert.Kernel2Ideal.Mix.G10 Cert.Kernel2Ideal.Mix.PR
  rw [Cert.Kernel2Ideal.Mix.V_v0]
  rfl

end Cert.MixEnds

end
-- ==== Proof.MixP.Cond.lean ====
module

public import proofs.«01_k».proof.Proof.Gen.Kernel2.Frame
public import proofs.«01_k».proof.Proof.Gen.Kernel2.Skeleton

@[expose] public section

set_option maxRecDepth 65536

noncomputable section

namespace Cert.Kernel2.Mix

open Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point: the previous block's slot and the carried keys are cleared. -/
abbrev cond1 (i : grid0.Coords) : Prop := (Scalar.cmpi .ne (Scalar.extui (Scalar.cmpi .eq (BitVec.ofNat 32 (i 0).val) 0#32) : BitVec 32) 0#32 = 1#1)
/-- A sequence starts: the recurrence's state is cleared. -/
abbrev cond2 (i : grid0.Coords) : Prop := (Scalar.cmpi .ne (Scalar.extui (Scalar.ori (Scalar.cmpi .eq (BitVec.ofNat 32 (i 0).val) 0#32) (Scalar.cmpi .eq (Scalar.remsi (Scalar.subi (Scalar.addi (BitVec.ofNat 32 (i 0).val) 16#32) 1#32) 16#32) 0#32)) : BitVec 32) 0#32 = 1#1)
/-- The grid's first point. -/
abbrev i0 : grid0.Coords := fun _ => ⟨0, by decide +revert⟩

end Cert.Kernel2.Mix

end
-- ==== Proof.Prep.Val.lean ====
/- The weights' preparation: its result is its reference's. -/
module

public import proofs.«01_k».proof.Proof.Gen.Kernel3Ideal.Value
public import proofs.«01_k».proof.Proof.Gen.Reference3Ideal.Run
public import Idealize.ShloMosaic.Lib.Pipeline.Value
public import Idealize.ShloMosaic.Lib.Pipeline.ValueKit.Point
public import Idealize.ShloMosaic.Lib.WritesUnit
public import Idealize.ShloMosaic.Lib.Pointwise

@[expose] public section

set_option maxRecDepth 65536

noncomputable section

namespace Cert.Kernel3Ideal.Prep

open Cert.Kernel3Ideal Cert.Kernel3Ideal.Gen Idealize.ShloMosaic Idealize.ShloMosaic.TcCoe Idealize.SL.Sem

/-- A row of the weights in the order the mixer reads: the window attention's columns, the linear attention's, its gate's, and zeros. -/
def ord (X : Fin 4368 → EReal) (q : Fin 4480) : EReal :=
  if h1 : q.val < 1280 then X ⟨3088 + q.val, by omega⟩ else if h2 : q.val < 4352 then X ⟨q.val - 1280, by omega⟩
  else if h3 : q.val < 4368 then X ⟨3072 + (q.val - 4352), by omega⟩ else 0

theorem pay1_at (x : Vec Ideal S256x1280 .f32) (r : Fin 256) (k : Fin 1280) : k0_pay1 (F := Ideal) x (ix2 r k) = x (ix2 r k) := by
  pointwise [k0_pay1]
theorem pay2_at (x : Vec Ideal S256x3072 .f32) (r : Fin 256) (k : Fin 3072) : k0_pay2 (F := Ideal) x (ix2 r k) = x (ix2 r k) := by
  pointwise [k0_pay2]
theorem lane : ∀ k : Fin 128, IntOp.cmpi CmpIPredicate.slt (BitVec.ofNat 32 k.val) 16#32 = if k.val < 16 then 1#1 else 0#1 := by decide +kernel
theorem pay3_at (x : Vec Ideal S256x128 .f32) (r : Fin 256) (k : Fin 128) : k0_pay3 (F := Ideal) x (ix2 r k) = if k.val < 16 then x (ix2 r k) else 0 := by
  pointwise [k0_pay3]
  rw [lane]
  by_cases h : k.val < 16
  · rw [if_pos h, if_pos h]; rfl
  · rw [if_neg h, if_neg h]; rfl

/-- A load of unread contents. -/
theorem ld {sp : Space} {d : Fin 2 → ℕ} {e : EltTy} (arg : Memref sig .tc sp (⟨2, d⟩ : Shape) e) (h : arg.IsWhole) (x : Vec Ideal (⟨2, d⟩ : Shape) e)
    (off size : Fin 2 → ℕ) (inb : ∀ a : Fin 2, off a + size a ≤ d a) (y : (Rect.unit (s := ⟨2, d⟩) off size inb).shape.Idx) (i : (⟨2, d⟩ : Shape).Idx)
    (hi : ∀ a, (i a : ℕ) = off a + y a) :
    View.readAt (Elt Ideal) arg.view (Rect.unit (s := ⟨2, d⟩) off size inb).toLoadRect (h.unread x) y = x i := by
  rw [View.readAt_eq_ld, h.read_unread]
  exact View.ld_unit_apply_of x off size inb y i hi

/-- The body's three pieces over the loaded block. -/
abbrev pcs (arg1 : Memref sig .tc .vmem S256x4368 .f32) (h1 : arg1.IsWhole) (x : Vec Ideal S256x4368 .f32) : List (View.Piece (Elt Ideal) S256x4480 .bf16) :=
  [⟨Rect.unit (s := S256x4480) ![0, 4352] S256x128.size inb_S256x4480_S256x128_0_4352, k0_pay3 (F := Ideal) (View.readAt (Elt Ideal) arg1.view (Rect.unit (s := S256x4368) ![0, 3072] S256x128.size inb_S256x4368_S256x128_0_3072).toLoadRect (h1.unread x))⟩,
   ⟨Rect.unit (s := S256x4480) ![0, 1280] S256x3072.size inb_S256x4480_S256x3072_0_1280, k0_pay2 (F := Ideal) (View.readAt (Elt Ideal) arg1.view (Rect.unit (s := S256x4368) ![0, 0] S256x3072.size inb_S256x4368_S256x3072_0_0).toLoadRect (h1.unread x))⟩,
   ⟨Rect.unit (s := S256x4480) ![0, 0] S256x1280.size inb_S256x4480_S256x1280_0_0, k0_pay1 (F := Ideal) (View.readAt (Elt Ideal) arg1.view (Rect.unit (s := S256x4368) ![0, 3088] S256x1280.size inb_S256x4368_S256x1280_0_3088).toLoadRect (h1.unread x))⟩]

theorem f2 {P : Fin 2 → Prop} (h0 : P 0) (h1 : P 1) : ∀ a, P a := Fin.forall_fin_two.mpr ⟨h0, h1⟩

theorem pcs_at (v : View sig .tc .vmem S256x4480 .bf16) (f) (arg1 : Memref sig .tc .vmem S256x4368 .f32) (h1 : arg1.IsWhole) (x : Vec Ideal S256x4368 .f32) (r : Fin 256) (q : Fin 4480) :
    v.read (Elt Ideal) (v.writes (Elt Ideal) f (pcs arg1 h1 x)) (ix2 r q) = ord (fun k => x (ix2 r k)) q := by
  unfold ord
  by_cases c1 : q.val < 1280
  · rw [dif_pos c1]
    refine (View.read_writes_cons_unit_of_not_mem v f _ _ _ _ rfl (1 : Fin 2) (.inl (show q.val < 4352 by omega))).trans ?_
    refine (View.read_writes_cons_unit_of_not_mem v f _ _ _ _ rfl (1 : Fin 2) (.inl (show q.val < 1280 by omega))).trans ?_
    refine (View.read_writes_cons_unit_of_mem v f _ _ _ _ (ix2 r ⟨q.val, c1⟩) rfl (f2 (Nat.zero_add _).symm (Nat.zero_add _).symm)).trans ?_
    exact (pay1_at _ _ _).trans (ld arg1 h1 x _ _ _ _ _ (f2 (Nat.zero_add _).symm rfl))
  · rw [dif_neg c1]
    by_cases c2 : q.val < 4352
    · rw [dif_pos c2]
      refine (View.read_writes_cons_unit_of_not_mem v f _ _ _ _ rfl (1 : Fin 2) (.inl (show q.val < 4352 by omega))).trans ?_
      refine (View.read_writes_cons_unit_of_mem v f _ _ _ _ (ix2 r ⟨q.val - 1280, by omega⟩) rfl (f2 (Nat.zero_add _).symm (show q.val = 1280 + (q.val - 1280) by omega))).trans ?_
      exact (pay2_at _ _ _).trans (ld arg1 h1 x _ _ _ _ _ (f2 (Nat.zero_add _).symm (Nat.zero_add _).symm))
    · rw [dif_neg c2]
      refine (View.read_writes_cons_unit_of_mem v f _ _ _ _ (ix2 r ⟨q.val - 4352, by omega⟩) rfl (f2 (Nat.zero_add _).symm (show q.val = 4352 + (q.val - 4352) by omega))).trans ?_
      refine (pay3_at _ _ _).trans ?_
      by_cases c3 : q.val < 4368
      · rw [dif_pos c3, if_pos (show q.val - 4352 < 16 by omega)]
        exact ld arg1 h1 x _ _ _ _ _ (f2 (Nat.zero_add _).symm rfl)
      · rw [dif_neg c3, if_neg (show ¬ q.val - 4352 < 16 by omega)]

variable (m : (ℓ : Loc nD τ sig) → Buf (Elt Ideal) ℓ) (ρ : Dev nD → PrngReg) (c : Dev nD)

theorem outs_eq (t : Fin cfg0.N) : outsAt0 m c t = VO0_1.read (Elt Ideal) (VO0_1.writes (Elt Ideal) VO0_1.junk (pcs (ms0_0 t) (hs0_0 t) (iblk m c 0 t))) := by
  delta outsAt0 out0_A_1 kernelRun0_A; dsimp only

theorem V_v0 : V m c main_v0 = (shapeCast S2048x4368 (m ((c : Thread nD τ).loc main_arg0) : Vec Ideal S1x2048x4368 .f32) shapeCasts_S1x2048x4368_S2048x4368 : Vec Ideal S2048x4368 .f32) := rfl
theorem idx0 : ∀ t : Fin cfg0.N, win0_0.index t = ![t.val, 0] ∧ t.val < 8 := (by decide +kernel : ∀ t : Fin grid0.N, _)
theorem idx1 : ∀ t : Fin cfg0.N, win0_1.index t = ![t.val, 0] := (by decide +kernel : ∀ t : Fin grid0.N, _)
theorem b0 (t : Fin cfg0.N) (r : Fin 256) (k : Fin 4368) : (iblk m c 0 t : Vec Ideal S256x4368 .f32) (ix2 r k)
    = (V m c main_v0 : Vec Ideal S2048x4368 .f32) (ix2 ⟨256 * t.val + r.val, by have := (idx0 t).2; omega⟩ k) := by
  blk_ext! [iblk, idx0 t]

/-- The prepared weights. -/
def G1 : Vec Ideal S2048x4480 .bf16 := fun i => ord (fun k => (V m c main_v0 : Vec Ideal S2048x4368 .f32) (ix2 (i 0 : Fin 2048) k)) (i 1 : Fin 4480)

theorem flushed_eq (t : Fin cfg0.N) (hf : (cfg0.win 1).flush t = true) :
    (dats m 0 c).flushed 1 t = ((cfg0.win 1).blk t).view.read (Elt Ideal) (G1 m c) := by
  show (cfg0.win 1).cut (grid0.coords t) ((dats m 0 c).after 1 t) = _
  rw [after0_1]
  have e0 : win0_1.index t (0 : Fin 2) = t.val := congrFun (idx1 t) 0
  have e1 : win0_1.index t (1 : Fin 2) = 0 := congrFun (idx1 t) 1
  funext y
  have hb0 : (((cfg0.win 1).blk t).view.emb y 0).val = win0_1.index t (0 : Fin 2) * 256 + 1 * (y 0).val := rfl
  have hb1 : (((cfg0.win 1).blk t).view.emb y 1).val = win0_1.index t (1 : Fin 2) * 4480 + 1 * (y 1).val := rfl
  show outsAt0 m c t ((cfg0.win 1).xinj (grid0.coords t) y) = G1 m c (((cfg0.win 1).blk t).view.emb y)
  have hl : (cfg0.win 1).xinj (grid0.coords t) y = (ix2 (y 0 : Fin 256) (y 1 : Fin 4480) : S256x4480.Idx) := by
    funext a; apply Fin.ext
    match a with
    | ⟨0, _⟩ => rfl
    | ⟨1, _⟩ => rfl
  have hi : ((cfg0.win 1).blk t).view.emb y = (ix2 (⟨256 * t.val + (y 0).val, by have h := (idx0 t).2; have h' : (y 0).val < 256 := (y 0).isLt; omega⟩ : Fin 2048) (y 1 : Fin 4480) : S2048x4480.Idx) := by
    funext a; apply Fin.ext
    match a with
    | ⟨0, _⟩ =>
      refine hb0.trans ?_
      rw [e0]
      show t.val * 256 + 1 * (y 0).val = 256 * t.val + (y 0).val
      omega
    | ⟨1, _⟩ =>
      refine hb1.trans ?_
      rw [e1]
      show 0 * 4480 + 1 * (y 1).val = (y 1).val
      omega
  rw [hi, outs_eq]
  refine (congrArg _ hl).trans ((pcs_at _ _ _ _ _ _ _).trans ?_)
  exact congrArg (fun X => ord X (y 1 : Fin 4480)) (funext fun k => b0 m c t _ k)

theorem mem_blk (t : Fin cfg0.N) (i : S2048x4480.Idx) :
    i ∈ ((cfg0.win 1).blk t).view.set ↔ ∀ a : Fin 2, win0_1.index t a * S256x4480.size a ≤ (i a).val ∧ (i a).val < win0_1.index t a * S256x4480.size a + S256x4480.size a := by
  show i ∈ ((View.whole main_v1).slice (win0_1.rect t)).set ↔ _
  rw [View.set_slice_whole, Rect.mem_set_unit]
  exact Iff.rfl
theorem fl1 : ∀ q : Fin 8, win0_1.flush ⟨q.val, lt_of_lt_of_eq q.isLt N_0.symm⟩ = true := by decide +kernel

theorem final : (dats m 0 c).arrAt 1 cfg0.N = G1 m c :=
  (dats m 0 c).arrAt_eq_of_cover 1 _ (fun t hf => flushed_eq m c t hf) (fun i => by
    have hi0 : (i 0).val < 2048 := (i 0).isLt
    have hi1 : (i 1).val < 4480 := (i 1).isLt
    obtain ⟨q, hq⟩ : ∃ q : Fin 8, q.val = (i 0).val / 256 := ⟨⟨(i 0).val / 256, by omega⟩, rfl⟩
    let t : Fin cfg0.N := ⟨q.val, lt_of_lt_of_eq q.isLt N_0.symm⟩
    have q0 : win0_1.index t (0 : Fin 2) = q.val := congrFun (idx1 t) 0
    have q1 : win0_1.index t (1 : Fin 2) = 0 := congrFun (idx1 t) 1
    refine ⟨t, fl1 q, ?_⟩
    rw [mem_blk]
    intro a
    match a with
    | ⟨0, _⟩ => show win0_1.index t (0 : Fin 2) * 256 ≤ (i 0).val ∧ (i 0).val < win0_1.index t (0 : Fin 2) * 256 + 256; rw [q0]; omega
    | ⟨1, _⟩ => show win0_1.index t (1 : Fin 2) * 4480 ≤ (i 1).val ∧ (i 1).val < win0_1.index t (1 : Fin 2) * 4480 + 4480; rw [q1]; omega)

/-- The run with the prepared weights and the argument. -/
theorem value_run : θ_run defs (onTc (τ := τ) (main (F := Ideal))) ⟨m, fun _ => 0, ρ⟩ (fun r => ∀ c : Dev nD,
      r.2.mem ((c.tc : Thread nD τ).loc main_v1) = G1 m c
      ∧ r.2.mem ((c.tc : Thread nD τ).loc main_arg0) = m ((c.tc : Thread nD τ).loc main_arg0)) :=
  (θ_run defs _ _).mono (fun r h c => ⟨(h c).1.trans (final m c), (h c).2⟩) (Cert.Kernel3Ideal.Value.run_blocks m ρ)

end Cert.Kernel3Ideal.Prep

namespace Cert.Reference3Ideal.Prep

open Cert.Reference3Ideal Cert.Reference3Ideal.Gen Idealize.ShloMosaic Idealize.ShloMosaic.TcCoe

/-- The reference's columns, in order. -/
theorem cat_at (X : FVec Ideal S2048x4368 .f32) (r : Fin 2048) (q : Fin 4480) :
    (truncf .bf16 (concatenate S2048x4480 1 [⟨S2048x1280, extractStridedSlice S2048x1280 ![0, 3088] X slices_S2048x4368_S2048x1280_0_3088⟩, ⟨S2048x3072, extractStridedSlice S2048x3072 ![0, 0] X slices_S2048x4368_S2048x3072_0_0⟩,
      ⟨S2048x16, extractStridedSlice S2048x16 ![0, 3072] X slices_S2048x4368_S2048x16_0_3072⟩, ⟨S2048x112, broadcastInDim S2048x112 ![] bcast_S_S2048x112 (constant (F := Ideal) S_ .f32 0x00000000#32)⟩]
      concatenates_S2048x1280_S2048x3072_S2048x16_S2048x112_S2048x4480_d1 : FVec Ideal S2048x4480 .f32) bitsLt_bf16_f32 : FVec Ideal S2048x4480 .bf16) (ix2 r q)
      = Cert.Kernel3Ideal.Prep.ord (fun k => X (ix2 r k)) q := by
  pointwise []
  unfold Cert.Kernel3Ideal.Prep.ord
  by_cases c1 : q.val < 1280
  · rw [dif_pos c1, dif_pos c1]
  · rw [dif_neg c1, dif_neg c1]
    by_cases c2 : q.val < 4352
    · rw [dif_pos (show q.val - 1280 < 3072 by omega), dif_pos c2]
    · rw [dif_neg (show ¬ q.val - 1280 < 3072 by omega), dif_neg c2]
      by_cases c3 : q.val < 4368
      · rw [dif_pos (show q.val - 1280 - 3072 < 16 by omega), dif_pos c3]
        exact congrArg (fun k => X (ix2 r k)) (Fin.ext (show 3072 + (q.val - 1280 - 3072) = 3072 + (q.val - 4352) by omega))
      · rw [dif_neg (show ¬ q.val - 1280 - 3072 < 16 by omega), dif_neg c3]

end Cert.Reference3Ideal.Prep

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Chan.Ref
public import proofs.«01_k».proof.Proof.Mix.Frame
public import proofs.«01_k».proof.Proof.Mix.Ends
public import proofs.«01_k».proof.Proof.MixP.Frame
public import proofs.«01_k».proof.Proof.Prep.Val
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨e0, e1, e2, e3, e4, e5, e6, e7, e8, e9⟩ := hagree c
  funext i
  obtain ⟨R, d, rfl⟩ : ∃ R d, i = ix2 R d := ⟨i 0, i 1, eq_ix2 i⟩
  exact (Cert.Chan.Ref.out _ R d).trans ((Cert.Chan.Ref.tie _ m c e0 e1 e2 e3 e4 e5 e6 e7 e8 e9 R d).trans (Cert.Chan.G10_eq m c R d).symm)

theorem quiescent_Reference2Ideal : quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, _, _, _, Cert.Kernel2Ideal.Mix.value_run m ρ, ?_⟩
  refine (θ_run Cert.Reference2Ideal.defs _ _).mono (fun _ h c => ⟨?_, ?_, ?_, ?_, (h c).2.2.2.2⟩) (Cert.Reference2Ideal.Value.run (F := Ideal) m' ρ')
  · obtain ⟨e0, e1, e2, e3, e4, e5, e6, e7, e8⟩ := hagree c
    exact (h c).1.trans (Cert.MixEnds.att m m' c e0 e1 e5)
  · obtain ⟨e0, e1, e2, e3, e4, e5, e6, e7, e8⟩ := hagree c
    rw [(h c).2.1, e6]
    unfold Cert.Kernel2Ideal.Mix.G11
    rw [Cert.Kernel2Ideal.Mix.V_v5]
    rfl
  · obtain ⟨e0, e1, e2, e3, e4, e5, e6, e7, e8⟩ := hagree c
    rw [(h c).2.2.1, e7]
    unfold Cert.Kernel2Ideal.Mix.G12
    rw [Cert.Kernel2Ideal.Mix.V_v6]
    rfl
  · obtain ⟨e0, e1, e2, e3, e4, e5, e6, e7, e8⟩ := hagree c
    rw [(h c).2.2.2.1, e8]
    unfold Cert.Kernel2Ideal.Mix.G13
    rw [Cert.Kernel2Ideal.Mix.V_v7]
    rfl

theorem preserves_Kernel2_Kernel2Ideal : preserves_Kernel2_Kernel2Ideal :=
  ⟨IdealRules.named_const.statement Cert.Kernel2Ideal.κ "q_scale" .f32 0x3E38AA3B#32 (((Real.log 256)⁻¹ : ℝ) : EReal) rfl,
   IdealRules.named_const.statement Cert.Kernel2Ideal.κ "neg_big" .f32 0xF149F2CA#32 ⊥ rfl,
   IdealRules.named_const.statement Cert.Kernel2Ideal.κ "log2_e" .f32 0x3FB8AA3B#32 (((Real.log 2)⁻¹ : ℝ) : EReal) rfl⟩

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨_, Cert.Kernel3Ideal.Prep.value_run m ρ, ?_⟩
  refine (θ_run Cert.Reference3Ideal.defs _ _).mono (fun _ h c => ⟨?_, (h c).2⟩) (Cert.Reference3Ideal.Value.run (F := Ideal) m' ρ')
  rw [(h c).1, hagree c]
  funext i
  obtain ⟨r, q, rfl⟩ : ∃ r q, i = ix2 r q := ⟨i 0, i 1, eq_ix2 i⟩
  refine (Cert.Reference3Ideal.Prep.cat_at _ r q).trans ?_
  unfold Cert.Kernel3Ideal.Prep.G1
  rw [Cert.Kernel3Ideal.Prep.V_v0]
  rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Gen.frame m ρ, fun m ρ _ => Cert.KernelIdeal.Gen.frame m ρ, quiescent_ReferenceIdeal,
  fun m ρ _ => Cert.Kernel2.Mix.frame m ρ, fun m ρ _ => Cert.Kernel2Ideal.Mix.frame m ρ, quiescent_Reference2Ideal,
  fun m ρ _ => Cert.Kernel3.Gen.frame m ρ, fun m ρ _ => Cert.Kernel3Ideal.Gen.frame m ρ, quiescent_Reference3Ideal,
  (trivial : preserves_Kernel_KernelIdeal), algebraic_KernelIdeal_ReferenceIdeal, preserves_Kernel2_Kernel2Ideal,
  algebraic_Kernel2Ideal_Reference2Ideal, (trivial : preserves_Kernel3_Kernel3Ideal), algebraic_Kernel3Ideal_Reference3Ideal⟩

end Cert.Proof

end
